-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def Pre_KernelUp (m : (ℓ : Loc Cert.KernelUp.nD Cert.KernelUp.τ Cert.KernelUp.sig) → Buf (Elt Bits) ℓ) : Prop :=
  True

def Pre_KernelUpIdeal (m : (ℓ : Loc Cert.KernelUpIdeal.nD Cert.KernelUpIdeal.τ Cert.KernelUpIdeal.sig) → Buf (Elt Ideal) ℓ) : Prop :=
  True

def Pre_ReferenceUpIdeal (m : (ℓ : Loc Cert.ReferenceUpIdeal.nD Cert.ReferenceUpIdeal.τ Cert.ReferenceUpIdeal.sig) → Buf (Elt Ideal) ℓ) : Prop :=
  True

def Pre_KernelUpWg (m : (ℓ : Loc Cert.KernelUpWg.nD Cert.KernelUpWg.τ Cert.KernelUpWg.sig) → Buf (Elt Bits) ℓ) : Prop :=
  True

def Pre_KernelUpWgIdeal (m : (ℓ : Loc Cert.KernelUpWgIdeal.nD Cert.KernelUpWgIdeal.τ Cert.KernelUpWgIdeal.sig) → Buf (Elt Ideal) ℓ) : Prop :=
  True

def Pre_ReferenceUpWgIdeal (m : (ℓ : Loc Cert.ReferenceUpWgIdeal.nD Cert.ReferenceUpWgIdeal.τ Cert.ReferenceUpWgIdeal.sig) → Buf (Elt Ideal) ℓ) : Prop :=
  True

def Pre_KernelDownDg (m : (ℓ : Loc Cert.KernelDownDg.nD Cert.KernelDownDg.τ Cert.KernelDownDg.sig) → Buf (Elt Bits) ℓ) : Prop :=
  True

def Pre_KernelDownDgIdeal (m : (ℓ : Loc Cert.KernelDownDgIdeal.nD Cert.KernelDownDgIdeal.τ Cert.KernelDownDgIdeal.sig) → Buf (Elt Ideal) ℓ) : Prop :=
  True

def Pre_ReferenceDownDgIdeal (m : (ℓ : Loc Cert.ReferenceDownDgIdeal.nD Cert.ReferenceDownDgIdeal.τ Cert.ReferenceDownDgIdeal.sig) → Buf (Elt Ideal) ℓ) : Prop :=
  True

def Pre_KernelDownWg (m : (ℓ : Loc Cert.KernelDownWg.nD Cert.KernelDownWg.τ Cert.KernelDownWg.sig) → Buf (Elt Bits) ℓ) : Prop :=
  True

def Pre_KernelDownWgIdeal (m : (ℓ : Loc Cert.KernelDownWgIdeal.nD Cert.KernelDownWgIdeal.τ Cert.KernelDownWgIdeal.sig) → Buf (Elt Ideal) ℓ) : Prop :=
  True

def Pre_ReferenceDownWgIdeal (m : (ℓ : Loc Cert.ReferenceDownWgIdeal.nD Cert.ReferenceDownWgIdeal.τ Cert.ReferenceDownWgIdeal.sig) → Buf (Elt Ideal) ℓ) : Prop :=
  True

def Pre_KernelDownFwd (m : (ℓ : Loc Cert.KernelDownFwd.nD Cert.KernelDownFwd.τ Cert.KernelDownFwd.sig) → Buf (Elt Bits) ℓ) : Prop :=
  True

def Pre_KernelDownFwdIdeal (m : (ℓ : Loc Cert.KernelDownFwdIdeal.nD Cert.KernelDownFwdIdeal.τ Cert.KernelDownFwdIdeal.sig) → Buf (Elt Ideal) ℓ) : Prop :=
  True

def Pre_ReferenceDownFwdIdeal (m : (ℓ : Loc Cert.ReferenceDownFwdIdeal.nD Cert.ReferenceDownFwdIdeal.τ Cert.ReferenceDownFwdIdeal.sig) → Buf (Elt Ideal) ℓ) : Prop :=
  True

def Pre_KernelInDg (m : (ℓ : Loc Cert.KernelInDg.nD Cert.KernelInDg.τ Cert.KernelInDg.sig) → Buf (Elt Bits) ℓ) : Prop :=
  True

def Pre_KernelInDgIdeal (m : (ℓ : Loc Cert.KernelInDgIdeal.nD Cert.KernelInDgIdeal.τ Cert.KernelInDgIdeal.sig) → Buf (Elt Ideal) ℓ) : Prop :=
  True

def Pre_ReferenceInDgIdeal (m : (ℓ : Loc Cert.ReferenceInDgIdeal.nD Cert.ReferenceInDgIdeal.τ Cert.ReferenceInDgIdeal.sig) → Buf (Elt Ideal) ℓ) : Prop :=
  True

def Pre_KernelInWg (m : (ℓ : Loc Cert.KernelInWg.nD Cert.KernelInWg.τ Cert.KernelInWg.sig) → Buf (Elt Bits) ℓ) : Prop :=
  True

def Pre_KernelInWgIdeal (m : (ℓ : Loc Cert.KernelInWgIdeal.nD Cert.KernelInWgIdeal.τ Cert.KernelInWgIdeal.sig) → Buf (Elt Ideal) ℓ) : Prop :=
  True

def Pre_ReferenceInWgIdeal (m : (ℓ : Loc Cert.ReferenceInWgIdeal.nD Cert.ReferenceInWgIdeal.τ Cert.ReferenceInWgIdeal.sig) → Buf (Elt Ideal) ℓ) : Prop :=
  True

def Pre_KernelOutDg (m : (ℓ : Loc Cert.KernelOutDg.nD Cert.KernelOutDg.τ Cert.KernelOutDg.sig) → Buf (Elt Bits) ℓ) : Prop :=
  True

def Pre_KernelOutDgIdeal (m : (ℓ : Loc Cert.KernelOutDgIdeal.nD Cert.KernelOutDgIdeal.τ Cert.KernelOutDgIdeal.sig) → Buf (Elt Ideal) ℓ) : Prop :=
  True

def Pre_ReferenceOutDgIdeal (m : (ℓ : Loc Cert.ReferenceOutDgIdeal.nD Cert.ReferenceOutDgIdeal.τ Cert.ReferenceOutDgIdeal.sig) → Buf (Elt Ideal) ℓ) : Prop :=
  True

def Pre_KernelOutWg (m : (ℓ : Loc Cert.KernelOutWg.nD Cert.KernelOutWg.τ Cert.KernelOutWg.sig) → Buf (Elt Bits) ℓ) : Prop :=
  True

def Pre_KernelOutWgIdeal (m : (ℓ : Loc Cert.KernelOutWgIdeal.nD Cert.KernelOutWgIdeal.τ Cert.KernelOutWgIdeal.sig) → Buf (Elt Ideal) ℓ) : Prop :=
  True

def Pre_ReferenceOutWgIdeal (m : (ℓ : Loc Cert.ReferenceOutWgIdeal.nD Cert.ReferenceOutWgIdeal.τ Cert.ReferenceOutWgIdeal.sig) → Buf (Elt Ideal) ℓ) : Prop :=
  True

def Pre_KernelOutFwd (m : (ℓ : Loc Cert.KernelOutFwd.nD Cert.KernelOutFwd.τ Cert.KernelOutFwd.sig) → Buf (Elt Bits) ℓ) : Prop :=
  True

def Pre_KernelOutFwdIdeal (m : (ℓ : Loc Cert.KernelOutFwdIdeal.nD Cert.KernelOutFwdIdeal.τ Cert.KernelOutFwdIdeal.sig) → Buf (Elt Ideal) ℓ) : Prop :=
  True

def Pre_ReferenceOutFwdIdeal (m : (ℓ : Loc Cert.ReferenceOutFwdIdeal.nD Cert.ReferenceOutFwdIdeal.τ Cert.ReferenceOutFwdIdeal.sig) → Buf (Elt Ideal) ℓ) : Prop :=
  True

def Pre_KernelGateDg (m : (ℓ : Loc Cert.KernelGateDg.nD Cert.KernelGateDg.τ Cert.KernelGateDg.sig) → Buf (Elt Bits) ℓ) : Prop :=
  True

def Pre_KernelGateDgIdeal (m : (ℓ : Loc Cert.KernelGateDgIdeal.nD Cert.KernelGateDgIdeal.τ Cert.KernelGateDgIdeal.sig) → Buf (Elt Ideal) ℓ) : Prop :=
  True

def Pre_ReferenceGateDgIdeal (m : (ℓ : Loc Cert.ReferenceGateDgIdeal.nD Cert.ReferenceGateDgIdeal.τ Cert.ReferenceGateDgIdeal.sig) → Buf (Elt Ideal) ℓ) : Prop :=
  True

def Pre_KernelGateWg (m : (ℓ : Loc Cert.KernelGateWg.nD Cert.KernelGateWg.τ Cert.KernelGateWg.sig) → Buf (Elt Bits) ℓ) : Prop :=
  True

def Pre_KernelGateWgIdeal (m : (ℓ : Loc Cert.KernelGateWgIdeal.nD Cert.KernelGateWgIdeal.τ Cert.KernelGateWgIdeal.sig) → Buf (Elt Ideal) ℓ) : Prop :=
  True

def Pre_ReferenceGateWgIdeal (m : (ℓ : Loc Cert.ReferenceGateWgIdeal.nD Cert.ReferenceGateWgIdeal.τ Cert.ReferenceGateWgIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_KernelUp [hKernelUp : Cert.KernelUp.Facts] : Prop :=
  ∀ (m : (ℓ : Loc Cert.KernelUp.nD Cert.KernelUp.τ Cert.KernelUp.sig) → Buf (Elt Bits) ℓ) (g : Dev Cert.KernelUp.nD → PrngReg), Pre_KernelUp m →
    θ_run (Cert.KernelUp.defs (F := Bits)) (onTc (τ := Cert.KernelUp.τ) (Cert.KernelUp.main (F := Bits))) ⟨m, fun _ => 0, g⟩ (fun r => (∀ c : Dev Cert.KernelUp.nD,
      r.2.mem ((c.tc : Thread Cert.KernelUp.nD Cert.KernelUp.τ).loc Cert.KernelUp.main_arg0) = m ((c.tc : Thread Cert.KernelUp.nD Cert.KernelUp.τ).loc Cert.KernelUp.main_arg0)
      ∧ r.2.mem ((c.tc : Thread Cert.KernelUp.nD Cert.KernelUp.τ).loc Cert.KernelUp.main_arg1) = m ((c.tc : Thread Cert.KernelUp.nD Cert.KernelUp.τ).loc Cert.KernelUp.main_arg1)
      ∧ r.2.mem ((c.tc : Thread Cert.KernelUp.nD Cert.KernelUp.τ).loc Cert.KernelUp.main_arg2) = m ((c.tc : Thread Cert.KernelUp.nD Cert.KernelUp.τ).loc Cert.KernelUp.main_arg2)
      ∧ r.2.mem ((c.tc : Thread Cert.KernelUp.nD Cert.KernelUp.τ).loc Cert.KernelUp.main_arg3) = m ((c.tc : Thread Cert.KernelUp.nD Cert.KernelUp.τ).loc Cert.KernelUp.main_arg3)
      ∧ r.2.mem ((c.tc : Thread Cert.KernelUp.nD Cert.KernelUp.τ).loc Cert.KernelUp.main_arg4) = m ((c.tc : Thread Cert.KernelUp.nD Cert.KernelUp.τ).loc Cert.KernelUp.main_arg4))
      ∧ r.2.sem = fun _ => 0)

def quiescent_KernelUpIdeal [hKernelUpIdeal : Cert.KernelUpIdeal.Facts] : Prop :=
  ∀ (m : (ℓ : Loc Cert.KernelUpIdeal.nD Cert.KernelUpIdeal.τ Cert.KernelUpIdeal.sig) → Buf (Elt Ideal) ℓ) (g : Dev Cert.KernelUpIdeal.nD → PrngReg), Pre_KernelUpIdeal m →
    θ_run (Cert.KernelUpIdeal.defs (F := Ideal)) (onTc (τ := Cert.KernelUpIdeal.τ) (Cert.KernelUpIdeal.main (F := Ideal))) ⟨m, fun _ => 0, g⟩ (fun r => (∀ c : Dev Cert.KernelUpIdeal.nD,
      r.2.mem ((c.tc : Thread Cert.KernelUpIdeal.nD Cert.KernelUpIdeal.τ).loc Cert.KernelUpIdeal.main_arg0) = m ((c.tc : Thread Cert.KernelUpIdeal.nD Cert.KernelUpIdeal.τ).loc Cert.KernelUpIdeal.main_arg0)
      ∧ r.2.mem ((c.tc : Thread Cert.KernelUpIdeal.nD Cert.KernelUpIdeal.τ).loc Cert.KernelUpIdeal.main_arg1) = m ((c.tc : Thread Cert.KernelUpIdeal.nD Cert.KernelUpIdeal.τ).loc Cert.KernelUpIdeal.main_arg1)
      ∧ r.2.mem ((c.tc : Thread Cert.KernelUpIdeal.nD Cert.KernelUpIdeal.τ).loc Cert.KernelUpIdeal.main_arg2) = m ((c.tc : Thread Cert.KernelUpIdeal.nD Cert.KernelUpIdeal.τ).loc Cert.KernelUpIdeal.main_arg2)
      ∧ r.2.mem ((c.tc : Thread Cert.KernelUpIdeal.nD Cert.KernelUpIdeal.τ).loc Cert.KernelUpIdeal.main_arg3) = m ((c.tc : Thread Cert.KernelUpIdeal.nD Cert.KernelUpIdeal.τ).loc Cert.KernelUpIdeal.main_arg3)
      ∧ r.2.mem ((c.tc : Thread Cert.KernelUpIdeal.nD Cert.KernelUpIdeal.τ).loc Cert.KernelUpIdeal.main_arg4) = m ((c.tc : Thread Cert.KernelUpIdeal.nD Cert.KernelUpIdeal.τ).loc Cert.KernelUpIdeal.main_arg4))
      ∧ r.2.sem = fun _ => 0)

def quiescent_ReferenceUpIdeal [hReferenceUpIdeal : Cert.ReferenceUpIdeal.Facts] : Prop :=
  ∀ (m : (ℓ : Loc Cert.ReferenceUpIdeal.nD Cert.ReferenceUpIdeal.τ Cert.ReferenceUpIdeal.sig) → Buf (Elt Ideal) ℓ) (g : Dev Cert.ReferenceUpIdeal.nD → PrngReg), Pre_ReferenceUpIdeal m →
    θ_run (Cert.ReferenceUpIdeal.defs (F := Ideal)) (onTc (τ := Cert.ReferenceUpIdeal.τ) (Cert.ReferenceUpIdeal.main (F := Ideal))) ⟨m, fun _ => 0, g⟩ (fun r => (∀ c : Dev Cert.ReferenceUpIdeal.nD,
      r.2.mem ((c.tc : Thread Cert.ReferenceUpIdeal.nD Cert.ReferenceUpIdeal.τ).loc Cert.ReferenceUpIdeal.main_arg0) = m ((c.tc : Thread Cert.ReferenceUpIdeal.nD Cert.ReferenceUpIdeal.τ).loc Cert.ReferenceUpIdeal.main_arg0)
      ∧ r.2.mem ((c.tc : Thread Cert.ReferenceUpIdeal.nD Cert.ReferenceUpIdeal.τ).loc Cert.ReferenceUpIdeal.main_arg1) = m ((c.tc : Thread Cert.ReferenceUpIdeal.nD Cert.ReferenceUpIdeal.τ).loc Cert.ReferenceUpIdeal.main_arg1)
      ∧ r.2.mem ((c.tc : Thread Cert.ReferenceUpIdeal.nD Cert.ReferenceUpIdeal.τ).loc Cert.ReferenceUpIdeal.main_arg2) = m ((c.tc : Thread Cert.ReferenceUpIdeal.nD Cert.ReferenceUpIdeal.τ).loc Cert.ReferenceUpIdeal.main_arg2)
      ∧ r.2.mem ((c.tc : Thread Cert.ReferenceUpIdeal.nD Cert.ReferenceUpIdeal.τ).loc Cert.ReferenceUpIdeal.main_arg3) = m ((c.tc : Thread Cert.ReferenceUpIdeal.nD Cert.ReferenceUpIdeal.τ).loc Cert.ReferenceUpIdeal.main_arg3)
      ∧ r.2.mem ((c.tc : Thread Cert.ReferenceUpIdeal.nD Cert.ReferenceUpIdeal.τ).loc Cert.ReferenceUpIdeal.main_arg4) = m ((c.tc : Thread Cert.ReferenceUpIdeal.nD Cert.ReferenceUpIdeal.τ).loc Cert.ReferenceUpIdeal.main_arg4))
      ∧ r.2.sem = fun _ => 0)

def quiescent_KernelUpWg [hKernelUpWg : Cert.KernelUpWg.Facts] : Prop :=
  ∀ (m : (ℓ : Loc Cert.KernelUpWg.nD Cert.KernelUpWg.τ Cert.KernelUpWg.sig) → Buf (Elt Bits) ℓ) (g : Dev Cert.KernelUpWg.nD → PrngReg), Pre_KernelUpWg m →
    θ_run (Cert.KernelUpWg.defs (F := Bits)) (onTc (τ := Cert.KernelUpWg.τ) (Cert.KernelUpWg.main (F := Bits))) ⟨m, fun _ => 0, g⟩ (fun r => (∀ c : Dev Cert.KernelUpWg.nD,
      r.2.mem ((c.tc : Thread Cert.KernelUpWg.nD Cert.KernelUpWg.τ).loc Cert.KernelUpWg.main_arg0) = m ((c.tc : Thread Cert.KernelUpWg.nD Cert.KernelUpWg.τ).loc Cert.KernelUpWg.main_arg0)
      ∧ r.2.mem ((c.tc : Thread Cert.KernelUpWg.nD Cert.KernelUpWg.τ).loc Cert.KernelUpWg.main_arg1) = m ((c.tc : Thread Cert.KernelUpWg.nD Cert.KernelUpWg.τ).loc Cert.KernelUpWg.main_arg1))
      ∧ r.2.sem = fun _ => 0)

def quiescent_KernelUpWgIdeal [hKernelUpWgIdeal : Cert.KernelUpWgIdeal.Facts] : Prop :=
  ∀ (m : (ℓ : Loc Cert.KernelUpWgIdeal.nD Cert.KernelUpWgIdeal.τ Cert.KernelUpWgIdeal.sig) → Buf (Elt Ideal) ℓ) (g : Dev Cert.KernelUpWgIdeal.nD → PrngReg), Pre_KernelUpWgIdeal m →
    θ_run (Cert.KernelUpWgIdeal.defs (F := Ideal)) (onTc (τ := Cert.KernelUpWgIdeal.τ) (Cert.KernelUpWgIdeal.main (F := Ideal))) ⟨m, fun _ => 0, g⟩ (fun r => (∀ c : Dev Cert.KernelUpWgIdeal.nD,
      r.2.mem ((c.tc : Thread Cert.KernelUpWgIdeal.nD Cert.KernelUpWgIdeal.τ).loc Cert.KernelUpWgIdeal.main_arg0) = m ((c.tc : Thread Cert.KernelUpWgIdeal.nD Cert.KernelUpWgIdeal.τ).loc Cert.KernelUpWgIdeal.main_arg0)
      ∧ r.2.mem ((c.tc : Thread Cert.KernelUpWgIdeal.nD Cert.KernelUpWgIdeal.τ).loc Cert.KernelUpWgIdeal.main_arg1) = m ((c.tc : Thread Cert.KernelUpWgIdeal.nD Cert.KernelUpWgIdeal.τ).loc Cert.KernelUpWgIdeal.main_arg1))
      ∧ r.2.sem = fun _ => 0)

def quiescent_ReferenceUpWgIdeal [hReferenceUpWgIdeal : Cert.ReferenceUpWgIdeal.Facts] : Prop :=
  ∀ (m : (ℓ : Loc Cert.ReferenceUpWgIdeal.nD Cert.ReferenceUpWgIdeal.τ Cert.ReferenceUpWgIdeal.sig) → Buf (Elt Ideal) ℓ) (g : Dev Cert.ReferenceUpWgIdeal.nD → PrngReg), Pre_ReferenceUpWgIdeal m →
    θ_run (Cert.ReferenceUpWgIdeal.defs (F := Ideal)) (onTc (τ := Cert.ReferenceUpWgIdeal.τ) (Cert.ReferenceUpWgIdeal.main (F := Ideal))) ⟨m, fun _ => 0, g⟩ (fun r => (∀ c : Dev Cert.ReferenceUpWgIdeal.nD,
      r.2.mem ((c.tc : Thread Cert.ReferenceUpWgIdeal.nD Cert.ReferenceUpWgIdeal.τ).loc Cert.ReferenceUpWgIdeal.main_arg0) = m ((c.tc : Thread Cert.ReferenceUpWgIdeal.nD Cert.ReferenceUpWgIdeal.τ).loc Cert.ReferenceUpWgIdeal.main_arg0)
      ∧ r.2.mem ((c.tc : Thread Cert.ReferenceUpWgIdeal.nD Cert.ReferenceUpWgIdeal.τ).loc Cert.ReferenceUpWgIdeal.main_arg1) = m ((c.tc : Thread Cert.ReferenceUpWgIdeal.nD Cert.ReferenceUpWgIdeal.τ).loc Cert.ReferenceUpWgIdeal.main_arg1))
      ∧ r.2.sem = fun _ => 0)

def quiescent_KernelDownDg [hKernelDownDg : Cert.KernelDownDg.Facts] : Prop :=
  ∀ (m : (ℓ : Loc Cert.KernelDownDg.nD Cert.KernelDownDg.τ Cert.KernelDownDg.sig) → Buf (Elt Bits) ℓ) (g : Dev Cert.KernelDownDg.nD → PrngReg), Pre_KernelDownDg m →
    θ_run (Cert.KernelDownDg.defs (F := Bits)) (onTc (τ := Cert.KernelDownDg.τ) (Cert.KernelDownDg.main (F := Bits))) ⟨m, fun _ => 0, g⟩ (fun r => (∀ c : Dev Cert.KernelDownDg.nD,
      r.2.mem ((c.tc : Thread Cert.KernelDownDg.nD Cert.KernelDownDg.τ).loc Cert.KernelDownDg.main_arg0) = m ((c.tc : Thread Cert.KernelDownDg.nD Cert.KernelDownDg.τ).loc Cert.KernelDownDg.main_arg0)
      ∧ r.2.mem ((c.tc : Thread Cert.KernelDownDg.nD Cert.KernelDownDg.τ).loc Cert.KernelDownDg.main_arg1) = m ((c.tc : Thread Cert.KernelDownDg.nD Cert.KernelDownDg.τ).loc Cert.KernelDownDg.main_arg1))
      ∧ r.2.sem = fun _ => 0)

def quiescent_KernelDownDgIdeal [hKernelDownDgIdeal : Cert.KernelDownDgIdeal.Facts] : Prop :=
  ∀ (m : (ℓ : Loc Cert.KernelDownDgIdeal.nD Cert.KernelDownDgIdeal.τ Cert.KernelDownDgIdeal.sig) → Buf (Elt Ideal) ℓ) (g : Dev Cert.KernelDownDgIdeal.nD → PrngReg), Pre_KernelDownDgIdeal m →
    θ_run (Cert.KernelDownDgIdeal.defs (F := Ideal)) (onTc (τ := Cert.KernelDownDgIdeal.τ) (Cert.KernelDownDgIdeal.main (F := Ideal))) ⟨m, fun _ => 0, g⟩ (fun r => (∀ c : Dev Cert.KernelDownDgIdeal.nD,
      r.2.mem ((c.tc : Thread Cert.KernelDownDgIdeal.nD Cert.KernelDownDgIdeal.τ).loc Cert.KernelDownDgIdeal.main_arg0) = m ((c.tc : Thread Cert.KernelDownDgIdeal.nD Cert.KernelDownDgIdeal.τ).loc Cert.KernelDownDgIdeal.main_arg0)
      ∧ r.2.mem ((c.tc : Thread Cert.KernelDownDgIdeal.nD Cert.KernelDownDgIdeal.τ).loc Cert.KernelDownDgIdeal.main_arg1) = m ((c.tc : Thread Cert.KernelDownDgIdeal.nD Cert.KernelDownDgIdeal.τ).loc Cert.KernelDownDgIdeal.main_arg1))
      ∧ r.2.sem = fun _ => 0)

def quiescent_ReferenceDownDgIdeal [hReferenceDownDgIdeal : Cert.ReferenceDownDgIdeal.Facts] : Prop :=
  ∀ (m : (ℓ : Loc Cert.ReferenceDownDgIdeal.nD Cert.ReferenceDownDgIdeal.τ Cert.ReferenceDownDgIdeal.sig) → Buf (Elt Ideal) ℓ) (g : Dev Cert.ReferenceDownDgIdeal.nD → PrngReg), Pre_ReferenceDownDgIdeal m →
    θ_run (Cert.ReferenceDownDgIdeal.defs (F := Ideal)) (onTc (τ := Cert.ReferenceDownDgIdeal.τ) (Cert.ReferenceDownDgIdeal.main (F := Ideal))) ⟨m, fun _ => 0, g⟩ (fun r => (∀ c : Dev Cert.ReferenceDownDgIdeal.nD,
      r.2.mem ((c.tc : Thread Cert.ReferenceDownDgIdeal.nD Cert.ReferenceDownDgIdeal.τ).loc Cert.ReferenceDownDgIdeal.main_arg0) = m ((c.tc : Thread Cert.ReferenceDownDgIdeal.nD Cert.ReferenceDownDgIdeal.τ).loc Cert.ReferenceDownDgIdeal.main_arg0)
      ∧ r.2.mem ((c.tc : Thread Cert.ReferenceDownDgIdeal.nD Cert.ReferenceDownDgIdeal.τ).loc Cert.ReferenceDownDgIdeal.main_arg1) = m ((c.tc : Thread Cert.ReferenceDownDgIdeal.nD Cert.ReferenceDownDgIdeal.τ).loc Cert.ReferenceDownDgIdeal.main_arg1))
      ∧ r.2.sem = fun _ => 0)

def quiescent_KernelDownWg [hKernelDownWg : Cert.KernelDownWg.Facts] : Prop :=
  ∀ (m : (ℓ : Loc Cert.KernelDownWg.nD Cert.KernelDownWg.τ Cert.KernelDownWg.sig) → Buf (Elt Bits) ℓ) (g : Dev Cert.KernelDownWg.nD → PrngReg), Pre_KernelDownWg m →
    θ_run (Cert.KernelDownWg.defs (F := Bits)) (onTc (τ := Cert.KernelDownWg.τ) (Cert.KernelDownWg.main (F := Bits))) ⟨m, fun _ => 0, g⟩ (fun r => (∀ c : Dev Cert.KernelDownWg.nD,
      r.2.mem ((c.tc : Thread Cert.KernelDownWg.nD Cert.KernelDownWg.τ).loc Cert.KernelDownWg.main_arg0) = m ((c.tc : Thread Cert.KernelDownWg.nD Cert.KernelDownWg.τ).loc Cert.KernelDownWg.main_arg0)
      ∧ r.2.mem ((c.tc : Thread Cert.KernelDownWg.nD Cert.KernelDownWg.τ).loc Cert.KernelDownWg.main_arg1) = m ((c.tc : Thread Cert.KernelDownWg.nD Cert.KernelDownWg.τ).loc Cert.KernelDownWg.main_arg1))
      ∧ r.2.sem = fun _ => 0)

def quiescent_KernelDownWgIdeal [hKernelDownWgIdeal : Cert.KernelDownWgIdeal.Facts] : Prop :=
  ∀ (m : (ℓ : Loc Cert.KernelDownWgIdeal.nD Cert.KernelDownWgIdeal.τ Cert.KernelDownWgIdeal.sig) → Buf (Elt Ideal) ℓ) (g : Dev Cert.KernelDownWgIdeal.nD → PrngReg), Pre_KernelDownWgIdeal m →
    θ_run (Cert.KernelDownWgIdeal.defs (F := Ideal)) (onTc (τ := Cert.KernelDownWgIdeal.τ) (Cert.KernelDownWgIdeal.main (F := Ideal))) ⟨m, fun _ => 0, g⟩ (fun r => (∀ c : Dev Cert.KernelDownWgIdeal.nD,
      r.2.mem ((c.tc : Thread Cert.KernelDownWgIdeal.nD Cert.KernelDownWgIdeal.τ).loc Cert.KernelDownWgIdeal.main_arg0) = m ((c.tc : Thread Cert.KernelDownWgIdeal.nD Cert.KernelDownWgIdeal.τ).loc Cert.KernelDownWgIdeal.main_arg0)
      ∧ r.2.mem ((c.tc : Thread Cert.KernelDownWgIdeal.nD Cert.KernelDownWgIdeal.τ).loc Cert.KernelDownWgIdeal.main_arg1) = m ((c.tc : Thread Cert.KernelDownWgIdeal.nD Cert.KernelDownWgIdeal.τ).loc Cert.KernelDownWgIdeal.main_arg1))
      ∧ r.2.sem = fun _ => 0)

def quiescent_ReferenceDownWgIdeal [hReferenceDownWgIdeal : Cert.ReferenceDownWgIdeal.Facts] : Prop :=
  ∀ (m : (ℓ : Loc Cert.ReferenceDownWgIdeal.nD Cert.ReferenceDownWgIdeal.τ Cert.ReferenceDownWgIdeal.sig) → Buf (Elt Ideal) ℓ) (g : Dev Cert.ReferenceDownWgIdeal.nD → PrngReg), Pre_ReferenceDownWgIdeal m →
    θ_run (Cert.ReferenceDownWgIdeal.defs (F := Ideal)) (onTc (τ := Cert.ReferenceDownWgIdeal.τ) (Cert.ReferenceDownWgIdeal.main (F := Ideal))) ⟨m, fun _ => 0, g⟩ (fun r => (∀ c : Dev Cert.ReferenceDownWgIdeal.nD,
      r.2.mem ((c.tc : Thread Cert.ReferenceDownWgIdeal.nD Cert.ReferenceDownWgIdeal.τ).loc Cert.ReferenceDownWgIdeal.main_arg0) = m ((c.tc : Thread Cert.ReferenceDownWgIdeal.nD Cert.ReferenceDownWgIdeal.τ).loc Cert.ReferenceDownWgIdeal.main_arg0)
      ∧ r.2.mem ((c.tc : Thread Cert.ReferenceDownWgIdeal.nD Cert.ReferenceDownWgIdeal.τ).loc Cert.ReferenceDownWgIdeal.main_arg1) = m ((c.tc : Thread Cert.ReferenceDownWgIdeal.nD Cert.ReferenceDownWgIdeal.τ).loc Cert.ReferenceDownWgIdeal.main_arg1))
      ∧ r.2.sem = fun _ => 0)

def quiescent_KernelDownFwd [hKernelDownFwd : Cert.KernelDownFwd.Facts] : Prop :=
  ∀ (m : (ℓ : Loc Cert.KernelDownFwd.nD Cert.KernelDownFwd.τ Cert.KernelDownFwd.sig) → Buf (Elt Bits) ℓ) (g : Dev Cert.KernelDownFwd.nD → PrngReg), Pre_KernelDownFwd m →
    θ_run (Cert.KernelDownFwd.defs (F := Bits)) (onTc (τ := Cert.KernelDownFwd.τ) (Cert.KernelDownFwd.main (F := Bits))) ⟨m, fun _ => 0, g⟩ (fun r => (∀ c : Dev Cert.KernelDownFwd.nD,
      r.2.mem ((c.tc : Thread Cert.KernelDownFwd.nD Cert.KernelDownFwd.τ).loc Cert.KernelDownFwd.main_arg0) = m ((c.tc : Thread Cert.KernelDownFwd.nD Cert.KernelDownFwd.τ).loc Cert.KernelDownFwd.main_arg0)
      ∧ r.2.mem ((c.tc : Thread Cert.KernelDownFwd.nD Cert.KernelDownFwd.τ).loc Cert.KernelDownFwd.main_arg1) = m ((c.tc : Thread Cert.KernelDownFwd.nD Cert.KernelDownFwd.τ).loc Cert.KernelDownFwd.main_arg1)
      ∧ r.2.mem ((c.tc : Thread Cert.KernelDownFwd.nD Cert.KernelDownFwd.τ).loc Cert.KernelDownFwd.main_arg2) = m ((c.tc : Thread Cert.KernelDownFwd.nD Cert.KernelDownFwd.τ).loc Cert.KernelDownFwd.main_arg2))
      ∧ r.2.sem = fun _ => 0)

def quiescent_KernelDownFwdIdeal [hKernelDownFwdIdeal : Cert.KernelDownFwdIdeal.Facts] : Prop :=
  ∀ (m : (ℓ : Loc Cert.KernelDownFwdIdeal.nD Cert.KernelDownFwdIdeal.τ Cert.KernelDownFwdIdeal.sig) → Buf (Elt Ideal) ℓ) (g : Dev Cert.KernelDownFwdIdeal.nD → PrngReg), Pre_KernelDownFwdIdeal m →
    θ_run (Cert.KernelDownFwdIdeal.defs (F := Ideal)) (onTc (τ := Cert.KernelDownFwdIdeal.τ) (Cert.KernelDownFwdIdeal.main (F := Ideal))) ⟨m, fun _ => 0, g⟩ (fun r => (∀ c : Dev Cert.KernelDownFwdIdeal.nD,
      r.2.mem ((c.tc : Thread Cert.KernelDownFwdIdeal.nD Cert.KernelDownFwdIdeal.τ).loc Cert.KernelDownFwdIdeal.main_arg0) = m ((c.tc : Thread Cert.KernelDownFwdIdeal.nD Cert.KernelDownFwdIdeal.τ).loc Cert.KernelDownFwdIdeal.main_arg0)
      ∧ r.2.mem ((c.tc : Thread Cert.KernelDownFwdIdeal.nD Cert.KernelDownFwdIdeal.τ).loc Cert.KernelDownFwdIdeal.main_arg1) = m ((c.tc : Thread Cert.KernelDownFwdIdeal.nD Cert.KernelDownFwdIdeal.τ).loc Cert.KernelDownFwdIdeal.main_arg1)
      ∧ r.2.mem ((c.tc : Thread Cert.KernelDownFwdIdeal.nD Cert.KernelDownFwdIdeal.τ).loc Cert.KernelDownFwdIdeal.main_arg2) = m ((c.tc : Thread Cert.KernelDownFwdIdeal.nD Cert.KernelDownFwdIdeal.τ).loc Cert.KernelDownFwdIdeal.main_arg2))
      ∧ r.2.sem = fun _ => 0)

def quiescent_ReferenceDownFwdIdeal [hReferenceDownFwdIdeal : Cert.ReferenceDownFwdIdeal.Facts] : Prop :=
  ∀ (m : (ℓ : Loc Cert.ReferenceDownFwdIdeal.nD Cert.ReferenceDownFwdIdeal.τ Cert.ReferenceDownFwdIdeal.sig) → Buf (Elt Ideal) ℓ) (g : Dev Cert.ReferenceDownFwdIdeal.nD → PrngReg), Pre_ReferenceDownFwdIdeal m →
    θ_run (Cert.ReferenceDownFwdIdeal.defs (F := Ideal)) (onTc (τ := Cert.ReferenceDownFwdIdeal.τ) (Cert.ReferenceDownFwdIdeal.main (F := Ideal))) ⟨m, fun _ => 0, g⟩ (fun r => (∀ c : Dev Cert.ReferenceDownFwdIdeal.nD,
      r.2.mem ((c.tc : Thread Cert.ReferenceDownFwdIdeal.nD Cert.ReferenceDownFwdIdeal.τ).loc Cert.ReferenceDownFwdIdeal.main_arg0) = m ((c.tc : Thread Cert.ReferenceDownFwdIdeal.nD Cert.ReferenceDownFwdIdeal.τ).loc Cert.ReferenceDownFwdIdeal.main_arg0)
      ∧ r.2.mem ((c.tc : Thread Cert.ReferenceDownFwdIdeal.nD Cert.ReferenceDownFwdIdeal.τ).loc Cert.ReferenceDownFwdIdeal.main_arg1) = m ((c.tc : Thread Cert.ReferenceDownFwdIdeal.nD Cert.ReferenceDownFwdIdeal.τ).loc Cert.ReferenceDownFwdIdeal.main_arg1)
      ∧ r.2.mem ((c.tc : Thread Cert.ReferenceDownFwdIdeal.nD Cert.ReferenceDownFwdIdeal.τ).loc Cert.ReferenceDownFwdIdeal.main_arg2) = m ((c.tc : Thread Cert.ReferenceDownFwdIdeal.nD Cert.ReferenceDownFwdIdeal.τ).loc Cert.ReferenceDownFwdIdeal.main_arg2))
      ∧ r.2.sem = fun _ => 0)

def quiescent_KernelInDg [hKernelInDg : Cert.KernelInDg.Facts] : Prop :=
  ∀ (m : (ℓ : Loc Cert.KernelInDg.nD Cert.KernelInDg.τ Cert.KernelInDg.sig) → Buf (Elt Bits) ℓ) (g : Dev Cert.KernelInDg.nD → PrngReg), Pre_KernelInDg m →
    θ_run (Cert.KernelInDg.defs (F := Bits)) (onTc (τ := Cert.KernelInDg.τ) (Cert.KernelInDg.main (F := Bits))) ⟨m, fun _ => 0, g⟩ (fun r => (∀ c : Dev Cert.KernelInDg.nD,
      r.2.mem ((c.tc : Thread Cert.KernelInDg.nD Cert.KernelInDg.τ).loc Cert.KernelInDg.main_arg0) = m ((c.tc : Thread Cert.KernelInDg.nD Cert.KernelInDg.τ).loc Cert.KernelInDg.main_arg0)
      ∧ r.2.mem ((c.tc : Thread Cert.KernelInDg.nD Cert.KernelInDg.τ).loc Cert.KernelInDg.main_arg1) = m ((c.tc : Thread Cert.KernelInDg.nD Cert.KernelInDg.τ).loc Cert.KernelInDg.main_arg1)
      ∧ r.2.mem ((c.tc : Thread Cert.KernelInDg.nD Cert.KernelInDg.τ).loc Cert.KernelInDg.main_arg2) = m ((c.tc : Thread Cert.KernelInDg.nD Cert.KernelInDg.τ).loc Cert.KernelInDg.main_arg2)
      ∧ r.2.mem ((c.tc : Thread Cert.KernelInDg.nD Cert.KernelInDg.τ).loc Cert.KernelInDg.main_arg3) = m ((c.tc : Thread Cert.KernelInDg.nD Cert.KernelInDg.τ).loc Cert.KernelInDg.main_arg3)
      ∧ r.2.mem ((c.tc : Thread Cert.KernelInDg.nD Cert.KernelInDg.τ).loc Cert.KernelInDg.main_arg4) = m ((c.tc : Thread Cert.KernelInDg.nD Cert.KernelInDg.τ).loc Cert.KernelInDg.main_arg4))
      ∧ r.2.sem = fun _ => 0)

def quiescent_KernelInDgIdeal [hKernelInDgIdeal : Cert.KernelInDgIdeal.Facts] : Prop :=
  ∀ (m : (ℓ : Loc Cert.KernelInDgIdeal.nD Cert.KernelInDgIdeal.τ Cert.KernelInDgIdeal.sig) → Buf (Elt Ideal) ℓ) (g : Dev Cert.KernelInDgIdeal.nD → PrngReg), Pre_KernelInDgIdeal m →
    θ_run (Cert.KernelInDgIdeal.defs (F := Ideal)) (onTc (τ := Cert.KernelInDgIdeal.τ) (Cert.KernelInDgIdeal.main (F := Ideal))) ⟨m, fun _ => 0, g⟩ (fun r => (∀ c : Dev Cert.KernelInDgIdeal.nD,
      r.2.mem ((c.tc : Thread Cert.KernelInDgIdeal.nD Cert.KernelInDgIdeal.τ).loc Cert.KernelInDgIdeal.main_arg0) = m ((c.tc : Thread Cert.KernelInDgIdeal.nD Cert.KernelInDgIdeal.τ).loc Cert.KernelInDgIdeal.main_arg0)
      ∧ r.2.mem ((c.tc : Thread Cert.KernelInDgIdeal.nD Cert.KernelInDgIdeal.τ).loc Cert.KernelInDgIdeal.main_arg1) = m ((c.tc : Thread Cert.KernelInDgIdeal.nD Cert.KernelInDgIdeal.τ).loc Cert.KernelInDgIdeal.main_arg1)
      ∧ r.2.mem ((c.tc : Thread Cert.KernelInDgIdeal.nD Cert.KernelInDgIdeal.τ).loc Cert.KernelInDgIdeal.main_arg2) = m ((c.tc : Thread Cert.KernelInDgIdeal.nD Cert.KernelInDgIdeal.τ).loc Cert.KernelInDgIdeal.main_arg2)
      ∧ r.2.mem ((c.tc : Thread Cert.KernelInDgIdeal.nD Cert.KernelInDgIdeal.τ).loc Cert.KernelInDgIdeal.main_arg3) = m ((c.tc : Thread Cert.KernelInDgIdeal.nD Cert.KernelInDgIdeal.τ).loc Cert.KernelInDgIdeal.main_arg3)
      ∧ r.2.mem ((c.tc : Thread Cert.KernelInDgIdeal.nD Cert.KernelInDgIdeal.τ).loc Cert.KernelInDgIdeal.main_arg4) = m ((c.tc : Thread Cert.KernelInDgIdeal.nD Cert.KernelInDgIdeal.τ).loc Cert.KernelInDgIdeal.main_arg4))
      ∧ r.2.sem = fun _ => 0)

def quiescent_ReferenceInDgIdeal [hReferenceInDgIdeal : Cert.ReferenceInDgIdeal.Facts] : Prop :=
  ∀ (m : (ℓ : Loc Cert.ReferenceInDgIdeal.nD Cert.ReferenceInDgIdeal.τ Cert.ReferenceInDgIdeal.sig) → Buf (Elt Ideal) ℓ) (g : Dev Cert.ReferenceInDgIdeal.nD → PrngReg), Pre_ReferenceInDgIdeal m →
    θ_run (Cert.ReferenceInDgIdeal.defs (F := Ideal)) (onTc (τ := Cert.ReferenceInDgIdeal.τ) (Cert.ReferenceInDgIdeal.main (F := Ideal))) ⟨m, fun _ => 0, g⟩ (fun r => (∀ c : Dev Cert.ReferenceInDgIdeal.nD,
      r.2.mem ((c.tc : Thread Cert.ReferenceInDgIdeal.nD Cert.ReferenceInDgIdeal.τ).loc Cert.ReferenceInDgIdeal.main_arg0) = m ((c.tc : Thread Cert.ReferenceInDgIdeal.nD Cert.ReferenceInDgIdeal.τ).loc Cert.ReferenceInDgIdeal.main_arg0)
      ∧ r.2.mem ((c.tc : Thread Cert.ReferenceInDgIdeal.nD Cert.ReferenceInDgIdeal.τ).loc Cert.ReferenceInDgIdeal.main_arg1) = m ((c.tc : Thread Cert.ReferenceInDgIdeal.nD Cert.ReferenceInDgIdeal.τ).loc Cert.ReferenceInDgIdeal.main_arg1)
      ∧ r.2.mem ((c.tc : Thread Cert.ReferenceInDgIdeal.nD Cert.ReferenceInDgIdeal.τ).loc Cert.ReferenceInDgIdeal.main_arg2) = m ((c.tc : Thread Cert.ReferenceInDgIdeal.nD Cert.ReferenceInDgIdeal.τ).loc Cert.ReferenceInDgIdeal.main_arg2)
      ∧ r.2.mem ((c.tc : Thread Cert.ReferenceInDgIdeal.nD Cert.ReferenceInDgIdeal.τ).loc Cert.ReferenceInDgIdeal.main_arg3) = m ((c.tc : Thread Cert.ReferenceInDgIdeal.nD Cert.ReferenceInDgIdeal.τ).loc Cert.ReferenceInDgIdeal.main_arg3)
      ∧ r.2.mem ((c.tc : Thread Cert.ReferenceInDgIdeal.nD Cert.ReferenceInDgIdeal.τ).loc Cert.ReferenceInDgIdeal.main_arg4) = m ((c.tc : Thread Cert.ReferenceInDgIdeal.nD Cert.ReferenceInDgIdeal.τ).loc Cert.ReferenceInDgIdeal.main_arg4))
      ∧ r.2.sem = fun _ => 0)

def quiescent_KernelInWg [hKernelInWg : Cert.KernelInWg.Facts] : Prop :=
  ∀ (m : (ℓ : Loc Cert.KernelInWg.nD Cert.KernelInWg.τ Cert.KernelInWg.sig) → Buf (Elt Bits) ℓ) (g : Dev Cert.KernelInWg.nD → PrngReg), Pre_KernelInWg m →
    θ_run (Cert.KernelInWg.defs (F := Bits)) (onTc (τ := Cert.KernelInWg.τ) (Cert.KernelInWg.main (F := Bits))) ⟨m, fun _ => 0, g⟩ (fun r => (∀ c : Dev Cert.KernelInWg.nD,
      r.2.mem ((c.tc : Thread Cert.KernelInWg.nD Cert.KernelInWg.τ).loc Cert.KernelInWg.main_arg0) = m ((c.tc : Thread Cert.KernelInWg.nD Cert.KernelInWg.τ).loc Cert.KernelInWg.main_arg0)
      ∧ r.2.mem ((c.tc : Thread Cert.KernelInWg.nD Cert.KernelInWg.τ).loc Cert.KernelInWg.main_arg1) = m ((c.tc : Thread Cert.KernelInWg.nD Cert.KernelInWg.τ).loc Cert.KernelInWg.main_arg1))
      ∧ r.2.sem = fun _ => 0)

def quiescent_KernelInWgIdeal [hKernelInWgIdeal : Cert.KernelInWgIdeal.Facts] : Prop :=
  ∀ (m : (ℓ : Loc Cert.KernelInWgIdeal.nD Cert.KernelInWgIdeal.τ Cert.KernelInWgIdeal.sig) → Buf (Elt Ideal) ℓ) (g : Dev Cert.KernelInWgIdeal.nD → PrngReg), Pre_KernelInWgIdeal m →
    θ_run (Cert.KernelInWgIdeal.defs (F := Ideal)) (onTc (τ := Cert.KernelInWgIdeal.τ) (Cert.KernelInWgIdeal.main (F := Ideal))) ⟨m, fun _ => 0, g⟩ (fun r => (∀ c : Dev Cert.KernelInWgIdeal.nD,
      r.2.mem ((c.tc : Thread Cert.KernelInWgIdeal.nD Cert.KernelInWgIdeal.τ).loc Cert.KernelInWgIdeal.main_arg0) = m ((c.tc : Thread Cert.KernelInWgIdeal.nD Cert.KernelInWgIdeal.τ).loc Cert.KernelInWgIdeal.main_arg0)
      ∧ r.2.mem ((c.tc : Thread Cert.KernelInWgIdeal.nD Cert.KernelInWgIdeal.τ).loc Cert.KernelInWgIdeal.main_arg1) = m ((c.tc : Thread Cert.KernelInWgIdeal.nD Cert.KernelInWgIdeal.τ).loc Cert.KernelInWgIdeal.main_arg1))
      ∧ r.2.sem = fun _ => 0)

def quiescent_ReferenceInWgIdeal [hReferenceInWgIdeal : Cert.ReferenceInWgIdeal.Facts] : Prop :=
  ∀ (m : (ℓ : Loc Cert.ReferenceInWgIdeal.nD Cert.ReferenceInWgIdeal.τ Cert.ReferenceInWgIdeal.sig) → Buf (Elt Ideal) ℓ) (g : Dev Cert.ReferenceInWgIdeal.nD → PrngReg), Pre_ReferenceInWgIdeal m →
    θ_run (Cert.ReferenceInWgIdeal.defs (F := Ideal)) (onTc (τ := Cert.ReferenceInWgIdeal.τ) (Cert.ReferenceInWgIdeal.main (F := Ideal))) ⟨m, fun _ => 0, g⟩ (fun r => (∀ c : Dev Cert.ReferenceInWgIdeal.nD,
      r.2.mem ((c.tc : Thread Cert.ReferenceInWgIdeal.nD Cert.ReferenceInWgIdeal.τ).loc Cert.ReferenceInWgIdeal.main_arg0) = m ((c.tc : Thread Cert.ReferenceInWgIdeal.nD Cert.ReferenceInWgIdeal.τ).loc Cert.ReferenceInWgIdeal.main_arg0)
      ∧ r.2.mem ((c.tc : Thread Cert.ReferenceInWgIdeal.nD Cert.ReferenceInWgIdeal.τ).loc Cert.ReferenceInWgIdeal.main_arg1) = m ((c.tc : Thread Cert.ReferenceInWgIdeal.nD Cert.ReferenceInWgIdeal.τ).loc Cert.ReferenceInWgIdeal.main_arg1))
      ∧ r.2.sem = fun _ => 0)

def quiescent_KernelOutDg [hKernelOutDg : Cert.KernelOutDg.Facts] : Prop :=
  ∀ (m : (ℓ : Loc Cert.KernelOutDg.nD Cert.KernelOutDg.τ Cert.KernelOutDg.sig) → Buf (Elt Bits) ℓ) (g : Dev Cert.KernelOutDg.nD → PrngReg), Pre_KernelOutDg m →
    θ_run (Cert.KernelOutDg.defs (F := Bits)) (onTc (τ := Cert.KernelOutDg.τ) (Cert.KernelOutDg.main (F := Bits))) ⟨m, fun _ => 0, g⟩ (fun r => (∀ c : Dev Cert.KernelOutDg.nD,
      r.2.mem ((c.tc : Thread Cert.KernelOutDg.nD Cert.KernelOutDg.τ).loc Cert.KernelOutDg.main_arg0) = m ((c.tc : Thread Cert.KernelOutDg.nD Cert.KernelOutDg.τ).loc Cert.KernelOutDg.main_arg0)
      ∧ r.2.mem ((c.tc : Thread Cert.KernelOutDg.nD Cert.KernelOutDg.τ).loc Cert.KernelOutDg.main_arg1) = m ((c.tc : Thread Cert.KernelOutDg.nD Cert.KernelOutDg.τ).loc Cert.KernelOutDg.main_arg1))
      ∧ r.2.sem = fun _ => 0)

def quiescent_KernelOutDgIdeal [hKernelOutDgIdeal : Cert.KernelOutDgIdeal.Facts] : Prop :=
  ∀ (m : (ℓ : Loc Cert.KernelOutDgIdeal.nD Cert.KernelOutDgIdeal.τ Cert.KernelOutDgIdeal.sig) → Buf (Elt Ideal) ℓ) (g : Dev Cert.KernelOutDgIdeal.nD → PrngReg), Pre_KernelOutDgIdeal m →
    θ_run (Cert.KernelOutDgIdeal.defs (F := Ideal)) (onTc (τ := Cert.KernelOutDgIdeal.τ) (Cert.KernelOutDgIdeal.main (F := Ideal))) ⟨m, fun _ => 0, g⟩ (fun r => (∀ c : Dev Cert.KernelOutDgIdeal.nD,
      r.2.mem ((c.tc : Thread Cert.KernelOutDgIdeal.nD Cert.KernelOutDgIdeal.τ).loc Cert.KernelOutDgIdeal.main_arg0) = m ((c.tc : Thread Cert.KernelOutDgIdeal.nD Cert.KernelOutDgIdeal.τ).loc Cert.KernelOutDgIdeal.main_arg0)
      ∧ r.2.mem ((c.tc : Thread Cert.KernelOutDgIdeal.nD Cert.KernelOutDgIdeal.τ).loc Cert.KernelOutDgIdeal.main_arg1) = m ((c.tc : Thread Cert.KernelOutDgIdeal.nD Cert.KernelOutDgIdeal.τ).loc Cert.KernelOutDgIdeal.main_arg1))
      ∧ r.2.sem = fun _ => 0)

def quiescent_ReferenceOutDgIdeal [hReferenceOutDgIdeal : Cert.ReferenceOutDgIdeal.Facts] : Prop :=
  ∀ (m : (ℓ : Loc Cert.ReferenceOutDgIdeal.nD Cert.ReferenceOutDgIdeal.τ Cert.ReferenceOutDgIdeal.sig) → Buf (Elt Ideal) ℓ) (g : Dev Cert.ReferenceOutDgIdeal.nD → PrngReg), Pre_ReferenceOutDgIdeal m →
    θ_run (Cert.ReferenceOutDgIdeal.defs (F := Ideal)) (onTc (τ := Cert.ReferenceOutDgIdeal.τ) (Cert.ReferenceOutDgIdeal.main (F := Ideal))) ⟨m, fun _ => 0, g⟩ (fun r => (∀ c : Dev Cert.ReferenceOutDgIdeal.nD,
      r.2.mem ((c.tc : Thread Cert.ReferenceOutDgIdeal.nD Cert.ReferenceOutDgIdeal.τ).loc Cert.ReferenceOutDgIdeal.main_arg0) = m ((c.tc : Thread Cert.ReferenceOutDgIdeal.nD Cert.ReferenceOutDgIdeal.τ).loc Cert.ReferenceOutDgIdeal.main_arg0)
      ∧ r.2.mem ((c.tc : Thread Cert.ReferenceOutDgIdeal.nD Cert.ReferenceOutDgIdeal.τ).loc Cert.ReferenceOutDgIdeal.main_arg1) = m ((c.tc : Thread Cert.ReferenceOutDgIdeal.nD Cert.ReferenceOutDgIdeal.τ).loc Cert.ReferenceOutDgIdeal.main_arg1))
      ∧ r.2.sem = fun _ => 0)

def quiescent_KernelOutWg [hKernelOutWg : Cert.KernelOutWg.Facts] : Prop :=
  ∀ (m : (ℓ : Loc Cert.KernelOutWg.nD Cert.KernelOutWg.τ Cert.KernelOutWg.sig) → Buf (Elt Bits) ℓ) (g : Dev Cert.KernelOutWg.nD → PrngReg), Pre_KernelOutWg m →
    θ_run (Cert.KernelOutWg.defs (F := Bits)) (onTc (τ := Cert.KernelOutWg.τ) (Cert.KernelOutWg.main (F := Bits))) ⟨m, fun _ => 0, g⟩ (fun r => (∀ c : Dev Cert.KernelOutWg.nD,
      r.2.mem ((c.tc : Thread Cert.KernelOutWg.nD Cert.KernelOutWg.τ).loc Cert.KernelOutWg.main_arg0) = m ((c.tc : Thread Cert.KernelOutWg.nD Cert.KernelOutWg.τ).loc Cert.KernelOutWg.main_arg0)
      ∧ r.2.mem ((c.tc : Thread Cert.KernelOutWg.nD Cert.KernelOutWg.τ).loc Cert.KernelOutWg.main_arg1) = m ((c.tc : Thread Cert.KernelOutWg.nD Cert.KernelOutWg.τ).loc Cert.KernelOutWg.main_arg1))
      ∧ r.2.sem = fun _ => 0)

def quiescent_KernelOutWgIdeal [hKernelOutWgIdeal : Cert.KernelOutWgIdeal.Facts] : Prop :=
  ∀ (m : (ℓ : Loc Cert.KernelOutWgIdeal.nD Cert.KernelOutWgIdeal.τ Cert.KernelOutWgIdeal.sig) → Buf (Elt Ideal) ℓ) (g : Dev Cert.KernelOutWgIdeal.nD → PrngReg), Pre_KernelOutWgIdeal m →
    θ_run (Cert.KernelOutWgIdeal.defs (F := Ideal)) (onTc (τ := Cert.KernelOutWgIdeal.τ) (Cert.KernelOutWgIdeal.main (F := Ideal))) ⟨m, fun _ => 0, g⟩ (fun r => (∀ c : Dev Cert.KernelOutWgIdeal.nD,
      r.2.mem ((c.tc : Thread Cert.KernelOutWgIdeal.nD Cert.KernelOutWgIdeal.τ).loc Cert.KernelOutWgIdeal.main_arg0) = m ((c.tc : Thread Cert.KernelOutWgIdeal.nD Cert.KernelOutWgIdeal.τ).loc Cert.KernelOutWgIdeal.main_arg0)
      ∧ r.2.mem ((c.tc : Thread Cert.KernelOutWgIdeal.nD Cert.KernelOutWgIdeal.τ).loc Cert.KernelOutWgIdeal.main_arg1) = m ((c.tc : Thread Cert.KernelOutWgIdeal.nD Cert.KernelOutWgIdeal.τ).loc Cert.KernelOutWgIdeal.main_arg1))
      ∧ r.2.sem = fun _ => 0)

def quiescent_ReferenceOutWgIdeal [hReferenceOutWgIdeal : Cert.ReferenceOutWgIdeal.Facts] : Prop :=
  ∀ (m : (ℓ : Loc Cert.ReferenceOutWgIdeal.nD Cert.ReferenceOutWgIdeal.τ Cert.ReferenceOutWgIdeal.sig) → Buf (Elt Ideal) ℓ) (g : Dev Cert.ReferenceOutWgIdeal.nD → PrngReg), Pre_ReferenceOutWgIdeal m →
    θ_run (Cert.ReferenceOutWgIdeal.defs (F := Ideal)) (onTc (τ := Cert.ReferenceOutWgIdeal.τ) (Cert.ReferenceOutWgIdeal.main (F := Ideal))) ⟨m, fun _ => 0, g⟩ (fun r => (∀ c : Dev Cert.ReferenceOutWgIdeal.nD,
      r.2.mem ((c.tc : Thread Cert.ReferenceOutWgIdeal.nD Cert.ReferenceOutWgIdeal.τ).loc Cert.ReferenceOutWgIdeal.main_arg0) = m ((c.tc : Thread Cert.ReferenceOutWgIdeal.nD Cert.ReferenceOutWgIdeal.τ).loc Cert.ReferenceOutWgIdeal.main_arg0)
      ∧ r.2.mem ((c.tc : Thread Cert.ReferenceOutWgIdeal.nD Cert.ReferenceOutWgIdeal.τ).loc Cert.ReferenceOutWgIdeal.main_arg1) = m ((c.tc : Thread Cert.ReferenceOutWgIdeal.nD Cert.ReferenceOutWgIdeal.τ).loc Cert.ReferenceOutWgIdeal.main_arg1))
      ∧ r.2.sem = fun _ => 0)

def quiescent_KernelOutFwd [hKernelOutFwd : Cert.KernelOutFwd.Facts] : Prop :=
  ∀ (m : (ℓ : Loc Cert.KernelOutFwd.nD Cert.KernelOutFwd.τ Cert.KernelOutFwd.sig) → Buf (Elt Bits) ℓ) (g : Dev Cert.KernelOutFwd.nD → PrngReg), Pre_KernelOutFwd m →
    θ_run (Cert.KernelOutFwd.defs (F := Bits)) (onTc (τ := Cert.KernelOutFwd.τ) (Cert.KernelOutFwd.main (F := Bits))) ⟨m, fun _ => 0, g⟩ (fun r => (∀ c : Dev Cert.KernelOutFwd.nD,
      r.2.mem ((c.tc : Thread Cert.KernelOutFwd.nD Cert.KernelOutFwd.τ).loc Cert.KernelOutFwd.main_arg0) = m ((c.tc : Thread Cert.KernelOutFwd.nD Cert.KernelOutFwd.τ).loc Cert.KernelOutFwd.main_arg0)
      ∧ r.2.mem ((c.tc : Thread Cert.KernelOutFwd.nD Cert.KernelOutFwd.τ).loc Cert.KernelOutFwd.main_arg1) = m ((c.tc : Thread Cert.KernelOutFwd.nD Cert.KernelOutFwd.τ).loc Cert.KernelOutFwd.main_arg1)
      ∧ r.2.mem ((c.tc : Thread Cert.KernelOutFwd.nD Cert.KernelOutFwd.τ).loc Cert.KernelOutFwd.main_arg2) = m ((c.tc : Thread Cert.KernelOutFwd.nD Cert.KernelOutFwd.τ).loc Cert.KernelOutFwd.main_arg2))
      ∧ r.2.sem = fun _ => 0)

def quiescent_KernelOutFwdIdeal [hKernelOutFwdIdeal : Cert.KernelOutFwdIdeal.Facts] : Prop :=
  ∀ (m : (ℓ : Loc Cert.KernelOutFwdIdeal.nD Cert.KernelOutFwdIdeal.τ Cert.KernelOutFwdIdeal.sig) → Buf (Elt Ideal) ℓ) (g : Dev Cert.KernelOutFwdIdeal.nD → PrngReg), Pre_KernelOutFwdIdeal m →
    θ_run (Cert.KernelOutFwdIdeal.defs (F := Ideal)) (onTc (τ := Cert.KernelOutFwdIdeal.τ) (Cert.KernelOutFwdIdeal.main (F := Ideal))) ⟨m, fun _ => 0, g⟩ (fun r => (∀ c : Dev Cert.KernelOutFwdIdeal.nD,
      r.2.mem ((c.tc : Thread Cert.KernelOutFwdIdeal.nD Cert.KernelOutFwdIdeal.τ).loc Cert.KernelOutFwdIdeal.main_arg0) = m ((c.tc : Thread Cert.KernelOutFwdIdeal.nD Cert.KernelOutFwdIdeal.τ).loc Cert.KernelOutFwdIdeal.main_arg0)
      ∧ r.2.mem ((c.tc : Thread Cert.KernelOutFwdIdeal.nD Cert.KernelOutFwdIdeal.τ).loc Cert.KernelOutFwdIdeal.main_arg1) = m ((c.tc : Thread Cert.KernelOutFwdIdeal.nD Cert.KernelOutFwdIdeal.τ).loc Cert.KernelOutFwdIdeal.main_arg1)
      ∧ r.2.mem ((c.tc : Thread Cert.KernelOutFwdIdeal.nD Cert.KernelOutFwdIdeal.τ).loc Cert.KernelOutFwdIdeal.main_arg2) = m ((c.tc : Thread Cert.KernelOutFwdIdeal.nD Cert.KernelOutFwdIdeal.τ).loc Cert.KernelOutFwdIdeal.main_arg2))
      ∧ r.2.sem = fun _ => 0)

def quiescent_ReferenceOutFwdIdeal [hReferenceOutFwdIdeal : Cert.ReferenceOutFwdIdeal.Facts] : Prop :=
  ∀ (m : (ℓ : Loc Cert.ReferenceOutFwdIdeal.nD Cert.ReferenceOutFwdIdeal.τ Cert.ReferenceOutFwdIdeal.sig) → Buf (Elt Ideal) ℓ) (g : Dev Cert.ReferenceOutFwdIdeal.nD → PrngReg), Pre_ReferenceOutFwdIdeal m →
    θ_run (Cert.ReferenceOutFwdIdeal.defs (F := Ideal)) (onTc (τ := Cert.ReferenceOutFwdIdeal.τ) (Cert.ReferenceOutFwdIdeal.main (F := Ideal))) ⟨m, fun _ => 0, g⟩ (fun r => (∀ c : Dev Cert.ReferenceOutFwdIdeal.nD,
      r.2.mem ((c.tc : Thread Cert.ReferenceOutFwdIdeal.nD Cert.ReferenceOutFwdIdeal.τ).loc Cert.ReferenceOutFwdIdeal.main_arg0) = m ((c.tc : Thread Cert.ReferenceOutFwdIdeal.nD Cert.ReferenceOutFwdIdeal.τ).loc Cert.ReferenceOutFwdIdeal.main_arg0)
      ∧ r.2.mem ((c.tc : Thread Cert.ReferenceOutFwdIdeal.nD Cert.ReferenceOutFwdIdeal.τ).loc Cert.ReferenceOutFwdIdeal.main_arg1) = m ((c.tc : Thread Cert.ReferenceOutFwdIdeal.nD Cert.ReferenceOutFwdIdeal.τ).loc Cert.ReferenceOutFwdIdeal.main_arg1)
      ∧ r.2.mem ((c.tc : Thread Cert.ReferenceOutFwdIdeal.nD Cert.ReferenceOutFwdIdeal.τ).loc Cert.ReferenceOutFwdIdeal.main_arg2) = m ((c.tc : Thread Cert.ReferenceOutFwdIdeal.nD Cert.ReferenceOutFwdIdeal.τ).loc Cert.ReferenceOutFwdIdeal.main_arg2))
      ∧ r.2.sem = fun _ => 0)

def quiescent_KernelGateDg [hKernelGateDg : Cert.KernelGateDg.Facts] : Prop :=
  ∀ (m : (ℓ : Loc Cert.KernelGateDg.nD Cert.KernelGateDg.τ Cert.KernelGateDg.sig) → Buf (Elt Bits) ℓ) (g : Dev Cert.KernelGateDg.nD → PrngReg), Pre_KernelGateDg m →
    θ_run (Cert.KernelGateDg.defs (F := Bits)) (onTc (τ := Cert.KernelGateDg.τ) (Cert.KernelGateDg.main (F := Bits))) ⟨m, fun _ => 0, g⟩ (fun r => (∀ c : Dev Cert.KernelGateDg.nD,
      r.2.mem ((c.tc : Thread Cert.KernelGateDg.nD Cert.KernelGateDg.τ).loc Cert.KernelGateDg.main_arg0) = m ((c.tc : Thread Cert.KernelGateDg.nD Cert.KernelGateDg.τ).loc Cert.KernelGateDg.main_arg0)
      ∧ r.2.mem ((c.tc : Thread Cert.KernelGateDg.nD Cert.KernelGateDg.τ).loc Cert.KernelGateDg.main_arg1) = m ((c.tc : Thread Cert.KernelGateDg.nD Cert.KernelGateDg.τ).loc Cert.KernelGateDg.main_arg1)
      ∧ r.2.mem ((c.tc : Thread Cert.KernelGateDg.nD Cert.KernelGateDg.τ).loc Cert.KernelGateDg.main_arg2) = m ((c.tc : Thread Cert.KernelGateDg.nD Cert.KernelGateDg.τ).loc Cert.KernelGateDg.main_arg2)
      ∧ r.2.mem ((c.tc : Thread Cert.KernelGateDg.nD Cert.KernelGateDg.τ).loc Cert.KernelGateDg.main_arg3) = m ((c.tc : Thread Cert.KernelGateDg.nD Cert.KernelGateDg.τ).loc Cert.KernelGateDg.main_arg3)
      ∧ r.2.mem ((c.tc : Thread Cert.KernelGateDg.nD Cert.KernelGateDg.τ).loc Cert.KernelGateDg.main_arg4) = m ((c.tc : Thread Cert.KernelGateDg.nD Cert.KernelGateDg.τ).loc Cert.KernelGateDg.main_arg4))
      ∧ r.2.sem = fun _ => 0)

def quiescent_KernelGateDgIdeal [hKernelGateDgIdeal : Cert.KernelGateDgIdeal.Facts] : Prop :=
  ∀ (m : (ℓ : Loc Cert.KernelGateDgIdeal.nD Cert.KernelGateDgIdeal.τ Cert.KernelGateDgIdeal.sig) → Buf (Elt Ideal) ℓ) (g : Dev Cert.KernelGateDgIdeal.nD → PrngReg), Pre_KernelGateDgIdeal m →
    θ_run (Cert.KernelGateDgIdeal.defs (F := Ideal)) (onTc (τ := Cert.KernelGateDgIdeal.τ) (Cert.KernelGateDgIdeal.main (F := Ideal))) ⟨m, fun _ => 0, g⟩ (fun r => (∀ c : Dev Cert.KernelGateDgIdeal.nD,
      r.2.mem ((c.tc : Thread Cert.KernelGateDgIdeal.nD Cert.KernelGateDgIdeal.τ).loc Cert.KernelGateDgIdeal.main_arg0) = m ((c.tc : Thread Cert.KernelGateDgIdeal.nD Cert.KernelGateDgIdeal.τ).loc Cert.KernelGateDgIdeal.main_arg0)
      ∧ r.2.mem ((c.tc : Thread Cert.KernelGateDgIdeal.nD Cert.KernelGateDgIdeal.τ).loc Cert.KernelGateDgIdeal.main_arg1) = m ((c.tc : Thread Cert.KernelGateDgIdeal.nD Cert.KernelGateDgIdeal.τ).loc Cert.KernelGateDgIdeal.main_arg1)
      ∧ r.2.mem ((c.tc : Thread Cert.KernelGateDgIdeal.nD Cert.KernelGateDgIdeal.τ).loc Cert.KernelGateDgIdeal.main_arg2) = m ((c.tc : Thread Cert.KernelGateDgIdeal.nD Cert.KernelGateDgIdeal.τ).loc Cert.KernelGateDgIdeal.main_arg2)
      ∧ r.2.mem ((c.tc : Thread Cert.KernelGateDgIdeal.nD Cert.KernelGateDgIdeal.τ).loc Cert.KernelGateDgIdeal.main_arg3) = m ((c.tc : Thread Cert.KernelGateDgIdeal.nD Cert.KernelGateDgIdeal.τ).loc Cert.KernelGateDgIdeal.main_arg3)
      ∧ r.2.mem ((c.tc : Thread Cert.KernelGateDgIdeal.nD Cert.KernelGateDgIdeal.τ).loc Cert.KernelGateDgIdeal.main_arg4) = m ((c.tc : Thread Cert.KernelGateDgIdeal.nD Cert.KernelGateDgIdeal.τ).loc Cert.KernelGateDgIdeal.main_arg4))
      ∧ r.2.sem = fun _ => 0)

def quiescent_ReferenceGateDgIdeal [hReferenceGateDgIdeal : Cert.ReferenceGateDgIdeal.Facts] : Prop :=
  ∀ (m : (ℓ : Loc Cert.ReferenceGateDgIdeal.nD Cert.ReferenceGateDgIdeal.τ Cert.ReferenceGateDgIdeal.sig) → Buf (Elt Ideal) ℓ) (g : Dev Cert.ReferenceGateDgIdeal.nD → PrngReg), Pre_ReferenceGateDgIdeal m →
    θ_run (Cert.ReferenceGateDgIdeal.defs (F := Ideal)) (onTc (τ := Cert.ReferenceGateDgIdeal.τ) (Cert.ReferenceGateDgIdeal.main (F := Ideal))) ⟨m, fun _ => 0, g⟩ (fun r => (∀ c : Dev Cert.ReferenceGateDgIdeal.nD,
      r.2.mem ((c.tc : Thread Cert.ReferenceGateDgIdeal.nD Cert.ReferenceGateDgIdeal.τ).loc Cert.ReferenceGateDgIdeal.main_arg0) = m ((c.tc : Thread Cert.ReferenceGateDgIdeal.nD Cert.ReferenceGateDgIdeal.τ).loc Cert.ReferenceGateDgIdeal.main_arg0)
      ∧ r.2.mem ((c.tc : Thread Cert.ReferenceGateDgIdeal.nD Cert.ReferenceGateDgIdeal.τ).loc Cert.ReferenceGateDgIdeal.main_arg1) = m ((c.tc : Thread Cert.ReferenceGateDgIdeal.nD Cert.ReferenceGateDgIdeal.τ).loc Cert.ReferenceGateDgIdeal.main_arg1)
      ∧ r.2.mem ((c.tc : Thread Cert.ReferenceGateDgIdeal.nD Cert.ReferenceGateDgIdeal.τ).loc Cert.ReferenceGateDgIdeal.main_arg2) = m ((c.tc : Thread Cert.ReferenceGateDgIdeal.nD Cert.ReferenceGateDgIdeal.τ).loc Cert.ReferenceGateDgIdeal.main_arg2)
      ∧ r.2.mem ((c.tc : Thread Cert.ReferenceGateDgIdeal.nD Cert.ReferenceGateDgIdeal.τ).loc Cert.ReferenceGateDgIdeal.main_arg3) = m ((c.tc : Thread Cert.ReferenceGateDgIdeal.nD Cert.ReferenceGateDgIdeal.τ).loc Cert.ReferenceGateDgIdeal.main_arg3)
      ∧ r.2.mem ((c.tc : Thread Cert.ReferenceGateDgIdeal.nD Cert.ReferenceGateDgIdeal.τ).loc Cert.ReferenceGateDgIdeal.main_arg4) = m ((c.tc : Thread Cert.ReferenceGateDgIdeal.nD Cert.ReferenceGateDgIdeal.τ).loc Cert.ReferenceGateDgIdeal.main_arg4))
      ∧ r.2.sem = fun _ => 0)

def quiescent_KernelGateWg [hKernelGateWg : Cert.KernelGateWg.Facts] : Prop :=
  ∀ (m : (ℓ : Loc Cert.KernelGateWg.nD Cert.KernelGateWg.τ Cert.KernelGateWg.sig) → Buf (Elt Bits) ℓ) (g : Dev Cert.KernelGateWg.nD → PrngReg), Pre_KernelGateWg m →
    θ_run (Cert.KernelGateWg.defs (F := Bits)) (onTc (τ := Cert.KernelGateWg.τ) (Cert.KernelGateWg.main (F := Bits))) ⟨m, fun _ => 0, g⟩ (fun r => (∀ c : Dev Cert.KernelGateWg.nD,
      r.2.mem ((c.tc : Thread Cert.KernelGateWg.nD Cert.KernelGateWg.τ).loc Cert.KernelGateWg.main_arg0) = m ((c.tc : Thread Cert.KernelGateWg.nD Cert.KernelGateWg.τ).loc Cert.KernelGateWg.main_arg0)
      ∧ r.2.mem ((c.tc : Thread Cert.KernelGateWg.nD Cert.KernelGateWg.τ).loc Cert.KernelGateWg.main_arg1) = m ((c.tc : Thread Cert.KernelGateWg.nD Cert.KernelGateWg.τ).loc Cert.KernelGateWg.main_arg1))
      ∧ r.2.sem = fun _ => 0)

def quiescent_KernelGateWgIdeal [hKernelGateWgIdeal : Cert.KernelGateWgIdeal.Facts] : Prop :=
  ∀ (m : (ℓ : Loc Cert.KernelGateWgIdeal.nD Cert.KernelGateWgIdeal.τ Cert.KernelGateWgIdeal.sig) → Buf (Elt Ideal) ℓ) (g : Dev Cert.KernelGateWgIdeal.nD → PrngReg), Pre_KernelGateWgIdeal m →
    θ_run (Cert.KernelGateWgIdeal.defs (F := Ideal)) (onTc (τ := Cert.KernelGateWgIdeal.τ) (Cert.KernelGateWgIdeal.main (F := Ideal))) ⟨m, fun _ => 0, g⟩ (fun r => (∀ c : Dev Cert.KernelGateWgIdeal.nD,
      r.2.mem ((c.tc : Thread Cert.KernelGateWgIdeal.nD Cert.KernelGateWgIdeal.τ).loc Cert.KernelGateWgIdeal.main_arg0) = m ((c.tc : Thread Cert.KernelGateWgIdeal.nD Cert.KernelGateWgIdeal.τ).loc Cert.KernelGateWgIdeal.main_arg0)
      ∧ r.2.mem ((c.tc : Thread Cert.KernelGateWgIdeal.nD Cert.KernelGateWgIdeal.τ).loc Cert.KernelGateWgIdeal.main_arg1) = m ((c.tc : Thread Cert.KernelGateWgIdeal.nD Cert.KernelGateWgIdeal.τ).loc Cert.KernelGateWgIdeal.main_arg1))
      ∧ r.2.sem = fun _ => 0)

def quiescent_ReferenceGateWgIdeal [hReferenceGateWgIdeal : Cert.ReferenceGateWgIdeal.Facts] : Prop :=
  ∀ (m : (ℓ : Loc Cert.ReferenceGateWgIdeal.nD Cert.ReferenceGateWgIdeal.τ Cert.ReferenceGateWgIdeal.sig) → Buf (Elt Ideal) ℓ) (g : Dev Cert.ReferenceGateWgIdeal.nD → PrngReg), Pre_ReferenceGateWgIdeal m →
    θ_run (Cert.ReferenceGateWgIdeal.defs (F := Ideal)) (onTc (τ := Cert.ReferenceGateWgIdeal.τ) (Cert.ReferenceGateWgIdeal.main (F := Ideal))) ⟨m, fun _ => 0, g⟩ (fun r => (∀ c : Dev Cert.ReferenceGateWgIdeal.nD,
      r.2.mem ((c.tc : Thread Cert.ReferenceGateWgIdeal.nD Cert.ReferenceGateWgIdeal.τ).loc Cert.ReferenceGateWgIdeal.main_arg0) = m ((c.tc : Thread Cert.ReferenceGateWgIdeal.nD Cert.ReferenceGateWgIdeal.τ).loc Cert.ReferenceGateWgIdeal.main_arg0)
      ∧ r.2.mem ((c.tc : Thread Cert.ReferenceGateWgIdeal.nD Cert.ReferenceGateWgIdeal.τ).loc Cert.ReferenceGateWgIdeal.main_arg1) = m ((c.tc : Thread Cert.ReferenceGateWgIdeal.nD Cert.ReferenceGateWgIdeal.τ).loc Cert.ReferenceGateWgIdeal.main_arg1))
      ∧ r.2.sem = fun _ => 0)

def preserves_Kernel_KernelIdeal : Prop :=
  IdealRules.named_const.Statement Cert.KernelIdeal.κ "mask" .f32 0xF149F2CA#32 ⊥

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v46_0)) (v1 : (c : Dev Cert.KernelIdeal.nD) → Buf (Elt Ideal) ((c.tc : Thread Cert.KernelIdeal.nD Cert.KernelIdeal.τ).loc Cert.KernelIdeal.main_v46_1)) (v2 : (c : Dev Cert.KernelIdeal.nD) → Buf (Elt Ideal) ((c.tc : Thread Cert.KernelIdeal.nD Cert.KernelIdeal.τ).loc Cert.KernelIdeal.main_v46_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v46_0) = v0 c
          ∧ r.2.mem ((c.tc : Thread Cert.KernelIdeal.nD Cert.KernelIdeal.τ).loc Cert.KernelIdeal.main_v46_1) = v1 c
          ∧ r.2.mem ((c.tc : Thread Cert.KernelIdeal.nD Cert.KernelIdeal.τ).loc Cert.KernelIdeal.main_v46_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v64) = v0 c
          ∧ r.2.mem ((c.tc : Thread Cert.ReferenceIdeal.nD Cert.ReferenceIdeal.τ).loc Cert.ReferenceIdeal.main_v66) = v1 c
          ∧ r.2.mem ((c.tc : Thread Cert.ReferenceIdeal.nD Cert.ReferenceIdeal.τ).loc Cert.ReferenceIdeal.main_v68) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_KernelUp_KernelUpIdeal : Prop :=
  True

def algebraic_KernelUpIdeal_ReferenceUpIdeal [hKernelUpIdeal : Cert.KernelUpIdeal.Facts] [hReferenceUpIdeal : Cert.ReferenceUpIdeal.Facts] : Prop :=
  ∀ (m : (ℓ : Loc Cert.KernelUpIdeal.nD Cert.KernelUpIdeal.τ Cert.KernelUpIdeal.sig) → Buf (Elt Ideal) ℓ) (g : Dev Cert.KernelUpIdeal.nD → PrngReg)
    (m' : (ℓ : Loc Cert.ReferenceUpIdeal.nD Cert.ReferenceUpIdeal.τ Cert.ReferenceUpIdeal.sig) → Buf (Elt Ideal) ℓ) (g' : Dev Cert.ReferenceUpIdeal.nD → PrngReg), Pre_KernelUpIdeal m →
    (∀ c : Dev Cert.KernelUpIdeal.nD,
      m' ((c.tc : Thread Cert.ReferenceUpIdeal.nD Cert.ReferenceUpIdeal.τ).loc Cert.ReferenceUpIdeal.main_arg0) = m ((c.tc : Thread Cert.KernelUpIdeal.nD Cert.KernelUpIdeal.τ).loc Cert.KernelUpIdeal.main_arg0)
      ∧ m' ((c.tc : Thread Cert.ReferenceUpIdeal.nD Cert.ReferenceUpIdeal.τ).loc Cert.ReferenceUpIdeal.main_arg1) = m ((c.tc : Thread Cert.KernelUpIdeal.nD Cert.KernelUpIdeal.τ).loc Cert.KernelUpIdeal.main_arg1)
      ∧ m' ((c.tc : Thread Cert.ReferenceUpIdeal.nD Cert.ReferenceUpIdeal.τ).loc Cert.ReferenceUpIdeal.main_arg2) = m ((c.tc : Thread Cert.KernelUpIdeal.nD Cert.KernelUpIdeal.τ).loc Cert.KernelUpIdeal.main_arg2)
      ∧ m' ((c.tc : Thread Cert.ReferenceUpIdeal.nD Cert.ReferenceUpIdeal.τ).loc Cert.ReferenceUpIdeal.main_arg3) = m ((c.tc : Thread Cert.KernelUpIdeal.nD Cert.KernelUpIdeal.τ).loc Cert.KernelUpIdeal.main_arg3)
      ∧ m' ((c.tc : Thread Cert.ReferenceUpIdeal.nD Cert.ReferenceUpIdeal.τ).loc Cert.ReferenceUpIdeal.main_arg4) = m ((c.tc : Thread Cert.KernelUpIdeal.nD Cert.KernelUpIdeal.τ).loc Cert.KernelUpIdeal.main_arg4)) →
    ∃ (v0 : (c : Dev Cert.KernelUpIdeal.nD) → Buf (Elt Ideal) ((c.tc : Thread Cert.KernelUpIdeal.nD Cert.KernelUpIdeal.τ).loc Cert.KernelUpIdeal.main_v7_0)) (v1 : (c : Dev Cert.KernelUpIdeal.nD) → Buf (Elt Ideal) ((c.tc : Thread Cert.KernelUpIdeal.nD Cert.KernelUpIdeal.τ).loc Cert.KernelUpIdeal.main_v7_1)),
      θ_run (Cert.KernelUpIdeal.defs (F := Ideal)) (onTc (τ := Cert.KernelUpIdeal.τ) (Cert.KernelUpIdeal.main (F := Ideal))) ⟨m, fun _ => 0, g⟩ (fun r => ∀ c : Dev Cert.KernelUpIdeal.nD,
          r.2.mem ((c.tc : Thread Cert.KernelUpIdeal.nD Cert.KernelUpIdeal.τ).loc Cert.KernelUpIdeal.main_v7_0) = v0 c
          ∧ r.2.mem ((c.tc : Thread Cert.KernelUpIdeal.nD Cert.KernelUpIdeal.τ).loc Cert.KernelUpIdeal.main_v7_1) = v1 c
          ∧ r.2.mem ((c.tc : Thread Cert.KernelUpIdeal.nD Cert.KernelUpIdeal.τ).loc Cert.KernelUpIdeal.main_arg0) = m ((c.tc : Thread Cert.KernelUpIdeal.nD Cert.KernelUpIdeal.τ).loc Cert.KernelUpIdeal.main_arg0)
          ∧ r.2.mem ((c.tc : Thread Cert.KernelUpIdeal.nD Cert.KernelUpIdeal.τ).loc Cert.KernelUpIdeal.main_arg1) = m ((c.tc : Thread Cert.KernelUpIdeal.nD Cert.KernelUpIdeal.τ).loc Cert.KernelUpIdeal.main_arg1)
          ∧ r.2.mem ((c.tc : Thread Cert.KernelUpIdeal.nD Cert.KernelUpIdeal.τ).loc Cert.KernelUpIdeal.main_arg2) = m ((c.tc : Thread Cert.KernelUpIdeal.nD Cert.KernelUpIdeal.τ).loc Cert.KernelUpIdeal.main_arg2)
          ∧ r.2.mem ((c.tc : Thread Cert.KernelUpIdeal.nD Cert.KernelUpIdeal.τ).loc Cert.KernelUpIdeal.main_arg3) = m ((c.tc : Thread Cert.KernelUpIdeal.nD Cert.KernelUpIdeal.τ).loc Cert.KernelUpIdeal.main_arg3)
          ∧ r.2.mem ((c.tc : Thread Cert.KernelUpIdeal.nD Cert.KernelUpIdeal.τ).loc Cert.KernelUpIdeal.main_arg4) = m ((c.tc : Thread Cert.KernelUpIdeal.nD Cert.KernelUpIdeal.τ).loc Cert.KernelUpIdeal.main_arg4))
      ∧ θ_run (Cert.ReferenceUpIdeal.defs (F := Ideal)) (onTc (τ := Cert.ReferenceUpIdeal.τ) (Cert.ReferenceUpIdeal.main (F := Ideal))) ⟨m', fun _ => 0, g'⟩ (fun r => ∀ c : Dev Cert.ReferenceUpIdeal.nD,
          r.2.mem ((c.tc : Thread Cert.ReferenceUpIdeal.nD Cert.ReferenceUpIdeal.τ).loc Cert.ReferenceUpIdeal.main_v38) = v0 c
          ∧ r.2.mem ((c.tc : Thread Cert.ReferenceUpIdeal.nD Cert.ReferenceUpIdeal.τ).loc Cert.ReferenceUpIdeal.main_v39) = v1 c
          ∧ r.2.mem ((c.tc : Thread Cert.ReferenceUpIdeal.nD Cert.ReferenceUpIdeal.τ).loc Cert.ReferenceUpIdeal.main_arg0) = m' ((c.tc : Thread Cert.ReferenceUpIdeal.nD Cert.ReferenceUpIdeal.τ).loc Cert.ReferenceUpIdeal.main_arg0)
          ∧ r.2.mem ((c.tc : Thread Cert.ReferenceUpIdeal.nD Cert.ReferenceUpIdeal.τ).loc Cert.ReferenceUpIdeal.main_arg1) = m' ((c.tc : Thread Cert.ReferenceUpIdeal.nD Cert.ReferenceUpIdeal.τ).loc Cert.ReferenceUpIdeal.main_arg1)
          ∧ r.2.mem ((c.tc : Thread Cert.ReferenceUpIdeal.nD Cert.ReferenceUpIdeal.τ).loc Cert.ReferenceUpIdeal.main_arg2) = m' ((c.tc : Thread Cert.ReferenceUpIdeal.nD Cert.ReferenceUpIdeal.τ).loc Cert.ReferenceUpIdeal.main_arg2)
          ∧ r.2.mem ((c.tc : Thread Cert.ReferenceUpIdeal.nD Cert.ReferenceUpIdeal.τ).loc Cert.ReferenceUpIdeal.main_arg3) = m' ((c.tc : Thread Cert.ReferenceUpIdeal.nD Cert.ReferenceUpIdeal.τ).loc Cert.ReferenceUpIdeal.main_arg3)
          ∧ r.2.mem ((c.tc : Thread Cert.ReferenceUpIdeal.nD Cert.ReferenceUpIdeal.τ).loc Cert.ReferenceUpIdeal.main_arg4) = m' ((c.tc : Thread Cert.ReferenceUpIdeal.nD Cert.ReferenceUpIdeal.τ).loc Cert.ReferenceUpIdeal.main_arg4))

def preserves_KernelUpWg_KernelUpWgIdeal : Prop :=
  True

def algebraic_KernelUpWgIdeal_ReferenceUpWgIdeal [hKernelUpWgIdeal : Cert.KernelUpWgIdeal.Facts] [hReferenceUpWgIdeal : Cert.ReferenceUpWgIdeal.Facts] : Prop :=
  ∀ (m : (ℓ : Loc Cert.KernelUpWgIdeal.nD Cert.KernelUpWgIdeal.τ Cert.KernelUpWgIdeal.sig) → Buf (Elt Ideal) ℓ) (g : Dev Cert.KernelUpWgIdeal.nD → PrngReg)
    (m' : (ℓ : Loc Cert.ReferenceUpWgIdeal.nD Cert.ReferenceUpWgIdeal.τ Cert.ReferenceUpWgIdeal.sig) → Buf (Elt Ideal) ℓ) (g' : Dev Cert.ReferenceUpWgIdeal.nD → PrngReg), Pre_KernelUpWgIdeal m →
    (∀ c : Dev Cert.KernelUpWgIdeal.nD,
      m' ((c.tc : Thread Cert.ReferenceUpWgIdeal.nD Cert.ReferenceUpWgIdeal.τ).loc Cert.ReferenceUpWgIdeal.main_arg0) = m ((c.tc : Thread Cert.KernelUpWgIdeal.nD Cert.KernelUpWgIdeal.τ).loc Cert.KernelUpWgIdeal.main_arg0)
      ∧ m' ((c.tc : Thread Cert.ReferenceUpWgIdeal.nD Cert.ReferenceUpWgIdeal.τ).loc Cert.ReferenceUpWgIdeal.main_arg1) = m ((c.tc : Thread Cert.KernelUpWgIdeal.nD Cert.KernelUpWgIdeal.τ).loc Cert.KernelUpWgIdeal.main_arg1)) →
    ∃ (v0 : (c : Dev Cert.KernelUpWgIdeal.nD) → Buf (Elt Ideal) ((c.tc : Thread Cert.KernelUpWgIdeal.nD Cert.KernelUpWgIdeal.τ).loc Cert.KernelUpWgIdeal.main_v4)),
      θ_run (Cert.KernelUpWgIdeal.defs (F := Ideal)) (onTc (τ := Cert.KernelUpWgIdeal.τ) (Cert.KernelUpWgIdeal.main (F := Ideal))) ⟨m, fun _ => 0, g⟩ (fun r => ∀ c : Dev Cert.KernelUpWgIdeal.nD,
          r.2.mem ((c.tc : Thread Cert.KernelUpWgIdeal.nD Cert.KernelUpWgIdeal.τ).loc Cert.KernelUpWgIdeal.main_v4) = v0 c
          ∧ r.2.mem ((c.tc : Thread Cert.KernelUpWgIdeal.nD Cert.KernelUpWgIdeal.τ).loc Cert.KernelUpWgIdeal.main_arg0) = m ((c.tc : Thread Cert.KernelUpWgIdeal.nD Cert.KernelUpWgIdeal.τ).loc Cert.KernelUpWgIdeal.main_arg0)
          ∧ r.2.mem ((c.tc : Thread Cert.KernelUpWgIdeal.nD Cert.KernelUpWgIdeal.τ).loc Cert.KernelUpWgIdeal.main_arg1) = m ((c.tc : Thread Cert.KernelUpWgIdeal.nD Cert.KernelUpWgIdeal.τ).loc Cert.KernelUpWgIdeal.main_arg1))
      ∧ θ_run (Cert.ReferenceUpWgIdeal.defs (F := Ideal)) (onTc (τ := Cert.ReferenceUpWgIdeal.τ) (Cert.ReferenceUpWgIdeal.main (F := Ideal))) ⟨m', fun _ => 0, g'⟩ (fun r => ∀ c : Dev Cert.ReferenceUpWgIdeal.nD,
          r.2.mem ((c.tc : Thread Cert.ReferenceUpWgIdeal.nD Cert.ReferenceUpWgIdeal.τ).loc Cert.ReferenceUpWgIdeal.main_v6) = v0 c
          ∧ r.2.mem ((c.tc : Thread Cert.ReferenceUpWgIdeal.nD Cert.ReferenceUpWgIdeal.τ).loc Cert.ReferenceUpWgIdeal.main_arg0) = m' ((c.tc : Thread Cert.ReferenceUpWgIdeal.nD Cert.ReferenceUpWgIdeal.τ).loc Cert.ReferenceUpWgIdeal.main_arg0)
          ∧ r.2.mem ((c.tc : Thread Cert.ReferenceUpWgIdeal.nD Cert.ReferenceUpWgIdeal.τ).loc Cert.ReferenceUpWgIdeal.main_arg1) = m' ((c.tc : Thread Cert.ReferenceUpWgIdeal.nD Cert.ReferenceUpWgIdeal.τ).loc Cert.ReferenceUpWgIdeal.main_arg1))

def preserves_KernelDownDg_KernelDownDgIdeal : Prop :=
  True

def algebraic_KernelDownDgIdeal_ReferenceDownDgIdeal [hKernelDownDgIdeal : Cert.KernelDownDgIdeal.Facts] [hReferenceDownDgIdeal : Cert.ReferenceDownDgIdeal.Facts] : Prop :=
  ∀ (m : (ℓ : Loc Cert.KernelDownDgIdeal.nD Cert.KernelDownDgIdeal.τ Cert.KernelDownDgIdeal.sig) → Buf (Elt Ideal) ℓ) (g : Dev Cert.KernelDownDgIdeal.nD → PrngReg)
    (m' : (ℓ : Loc Cert.ReferenceDownDgIdeal.nD Cert.ReferenceDownDgIdeal.τ Cert.ReferenceDownDgIdeal.sig) → Buf (Elt Ideal) ℓ) (g' : Dev Cert.ReferenceDownDgIdeal.nD → PrngReg), Pre_KernelDownDgIdeal m →
    (∀ c : Dev Cert.KernelDownDgIdeal.nD,
      m' ((c.tc : Thread Cert.ReferenceDownDgIdeal.nD Cert.ReferenceDownDgIdeal.τ).loc Cert.ReferenceDownDgIdeal.main_arg0) = m ((c.tc : Thread Cert.KernelDownDgIdeal.nD Cert.KernelDownDgIdeal.τ).loc Cert.KernelDownDgIdeal.main_arg0)
      ∧ m' ((c.tc : Thread Cert.ReferenceDownDgIdeal.nD Cert.ReferenceDownDgIdeal.τ).loc Cert.ReferenceDownDgIdeal.main_arg1) = m ((c.tc : Thread Cert.KernelDownDgIdeal.nD Cert.KernelDownDgIdeal.τ).loc Cert.KernelDownDgIdeal.main_arg1)) →
    ∃ (v0 : (c : Dev Cert.KernelDownDgIdeal.nD) → Buf (Elt Ideal) ((c.tc : Thread Cert.KernelDownDgIdeal.nD Cert.KernelDownDgIdeal.τ).loc Cert.KernelDownDgIdeal.main_v1)),
      θ_run (Cert.KernelDownDgIdeal.defs (F := Ideal)) (onTc (τ := Cert.KernelDownDgIdeal.τ) (Cert.KernelDownDgIdeal.main (F := Ideal))) ⟨m, fun _ => 0, g⟩ (fun r => ∀ c : Dev Cert.KernelDownDgIdeal.nD,
          r.2.mem ((c.tc : Thread Cert.KernelDownDgIdeal.nD Cert.KernelDownDgIdeal.τ).loc Cert.KernelDownDgIdeal.main_v1) = v0 c
          ∧ r.2.mem ((c.tc : Thread Cert.KernelDownDgIdeal.nD Cert.KernelDownDgIdeal.τ).loc Cert.KernelDownDgIdeal.main_arg0) = m ((c.tc : Thread Cert.KernelDownDgIdeal.nD Cert.KernelDownDgIdeal.τ).loc Cert.KernelDownDgIdeal.main_arg0)
          ∧ r.2.mem ((c.tc : Thread Cert.KernelDownDgIdeal.nD Cert.KernelDownDgIdeal.τ).loc Cert.KernelDownDgIdeal.main_arg1) = m ((c.tc : Thread Cert.KernelDownDgIdeal.nD Cert.KernelDownDgIdeal.τ).loc Cert.KernelDownDgIdeal.main_arg1))
      ∧ θ_run (Cert.ReferenceDownDgIdeal.defs (F := Ideal)) (onTc (τ := Cert.ReferenceDownDgIdeal.τ) (Cert.ReferenceDownDgIdeal.main (F := Ideal))) ⟨m', fun _ => 0, g'⟩ (fun r => ∀ c : Dev Cert.ReferenceDownDgIdeal.nD,
          r.2.mem ((c.tc : Thread Cert.ReferenceDownDgIdeal.nD Cert.ReferenceDownDgIdeal.τ).loc Cert.ReferenceDownDgIdeal.main_v5) = v0 c
          ∧ r.2.mem ((c.tc : Thread Cert.ReferenceDownDgIdeal.nD Cert.ReferenceDownDgIdeal.τ).loc Cert.ReferenceDownDgIdeal.main_arg0) = m' ((c.tc : Thread Cert.ReferenceDownDgIdeal.nD Cert.ReferenceDownDgIdeal.τ).loc Cert.ReferenceDownDgIdeal.main_arg0)
          ∧ r.2.mem ((c.tc : Thread Cert.ReferenceDownDgIdeal.nD Cert.ReferenceDownDgIdeal.τ).loc Cert.ReferenceDownDgIdeal.main_arg1) = m' ((c.tc : Thread Cert.ReferenceDownDgIdeal.nD Cert.ReferenceDownDgIdeal.τ).loc Cert.ReferenceDownDgIdeal.main_arg1))

def preserves_KernelDownWg_KernelDownWgIdeal : Prop :=
  True

def algebraic_KernelDownWgIdeal_ReferenceDownWgIdeal [hKernelDownWgIdeal : Cert.KernelDownWgIdeal.Facts] [hReferenceDownWgIdeal : Cert.ReferenceDownWgIdeal.Facts] : Prop :=
  ∀ (m : (ℓ : Loc Cert.KernelDownWgIdeal.nD Cert.KernelDownWgIdeal.τ Cert.KernelDownWgIdeal.sig) → Buf (Elt Ideal) ℓ) (g : Dev Cert.KernelDownWgIdeal.nD → PrngReg)
    (m' : (ℓ : Loc Cert.ReferenceDownWgIdeal.nD Cert.ReferenceDownWgIdeal.τ Cert.ReferenceDownWgIdeal.sig) → Buf (Elt Ideal) ℓ) (g' : Dev Cert.ReferenceDownWgIdeal.nD → PrngReg), Pre_KernelDownWgIdeal m →
    (∀ c : Dev Cert.KernelDownWgIdeal.nD,
      m' ((c.tc : Thread Cert.ReferenceDownWgIdeal.nD Cert.ReferenceDownWgIdeal.τ).loc Cert.ReferenceDownWgIdeal.main_arg0) = m ((c.tc : Thread Cert.KernelDownWgIdeal.nD Cert.KernelDownWgIdeal.τ).loc Cert.KernelDownWgIdeal.main_arg0)
      ∧ m' ((c.tc : Thread Cert.ReferenceDownWgIdeal.nD Cert.ReferenceDownWgIdeal.τ).loc Cert.ReferenceDownWgIdeal.main_arg1) = m ((c.tc : Thread Cert.KernelDownWgIdeal.nD Cert.KernelDownWgIdeal.τ).loc Cert.KernelDownWgIdeal.main_arg1)) →
    ∃ (v0 : (c : Dev Cert.KernelDownWgIdeal.nD) → Buf (Elt Ideal) ((c.tc : Thread Cert.KernelDownWgIdeal.nD Cert.KernelDownWgIdeal.τ).loc Cert.KernelDownWgIdeal.main_v3)),
      θ_run (Cert.KernelDownWgIdeal.defs (F := Ideal)) (onTc (τ := Cert.KernelDownWgIdeal.τ) (Cert.KernelDownWgIdeal.main (F := Ideal))) ⟨m, fun _ => 0, g⟩ (fun r => ∀ c : Dev Cert.KernelDownWgIdeal.nD,
          r.2.mem ((c.tc : Thread Cert.KernelDownWgIdeal.nD Cert.KernelDownWgIdeal.τ).loc Cert.KernelDownWgIdeal.main_v3) = v0 c
          ∧ r.2.mem ((c.tc : Thread Cert.KernelDownWgIdeal.nD Cert.KernelDownWgIdeal.τ).loc Cert.KernelDownWgIdeal.main_arg0) = m ((c.tc : Thread Cert.KernelDownWgIdeal.nD Cert.KernelDownWgIdeal.τ).loc Cert.KernelDownWgIdeal.main_arg0)
          ∧ r.2.mem ((c.tc : Thread Cert.KernelDownWgIdeal.nD Cert.KernelDownWgIdeal.τ).loc Cert.KernelDownWgIdeal.main_arg1) = m ((c.tc : Thread Cert.KernelDownWgIdeal.nD Cert.KernelDownWgIdeal.τ).loc Cert.KernelDownWgIdeal.main_arg1))
      ∧ θ_run (Cert.ReferenceDownWgIdeal.defs (F := Ideal)) (onTc (τ := Cert.ReferenceDownWgIdeal.τ) (Cert.ReferenceDownWgIdeal.main (F := Ideal))) ⟨m', fun _ => 0, g'⟩ (fun r => ∀ c : Dev Cert.ReferenceDownWgIdeal.nD,
          r.2.mem ((c.tc : Thread Cert.ReferenceDownWgIdeal.nD Cert.ReferenceDownWgIdeal.τ).loc Cert.ReferenceDownWgIdeal.main_v4) = v0 c
          ∧ r.2.mem ((c.tc : Thread Cert.ReferenceDownWgIdeal.nD Cert.ReferenceDownWgIdeal.τ).loc Cert.ReferenceDownWgIdeal.main_arg0) = m' ((c.tc : Thread Cert.ReferenceDownWgIdeal.nD Cert.ReferenceDownWgIdeal.τ).loc Cert.ReferenceDownWgIdeal.main_arg0)
          ∧ r.2.mem ((c.tc : Thread Cert.ReferenceDownWgIdeal.nD Cert.ReferenceDownWgIdeal.τ).loc Cert.ReferenceDownWgIdeal.main_arg1) = m' ((c.tc : Thread Cert.ReferenceDownWgIdeal.nD Cert.ReferenceDownWgIdeal.τ).loc Cert.ReferenceDownWgIdeal.main_arg1))

def preserves_KernelDownFwd_KernelDownFwdIdeal : Prop :=
  True

def algebraic_KernelDownFwdIdeal_ReferenceDownFwdIdeal [hKernelDownFwdIdeal : Cert.KernelDownFwdIdeal.Facts] [hReferenceDownFwdIdeal : Cert.ReferenceDownFwdIdeal.Facts] : Prop :=
  ∀ (m : (ℓ : Loc Cert.KernelDownFwdIdeal.nD Cert.KernelDownFwdIdeal.τ Cert.KernelDownFwdIdeal.sig) → Buf (Elt Ideal) ℓ) (g : Dev Cert.KernelDownFwdIdeal.nD → PrngReg)
    (m' : (ℓ : Loc Cert.ReferenceDownFwdIdeal.nD Cert.ReferenceDownFwdIdeal.τ Cert.ReferenceDownFwdIdeal.sig) → Buf (Elt Ideal) ℓ) (g' : Dev Cert.ReferenceDownFwdIdeal.nD → PrngReg), Pre_KernelDownFwdIdeal m →
    (∀ c : Dev Cert.KernelDownFwdIdeal.nD,
      m' ((c.tc : Thread Cert.ReferenceDownFwdIdeal.nD Cert.ReferenceDownFwdIdeal.τ).loc Cert.ReferenceDownFwdIdeal.main_arg0) = m ((c.tc : Thread Cert.KernelDownFwdIdeal.nD Cert.KernelDownFwdIdeal.τ).loc Cert.KernelDownFwdIdeal.main_arg0)
      ∧ m' ((c.tc : Thread Cert.ReferenceDownFwdIdeal.nD Cert.ReferenceDownFwdIdeal.τ).loc Cert.ReferenceDownFwdIdeal.main_arg1) = m ((c.tc : Thread Cert.KernelDownFwdIdeal.nD Cert.KernelDownFwdIdeal.τ).loc Cert.KernelDownFwdIdeal.main_arg1)
      ∧ m' ((c.tc : Thread Cert.ReferenceDownFwdIdeal.nD Cert.ReferenceDownFwdIdeal.τ).loc Cert.ReferenceDownFwdIdeal.main_arg2) = m ((c.tc : Thread Cert.KernelDownFwdIdeal.nD Cert.KernelDownFwdIdeal.τ).loc Cert.KernelDownFwdIdeal.main_arg2)) →
    ∃ (v0 : (c : Dev Cert.KernelDownFwdIdeal.nD) → Buf (Elt Ideal) ((c.tc : Thread Cert.KernelDownFwdIdeal.nD Cert.KernelDownFwdIdeal.τ).loc Cert.KernelDownFwdIdeal.main_v4)),
      θ_run (Cert.KernelDownFwdIdeal.defs (F := Ideal)) (onTc (τ := Cert.KernelDownFwdIdeal.τ) (Cert.KernelDownFwdIdeal.main (F := Ideal))) ⟨m, fun _ => 0, g⟩ (fun r => ∀ c : Dev Cert.KernelDownFwdIdeal.nD,
          r.2.mem ((c.tc : Thread Cert.KernelDownFwdIdeal.nD Cert.KernelDownFwdIdeal.τ).loc Cert.KernelDownFwdIdeal.main_v4) = v0 c
          ∧ r.2.mem ((c.tc : Thread Cert.KernelDownFwdIdeal.nD Cert.KernelDownFwdIdeal.τ).loc Cert.KernelDownFwdIdeal.main_arg0) = m ((c.tc : Thread Cert.KernelDownFwdIdeal.nD Cert.KernelDownFwdIdeal.τ).loc Cert.KernelDownFwdIdeal.main_arg0)
          ∧ r.2.mem ((c.tc : Thread Cert.KernelDownFwdIdeal.nD Cert.KernelDownFwdIdeal.τ).loc Cert.KernelDownFwdIdeal.main_arg1) = m ((c.tc : Thread Cert.KernelDownFwdIdeal.nD Cert.KernelDownFwdIdeal.τ).loc Cert.KernelDownFwdIdeal.main_arg1)
          ∧ r.2.mem ((c.tc : Thread Cert.KernelDownFwdIdeal.nD Cert.KernelDownFwdIdeal.τ).loc Cert.KernelDownFwdIdeal.main_arg2) = m ((c.tc : Thread Cert.KernelDownFwdIdeal.nD Cert.KernelDownFwdIdeal.τ).loc Cert.KernelDownFwdIdeal.main_arg2))
      ∧ θ_run (Cert.ReferenceDownFwdIdeal.defs (F := Ideal)) (onTc (τ := Cert.ReferenceDownFwdIdeal.τ) (Cert.ReferenceDownFwdIdeal.main (F := Ideal))) ⟨m', fun _ => 0, g'⟩ (fun r => ∀ c : Dev Cert.ReferenceDownFwdIdeal.nD,
          r.2.mem ((c.tc : Thread Cert.ReferenceDownFwdIdeal.nD Cert.ReferenceDownFwdIdeal.τ).loc Cert.ReferenceDownFwdIdeal.main_v1) = v0 c
          ∧ r.2.mem ((c.tc : Thread Cert.ReferenceDownFwdIdeal.nD Cert.ReferenceDownFwdIdeal.τ).loc Cert.ReferenceDownFwdIdeal.main_arg0) = m' ((c.tc : Thread Cert.ReferenceDownFwdIdeal.nD Cert.ReferenceDownFwdIdeal.τ).loc Cert.ReferenceDownFwdIdeal.main_arg0)
          ∧ r.2.mem ((c.tc : Thread Cert.ReferenceDownFwdIdeal.nD Cert.ReferenceDownFwdIdeal.τ).loc Cert.ReferenceDownFwdIdeal.main_arg1) = m' ((c.tc : Thread Cert.ReferenceDownFwdIdeal.nD Cert.ReferenceDownFwdIdeal.τ).loc Cert.ReferenceDownFwdIdeal.main_arg1)
          ∧ r.2.mem ((c.tc : Thread Cert.ReferenceDownFwdIdeal.nD Cert.ReferenceDownFwdIdeal.τ).loc Cert.ReferenceDownFwdIdeal.main_arg2) = m' ((c.tc : Thread Cert.ReferenceDownFwdIdeal.nD Cert.ReferenceDownFwdIdeal.τ).loc Cert.ReferenceDownFwdIdeal.main_arg2))

def preserves_KernelInDg_KernelInDgIdeal : Prop :=
  True

def algebraic_KernelInDgIdeal_ReferenceInDgIdeal [hKernelInDgIdeal : Cert.KernelInDgIdeal.Facts] [hReferenceInDgIdeal : Cert.ReferenceInDgIdeal.Facts] : Prop :=
  ∀ (m : (ℓ : Loc Cert.KernelInDgIdeal.nD Cert.KernelInDgIdeal.τ Cert.KernelInDgIdeal.sig) → Buf (Elt Ideal) ℓ) (g : Dev Cert.KernelInDgIdeal.nD → PrngReg)
    (m' : (ℓ : Loc Cert.ReferenceInDgIdeal.nD Cert.ReferenceInDgIdeal.τ Cert.ReferenceInDgIdeal.sig) → Buf (Elt Ideal) ℓ) (g' : Dev Cert.ReferenceInDgIdeal.nD → PrngReg), Pre_KernelInDgIdeal m →
    (∀ c : Dev Cert.KernelInDgIdeal.nD,
      m' ((c.tc : Thread Cert.ReferenceInDgIdeal.nD Cert.ReferenceInDgIdeal.τ).loc Cert.ReferenceInDgIdeal.main_arg0) = m ((c.tc : Thread Cert.KernelInDgIdeal.nD Cert.KernelInDgIdeal.τ).loc Cert.KernelInDgIdeal.main_arg0)
      ∧ m' ((c.tc : Thread Cert.ReferenceInDgIdeal.nD Cert.ReferenceInDgIdeal.τ).loc Cert.ReferenceInDgIdeal.main_arg1) = m ((c.tc : Thread Cert.KernelInDgIdeal.nD Cert.KernelInDgIdeal.τ).loc Cert.KernelInDgIdeal.main_arg1)
      ∧ m' ((c.tc : Thread Cert.ReferenceInDgIdeal.nD Cert.ReferenceInDgIdeal.τ).loc Cert.ReferenceInDgIdeal.main_arg2) = m ((c.tc : Thread Cert.KernelInDgIdeal.nD Cert.KernelInDgIdeal.τ).loc Cert.KernelInDgIdeal.main_arg2)
      ∧ m' ((c.tc : Thread Cert.ReferenceInDgIdeal.nD Cert.ReferenceInDgIdeal.τ).loc Cert.ReferenceInDgIdeal.main_arg3) = m ((c.tc : Thread Cert.KernelInDgIdeal.nD Cert.KernelInDgIdeal.τ).loc Cert.KernelInDgIdeal.main_arg3)
      ∧ m' ((c.tc : Thread Cert.ReferenceInDgIdeal.nD Cert.ReferenceInDgIdeal.τ).loc Cert.ReferenceInDgIdeal.main_arg4) = m ((c.tc : Thread Cert.KernelInDgIdeal.nD Cert.KernelInDgIdeal.τ).loc Cert.KernelInDgIdeal.main_arg4)) →
    ∃ (v0 : (c : Dev Cert.KernelInDgIdeal.nD) → Buf (Elt Ideal) ((c.tc : Thread Cert.KernelInDgIdeal.nD Cert.KernelInDgIdeal.τ).loc Cert.KernelInDgIdeal.main_v2_0)) (v1 : (c : Dev Cert.KernelInDgIdeal.nD) → Buf (Elt Ideal) ((c.tc : Thread Cert.KernelInDgIdeal.nD Cert.KernelInDgIdeal.τ).loc Cert.KernelInDgIdeal.main_v2_1)),
      θ_run (Cert.KernelInDgIdeal.defs (F := Ideal)) (onTc (τ := Cert.KernelInDgIdeal.τ) (Cert.KernelInDgIdeal.main (F := Ideal))) ⟨m, fun _ => 0, g⟩ (fun r => ∀ c : Dev Cert.KernelInDgIdeal.nD,
          r.2.mem ((c.tc : Thread Cert.KernelInDgIdeal.nD Cert.KernelInDgIdeal.τ).loc Cert.KernelInDgIdeal.main_v2_0) = v0 c
          ∧ r.2.mem ((c.tc : Thread Cert.KernelInDgIdeal.nD Cert.KernelInDgIdeal.τ).loc Cert.KernelInDgIdeal.main_v2_1) = v1 c
          ∧ r.2.mem ((c.tc : Thread Cert.KernelInDgIdeal.nD Cert.KernelInDgIdeal.τ).loc Cert.KernelInDgIdeal.main_arg0) = m ((c.tc : Thread Cert.KernelInDgIdeal.nD Cert.KernelInDgIdeal.τ).loc Cert.KernelInDgIdeal.main_arg0)
          ∧ r.2.mem ((c.tc : Thread Cert.KernelInDgIdeal.nD Cert.KernelInDgIdeal.τ).loc Cert.KernelInDgIdeal.main_arg1) = m ((c.tc : Thread Cert.KernelInDgIdeal.nD Cert.KernelInDgIdeal.τ).loc Cert.KernelInDgIdeal.main_arg1)
          ∧ r.2.mem ((c.tc : Thread Cert.KernelInDgIdeal.nD Cert.KernelInDgIdeal.τ).loc Cert.KernelInDgIdeal.main_arg2) = m ((c.tc : Thread Cert.KernelInDgIdeal.nD Cert.KernelInDgIdeal.τ).loc Cert.KernelInDgIdeal.main_arg2)
          ∧ r.2.mem ((c.tc : Thread Cert.KernelInDgIdeal.nD Cert.KernelInDgIdeal.τ).loc Cert.KernelInDgIdeal.main_arg3) = m ((c.tc : Thread Cert.KernelInDgIdeal.nD Cert.KernelInDgIdeal.τ).loc Cert.KernelInDgIdeal.main_arg3)
          ∧ r.2.mem ((c.tc : Thread Cert.KernelInDgIdeal.nD Cert.KernelInDgIdeal.τ).loc Cert.KernelInDgIdeal.main_arg4) = m ((c.tc : Thread Cert.KernelInDgIdeal.nD Cert.KernelInDgIdeal.τ).loc Cert.KernelInDgIdeal.main_arg4))
      ∧ θ_run (Cert.ReferenceInDgIdeal.defs (F := Ideal)) (onTc (τ := Cert.ReferenceInDgIdeal.τ) (Cert.ReferenceInDgIdeal.main (F := Ideal))) ⟨m', fun _ => 0, g'⟩ (fun r => ∀ c : Dev Cert.ReferenceInDgIdeal.nD,
          r.2.mem ((c.tc : Thread Cert.ReferenceInDgIdeal.nD Cert.ReferenceInDgIdeal.τ).loc Cert.ReferenceInDgIdeal.main_v38) = v0 c
          ∧ r.2.mem ((c.tc : Thread Cert.ReferenceInDgIdeal.nD Cert.ReferenceInDgIdeal.τ).loc Cert.ReferenceInDgIdeal.main_v39) = v1 c
          ∧ r.2.mem ((c.tc : Thread Cert.ReferenceInDgIdeal.nD Cert.ReferenceInDgIdeal.τ).loc Cert.ReferenceInDgIdeal.main_arg0) = m' ((c.tc : Thread Cert.ReferenceInDgIdeal.nD Cert.ReferenceInDgIdeal.τ).loc Cert.ReferenceInDgIdeal.main_arg0)
          ∧ r.2.mem ((c.tc : Thread Cert.ReferenceInDgIdeal.nD Cert.ReferenceInDgIdeal.τ).loc Cert.ReferenceInDgIdeal.main_arg1) = m' ((c.tc : Thread Cert.ReferenceInDgIdeal.nD Cert.ReferenceInDgIdeal.τ).loc Cert.ReferenceInDgIdeal.main_arg1)
          ∧ r.2.mem ((c.tc : Thread Cert.ReferenceInDgIdeal.nD Cert.ReferenceInDgIdeal.τ).loc Cert.ReferenceInDgIdeal.main_arg2) = m' ((c.tc : Thread Cert.ReferenceInDgIdeal.nD Cert.ReferenceInDgIdeal.τ).loc Cert.ReferenceInDgIdeal.main_arg2)
          ∧ r.2.mem ((c.tc : Thread Cert.ReferenceInDgIdeal.nD Cert.ReferenceInDgIdeal.τ).loc Cert.ReferenceInDgIdeal.main_arg3) = m' ((c.tc : Thread Cert.ReferenceInDgIdeal.nD Cert.ReferenceInDgIdeal.τ).loc Cert.ReferenceInDgIdeal.main_arg3)
          ∧ r.2.mem ((c.tc : Thread Cert.ReferenceInDgIdeal.nD Cert.ReferenceInDgIdeal.τ).loc Cert.ReferenceInDgIdeal.main_arg4) = m' ((c.tc : Thread Cert.ReferenceInDgIdeal.nD Cert.ReferenceInDgIdeal.τ).loc Cert.ReferenceInDgIdeal.main_arg4))

def preserves_KernelInWg_KernelInWgIdeal : Prop :=
  True

def algebraic_KernelInWgIdeal_ReferenceInWgIdeal [hKernelInWgIdeal : Cert.KernelInWgIdeal.Facts] [hReferenceInWgIdeal : Cert.ReferenceInWgIdeal.Facts] : Prop :=
  ∀ (m : (ℓ : Loc Cert.KernelInWgIdeal.nD Cert.KernelInWgIdeal.τ Cert.KernelInWgIdeal.sig) → Buf (Elt Ideal) ℓ) (g : Dev Cert.KernelInWgIdeal.nD → PrngReg)
    (m' : (ℓ : Loc Cert.ReferenceInWgIdeal.nD Cert.ReferenceInWgIdeal.τ Cert.ReferenceInWgIdeal.sig) → Buf (Elt Ideal) ℓ) (g' : Dev Cert.ReferenceInWgIdeal.nD → PrngReg), Pre_KernelInWgIdeal m →
    (∀ c : Dev Cert.KernelInWgIdeal.nD,
      m' ((c.tc : Thread Cert.ReferenceInWgIdeal.nD Cert.ReferenceInWgIdeal.τ).loc Cert.ReferenceInWgIdeal.main_arg0) = m ((c.tc : Thread Cert.KernelInWgIdeal.nD Cert.KernelInWgIdeal.τ).loc Cert.KernelInWgIdeal.main_arg0)
      ∧ m' ((c.tc : Thread Cert.ReferenceInWgIdeal.nD Cert.ReferenceInWgIdeal.τ).loc Cert.ReferenceInWgIdeal.main_arg1) = m ((c.tc : Thread Cert.KernelInWgIdeal.nD Cert.KernelInWgIdeal.τ).loc Cert.KernelInWgIdeal.main_arg1)) →
    ∃ (v0 : (c : Dev Cert.KernelInWgIdeal.nD) → Buf (Elt Ideal) ((c.tc : Thread Cert.KernelInWgIdeal.nD Cert.KernelInWgIdeal.τ).loc Cert.KernelInWgIdeal.main_v1)),
      θ_run (Cert.KernelInWgIdeal.defs (F := Ideal)) (onTc (τ := Cert.KernelInWgIdeal.τ) (Cert.KernelInWgIdeal.main (F := Ideal))) ⟨m, fun _ => 0, g⟩ (fun r => ∀ c : Dev Cert.KernelInWgIdeal.nD,
          r.2.mem ((c.tc : Thread Cert.KernelInWgIdeal.nD Cert.KernelInWgIdeal.τ).loc Cert.KernelInWgIdeal.main_v1) = v0 c
          ∧ r.2.mem ((c.tc : Thread Cert.KernelInWgIdeal.nD Cert.KernelInWgIdeal.τ).loc Cert.KernelInWgIdeal.main_arg0) = m ((c.tc : Thread Cert.KernelInWgIdeal.nD Cert.KernelInWgIdeal.τ).loc Cert.KernelInWgIdeal.main_arg0)
          ∧ r.2.mem ((c.tc : Thread Cert.KernelInWgIdeal.nD Cert.KernelInWgIdeal.τ).loc Cert.KernelInWgIdeal.main_arg1) = m ((c.tc : Thread Cert.KernelInWgIdeal.nD Cert.KernelInWgIdeal.τ).loc Cert.KernelInWgIdeal.main_arg1))
      ∧ θ_run (Cert.ReferenceInWgIdeal.defs (F := Ideal)) (onTc (τ := Cert.ReferenceInWgIdeal.τ) (Cert.ReferenceInWgIdeal.main (F := Ideal))) ⟨m', fun _ => 0, g'⟩ (fun r => ∀ c : Dev Cert.ReferenceInWgIdeal.nD,
          r.2.mem ((c.tc : Thread Cert.ReferenceInWgIdeal.nD Cert.ReferenceInWgIdeal.τ).loc Cert.ReferenceInWgIdeal.main_v4) = v0 c
          ∧ r.2.mem ((c.tc : Thread Cert.ReferenceInWgIdeal.nD Cert.ReferenceInWgIdeal.τ).loc Cert.ReferenceInWgIdeal.main_arg0) = m' ((c.tc : Thread Cert.ReferenceInWgIdeal.nD Cert.ReferenceInWgIdeal.τ).loc Cert.ReferenceInWgIdeal.main_arg0)
          ∧ r.2.mem ((c.tc : Thread Cert.ReferenceInWgIdeal.nD Cert.ReferenceInWgIdeal.τ).loc Cert.ReferenceInWgIdeal.main_arg1) = m' ((c.tc : Thread Cert.ReferenceInWgIdeal.nD Cert.ReferenceInWgIdeal.τ).loc Cert.ReferenceInWgIdeal.main_arg1))

def preserves_KernelOutDg_KernelOutDgIdeal : Prop :=
  True

def algebraic_KernelOutDgIdeal_ReferenceOutDgIdeal [hKernelOutDgIdeal : Cert.KernelOutDgIdeal.Facts] [hReferenceOutDgIdeal : Cert.ReferenceOutDgIdeal.Facts] : Prop :=
  ∀ (m : (ℓ : Loc Cert.KernelOutDgIdeal.nD Cert.KernelOutDgIdeal.τ Cert.KernelOutDgIdeal.sig) → Buf (Elt Ideal) ℓ) (g : Dev Cert.KernelOutDgIdeal.nD → PrngReg)
    (m' : (ℓ : Loc Cert.ReferenceOutDgIdeal.nD Cert.ReferenceOutDgIdeal.τ Cert.ReferenceOutDgIdeal.sig) → Buf (Elt Ideal) ℓ) (g' : Dev Cert.ReferenceOutDgIdeal.nD → PrngReg), Pre_KernelOutDgIdeal m →
    (∀ c : Dev Cert.KernelOutDgIdeal.nD,
      m' ((c.tc : Thread Cert.ReferenceOutDgIdeal.nD Cert.ReferenceOutDgIdeal.τ).loc Cert.ReferenceOutDgIdeal.main_arg0) = m ((c.tc : Thread Cert.KernelOutDgIdeal.nD Cert.KernelOutDgIdeal.τ).loc Cert.KernelOutDgIdeal.main_arg0)
      ∧ m' ((c.tc : Thread Cert.ReferenceOutDgIdeal.nD Cert.ReferenceOutDgIdeal.τ).loc Cert.ReferenceOutDgIdeal.main_arg1) = m ((c.tc : Thread Cert.KernelOutDgIdeal.nD Cert.KernelOutDgIdeal.τ).loc Cert.KernelOutDgIdeal.main_arg1)) →
    ∃ (v0 : (c : Dev Cert.KernelOutDgIdeal.nD) → Buf (Elt Ideal) ((c.tc : Thread Cert.KernelOutDgIdeal.nD Cert.KernelOutDgIdeal.τ).loc Cert.KernelOutDgIdeal.main_v1)),
      θ_run (Cert.KernelOutDgIdeal.defs (F := Ideal)) (onTc (τ := Cert.KernelOutDgIdeal.τ) (Cert.KernelOutDgIdeal.main (F := Ideal))) ⟨m, fun _ => 0, g⟩ (fun r => ∀ c : Dev Cert.KernelOutDgIdeal.nD,
          r.2.mem ((c.tc : Thread Cert.KernelOutDgIdeal.nD Cert.KernelOutDgIdeal.τ).loc Cert.KernelOutDgIdeal.main_v1) = v0 c
          ∧ r.2.mem ((c.tc : Thread Cert.KernelOutDgIdeal.nD Cert.KernelOutDgIdeal.τ).loc Cert.KernelOutDgIdeal.main_arg0) = m ((c.tc : Thread Cert.KernelOutDgIdeal.nD Cert.KernelOutDgIdeal.τ).loc Cert.KernelOutDgIdeal.main_arg0)
          ∧ r.2.mem ((c.tc : Thread Cert.KernelOutDgIdeal.nD Cert.KernelOutDgIdeal.τ).loc Cert.KernelOutDgIdeal.main_arg1) = m ((c.tc : Thread Cert.KernelOutDgIdeal.nD Cert.KernelOutDgIdeal.τ).loc Cert.KernelOutDgIdeal.main_arg1))
      ∧ θ_run (Cert.ReferenceOutDgIdeal.defs (F := Ideal)) (onTc (τ := Cert.ReferenceOutDgIdeal.τ) (Cert.ReferenceOutDgIdeal.main (F := Ideal))) ⟨m', fun _ => 0, g'⟩ (fun r => ∀ c : Dev Cert.ReferenceOutDgIdeal.nD,
          r.2.mem ((c.tc : Thread Cert.ReferenceOutDgIdeal.nD Cert.ReferenceOutDgIdeal.τ).loc Cert.ReferenceOutDgIdeal.main_v2) = v0 c
          ∧ r.2.mem ((c.tc : Thread Cert.ReferenceOutDgIdeal.nD Cert.ReferenceOutDgIdeal.τ).loc Cert.ReferenceOutDgIdeal.main_arg0) = m' ((c.tc : Thread Cert.ReferenceOutDgIdeal.nD Cert.ReferenceOutDgIdeal.τ).loc Cert.ReferenceOutDgIdeal.main_arg0)
          ∧ r.2.mem ((c.tc : Thread Cert.ReferenceOutDgIdeal.nD Cert.ReferenceOutDgIdeal.τ).loc Cert.ReferenceOutDgIdeal.main_arg1) = m' ((c.tc : Thread Cert.ReferenceOutDgIdeal.nD Cert.ReferenceOutDgIdeal.τ).loc Cert.ReferenceOutDgIdeal.main_arg1))

def preserves_KernelOutWg_KernelOutWgIdeal : Prop :=
  True

def algebraic_KernelOutWgIdeal_ReferenceOutWgIdeal [hKernelOutWgIdeal : Cert.KernelOutWgIdeal.Facts] [hReferenceOutWgIdeal : Cert.ReferenceOutWgIdeal.Facts] : Prop :=
  ∀ (m : (ℓ : Loc Cert.KernelOutWgIdeal.nD Cert.KernelOutWgIdeal.τ Cert.KernelOutWgIdeal.sig) → Buf (Elt Ideal) ℓ) (g : Dev Cert.KernelOutWgIdeal.nD → PrngReg)
    (m' : (ℓ : Loc Cert.ReferenceOutWgIdeal.nD Cert.ReferenceOutWgIdeal.τ Cert.ReferenceOutWgIdeal.sig) → Buf (Elt Ideal) ℓ) (g' : Dev Cert.ReferenceOutWgIdeal.nD → PrngReg), Pre_KernelOutWgIdeal m →
    (∀ c : Dev Cert.KernelOutWgIdeal.nD,
      m' ((c.tc : Thread Cert.ReferenceOutWgIdeal.nD Cert.ReferenceOutWgIdeal.τ).loc Cert.ReferenceOutWgIdeal.main_arg0) = m ((c.tc : Thread Cert.KernelOutWgIdeal.nD Cert.KernelOutWgIdeal.τ).loc Cert.KernelOutWgIdeal.main_arg0)
      ∧ m' ((c.tc : Thread Cert.ReferenceOutWgIdeal.nD Cert.ReferenceOutWgIdeal.τ).loc Cert.ReferenceOutWgIdeal.main_arg1) = m ((c.tc : Thread Cert.KernelOutWgIdeal.nD Cert.KernelOutWgIdeal.τ).loc Cert.KernelOutWgIdeal.main_arg1)) →
    ∃ (v0 : (c : Dev Cert.KernelOutWgIdeal.nD) → Buf (Elt Ideal) ((c.tc : Thread Cert.KernelOutWgIdeal.nD Cert.KernelOutWgIdeal.τ).loc Cert.KernelOutWgIdeal.main_v1)),
      θ_run (Cert.KernelOutWgIdeal.defs (F := Ideal)) (onTc (τ := Cert.KernelOutWgIdeal.τ) (Cert.KernelOutWgIdeal.main (F := Ideal))) ⟨m, fun _ => 0, g⟩ (fun r => ∀ c : Dev Cert.KernelOutWgIdeal.nD,
          r.2.mem ((c.tc : Thread Cert.KernelOutWgIdeal.nD Cert.KernelOutWgIdeal.τ).loc Cert.KernelOutWgIdeal.main_v1) = v0 c
          ∧ r.2.mem ((c.tc : Thread Cert.KernelOutWgIdeal.nD Cert.KernelOutWgIdeal.τ).loc Cert.KernelOutWgIdeal.main_arg0) = m ((c.tc : Thread Cert.KernelOutWgIdeal.nD Cert.KernelOutWgIdeal.τ).loc Cert.KernelOutWgIdeal.main_arg0)
          ∧ r.2.mem ((c.tc : Thread Cert.KernelOutWgIdeal.nD Cert.KernelOutWgIdeal.τ).loc Cert.KernelOutWgIdeal.main_arg1) = m ((c.tc : Thread Cert.KernelOutWgIdeal.nD Cert.KernelOutWgIdeal.τ).loc Cert.KernelOutWgIdeal.main_arg1))
      ∧ θ_run (Cert.ReferenceOutWgIdeal.defs (F := Ideal)) (onTc (τ := Cert.ReferenceOutWgIdeal.τ) (Cert.ReferenceOutWgIdeal.main (F := Ideal))) ⟨m', fun _ => 0, g'⟩ (fun r => ∀ c : Dev Cert.ReferenceOutWgIdeal.nD,
          r.2.mem ((c.tc : Thread Cert.ReferenceOutWgIdeal.nD Cert.ReferenceOutWgIdeal.τ).loc Cert.ReferenceOutWgIdeal.main_v4) = v0 c
          ∧ r.2.mem ((c.tc : Thread Cert.ReferenceOutWgIdeal.nD Cert.ReferenceOutWgIdeal.τ).loc Cert.ReferenceOutWgIdeal.main_arg0) = m' ((c.tc : Thread Cert.ReferenceOutWgIdeal.nD Cert.ReferenceOutWgIdeal.τ).loc Cert.ReferenceOutWgIdeal.main_arg0)
          ∧ r.2.mem ((c.tc : Thread Cert.ReferenceOutWgIdeal.nD Cert.ReferenceOutWgIdeal.τ).loc Cert.ReferenceOutWgIdeal.main_arg1) = m' ((c.tc : Thread Cert.ReferenceOutWgIdeal.nD Cert.ReferenceOutWgIdeal.τ).loc Cert.ReferenceOutWgIdeal.main_arg1))

def preserves_KernelOutFwd_KernelOutFwdIdeal : Prop :=
  True

def algebraic_KernelOutFwdIdeal_ReferenceOutFwdIdeal [hKernelOutFwdIdeal : Cert.KernelOutFwdIdeal.Facts] [hReferenceOutFwdIdeal : Cert.ReferenceOutFwdIdeal.Facts] : Prop :=
  ∀ (m : (ℓ : Loc Cert.KernelOutFwdIdeal.nD Cert.KernelOutFwdIdeal.τ Cert.KernelOutFwdIdeal.sig) → Buf (Elt Ideal) ℓ) (g : Dev Cert.KernelOutFwdIdeal.nD → PrngReg)
    (m' : (ℓ : Loc Cert.ReferenceOutFwdIdeal.nD Cert.ReferenceOutFwdIdeal.τ Cert.ReferenceOutFwdIdeal.sig) → Buf (Elt Ideal) ℓ) (g' : Dev Cert.ReferenceOutFwdIdeal.nD → PrngReg), Pre_KernelOutFwdIdeal m →
    (∀ c : Dev Cert.KernelOutFwdIdeal.nD,
      m' ((c.tc : Thread Cert.ReferenceOutFwdIdeal.nD Cert.ReferenceOutFwdIdeal.τ).loc Cert.ReferenceOutFwdIdeal.main_arg0) = m ((c.tc : Thread Cert.KernelOutFwdIdeal.nD Cert.KernelOutFwdIdeal.τ).loc Cert.KernelOutFwdIdeal.main_arg0)
      ∧ m' ((c.tc : Thread Cert.ReferenceOutFwdIdeal.nD Cert.ReferenceOutFwdIdeal.τ).loc Cert.ReferenceOutFwdIdeal.main_arg1) = m ((c.tc : Thread Cert.KernelOutFwdIdeal.nD Cert.KernelOutFwdIdeal.τ).loc Cert.KernelOutFwdIdeal.main_arg1)
      ∧ m' ((c.tc : Thread Cert.ReferenceOutFwdIdeal.nD Cert.ReferenceOutFwdIdeal.τ).loc Cert.ReferenceOutFwdIdeal.main_arg2) = m ((c.tc : Thread Cert.KernelOutFwdIdeal.nD Cert.KernelOutFwdIdeal.τ).loc Cert.KernelOutFwdIdeal.main_arg2)) →
    ∃ (v0 : (c : Dev Cert.KernelOutFwdIdeal.nD) → Buf (Elt Ideal) ((c.tc : Thread Cert.KernelOutFwdIdeal.nD Cert.KernelOutFwdIdeal.τ).loc Cert.KernelOutFwdIdeal.main_v2)),
      θ_run (Cert.KernelOutFwdIdeal.defs (F := Ideal)) (onTc (τ := Cert.KernelOutFwdIdeal.τ) (Cert.KernelOutFwdIdeal.main (F := Ideal))) ⟨m, fun _ => 0, g⟩ (fun r => ∀ c : Dev Cert.KernelOutFwdIdeal.nD,
          r.2.mem ((c.tc : Thread Cert.KernelOutFwdIdeal.nD Cert.KernelOutFwdIdeal.τ).loc Cert.KernelOutFwdIdeal.main_v2) = v0 c
          ∧ r.2.mem ((c.tc : Thread Cert.KernelOutFwdIdeal.nD Cert.KernelOutFwdIdeal.τ).loc Cert.KernelOutFwdIdeal.main_arg0) = m ((c.tc : Thread Cert.KernelOutFwdIdeal.nD Cert.KernelOutFwdIdeal.τ).loc Cert.KernelOutFwdIdeal.main_arg0)
          ∧ r.2.mem ((c.tc : Thread Cert.KernelOutFwdIdeal.nD Cert.KernelOutFwdIdeal.τ).loc Cert.KernelOutFwdIdeal.main_arg1) = m ((c.tc : Thread Cert.KernelOutFwdIdeal.nD Cert.KernelOutFwdIdeal.τ).loc Cert.KernelOutFwdIdeal.main_arg1)
          ∧ r.2.mem ((c.tc : Thread Cert.KernelOutFwdIdeal.nD Cert.KernelOutFwdIdeal.τ).loc Cert.KernelOutFwdIdeal.main_arg2) = m ((c.tc : Thread Cert.KernelOutFwdIdeal.nD Cert.KernelOutFwdIdeal.τ).loc Cert.KernelOutFwdIdeal.main_arg2))
      ∧ θ_run (Cert.ReferenceOutFwdIdeal.defs (F := Ideal)) (onTc (τ := Cert.ReferenceOutFwdIdeal.τ) (Cert.ReferenceOutFwdIdeal.main (F := Ideal))) ⟨m', fun _ => 0, g'⟩ (fun r => ∀ c : Dev Cert.ReferenceOutFwdIdeal.nD,
          r.2.mem ((c.tc : Thread Cert.ReferenceOutFwdIdeal.nD Cert.ReferenceOutFwdIdeal.τ).loc Cert.ReferenceOutFwdIdeal.main_v1) = v0 c
          ∧ r.2.mem ((c.tc : Thread Cert.ReferenceOutFwdIdeal.nD Cert.ReferenceOutFwdIdeal.τ).loc Cert.ReferenceOutFwdIdeal.main_arg0) = m' ((c.tc : Thread Cert.ReferenceOutFwdIdeal.nD Cert.ReferenceOutFwdIdeal.τ).loc Cert.ReferenceOutFwdIdeal.main_arg0)
          ∧ r.2.mem ((c.tc : Thread Cert.ReferenceOutFwdIdeal.nD Cert.ReferenceOutFwdIdeal.τ).loc Cert.ReferenceOutFwdIdeal.main_arg1) = m' ((c.tc : Thread Cert.ReferenceOutFwdIdeal.nD Cert.ReferenceOutFwdIdeal.τ).loc Cert.ReferenceOutFwdIdeal.main_arg1)
          ∧ r.2.mem ((c.tc : Thread Cert.ReferenceOutFwdIdeal.nD Cert.ReferenceOutFwdIdeal.τ).loc Cert.ReferenceOutFwdIdeal.main_arg2) = m' ((c.tc : Thread Cert.ReferenceOutFwdIdeal.nD Cert.ReferenceOutFwdIdeal.τ).loc Cert.ReferenceOutFwdIdeal.main_arg2))

def preserves_KernelGateDg_KernelGateDgIdeal : Prop :=
  True

def algebraic_KernelGateDgIdeal_ReferenceGateDgIdeal [hKernelGateDgIdeal : Cert.KernelGateDgIdeal.Facts] [hReferenceGateDgIdeal : Cert.ReferenceGateDgIdeal.Facts] : Prop :=
  ∀ (m : (ℓ : Loc Cert.KernelGateDgIdeal.nD Cert.KernelGateDgIdeal.τ Cert.KernelGateDgIdeal.sig) → Buf (Elt Ideal) ℓ) (g : Dev Cert.KernelGateDgIdeal.nD → PrngReg)
    (m' : (ℓ : Loc Cert.ReferenceGateDgIdeal.nD Cert.ReferenceGateDgIdeal.τ Cert.ReferenceGateDgIdeal.sig) → Buf (Elt Ideal) ℓ) (g' : Dev Cert.ReferenceGateDgIdeal.nD → PrngReg), Pre_KernelGateDgIdeal m →
    (∀ c : Dev Cert.KernelGateDgIdeal.nD,
      m' ((c.tc : Thread Cert.ReferenceGateDgIdeal.nD Cert.ReferenceGateDgIdeal.τ).loc Cert.ReferenceGateDgIdeal.main_arg0) = m ((c.tc : Thread Cert.KernelGateDgIdeal.nD Cert.KernelGateDgIdeal.τ).loc Cert.KernelGateDgIdeal.main_arg0)
      ∧ m' ((c.tc : Thread Cert.ReferenceGateDgIdeal.nD Cert.ReferenceGateDgIdeal.τ).loc Cert.ReferenceGateDgIdeal.main_arg1) = m ((c.tc : Thread Cert.KernelGateDgIdeal.nD Cert.KernelGateDgIdeal.τ).loc Cert.KernelGateDgIdeal.main_arg1)
      ∧ m' ((c.tc : Thread Cert.ReferenceGateDgIdeal.nD Cert.ReferenceGateDgIdeal.τ).loc Cert.ReferenceGateDgIdeal.main_arg2) = m ((c.tc : Thread Cert.KernelGateDgIdeal.nD Cert.KernelGateDgIdeal.τ).loc Cert.KernelGateDgIdeal.main_arg2)
      ∧ m' ((c.tc : Thread Cert.ReferenceGateDgIdeal.nD Cert.ReferenceGateDgIdeal.τ).loc Cert.ReferenceGateDgIdeal.main_arg3) = m ((c.tc : Thread Cert.KernelGateDgIdeal.nD Cert.KernelGateDgIdeal.τ).loc Cert.KernelGateDgIdeal.main_arg3)
      ∧ m' ((c.tc : Thread Cert.ReferenceGateDgIdeal.nD Cert.ReferenceGateDgIdeal.τ).loc Cert.ReferenceGateDgIdeal.main_arg4) = m ((c.tc : Thread Cert.KernelGateDgIdeal.nD Cert.KernelGateDgIdeal.τ).loc Cert.KernelGateDgIdeal.main_arg4)) →
    ∃ (v0 : (c : Dev Cert.KernelGateDgIdeal.nD) → Buf (Elt Ideal) ((c.tc : Thread Cert.KernelGateDgIdeal.nD Cert.KernelGateDgIdeal.τ).loc Cert.KernelGateDgIdeal.main_v3_0)) (v1 : (c : Dev Cert.KernelGateDgIdeal.nD) → Buf (Elt Ideal) ((c.tc : Thread Cert.KernelGateDgIdeal.nD Cert.KernelGateDgIdeal.τ).loc Cert.KernelGateDgIdeal.main_v3_1)),
      θ_run (Cert.KernelGateDgIdeal.defs (F := Ideal)) (onTc (τ := Cert.KernelGateDgIdeal.τ) (Cert.KernelGateDgIdeal.main (F := Ideal))) ⟨m, fun _ => 0, g⟩ (fun r => ∀ c : Dev Cert.KernelGateDgIdeal.nD,
          r.2.mem ((c.tc : Thread Cert.KernelGateDgIdeal.nD Cert.KernelGateDgIdeal.τ).loc Cert.KernelGateDgIdeal.main_v3_0) = v0 c
          ∧ r.2.mem ((c.tc : Thread Cert.KernelGateDgIdeal.nD Cert.KernelGateDgIdeal.τ).loc Cert.KernelGateDgIdeal.main_v3_1) = v1 c
          ∧ r.2.mem ((c.tc : Thread Cert.KernelGateDgIdeal.nD Cert.KernelGateDgIdeal.τ).loc Cert.KernelGateDgIdeal.main_arg0) = m ((c.tc : Thread Cert.KernelGateDgIdeal.nD Cert.KernelGateDgIdeal.τ).loc Cert.KernelGateDgIdeal.main_arg0)
          ∧ r.2.mem ((c.tc : Thread Cert.KernelGateDgIdeal.nD Cert.KernelGateDgIdeal.τ).loc Cert.KernelGateDgIdeal.main_arg1) = m ((c.tc : Thread Cert.KernelGateDgIdeal.nD Cert.KernelGateDgIdeal.τ).loc Cert.KernelGateDgIdeal.main_arg1)
          ∧ r.2.mem ((c.tc : Thread Cert.KernelGateDgIdeal.nD Cert.KernelGateDgIdeal.τ).loc Cert.KernelGateDgIdeal.main_arg2) = m ((c.tc : Thread Cert.KernelGateDgIdeal.nD Cert.KernelGateDgIdeal.τ).loc Cert.KernelGateDgIdeal.main_arg2)
          ∧ r.2.mem ((c.tc : Thread Cert.KernelGateDgIdeal.nD Cert.KernelGateDgIdeal.τ).loc Cert.KernelGateDgIdeal.main_arg3) = m ((c.tc : Thread Cert.KernelGateDgIdeal.nD Cert.KernelGateDgIdeal.τ).loc Cert.KernelGateDgIdeal.main_arg3)
          ∧ r.2.mem ((c.tc : Thread Cert.KernelGateDgIdeal.nD Cert.KernelGateDgIdeal.τ).loc Cert.KernelGateDgIdeal.main_arg4) = m ((c.tc : Thread Cert.KernelGateDgIdeal.nD Cert.KernelGateDgIdeal.τ).loc Cert.KernelGateDgIdeal.main_arg4))
      ∧ θ_run (Cert.ReferenceGateDgIdeal.defs (F := Ideal)) (onTc (τ := Cert.ReferenceGateDgIdeal.τ) (Cert.ReferenceGateDgIdeal.main (F := Ideal))) ⟨m', fun _ => 0, g'⟩ (fun r => ∀ c : Dev Cert.ReferenceGateDgIdeal.nD,
          r.2.mem ((c.tc : Thread Cert.ReferenceGateDgIdeal.nD Cert.ReferenceGateDgIdeal.τ).loc Cert.ReferenceGateDgIdeal.main_v38) = v0 c
          ∧ r.2.mem ((c.tc : Thread Cert.ReferenceGateDgIdeal.nD Cert.ReferenceGateDgIdeal.τ).loc Cert.ReferenceGateDgIdeal.main_v39) = v1 c
          ∧ r.2.mem ((c.tc : Thread Cert.ReferenceGateDgIdeal.nD Cert.ReferenceGateDgIdeal.τ).loc Cert.ReferenceGateDgIdeal.main_arg0) = m' ((c.tc : Thread Cert.ReferenceGateDgIdeal.nD Cert.ReferenceGateDgIdeal.τ).loc Cert.ReferenceGateDgIdeal.main_arg0)
          ∧ r.2.mem ((c.tc : Thread Cert.ReferenceGateDgIdeal.nD Cert.ReferenceGateDgIdeal.τ).loc Cert.ReferenceGateDgIdeal.main_arg1) = m' ((c.tc : Thread Cert.ReferenceGateDgIdeal.nD Cert.ReferenceGateDgIdeal.τ).loc Cert.ReferenceGateDgIdeal.main_arg1)
          ∧ r.2.mem ((c.tc : Thread Cert.ReferenceGateDgIdeal.nD Cert.ReferenceGateDgIdeal.τ).loc Cert.ReferenceGateDgIdeal.main_arg2) = m' ((c.tc : Thread Cert.ReferenceGateDgIdeal.nD Cert.ReferenceGateDgIdeal.τ).loc Cert.ReferenceGateDgIdeal.main_arg2)
          ∧ r.2.mem ((c.tc : Thread Cert.ReferenceGateDgIdeal.nD Cert.ReferenceGateDgIdeal.τ).loc Cert.ReferenceGateDgIdeal.main_arg3) = m' ((c.tc : Thread Cert.ReferenceGateDgIdeal.nD Cert.ReferenceGateDgIdeal.τ).loc Cert.ReferenceGateDgIdeal.main_arg3)
          ∧ r.2.mem ((c.tc : Thread Cert.ReferenceGateDgIdeal.nD Cert.ReferenceGateDgIdeal.τ).loc Cert.ReferenceGateDgIdeal.main_arg4) = m' ((c.tc : Thread Cert.ReferenceGateDgIdeal.nD Cert.ReferenceGateDgIdeal.τ).loc Cert.ReferenceGateDgIdeal.main_arg4))

def preserves_KernelGateWg_KernelGateWgIdeal : Prop :=
  True

def algebraic_KernelGateWgIdeal_ReferenceGateWgIdeal [hKernelGateWgIdeal : Cert.KernelGateWgIdeal.Facts] [hReferenceGateWgIdeal : Cert.ReferenceGateWgIdeal.Facts] : Prop :=
  ∀ (m : (ℓ : Loc Cert.KernelGateWgIdeal.nD Cert.KernelGateWgIdeal.τ Cert.KernelGateWgIdeal.sig) → Buf (Elt Ideal) ℓ) (g : Dev Cert.KernelGateWgIdeal.nD → PrngReg)
    (m' : (ℓ : Loc Cert.ReferenceGateWgIdeal.nD Cert.ReferenceGateWgIdeal.τ Cert.ReferenceGateWgIdeal.sig) → Buf (Elt Ideal) ℓ) (g' : Dev Cert.ReferenceGateWgIdeal.nD → PrngReg), Pre_KernelGateWgIdeal m →
    (∀ c : Dev Cert.KernelGateWgIdeal.nD,
      m' ((c.tc : Thread Cert.ReferenceGateWgIdeal.nD Cert.ReferenceGateWgIdeal.τ).loc Cert.ReferenceGateWgIdeal.main_arg0) = m ((c.tc : Thread Cert.KernelGateWgIdeal.nD Cert.KernelGateWgIdeal.τ).loc Cert.KernelGateWgIdeal.main_arg0)
      ∧ m' ((c.tc : Thread Cert.ReferenceGateWgIdeal.nD Cert.ReferenceGateWgIdeal.τ).loc Cert.ReferenceGateWgIdeal.main_arg1) = m ((c.tc : Thread Cert.KernelGateWgIdeal.nD Cert.KernelGateWgIdeal.τ).loc Cert.KernelGateWgIdeal.main_arg1)) →
    ∃ (v0 : (c : Dev Cert.KernelGateWgIdeal.nD) → Buf (Elt Ideal) ((c.tc : Thread Cert.KernelGateWgIdeal.nD Cert.KernelGateWgIdeal.τ).loc Cert.KernelGateWgIdeal.main_v2)),
      θ_run (Cert.KernelGateWgIdeal.defs (F := Ideal)) (onTc (τ := Cert.KernelGateWgIdeal.τ) (Cert.KernelGateWgIdeal.main (F := Ideal))) ⟨m, fun _ => 0, g⟩ (fun r => ∀ c : Dev Cert.KernelGateWgIdeal.nD,
          r.2.mem ((c.tc : Thread Cert.KernelGateWgIdeal.nD Cert.KernelGateWgIdeal.τ).loc Cert.KernelGateWgIdeal.main_v2) = v0 c
          ∧ r.2.mem ((c.tc : Thread Cert.KernelGateWgIdeal.nD Cert.KernelGateWgIdeal.τ).loc Cert.KernelGateWgIdeal.main_arg0) = m ((c.tc : Thread Cert.KernelGateWgIdeal.nD Cert.KernelGateWgIdeal.τ).loc Cert.KernelGateWgIdeal.main_arg0)
          ∧ r.2.mem ((c.tc : Thread Cert.KernelGateWgIdeal.nD Cert.KernelGateWgIdeal.τ).loc Cert.KernelGateWgIdeal.main_arg1) = m ((c.tc : Thread Cert.KernelGateWgIdeal.nD Cert.KernelGateWgIdeal.τ).loc Cert.KernelGateWgIdeal.main_arg1))
      ∧ θ_run (Cert.ReferenceGateWgIdeal.defs (F := Ideal)) (onTc (τ := Cert.ReferenceGateWgIdeal.τ) (Cert.ReferenceGateWgIdeal.main (F := Ideal))) ⟨m', fun _ => 0, g'⟩ (fun r => ∀ c : Dev Cert.ReferenceGateWgIdeal.nD,
          r.2.mem ((c.tc : Thread Cert.ReferenceGateWgIdeal.nD Cert.ReferenceGateWgIdeal.τ).loc Cert.ReferenceGateWgIdeal.main_v4) = v0 c
          ∧ r.2.mem ((c.tc : Thread Cert.ReferenceGateWgIdeal.nD Cert.ReferenceGateWgIdeal.τ).loc Cert.ReferenceGateWgIdeal.main_arg0) = m' ((c.tc : Thread Cert.ReferenceGateWgIdeal.nD Cert.ReferenceGateWgIdeal.τ).loc Cert.ReferenceGateWgIdeal.main_arg0)
          ∧ r.2.mem ((c.tc : Thread Cert.ReferenceGateWgIdeal.nD Cert.ReferenceGateWgIdeal.τ).loc Cert.ReferenceGateWgIdeal.main_arg1) = m' ((c.tc : Thread Cert.ReferenceGateWgIdeal.nD Cert.ReferenceGateWgIdeal.τ).loc Cert.ReferenceGateWgIdeal.main_arg1))

def Claim : Prop :=
  ∃ (hKernel : Cert.Kernel.Facts) (hKernelIdeal : Cert.KernelIdeal.Facts) (hReferenceIdeal : Cert.ReferenceIdeal.Facts) (hKernelUp : Cert.KernelUp.Facts) (hKernelUpIdeal : Cert.KernelUpIdeal.Facts) (hReferenceUpIdeal : Cert.ReferenceUpIdeal.Facts) (hKernelUpWg : Cert.KernelUpWg.Facts) (hKernelUpWgIdeal : Cert.KernelUpWgIdeal.Facts) (hReferenceUpWgIdeal : Cert.ReferenceUpWgIdeal.Facts) (hKernelDownDg : Cert.KernelDownDg.Facts) (hKernelDownDgIdeal : Cert.KernelDownDgIdeal.Facts) (hReferenceDownDgIdeal : Cert.ReferenceDownDgIdeal.Facts) (hKernelDownWg : Cert.KernelDownWg.Facts) (hKernelDownWgIdeal : Cert.KernelDownWgIdeal.Facts) (hReferenceDownWgIdeal : Cert.ReferenceDownWgIdeal.Facts) (hKernelDownFwd : Cert.KernelDownFwd.Facts) (hKernelDownFwdIdeal : Cert.KernelDownFwdIdeal.Facts) (hReferenceDownFwdIdeal : Cert.ReferenceDownFwdIdeal.Facts) (hKernelInDg : Cert.KernelInDg.Facts) (hKernelInDgIdeal : Cert.KernelInDgIdeal.Facts) (hReferenceInDgIdeal : Cert.ReferenceInDgIdeal.Facts) (hKernelInWg : Cert.KernelInWg.Facts) (hKernelInWgIdeal : Cert.KernelInWgIdeal.Facts) (hReferenceInWgIdeal : Cert.ReferenceInWgIdeal.Facts) (hKernelOutDg : Cert.KernelOutDg.Facts) (hKernelOutDgIdeal : Cert.KernelOutDgIdeal.Facts) (hReferenceOutDgIdeal : Cert.ReferenceOutDgIdeal.Facts) (hKernelOutWg : Cert.KernelOutWg.Facts) (hKernelOutWgIdeal : Cert.KernelOutWgIdeal.Facts) (hReferenceOutWgIdeal : Cert.ReferenceOutWgIdeal.Facts) (hKernelOutFwd : Cert.KernelOutFwd.Facts) (hKernelOutFwdIdeal : Cert.KernelOutFwdIdeal.Facts) (hReferenceOutFwdIdeal : Cert.ReferenceOutFwdIdeal.Facts) (hKernelGateDg : Cert.KernelGateDg.Facts) (hKernelGateDgIdeal : Cert.KernelGateDgIdeal.Facts) (hReferenceGateDgIdeal : Cert.ReferenceGateDgIdeal.Facts) (hKernelGateWg : Cert.KernelGateWg.Facts) (hKernelGateWgIdeal : Cert.KernelGateWgIdeal.Facts) (hReferenceGateWgIdeal : Cert.ReferenceGateWgIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_KernelUp (hKernelUp := hKernelUp)
    ∧ quiescent_KernelUpIdeal (hKernelUpIdeal := hKernelUpIdeal)
    ∧ quiescent_ReferenceUpIdeal (hReferenceUpIdeal := hReferenceUpIdeal)
    ∧ quiescent_KernelUpWg (hKernelUpWg := hKernelUpWg)
    ∧ quiescent_KernelUpWgIdeal (hKernelUpWgIdeal := hKernelUpWgIdeal)
    ∧ quiescent_ReferenceUpWgIdeal (hReferenceUpWgIdeal := hReferenceUpWgIdeal)
    ∧ quiescent_KernelDownDg (hKernelDownDg := hKernelDownDg)
    ∧ quiescent_KernelDownDgIdeal (hKernelDownDgIdeal := hKernelDownDgIdeal)
    ∧ quiescent_ReferenceDownDgIdeal (hReferenceDownDgIdeal := hReferenceDownDgIdeal)
    ∧ quiescent_KernelDownWg (hKernelDownWg := hKernelDownWg)
    ∧ quiescent_KernelDownWgIdeal (hKernelDownWgIdeal := hKernelDownWgIdeal)
    ∧ quiescent_ReferenceDownWgIdeal (hReferenceDownWgIdeal := hReferenceDownWgIdeal)
    ∧ quiescent_KernelDownFwd (hKernelDownFwd := hKernelDownFwd)
    ∧ quiescent_KernelDownFwdIdeal (hKernelDownFwdIdeal := hKernelDownFwdIdeal)
    ∧ quiescent_ReferenceDownFwdIdeal (hReferenceDownFwdIdeal := hReferenceDownFwdIdeal)
    ∧ quiescent_KernelInDg (hKernelInDg := hKernelInDg)
    ∧ quiescent_KernelInDgIdeal (hKernelInDgIdeal := hKernelInDgIdeal)
    ∧ quiescent_ReferenceInDgIdeal (hReferenceInDgIdeal := hReferenceInDgIdeal)
    ∧ quiescent_KernelInWg (hKernelInWg := hKernelInWg)
    ∧ quiescent_KernelInWgIdeal (hKernelInWgIdeal := hKernelInWgIdeal)
    ∧ quiescent_ReferenceInWgIdeal (hReferenceInWgIdeal := hReferenceInWgIdeal)
    ∧ quiescent_KernelOutDg (hKernelOutDg := hKernelOutDg)
    ∧ quiescent_KernelOutDgIdeal (hKernelOutDgIdeal := hKernelOutDgIdeal)
    ∧ quiescent_ReferenceOutDgIdeal (hReferenceOutDgIdeal := hReferenceOutDgIdeal)
    ∧ quiescent_KernelOutWg (hKernelOutWg := hKernelOutWg)
    ∧ quiescent_KernelOutWgIdeal (hKernelOutWgIdeal := hKernelOutWgIdeal)
    ∧ quiescent_ReferenceOutWgIdeal (hReferenceOutWgIdeal := hReferenceOutWgIdeal)
    ∧ quiescent_KernelOutFwd (hKernelOutFwd := hKernelOutFwd)
    ∧ quiescent_KernelOutFwdIdeal (hKernelOutFwdIdeal := hKernelOutFwdIdeal)
    ∧ quiescent_ReferenceOutFwdIdeal (hReferenceOutFwdIdeal := hReferenceOutFwdIdeal)
    ∧ quiescent_KernelGateDg (hKernelGateDg := hKernelGateDg)
    ∧ quiescent_KernelGateDgIdeal (hKernelGateDgIdeal := hKernelGateDgIdeal)
    ∧ quiescent_ReferenceGateDgIdeal (hReferenceGateDgIdeal := hReferenceGateDgIdeal)
    ∧ quiescent_KernelGateWg (hKernelGateWg := hKernelGateWg)
    ∧ quiescent_KernelGateWgIdeal (hKernelGateWgIdeal := hKernelGateWgIdeal)
    ∧ quiescent_ReferenceGateWgIdeal (hReferenceGateWgIdeal := hReferenceGateWgIdeal)
    ∧ preserves_Kernel_KernelIdeal
    ∧ algebraic_KernelIdeal_ReferenceIdeal_pre_finite (hKernelIdeal := hKernelIdeal) (hReferenceIdeal := hReferenceIdeal) (hPre_finite := hPre_finite)
    ∧ preserves_KernelUp_KernelUpIdeal
    ∧ algebraic_KernelUpIdeal_ReferenceUpIdeal (hKernelUpIdeal := hKernelUpIdeal) (hReferenceUpIdeal := hReferenceUpIdeal)
    ∧ preserves_KernelUpWg_KernelUpWgIdeal
    ∧ algebraic_KernelUpWgIdeal_ReferenceUpWgIdeal (hKernelUpWgIdeal := hKernelUpWgIdeal) (hReferenceUpWgIdeal := hReferenceUpWgIdeal)
    ∧ preserves_KernelDownDg_KernelDownDgIdeal
    ∧ algebraic_KernelDownDgIdeal_ReferenceDownDgIdeal (hKernelDownDgIdeal := hKernelDownDgIdeal) (hReferenceDownDgIdeal := hReferenceDownDgIdeal)
    ∧ preserves_KernelDownWg_KernelDownWgIdeal
    ∧ algebraic_KernelDownWgIdeal_ReferenceDownWgIdeal (hKernelDownWgIdeal := hKernelDownWgIdeal) (hReferenceDownWgIdeal := hReferenceDownWgIdeal)
    ∧ preserves_KernelDownFwd_KernelDownFwdIdeal
    ∧ algebraic_KernelDownFwdIdeal_ReferenceDownFwdIdeal (hKernelDownFwdIdeal := hKernelDownFwdIdeal) (hReferenceDownFwdIdeal := hReferenceDownFwdIdeal)
    ∧ preserves_KernelInDg_KernelInDgIdeal
    ∧ algebraic_KernelInDgIdeal_ReferenceInDgIdeal (hKernelInDgIdeal := hKernelInDgIdeal) (hReferenceInDgIdeal := hReferenceInDgIdeal)
    ∧ preserves_KernelInWg_KernelInWgIdeal
    ∧ algebraic_KernelInWgIdeal_ReferenceInWgIdeal (hKernelInWgIdeal := hKernelInWgIdeal) (hReferenceInWgIdeal := hReferenceInWgIdeal)
    ∧ preserves_KernelOutDg_KernelOutDgIdeal
    ∧ algebraic_KernelOutDgIdeal_ReferenceOutDgIdeal (hKernelOutDgIdeal := hKernelOutDgIdeal) (hReferenceOutDgIdeal := hReferenceOutDgIdeal)
    ∧ preserves_KernelOutWg_KernelOutWgIdeal
    ∧ algebraic_KernelOutWgIdeal_ReferenceOutWgIdeal (hKernelOutWgIdeal := hKernelOutWgIdeal) (hReferenceOutWgIdeal := hReferenceOutWgIdeal)
    ∧ preserves_KernelOutFwd_KernelOutFwdIdeal
    ∧ algebraic_KernelOutFwdIdeal_ReferenceOutFwdIdeal (hKernelOutFwdIdeal := hKernelOutFwdIdeal) (hReferenceOutFwdIdeal := hReferenceOutFwdIdeal)
    ∧ preserves_KernelGateDg_KernelGateDgIdeal
    ∧ algebraic_KernelGateDgIdeal_ReferenceGateDgIdeal (hKernelGateDgIdeal := hKernelGateDgIdeal) (hReferenceGateDgIdeal := hReferenceGateDgIdeal)
    ∧ preserves_KernelGateWg_KernelGateWgIdeal
    ∧ algebraic_KernelGateWgIdeal_ReferenceGateWgIdeal (hKernelGateWgIdeal := hKernelGateWgIdeal) (hReferenceGateWgIdeal := hReferenceGateWgIdeal)
-- ==== Pre_finite.lean ====
abbrev S4096x4x96 : Shape := ⟨3, ![4096, 4, 96]⟩
abbrev S4096x4x64 : Shape := ⟨3, ![4096, 4, 64]⟩
abbrev S_ : Shape := ⟨0, ![]⟩

class Facts : Prop where
  bcast_S_S4096x4x96 : S_.BroadcastsInDim S4096x4x96 (![] : Fin 0 → Fin S4096x4x96.rank)
  reducesTo_S4096x4x96_S_d0_1_2 : S4096x4x96.ReducesTo [0, 1, 2] S_
  h_S_ : 0 < S_.numel
  bcast_S_S4096x4x64 : S_.BroadcastsInDim S4096x4x64 (![] : Fin 0 → Fin S4096x4x64.rank)
  reducesTo_S4096x4x64_S_d0_1_2 : S4096x4x64.ReducesTo [0, 1, 2] S_

variable [Facts]

def fn_part1 {F : FTy → Type} [FloatOps F] (main_v13 : IVec S_ 1) (main_v16 : IVec S4096x4x64 1) : IVec S_ 1 :=
  let main_c_5 : IVec S_ 1 := constantI S_ 1 1#1
  let main_v17 : IVec S_ 1 := (fun x v => Host.reduce IntOp.andi x v reducesTo_S4096x4x64_S_d0_1_2 h_S_) main_v16 main_c_5
  let main_v18 : IVec S_ 1 := andi main_v13 main_v17
  main_v18

def fn {F : FTy → Type} [FloatOps F] (main_arg0 : FVec F S4096x4x96 .f32) (main_arg1 : FVec F S4096x4x96 .f32) (main_arg2 : FVec F S4096x4x64 .f32) (main_arg3 : FVec F S4096x4x64 .f32) : IVec S_ 1 :=
  let main_v0 : FVec F S4096x4x96 .f32 := Host.absf main_arg0
  let main_cst : FVec F S_ .f32 := constant S_ .f32 0x7F800000#32
  let main_v1 : FVec F S4096x4x96 .f32 := broadcastInDim S4096x4x96 ![] bcast_S_S4096x4x96 main_cst
  let main_v2 : IVec S4096x4x96 1 := cmpf .olt main_v0 main_v1
  let main_c : IVec S_ 1 := constantI S_ 1 1#1
  let main_v3 : IVec S_ 1 := (fun x v => Host.reduce IntOp.andi x v reducesTo_S4096x4x96_S_d0_1_2 h_S_) main_v2 main_c
  let main_v4 : FVec F S4096x4x96 .f32 := Host.absf main_arg1
  let main_cst_0 : FVec F S_ .f32 := constant S_ .f32 0x7F800000#32
  let main_v5 : FVec F S4096x4x96 .f32 := broadcastInDim S4096x4x96 ![] bcast_S_S4096x4x96 main_cst_0
  let main_v6 : IVec S4096x4x96 1 := cmpf .olt main_v4 main_v5
  let main_c_1 : IVec S_ 1 := constantI S_ 1 1#1
  let main_v7 : IVec S_ 1 := (fun x v => Host.reduce IntOp.andi x v reducesTo_S4096x4x96_S_d0_1_2 h_S_) main_v6 main_c_1
  let main_v8 : IVec S_ 1 := andi main_v3 main_v7
  let main_v9 : FVec F S4096x4x64 .f32 := Host.absf main_arg2
  let main_cst_2 : FVec F S_ .f32 := constant S_ .f32 0x7F800000#32
  let main_v10 : FVec F S4096x4x64 .f32 := broadcastInDim S4096x4x64 ![] bcast_S_S4096x4x64 main_cst_2
  let main_v11 : IVec S4096x4x64 1 := cmpf .olt main_v9 main_v10
  let main_c_3 : IVec S_ 1 := constantI S_ 1 1#1
  let main_v12 : IVec S_ 1 := (fun x v => Host.reduce IntOp.andi x v reducesTo_S4096x4x64_S_d0_1_2 h_S_) main_v11 main_c_3
  let main_v13 : IVec S_ 1 := andi main_v8 main_v12
  let main_v14 : FVec F S4096x4x64 .f32 := Host.absf main_arg3
  let main_cst_4 : FVec F S_ .f32 := constant S_ .f32 0x7F800000#32
  let main_v15 : FVec F S4096x4x64 .f32 := broadcastInDim S4096x4x64 ![] bcast_S_S4096x4x64 main_cst_4
  let main_v16 : IVec S4096x4x64 1 := cmpf .olt main_v14 main_v15
  fn_part1 (F := F) main_v13 main_v16
-- ==== Kernel.lean ====
abbrev S4096x4x96 : Shape := ⟨3, ![4096, 4, 96]⟩
abbrev S4096x4x64 : Shape := ⟨3, ![4096, 4, 64]⟩
abbrev S4x4096x4096 : Shape := ⟨3, ![4, 4096, 4096]⟩
abbrev S_ : Shape := ⟨0, ![]⟩
abbrev S4096 : Shape := ⟨1, ![4096]⟩
abbrev S1x4096 : Shape := ⟨2, ![1, 4096]⟩
abbrev S4096x1 : Shape := ⟨2, ![4096, 1]⟩
abbrev S4096x4096 : Shape := ⟨2, ![4096, 4096]⟩
abbrev S4x4096 : Shape := ⟨2, ![4, 4096]⟩
abbrev S4x4096x1 : Shape := ⟨3, ![4, 4096, 1]⟩
abbrev S4x64x4096 : Shape := ⟨3, ![4, 64, 4096]⟩
abbrev S4x1x4096 : Shape := ⟨3, ![4, 1, 4096]⟩
abbrev S4x8x4096 : Shape := ⟨3, ![4, 8, 4096]⟩
abbrev S4096x4x128 : Shape := ⟨3, ![4096, 4, 128]⟩
abbrev S4096x512 : Shape := ⟨2, ![4096, 512]⟩
abbrev S4096x128 : Shape := ⟨2, ![4096, 128]⟩
abbrev S1x8x4096 : Shape := ⟨3, ![1, 8, 4096]⟩
abbrev S8x8x512 : Shape := ⟨3, ![8, 8, 512]⟩
abbrev S512x128 : Shape := ⟨2, ![512, 128]⟩
abbrev S512 : Shape := ⟨1, ![512]⟩
abbrev S512x1 : Shape := ⟨2, ![512, 1]⟩
abbrev S128x512 : Shape := ⟨2, ![128, 512]⟩
abbrev S8x512 : Shape := ⟨2, ![8, 512]⟩
abbrev S1x8x512 : Shape := ⟨3, ![1, 8, 512]⟩
abbrev S512x512 : Shape := ⟨2, ![512, 512]⟩
abbrev S1x1x512 : Shape := ⟨3, ![1, 1, 512]⟩
abbrev S1x512 : Shape := ⟨2, ![1, 512]⟩

abbrev nBuf : Space → Nat
  | .hbm => 96
  | .vmem => 21
  | .smem => 0
  | _ => 0

abbrev bufTy : (tb : Table) → Fin (tcTables nBuf tb) → BufTy
  | .hbm, ⟨0, _⟩ => ⟨S4096x4x96, .f32⟩
  | .hbm, ⟨1, _⟩ => ⟨S4096x4x96, .f32⟩
  | .hbm, ⟨2, _⟩ => ⟨S4096x4x64, .f32⟩
  | .hbm, ⟨3, _⟩ => ⟨S4096x4x64, .f32⟩
  | .hbm, ⟨4, _⟩ => ⟨S4x4096x4096, .f32⟩
  | .hbm, ⟨5, _⟩ => ⟨S_, .f32⟩
  | .hbm, ⟨6, _⟩ => ⟨S4x4096x4096, .f32⟩
  | .hbm, ⟨7, _⟩ => ⟨S4x4096x4096, .f32⟩
  | .hbm, ⟨8, _⟩ => ⟨S4096, .i32⟩
  | .hbm, ⟨9, _⟩ => ⟨S1x4096, .i32⟩
  | .hbm, ⟨10, _⟩ => ⟨S4096x1, .i32⟩
  | .hbm, ⟨11, _⟩ => ⟨S4096x4096, .i32⟩
  | .hbm, ⟨12, _⟩ => ⟨S4096x4096, .i32⟩
  | .hbm, ⟨13, _⟩ => ⟨S4096x4096, .i1⟩
  | .hbm, ⟨14, _⟩ => ⟨S_, .f32⟩
  | .hbm, ⟨15, _⟩ => ⟨S_, .f32⟩
  | .hbm, ⟨16, _⟩ => ⟨S4x4096x4096, .i1⟩
  | .hbm, ⟨17, _⟩ => ⟨S4x4096x4096, .f32⟩
  | .hbm, ⟨18, _⟩ => ⟨S4x4096x4096, .f32⟩
  | .hbm, ⟨19, _⟩ => ⟨S_, .f32⟩
  | .hbm, ⟨20, _⟩ => ⟨S4x4096, .f32⟩
  | .hbm, ⟨21, _⟩ => ⟨S4x4096x1, .f32⟩
  | .hbm, ⟨22, _⟩ => ⟨S4x4096x4096, .f32⟩
  | .hbm, ⟨23, _⟩ => ⟨S4x4096x4096, .f32⟩
  | .hbm, ⟨24, _⟩ => ⟨S4x4096x4096, .f32⟩
  | .hbm, ⟨25, _⟩ => ⟨S_, .f32⟩
  | .hbm, ⟨26, _⟩ => ⟨S4x4096, .f32⟩
  | .hbm, ⟨27, _⟩ => ⟨S4x4096x1, .f32⟩
  | .hbm, ⟨28, _⟩ => ⟨S4x4096x4096, .f32⟩
  | .hbm, ⟨29, _⟩ => ⟨S4x4096x4096, .f32⟩
  | .hbm, ⟨30, _⟩ => ⟨S4x64x4096, .f32⟩
  | .hbm, ⟨31, _⟩ => ⟨S4096x4x64, .f32⟩
  | .hbm, ⟨32, _⟩ => ⟨S4x4096x1, .f32⟩
  | .hbm, ⟨33, _⟩ => ⟨S4x4096x1, .f32⟩
  | .hbm, ⟨34, _⟩ => ⟨S4x1x4096, .f32⟩
  | .hbm, ⟨35, _⟩ => ⟨S4x8x4096, .f32⟩
  | .hbm, ⟨36, _⟩ => ⟨S_, .f32⟩
  | .hbm, ⟨37, _⟩ => ⟨S4096x4x96, .f32⟩
  | .hbm, ⟨38, _⟩ => ⟨S4096x4x96, .f32⟩
  | .hbm, ⟨39, _⟩ => ⟨S_, .i32⟩
  | .hbm, ⟨40, _⟩ => ⟨S_, .f32⟩
  | .hbm, ⟨41, _⟩ => ⟨S4096x4x128, .f32⟩
  | .hbm, ⟨42, _⟩ => ⟨S4096x512, .f32⟩
  | .hbm, ⟨43, _⟩ => ⟨S4096x512, .bf16⟩
  | .hbm, ⟨44, _⟩ => ⟨S_, .i32⟩
  | .hbm, ⟨45, _⟩ => ⟨S_, .f32⟩
  | .hbm, ⟨46, _⟩ => ⟨S4096x4x128, .f32⟩
  | .hbm, ⟨47, _⟩ => ⟨S4096x512, .f32⟩
  | .hbm, ⟨48, _⟩ => ⟨S4096x512, .bf16⟩
  | .hbm, ⟨49, _⟩ => ⟨S_, .i32⟩
  | .hbm, ⟨50, _⟩ => ⟨S_, .f32⟩
  | .hbm, ⟨51, _⟩ => ⟨S4096x4x128, .f32⟩
  | .hbm, ⟨52, _⟩ => ⟨S4096x512, .f32⟩
  | .hbm, ⟨53, _⟩ => ⟨S4096x512, .i32⟩
  | .hbm, ⟨54, _⟩ => ⟨S_, .i32⟩
  | .hbm, ⟨55, _⟩ => ⟨S_, .i32⟩
  | .hbm, ⟨56, _⟩ => ⟨S_, .i32⟩
  | .hbm, ⟨57, _⟩ => ⟨S_, .i1⟩
  | .hbm, ⟨58, _⟩ => ⟨S_, .i32⟩
  | .hbm, ⟨59, _⟩ => ⟨S_, .i32⟩
  | .hbm, ⟨60, _⟩ => ⟨S4096x512, .i32⟩
  | .hbm, ⟨61, _⟩ => ⟨S4096x512, .i32⟩
  | .hbm, ⟨62, _⟩ => ⟨S_, .i32⟩
  | .hbm, ⟨63, _⟩ => ⟨S4096x512, .i32⟩
  | .hbm, ⟨64, _⟩ => ⟨S4096x512, .i1⟩
  | .hbm, ⟨65, _⟩ => ⟨S_, .i32⟩
  | .hbm, ⟨66, _⟩ => ⟨S4096x512, .i32⟩
  | .hbm, ⟨67, _⟩ => ⟨S4096x512, .i1⟩
  | .hbm, ⟨68, _⟩ => ⟨S_, .i32⟩
  | .hbm, ⟨69, _⟩ => ⟨S_, .i1⟩
  | .hbm, ⟨70, _⟩ => ⟨S4096x512, .i1⟩
  | .hbm, ⟨71, _⟩ => ⟨S4096x512, .i1⟩
  | .hbm, ⟨72, _⟩ => ⟨S4096x512, .i1⟩
  | .hbm, ⟨73, _⟩ => ⟨S4096x512, .i32⟩
  | .hbm, ⟨74, _⟩ => ⟨S4096x512, .i32⟩
  | .hbm, ⟨75, _⟩ => ⟨S4096x512, .i32⟩
  | .hbm, ⟨76, _⟩ => ⟨S_, .i32⟩
  | .hbm, ⟨77, _⟩ => ⟨S4096x512, .i32⟩
  | .hbm, ⟨78, _⟩ => ⟨S4096x512, .i1⟩
  | .hbm, ⟨79, _⟩ => ⟨S_, .f32⟩
  | .hbm, ⟨80, _⟩ => ⟨S_, .f32⟩
  | .hbm, ⟨81, _⟩ => ⟨S4096x512, .f32⟩
  | .hbm, ⟨82, _⟩ => ⟨S4096x512, .f32⟩
  | .hbm, ⟨83, _⟩ => ⟨S4096x512, .bf16⟩
  | .hbm, ⟨84, _⟩ => ⟨S_, .i32⟩
  | .hbm, ⟨85, _⟩ => ⟨S_, .f32⟩
  | .hbm, ⟨86, _⟩ => ⟨S4096x4x128, .f32⟩
  | .hbm, ⟨87, _⟩ => ⟨S4096x512, .f32⟩
  | .hbm, ⟨88, _⟩ => ⟨S_, .i32⟩
  | .hbm, ⟨89, _⟩ => ⟨S_, .f32⟩
  | .hbm, ⟨90, _⟩ => ⟨S4096x4x128, .f32⟩
  | .hbm, ⟨91, _⟩ => ⟨S4096x512, .f32⟩
  | .hbm, ⟨92, _⟩ => ⟨S4096x512, .bf16⟩
  | .hbm, ⟨93, _⟩ => ⟨S4096x512, .f32⟩
  | .hbm, ⟨94, _⟩ => ⟨S4096x512, .f32⟩
  | .hbm, ⟨95, _⟩ => ⟨S4096x512, .f32⟩
  | .local _ .vmem, ⟨0, _⟩ => ⟨S4096x128, .bf16⟩
  | .local _ .vmem, ⟨1, _⟩ => ⟨S4096x128, .bf16⟩
  | .local _ .vmem, ⟨2, _⟩ => ⟨S4096x128, .bf16⟩
  | .local _ .vmem, ⟨3, _⟩ => ⟨S4096x128, .bf16⟩
  | .local _ .vmem, ⟨4, _⟩ => ⟨S4096x128, .bf16⟩
  | .local _ .vmem, ⟨5, _⟩ => ⟨S4096x128, .bf16⟩
  | .local _ .vmem, ⟨6, _⟩ => ⟨S4096x128, .f32⟩
  | .local _ .vmem, ⟨7, _⟩ => ⟨S4096x128, .f32⟩
  | .local _ .vmem, ⟨8, _⟩ => ⟨S1x8x4096, .f32⟩
  | .local _ .vmem, ⟨9, _⟩ => ⟨S1x8x4096, .f32⟩
  | .local _ .vmem, ⟨10, _⟩ => ⟨S4096x128, .bf16⟩
  | .local _ .vmem, ⟨11, _⟩ => ⟨S4096x128, .bf16⟩
  | .local _ .vmem, ⟨12, _⟩ => ⟨S4096x128, .f32⟩
  | .local _ .vmem, ⟨13, _⟩ => ⟨S4096x128, .f32⟩
  | .local _ .vmem, ⟨14, _⟩ => ⟨S4096x128, .f32⟩
  | .local _ .vmem, ⟨15, _⟩ => ⟨S4096x128, .f32⟩
  | .local _ .vmem, ⟨16, _⟩ => ⟨S4096x128, .f32⟩
  | .local _ .vmem, ⟨17, _⟩ => ⟨S4096x128, .f32⟩
  | .local _ .vmem, ⟨18, _⟩ => ⟨S8x8x512, .f32⟩
  | .local _ .vmem, ⟨19, _⟩ => ⟨S512x128, .f32⟩
  | .local _ .vmem, ⟨20, _⟩ => ⟨S512x128, .f32⟩
  | _, _ => ⟨S4096x4x96, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_cst_0 : Ref sig .tc := ⟨.hbm, 14, rfl⟩
abbrev main_call0_v0 : Ref sig .tc := ⟨.hbm, 15, rfl⟩
abbrev main_call0_v1 : Ref sig .tc := ⟨.hbm, 16, rfl⟩
abbrev main_call0_v2 : Ref sig .tc := ⟨.hbm, 17, rfl⟩
abbrev main_v9 : Ref sig .tc := ⟨.hbm, 18, rfl⟩
abbrev main_cst_1 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_cst_2 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_cst_3 : Ref sig .tc := ⟨.hbm, 36, rfl⟩
abbrev main_v25 : Ref sig .tc := ⟨.hbm, 37, rfl⟩
abbrev main_v26 : Ref sig .tc := ⟨.hbm, 38, rfl⟩
abbrev main_c : Ref sig .tc := ⟨.hbm, 39, rfl⟩
abbrev main_call1_v0 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_c_4 : Ref sig .tc := ⟨.hbm, 44, rfl⟩
abbrev main_call2_v0 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_c_5 : Ref sig .tc := ⟨.hbm, 49, rfl⟩
abbrev main_call3_v0 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_c_6 : Ref sig .tc := ⟨.hbm, 54, rfl⟩
abbrev main_call4_v0 : Ref sig .tc := ⟨.hbm, 55, rfl⟩
abbrev main_call4_c : Ref sig .tc := ⟨.hbm, 56, rfl⟩
abbrev main_call4_v1 : Ref sig .tc := ⟨.hbm, 57, rfl⟩
abbrev main_call4_c_0 : Ref sig .tc := ⟨.hbm, 58, rfl⟩
abbrev main_call4_v2 : Ref sig .tc := ⟨.hbm, 59, rfl⟩
abbrev main_call4_v3 : Ref sig .tc := ⟨.hbm, 60, rfl⟩
abbrev main_call4_v4 : Ref sig .tc := ⟨.hbm, 61, rfl⟩
abbrev main_call4_c_1 : Ref sig .tc := ⟨.hbm, 62, rfl⟩
abbrev main_call4_v5 : Ref sig .tc := ⟨.hbm, 63, rfl⟩
abbrev main_call4_v6 : Ref sig .tc := ⟨.hbm, 64, rfl⟩
abbrev main_call4_c_2 : Ref sig .tc := ⟨.hbm, 65, rfl⟩
abbrev main_call4_v7 : Ref sig .tc := ⟨.hbm, 66, rfl⟩
abbrev main_call4_v8 : Ref sig .tc := ⟨.hbm, 67, rfl⟩
abbrev main_call4_c_3 : Ref sig .tc := ⟨.hbm, 68, rfl⟩
abbrev main_call4_v9 : Ref sig .tc := ⟨.hbm, 69, rfl⟩
abbrev main_call4_v10 : Ref sig .tc := ⟨.hbm, 70, rfl⟩
abbrev main_call4_v11 : Ref sig .tc := ⟨.hbm, 71, rfl⟩
abbrev main_call4_v12 : Ref sig .tc := ⟨.hbm, 72, rfl⟩
abbrev main_call4_v13 : Ref sig .tc := ⟨.hbm, 73, rfl⟩
abbrev main_call4_v14 : Ref sig .tc := ⟨.hbm, 74, rfl⟩
abbrev main_v36 : Ref sig .tc := ⟨.hbm, 75, rfl⟩
abbrev main_c_7 : Ref sig .tc := ⟨.hbm, 76, rfl⟩
abbrev main_v37 : Ref sig .tc := ⟨.hbm, 77, rfl⟩
abbrev main_v38 : Ref sig .tc := ⟨.hbm, 78, rfl⟩
abbrev main_cst_8 : Ref sig .tc := ⟨.hbm, 79, rfl⟩
abbrev main_call5_v0 : Ref sig .tc := ⟨.hbm, 80, rfl⟩
abbrev main_call5_v1 : Ref sig .tc := ⟨.hbm, 81, rfl⟩
abbrev main_v39 : Ref sig .tc := ⟨.hbm, 82, rfl⟩
abbrev main_v40 : Ref sig .tc := ⟨.hbm, 83, rfl⟩
abbrev main_c_9 : Ref sig .tc := ⟨.hbm, 84, rfl⟩
abbrev main_call6_v0 : Ref sig .tc := ⟨.hbm, 85, rfl⟩
abbrev main_v41 : Ref sig .tc := ⟨.hbm, 86, rfl⟩
abbrev main_v42 : Ref sig .tc := ⟨.hbm, 87, rfl⟩
abbrev main_c_10 : Ref sig .tc := ⟨.hbm, 88, rfl⟩
abbrev main_call7_v0 : Ref sig .tc := ⟨.hbm, 89, rfl⟩
abbrev main_v43 : Ref sig .tc := ⟨.hbm, 90, rfl⟩
abbrev main_v44 : Ref sig .tc := ⟨.hbm, 91, rfl⟩
abbrev main_v45 : Ref sig .tc := ⟨.hbm, 92, rfl⟩
abbrev main_v46_0 : Ref sig .tc := ⟨.hbm, 93, rfl⟩
abbrev main_v46_1 : Ref sig .tc := ⟨.hbm, 94, rfl⟩
abbrev main_v46_2 : Ref sig .tc := ⟨.hbm, 95, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_scratch0 : Ref sig .tc := ⟨.vmem, 18, rfl⟩
abbrev cc0_scratch1 : Ref sig .tc := ⟨.vmem, 19, rfl⟩
abbrev cc0_scratch2 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨1, ![4], ![false]⟩

@[reducible] def k0_t1_loop : Scf.Loop 32 :=
  let c0_i32 : BitVec 32 := 0#32
  let c8_i32 : BitVec 32 := 8#32
  let v2 : BitVec 32 := Scalar.addi c0_i32 c8_i32
  let c1_i32 : BitVec 32 := 1#32
  ⟨c0_i32, v2, c1_i32⟩
def k0_mult1 (k0_t1 : Fin k0_t1_loop.trips) : BitVec 32 :=
  let c0_i32 : BitVec 32 := 0#32
  let c1_i32 : BitVec 32 := 1#32
  let arg13 : BitVec 32 := Scf.iv c0_i32 c1_i32 k0_t1
  let c512_i32 : BitVec 32 := 512#32
  let v9 : BitVec 32 := Scalar.muli arg13 c512_i32
  v9
def k0_off1 (k0_t1 : Fin k0_t1_loop.trips) : Fin 2 → Nat :=
  let c0_i32 : BitVec 32 := 0#32
  let c1_i32 : BitVec 32 := 1#32
  let arg13 : BitVec 32 := Scf.iv c0_i32 c1_i32 k0_t1
  let c512_i32 : BitVec 32 := 512#32
  let v9 : BitVec 32 := Scalar.muli arg13 c512_i32
  let v10 : BitVec 32 := v9
  let v11 : Index := Scalar.indexCast v10
  let c0_11 : Index := 0#32
  ![v11.toNat, 0]
def k0_off2 (k0_t1 : Fin k0_t1_loop.trips) : Fin 3 → Nat :=
  let c0_i32 : BitVec 32 := 0#32
  let c1_i32 : BitVec 32 := 1#32
  let arg13 : BitVec 32 := Scf.iv c0_i32 c1_i32 k0_t1
  let v25 : Index := Scalar.indexCast arg13
  let c0_14 : Index := 0#32
  let c0_15 : Index := 0#32
  ![v25.toNat, 0, 0]
@[reducible] def k0_t2_loop : Scf.Loop 32 :=
  let c0_i32_2 : BitVec 32 := 0#32
  let c8_i32_3 : BitVec 32 := 8#32
  let v3 : BitVec 32 := Scalar.addi c0_i32_2 c8_i32_3
  let c1_i32_4 : BitVec 32 := 1#32
  ⟨c0_i32_2, v3, c1_i32_4⟩
def k0_mult2 (k0_t2 : Fin k0_t2_loop.trips) : BitVec 32 :=
  let c0_i32_2 : BitVec 32 := 0#32
  let c1_i32_4 : BitVec 32 := 1#32
  let arg13 : BitVec 32 := Scf.iv c0_i32_2 c1_i32_4 k0_t2
  let c512_i32 : BitVec 32 := 512#32
  let v9 : BitVec 32 := Scalar.muli arg13 c512_i32
  v9
def k0_off3 (k0_t2 : Fin k0_t2_loop.trips) : Fin 2 → Nat :=
  let c0_i32_2 : BitVec 32 := 0#32
  let c1_i32_4 : BitVec 32 := 1#32
  let arg13 : BitVec 32 := Scf.iv c0_i32_2 c1_i32_4 k0_t2
  let c512_i32 : BitVec 32 := 512#32
  let v9 : BitVec 32 := Scalar.muli arg13 c512_i32
  let v10 : BitVec 32 := v9
  let v11 : Index := Scalar.indexCast v10
  let c0_11 : Index := 0#32
  ![v11.toNat, 0]
def k0_mult3 (k0_t2 : Fin k0_t2_loop.trips) : BitVec 32 :=
  let c0_i32_2 : BitVec 32 := 0#32
  let c1_i32_4 : BitVec 32 := 1#32
  let arg13 : BitVec 32 := Scf.iv c0_i32_2 c1_i32_4 k0_t2
  let c512_i32_19 : BitVec 32 := 512#32
  let v25 : BitVec 32 := Scalar.muli arg13 c512_i32_19
  v25
def k0_off4 (k0_t2 : Fin k0_t2_loop.trips) : Fin 3 → Nat :=
  let c0_24 : Index := 0#32
  let c0_25 : Index := 0#32
  let c0_i32_2 : BitVec 32 := 0#32
  let c1_i32_4 : BitVec 32 := 1#32
  let arg13 : BitVec 32 := Scf.iv c0_i32_2 c1_i32_4 k0_t2
  let c512_i32_19 : BitVec 32 := 512#32
  let v25 : BitVec 32 := Scalar.muli arg13 c512_i32_19
  let v26 : BitVec 32 := v25
  let v39 : Index := Scalar.indexCast v26
  ![0, 0, v39.toNat]
def k0_off5 (k0_t2 : Fin k0_t2_loop.trips) : Fin 3 → Nat :=
  let c0_i32_2 : BitVec 32 := 0#32
  let c1_i32_4 : BitVec 32 := 1#32
  let arg13 : BitVec 32 := Scf.iv c0_i32_2 c1_i32_4 k0_t2
  let v53 : Index := Scalar.indexCast arg13
  let c0_32 : Index := 0#32
  let c0_33 : Index := 0#32
  ![v53.toNat, 0, 0]
@[reducible] def k0_t3_loop (k0_t2 : Fin k0_t2_loop.trips) : Scf.Loop 32 :=
  let c0_i32_2 : BitVec 32 := 0#32
  let c1_i32_4 : BitVec 32 := 1#32
  let arg13 : BitVec 32 := Scf.iv c0_i32_2 c1_i32_4 k0_t2
  let c1_i32_42 : BitVec 32 := 1#32
  let v74 : BitVec 32 := Scalar.addi arg13 c1_i32_42
  let c8_i32_44 : BitVec 32 := 8#32
  let v75 : BitVec 32 := Scalar.subi c8_i32_44 v74
  let c1_i32_45 : BitVec 32 := 1#32
  let v77 : BitVec 32 := Scalar.divsi v75 c1_i32_45
  let v78 : BitVec 32 := Scalar.muli v77 c1_i32_45
  let v79 : BitVec 32 := Scalar.addi v74 v78
  let c1_i32_46 : BitVec 32 := 1#32
  ⟨v74, v79, c1_i32_46⟩
def k0_mult4 (k0_t2 : Fin k0_t2_loop.trips) (k0_t3 : Fin (k0_t3_loop k0_t2).trips) : BitVec 32 :=
  let c0_i32_2 : BitVec 32 := 0#32
  let c1_i32_4 : BitVec 32 := 1#32
  let arg13 : BitVec 32 := Scf.iv c0_i32_2 c1_i32_4 k0_t2
  let c1_i32_42 : BitVec 32 := 1#32
  let v74 : BitVec 32 := Scalar.addi arg13 c1_i32_42
  let c1_i32_46 : BitVec 32 := 1#32
  let arg14 : BitVec 32 := Scf.iv v74 c1_i32_46 k0_t3
  let c512_i32_54 : BitVec 32 := 512#32
  let v86 : BitVec 32 := Scalar.muli arg14 c512_i32_54
  v86
def k0_off6 (k0_t2 : Fin k0_t2_loop.trips) (k0_t3 : Fin (k0_t3_loop k0_t2).trips) : Fin 2 → Nat :=
  let c0_i32_2 : BitVec 32 := 0#32
  let c1_i32_4 : BitVec 32 := 1#32
  let arg13 : BitVec 32 := Scf.iv c0_i32_2 c1_i32_4 k0_t2
  let c1_i32_42 : BitVec 32 := 1#32
  let v74 : BitVec 32 := Scalar.addi arg13 c1_i32_42
  let c1_i32_46 : BitVec 32 := 1#32
  let arg14 : BitVec 32 := Scf.iv v74 c1_i32_46 k0_t3
  let c512_i32_54 : BitVec 32 := 512#32
  let v86 : BitVec 32 := Scalar.muli arg14 c512_i32_54
  let v87 : BitVec 32 := v86
  let v88 : Index := Scalar.indexCast v87
  let c0_55 : Index := 0#32
  ![v88.toNat, 0]
def k0_off7 (k0_t2 : Fin k0_t2_loop.trips) (k0_t3 : Fin (k0_t3_loop k0_t2).trips) : Fin 3 → Nat :=
  let c0_58 : Index := 0#32
  let c0_59 : Index := 0#32
  let c0_i32_2 : BitVec 32 := 0#32
  let c1_i32_4 : BitVec 32 := 1#32
  let arg13 : BitVec 32 := Scf.iv c0_i32_2 c1_i32_4 k0_t2
  let c1_i32_42 : BitVec 32 := 1#32
  let v74 : BitVec 32 := Scalar.addi arg13 c1_i32_42
  let c1_i32_46 : BitVec 32 := 1#32
  let arg14 : BitVec 32 := Scf.iv v74 c1_i32_46 k0_t3
  let c512_i32_54 : BitVec 32 := 512#32
  let v86 : BitVec 32 := Scalar.muli arg14 c512_i32_54
  let v87 : BitVec 32 := v86
  let v95 : Index := Scalar.indexCast v87
  ![0, 0, v95.toNat]
def k0_off8 (k0_t2 : Fin k0_t2_loop.trips) (k0_t3 : Fin (k0_t3_loop k0_t2).trips) : Fin 3 → Nat :=
  let c0_i32_2 : BitVec 32 := 0#32
  let c1_i32_4 : BitVec 32 := 1#32
  let arg13 : BitVec 32 := Scf.iv c0_i32_2 c1_i32_4 k0_t2
  let c1_i32_42 : BitVec 32 := 1#32
  let v74 : BitVec 32 := Scalar.addi arg13 c1_i32_42
  let c1_i32_46 : BitVec 32 := 1#32
  let arg14 : BitVec 32 := Scf.iv v74 c1_i32_46 k0_t3
  let v109 : Index := Scalar.indexCast arg14
  let c0_66 : Index := 0#32
  let c0_67 : Index := 0#32
  ![v109.toNat, 0, 0]
@[reducible] def k0_t4_loop (k0_t2 : Fin k0_t2_loop.trips) : Scf.Loop 32 :=
  let c0_i32_2 : BitVec 32 := 0#32
  let c1_i32_4 : BitVec 32 := 1#32
  let arg13 : BitVec 32 := Scf.iv c0_i32_2 c1_i32_4 k0_t2
  let c1_i32_42 : BitVec 32 := 1#32
  let v74 : BitVec 32 := Scalar.addi arg13 c1_i32_42
  let c8_i32_44 : BitVec 32 := 8#32
  let v75 : BitVec 32 := Scalar.subi c8_i32_44 v74
  let c1_i32_45 : BitVec 32 := 1#32
  let v77 : BitVec 32 := Scalar.divsi v75 c1_i32_45
  let v78 : BitVec 32 := Scalar.muli v77 c1_i32_45
  let v79 : BitVec 32 := Scalar.addi v74 v78
  let v76 : BitVec 32 := Scalar.addi v74 v75
  let c1_i32_47 : BitVec 32 := 1#32
  ⟨v79, v76, c1_i32_47⟩
def k0_mult5 (k0_t2 : Fin k0_t2_loop.trips) (k0_t4 : Fin (k0_t4_loop k0_t2).trips) : BitVec 32 :=
  let c0_i32_2 : BitVec 32 := 0#32
  let c1_i32_4 : BitVec 32 := 1#32
  let arg13 : BitVec 32 := Scf.iv c0_i32_2 c1_i32_4 k0_t2
  let c1_i32_42 : BitVec 32 := 1#32
  let v74 : BitVec 32 := Scalar.addi arg13 c1_i32_42
  let c8_i32_44 : BitVec 32 := 8#32
  let v75 : BitVec 32 := Scalar.subi c8_i32_44 v74
  let c1_i32_45 : BitVec 32 := 1#32
  let v77 : BitVec 32 := Scalar.divsi v75 c1_i32_45
  let v78 : BitVec 32 := Scalar.muli v77 c1_i32_45
  let v79 : BitVec 32 := Scalar.addi v74 v78
  let c1_i32_47 : BitVec 32 := 1#32
  let arg14 : BitVec 32 := Scf.iv v79 c1_i32_47 k0_t4
  let c512_i32_54 : BitVec 32 := 512#32
  let v86 : BitVec 32 := Scalar.muli arg14 c512_i32_54
  v86
def k0_off9 (k0_t2 : Fin k0_t2_loop.trips) (k0_t4 : Fin (k0_t4_loop k0_t2).trips) : Fin 2 → Nat :=
  let c0_i32_2 : BitVec 32 := 0#32
  let c1_i32_4 : BitVec 32 := 1#32
  let arg13 : BitVec 32 := Scf.iv c0_i32_2 c1_i32_4 k0_t2
  let c1_i32_42 : BitVec 32 := 1#32
  let v74 : BitVec 32 := Scalar.addi arg13 c1_i32_42
  let c8_i32_44 : BitVec 32 := 8#32
  let v75 : BitVec 32 := Scalar.subi c8_i32_44 v74
  let c1_i32_45 : BitVec 32 := 1#32
  let v77 : BitVec 32 := Scalar.divsi v75 c1_i32_45
  let v78 : BitVec 32 := Scalar.muli v77 c1_i32_45
  let v79 : BitVec 32 := Scalar.addi v74 v78
  let c1_i32_47 : BitVec 32 := 1#32
  let arg14 : BitVec 32 := Scf.iv v79 c1_i32_47 k0_t4
  let c512_i32_54 : BitVec 32 := 512#32
  let v86 : BitVec 32 := Scalar.muli arg14 c512_i32_54
  let v87 : BitVec 32 := v86
  let v88 : Index := Scalar.indexCast v87
  let c0_55 : Index := 0#32
  ![v88.toNat, 0]
def k0_off10 (k0_t2 : Fin k0_t2_loop.trips) (k0_t4 : Fin (k0_t4_loop k0_t2).trips) : Fin 3 → Nat :=
  let c0_58 : Index := 0#32
  let c0_59 : Index := 0#32
  let c0_i32_2 : BitVec 32 := 0#32
  let c1_i32_4 : BitVec 32 := 1#32
  let arg13 : BitVec 32 := Scf.iv c0_i32_2 c1_i32_4 k0_t2
  let c1_i32_42 : BitVec 32 := 1#32
  let v74 : BitVec 32 := Scalar.addi arg13 c1_i32_42
  let c8_i32_44 : BitVec 32 := 8#32
  let v75 : BitVec 32 := Scalar.subi c8_i32_44 v74
  let c1_i32_45 : BitVec 32 := 1#32
  let v77 : BitVec 32 := Scalar.divsi v75 c1_i32_45
  let v78 : BitVec 32 := Scalar.muli v77 c1_i32_45
  let v79 : BitVec 32 := Scalar.addi v74 v78
  let c1_i32_47 : BitVec 32 := 1#32
  let arg14 : BitVec 32 := Scf.iv v79 c1_i32_47 k0_t4
  let c512_i32_54 : BitVec 32 := 512#32
  let v86 : BitVec 32 := Scalar.muli arg14 c512_i32_54
  let v87 : BitVec 32 := v86
  let v95 : Index := Scalar.indexCast v87
  ![0, 0, v95.toNat]
def k0_off11 (k0_t2 : Fin k0_t2_loop.trips) (k0_t4 : Fin (k0_t4_loop k0_t2).trips) : Fin 3 → Nat :=
  let c0_i32_2 : BitVec 32 := 0#32
  let c1_i32_4 : BitVec 32 := 1#32
  let arg13 : BitVec 32 := Scf.iv c0_i32_2 c1_i32_4 k0_t2
  let c1_i32_42 : BitVec 32 := 1#32
  let v74 : BitVec 32 := Scalar.addi arg13 c1_i32_42
  let c8_i32_44 : BitVec 32 := 8#32
  let v75 : BitVec 32 := Scalar.subi c8_i32_44 v74
  let c1_i32_45 : BitVec 32 := 1#32
  let v77 : BitVec 32 := Scalar.divsi v75 c1_i32_45
  let v78 : BitVec 32 := Scalar.muli v77 c1_i32_45
  let v79 : BitVec 32 := Scalar.addi v74 v78
  let c1_i32_47 : BitVec 32 := 1#32
  let arg14 : BitVec 32 := Scf.iv v79 c1_i32_47 k0_t4
  let v109 : Index := Scalar.indexCast arg14
  let c0_66 : Index := 0#32
  let c0_67 : Index := 0#32
  ![v109.toNat, 0, 0]
def cc0_transform_0 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

def cc0_transform_1 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

def cc0_transform_2 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

def cc0_transform_3 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

def cc0_transform_6 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

def cc0_transform_7 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

def cc0_transform_8 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

abbrev stage0_0 : Fin 2 → Memref sig .tc .vmem S4096x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4096x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4096x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S4096x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x8x4096 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S4096x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S4096x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S4096x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S4096x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== KernelIdeal.lean ====
variable {F : FTy → Type} [FloatOps F] [Named F]
def κ : String → Option EReal := fun
  | "mask" => some ⊥
  | _ => none
-- ==== ReferenceIdeal.lean ====
abbrev S4096x4x96 : Shape := ⟨3, ![4096, 4, 96]⟩
abbrev S4096x4x64 : Shape := ⟨3, ![4096, 4, 64]⟩
abbrev S4x4096x4096 : Shape := ⟨3, ![4, 4096, 4096]⟩
abbrev S_ : Shape := ⟨0, ![]⟩
abbrev S4096 : Shape := ⟨1, ![4096]⟩
abbrev S1x4096 : Shape := ⟨2, ![1, 4096]⟩
abbrev S4096x1 : Shape := ⟨2, ![4096, 1]⟩
abbrev S4096x4096 : Shape := ⟨2, ![4096, 4096]⟩
abbrev S4x4096 : Shape := ⟨2, ![4, 4096]⟩
abbrev S4x4096x1 : Shape := ⟨3, ![4, 4096, 1]⟩
abbrev S4x64x4096 : Shape := ⟨3, ![4, 64, 4096]⟩
abbrev S4x4096x96 : Shape := ⟨3, ![4, 4096, 96]⟩
abbrev S4096x4x128 : Shape := ⟨3, ![4096, 4, 128]⟩
abbrev S4096x512 : Shape := ⟨2, ![4096, 512]⟩

abbrev nBuf : Space → Nat
  | .hbm => 101
  | .vmem => 0
  | .smem => 0
  | _ => 0

abbrev bufTy : (tb : Table) → Fin (tcTables nBuf tb) → BufTy
  | .hbm, ⟨0, _⟩ => ⟨S4096x4x96, .f32⟩
  | .hbm, ⟨1, _⟩ => ⟨S4096x4x96, .f32⟩
  | .hbm, ⟨2, _⟩ => ⟨S4096x4x64, .f32⟩
  | .hbm, ⟨3, _⟩ => ⟨S4096x4x64, .f32⟩
  | .hbm, ⟨4, _⟩ => ⟨S4x4096x4096, .f32⟩
  | .hbm, ⟨5, _⟩ => ⟨S_, .f32⟩
  | .hbm, ⟨6, _⟩ => ⟨S4x4096x4096, .f32⟩
  | .hbm, ⟨7, _⟩ => ⟨S4x4096x4096, .f32⟩
  | .hbm, ⟨8, _⟩ => ⟨S4096, .i32⟩
  | .hbm, ⟨9, _⟩ => ⟨S1x4096, .i32⟩
  | .hbm, ⟨10, _⟩ => ⟨S4096x1, .i32⟩
  | .hbm, ⟨11, _⟩ => ⟨S4096x4096, .i32⟩
  | .hbm, ⟨12, _⟩ => ⟨S4096x4096, .i32⟩
  | .hbm, ⟨13, _⟩ => ⟨S4096x4096, .i1⟩
  | .hbm, ⟨14, _⟩ => ⟨S_, .f32⟩
  | .hbm, ⟨15, _⟩ => ⟨S_, .f32⟩
  | .hbm, ⟨16, _⟩ => ⟨S4x4096x4096, .i1⟩
  | .hbm, ⟨17, _⟩ => ⟨S4x4096x4096, .f32⟩
  | .hbm, ⟨18, _⟩ => ⟨S4x4096x4096, .f32⟩
  | .hbm, ⟨19, _⟩ => ⟨S_, .f32⟩
  | .hbm, ⟨20, _⟩ => ⟨S4x4096x4096, .f32⟩
  | .hbm, ⟨21, _⟩ => ⟨S_, .f32⟩
  | .hbm, ⟨22, _⟩ => ⟨S4x4096, .f32⟩
  | .hbm, ⟨23, _⟩ => ⟨S4x4096x1, .f32⟩
  | .hbm, ⟨24, _⟩ => ⟨S4x4096x4096, .f32⟩
  | .hbm, ⟨25, _⟩ => ⟨S4x4096x4096, .i1⟩
  | .hbm, ⟨26, _⟩ => ⟨S4x4096x4096, .f32⟩
  | .hbm, ⟨27, _⟩ => ⟨S_, .f32⟩
  | .hbm, ⟨28, _⟩ => ⟨S4x4096, .f32⟩
  | .hbm, ⟨29, _⟩ => ⟨S_, .f32⟩
  | .hbm, ⟨30, _⟩ => ⟨S4x4096, .f32⟩
  | .hbm, ⟨31, _⟩ => ⟨S4x4096, .f32⟩
  | .hbm, ⟨32, _⟩ => ⟨S_, .f32⟩
  | .hbm, ⟨33, _⟩ => ⟨S4x4096, .f32⟩
  | .hbm, ⟨34, _⟩ => ⟨S4x4096, .i1⟩
  | .hbm, ⟨35, _⟩ => ⟨S_, .f32⟩
  | .hbm, ⟨36, _⟩ => ⟨S4x4096, .f32⟩
  | .hbm, ⟨37, _⟩ => ⟨S4x4096, .i1⟩
  | .hbm, ⟨38, _⟩ => ⟨S_, .f32⟩
  | .hbm, ⟨39, _⟩ => ⟨S4x4096, .f32⟩
  | .hbm, ⟨40, _⟩ => ⟨S_, .f32⟩
  | .hbm, ⟨41, _⟩ => ⟨S4x4096, .f32⟩
  | .hbm, ⟨42, _⟩ => ⟨S_, .f32⟩
  | .hbm, ⟨43, _⟩ => ⟨S4x4096, .f32⟩
  | .hbm, ⟨44, _⟩ => ⟨S4x4096, .f32⟩
  | .hbm, ⟨45, _⟩ => ⟨S4x4096, .f32⟩
  | .hbm, ⟨46, _⟩ => ⟨S4x4096x1, .f32⟩
  | .hbm, ⟨47, _⟩ => ⟨S4x4096x4096, .f32⟩
  | .hbm, ⟨48, _⟩ => ⟨S4x4096x4096, .f32⟩
  | .hbm, ⟨49, _⟩ => ⟨S4x4096x4096, .f32⟩
  | .hbm, ⟨50, _⟩ => ⟨S_, .f32⟩
  | .hbm, ⟨51, _⟩ => ⟨S4x4096, .f32⟩
  | .hbm, ⟨52, _⟩ => ⟨S4x4096x1, .f32⟩
  | .hbm, ⟨53, _⟩ => ⟨S4x4096x4096, .f32⟩
  | .hbm, ⟨54, _⟩ => ⟨S4x4096x4096, .f32⟩
  | .hbm, ⟨55, _⟩ => ⟨S4x4096x1, .f32⟩
  | .hbm, ⟨56, _⟩ => ⟨S_, .f32⟩
  | .hbm, ⟨57, _⟩ => ⟨S4x4096x1, .f32⟩
  | .hbm, ⟨58, _⟩ => ⟨S4x4096x1, .f32⟩
  | .hbm, ⟨59, _⟩ => ⟨S4x64x4096, .f32⟩
  | .hbm, ⟨60, _⟩ => ⟨S4096x4x64, .f32⟩
  | .hbm, ⟨61, _⟩ => ⟨S4x64x4096, .f32⟩
  | .hbm, ⟨62, _⟩ => ⟨S4x4096x4096, .f32⟩
  | .hbm, ⟨63, _⟩ => ⟨S4x64x4096, .f32⟩
  | .hbm, ⟨64, _⟩ => ⟨S4096x4x64, .f32⟩
  | .hbm, ⟨65, _⟩ => ⟨S4x4096x4096, .f32⟩
  | .hbm, ⟨66, _⟩ => ⟨S4x4096x4096, .f32⟩
  | .hbm, ⟨67, _⟩ => ⟨S4x4096x4096, .f32⟩
  | .hbm, ⟨68, _⟩ => ⟨S_, .f32⟩
  | .hbm, ⟨69, _⟩ => ⟨S4x4096, .f32⟩
  | .hbm, ⟨70, _⟩ => ⟨S4x4096x1, .f32⟩
  | .hbm, ⟨71, _⟩ => ⟨S4x4096x1, .f32⟩
  | .hbm, ⟨72, _⟩ => ⟨S4x4096x4096, .f32⟩
  | .hbm, ⟨73, _⟩ => ⟨S4x4096x4096, .f32⟩
  | .hbm, ⟨74, _⟩ => ⟨S_, .f32⟩
  | .hbm, ⟨75, _⟩ => ⟨S4x4096, .f32⟩
  | .hbm, ⟨76, _⟩ => ⟨S4x4096x4096, .f32⟩
  | .hbm, ⟨77, _⟩ => ⟨S4x4096x4096, .f32⟩
  | .hbm, ⟨78, _⟩ => ⟨S4x4096x4096, .f32⟩
  | .hbm, ⟨79, _⟩ => ⟨S_, .f32⟩
  | .hbm, ⟨80, _⟩ => ⟨S4x4096x4096, .f32⟩
  | .hbm, ⟨81, _⟩ => ⟨S4x4096x4096, .f32⟩
  | .hbm, ⟨82, _⟩ => ⟨S_, .f32⟩
  | .hbm, ⟨83, _⟩ => ⟨S4x4096x4096, .f32⟩
  | .hbm, ⟨84, _⟩ => ⟨S4x4096x4096, .f32⟩
  | .hbm, ⟨85, _⟩ => ⟨S4x4096x96, .f32⟩
  | .hbm, ⟨86, _⟩ => ⟨S4096x4x96, .f32⟩
  | .hbm, ⟨87, _⟩ => ⟨S4x4096x96, .f32⟩
  | .hbm, ⟨88, _⟩ => ⟨S4096x4x96, .f32⟩
  | .hbm, ⟨89, _⟩ => ⟨S_, .i32⟩
  | .hbm, ⟨90, _⟩ => ⟨S_, .f32⟩
  | .hbm, ⟨91, _⟩ => ⟨S4096x4x128, .f32⟩
  | .hbm, ⟨92, _⟩ => ⟨S4096x512, .f32⟩
  | .hbm, ⟨93, _⟩ => ⟨S_, .i32⟩
  | .hbm, ⟨94, _⟩ => ⟨S_, .f32⟩
  | .hbm, ⟨95, _⟩ => ⟨S4096x4x128, .f32⟩
  | .hbm, ⟨96, _⟩ => ⟨S4096x512, .f32⟩
  | .hbm, ⟨97, _⟩ => ⟨S_, .i32⟩
  | .hbm, ⟨98, _⟩ => ⟨S_, .f32⟩
  | .hbm, ⟨99, _⟩ => ⟨S4096x4x128, .f32⟩
  | .hbm, ⟨100, _⟩ => ⟨S4096x512, .f32⟩
  | _, _ => ⟨S4096x4x96, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_cst_0 : Ref sig .tc := ⟨.hbm, 14, rfl⟩
abbrev main_call0_v0 : Ref sig .tc := ⟨.hbm, 15, rfl⟩
abbrev main_v9_1 : Ref sig .tc := ⟨.hbm, 16, rfl⟩
abbrev main_call0_v2 : Ref sig .tc := ⟨.hbm, 17, rfl⟩
abbrev main_v9_0 : Ref sig .tc := ⟨.hbm, 18, rfl⟩
abbrev main_call0_cst : Ref sig .tc := ⟨.hbm, 19, rfl⟩
abbrev main_v9_2 : Ref sig .tc := ⟨.hbm, 20, rfl⟩
abbrev main_cst_1 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_cst_2 : Ref sig .tc := ⟨.hbm, 27, rfl⟩
abbrev main_v15 : Ref sig .tc := ⟨.hbm, 28, rfl⟩
abbrev main_cst_3 : Ref sig .tc := ⟨.hbm, 29, rfl⟩
abbrev main_v16 : Ref sig .tc := ⟨.hbm, 30, rfl⟩
abbrev main_v17 : Ref sig .tc := ⟨.hbm, 31, rfl⟩
abbrev main_cst_4 : Ref sig .tc := ⟨.hbm, 32, rfl⟩
abbrev main_v18 : Ref sig .tc := ⟨.hbm, 33, rfl⟩
abbrev main_v19 : Ref sig .tc := ⟨.hbm, 34, rfl⟩
abbrev main_cst_5 : Ref sig .tc := ⟨.hbm, 35, rfl⟩
abbrev main_v20 : Ref sig .tc := ⟨.hbm, 36, rfl⟩
abbrev main_v21 : Ref sig .tc := ⟨.hbm, 37, rfl⟩
abbrev main_cst_6 : Ref sig .tc := ⟨.hbm, 38, rfl⟩
abbrev main_v22 : Ref sig .tc := ⟨.hbm, 39, rfl⟩
abbrev main_cst_7 : Ref sig .tc := ⟨.hbm, 40, rfl⟩
abbrev main_v23 : Ref sig .tc := ⟨.hbm, 41, rfl⟩
abbrev main_cst_8 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_cst_9 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_cst_10 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_cst_11 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_cst_12 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_call1_cst : Ref sig .tc := ⟨.hbm, 79, rfl⟩
abbrev main_call1_v0 : Ref sig .tc := ⟨.hbm, 80, rfl⟩
abbrev main_v56 : Ref sig .tc := ⟨.hbm, 81, rfl⟩
abbrev main_cst_13 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_c : Ref sig .tc := ⟨.hbm, 89, rfl⟩
abbrev main_call2_v0 : Ref sig .tc := ⟨.hbm, 90, rfl⟩
abbrev main_v63 : Ref sig .tc := ⟨.hbm, 91, rfl⟩
abbrev main_v64 : Ref sig .tc := ⟨.hbm, 92, rfl⟩
abbrev main_c_14 : Ref sig .tc := ⟨.hbm, 93, rfl⟩
abbrev main_call3_v0 : Ref sig .tc := ⟨.hbm, 94, rfl⟩
abbrev main_v65 : Ref sig .tc := ⟨.hbm, 95, rfl⟩
abbrev main_v66 : Ref sig .tc := ⟨.hbm, 96, rfl⟩
abbrev main_c_15 : Ref sig .tc := ⟨.hbm, 97, rfl⟩
abbrev main_call4_v0 : Ref sig .tc := ⟨.hbm, 98, rfl⟩
abbrev main_v67 : Ref sig .tc := ⟨.hbm, 99, rfl⟩
abbrev main_v68 : Ref sig .tc := ⟨.hbm, 100, rfl⟩

abbrev nD : Nat := 1
abbrev τ : Topo := Topo.v7x

variable {F : FTy → Type} [FloatOps F]
-- ==== KernelUp.lean ====
abbrev S4096x5632 : Shape := ⟨2, ![4096, 5632]⟩
abbrev S1024x5632 : Shape := ⟨2, ![1024, 5632]⟩
abbrev S4096x1024 : Shape := ⟨2, ![4096, 1024]⟩
abbrev S1024 : Shape := ⟨1, ![1024]⟩
abbrev S4096x8x704 : Shape := ⟨3, ![4096, 8, 704]⟩
abbrev S8x4096x704 : Shape := ⟨3, ![8, 4096, 704]⟩
abbrev S1024x8x704 : Shape := ⟨3, ![1024, 8, 704]⟩
abbrev S8x1024x704 : Shape := ⟨3, ![8, 1024, 704]⟩
abbrev S1x1024 : Shape := ⟨2, ![1, 1024]⟩
abbrev S1x1024x704 : Shape := ⟨3, ![1, 1024, 704]⟩
abbrev S1024x1024 : Shape := ⟨2, ![1024, 1024]⟩
abbrev S1024x704 : Shape := ⟨2, ![1024, 704]⟩
abbrev S1024x1 : Shape := ⟨2, ![1024, 1]⟩

abbrev nBuf : Space → Nat
  | .hbm => 14
  | .vmem => 13
  | .smem => 0
  | _ => 0

abbrev bufTy : (tb : Table) → Fin (tcTables nBuf tb) → BufTy
  | .hbm, ⟨0, _⟩ => ⟨S4096x5632, .f32⟩
  | .hbm, ⟨1, _⟩ => ⟨S1024x5632, .f32⟩
  | .hbm, ⟨2, _⟩ => ⟨S4096x1024, .f32⟩
  | .hbm, ⟨3, _⟩ => ⟨S1024, .f32⟩
  | .hbm, ⟨4, _⟩ => ⟨S4096x1024, .f32⟩
  | .hbm, ⟨5, _⟩ => ⟨S4096x8x704, .f32⟩
  | .hbm, ⟨6, _⟩ => ⟨S8x4096x704, .f32⟩
  | .hbm, ⟨7, _⟩ => ⟨S8x4096x704, .bf16⟩
  | .hbm, ⟨8, _⟩ => ⟨S1024x8x704, .f32⟩
  | .hbm, ⟨9, _⟩ => ⟨S8x1024x704, .f32⟩
  | .hbm, ⟨10, _⟩ => ⟨S8x1024x704, .bf16⟩
  | .hbm, ⟨11, _⟩ => ⟨S1x1024, .f32⟩
  | .hbm, ⟨12, _⟩ => ⟨S4096x1024, .f32⟩
  | .hbm, ⟨13, _⟩ => ⟨S1x1024, .f32⟩
  | .local _ .vmem, ⟨0, _⟩ => ⟨S1x1024x704, .bf16⟩
  | .local _ .vmem, ⟨1, _⟩ => ⟨S1x1024x704, .bf16⟩
  | .local _ .vmem, ⟨2, _⟩ => ⟨S1x1024x704, .bf16⟩
  | .local _ .vmem, ⟨3, _⟩ => ⟨S1x1024x704, .bf16⟩
  | .local _ .vmem, ⟨4, _⟩ => ⟨S1024x1024, .f32⟩
  | .local _ .vmem, ⟨5, _⟩ => ⟨S1024x1024, .f32⟩
  | .local _ .vmem, ⟨6, _⟩ => ⟨S1x1024, .f32⟩
  | .local _ .vmem, ⟨7, _⟩ => ⟨S1024x1024, .f32⟩
  | .local _ .vmem, ⟨8, _⟩ => ⟨S1024x1024, .f32⟩
  | .local _ .vmem, ⟨9, _⟩ => ⟨S1024x1024, .f32⟩
  | .local _ .vmem, ⟨10, _⟩ => ⟨S1024x1024, .f32⟩
  | .local _ .vmem, ⟨11, _⟩ => ⟨S1x1024, .f32⟩
  | .local _ .vmem, ⟨12, _⟩ => ⟨S1024x1024, .f32⟩
  | _, _ => ⟨S4096x5632, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7_0 : Ref sig .tc := ⟨.hbm, 12, rfl⟩
abbrev main_v7_1 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11

abbrev nD : Nat := 1
abbrev τ : Topo := Topo.v7x

variable {F : FTy → Type} [FloatOps F]

abbrev grid0 : Pipeline.Grid := ⟨3, ![4, 1, 8], ![false, false, false]⟩

def k0_cond3 (i : grid0.Coords) : BitVec 1 :=
  let arg2 : BitVec 32 := BitVec.ofNat 32 (i 2).val
  let c7_i32 : BitVec 32 := 7#32
  let v18 : BitVec 1 := Scalar.cmpi .eq arg2 c7_i32
  let v19 : BitVec 32 := Scalar.extui v18
  let c0_i32_13 : BitVec 32 := 0#32
  let v20 : BitVec 1 := Scalar.cmpi .ne v19 c0_i32_13
  v20

def k0_cond2 (i : grid0.Coords) : BitVec 1 :=
  let arg0 : BitVec 32 := BitVec.ofNat 32 (i 0).val
  let c0_i32_1 : BitVec 32 := 0#32
  let v3 : BitVec 1 := Scalar.cmpi .eq arg0 c0_i32_1
  let arg2 : BitVec 32 := BitVec.ofNat 32 (i 2).val
  let c0_i32_2 : BitVec 32 := 0#32
  let v4 : BitVec 1 := Scalar.cmpi .eq arg2 c0_i32_2
  let v5 : BitVec 1 := Scalar.andi v3 v4
  let v6 : BitVec 32 := Scalar.extui v5
  let c0_i32_3 : BitVec 32 := 0#32
  let v7 : BitVec 1 := Scalar.cmpi .ne v6 c0_i32_3
  v7

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, arg0.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg2.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1x1024x704 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1024x704 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, false, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false, false]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false, false]

abbrev stage0_5 : Fin 2 → Memref sig .tc .vmem S1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false, false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false, false]
-- ==== ReferenceUpIdeal.lean ====
abbrev S4096x5632 : Shape := ⟨2, ![4096, 5632]⟩
abbrev S1024x5632 : Shape := ⟨2, ![1024, 5632]⟩
abbrev S4096x1024 : Shape := ⟨2, ![4096, 1024]⟩
abbrev S1024 : Shape := ⟨1, ![1024]⟩
abbrev S_ : Shape := ⟨0, ![]⟩
abbrev S4096 : Shape := ⟨1, ![4096]⟩
abbrev S4096x1 : Shape := ⟨2, ![4096, 1]⟩
abbrev S1x1024 : Shape := ⟨2, ![1, 1024]⟩

abbrev nBuf : Space → Nat
  | .hbm => 54
  | .vmem => 0
  | .smem => 0
  | _ => 0

abbrev bufTy : (tb : Table) → Fin (tcTables nBuf tb) → BufTy
  | .hbm, ⟨0, _⟩ => ⟨S4096x5632, .f32⟩
  | .hbm, ⟨1, _⟩ => ⟨S1024x5632, .f32⟩
  | .hbm, ⟨2, _⟩ => ⟨S4096x1024, .f32⟩
  | .hbm, ⟨3, _⟩ => ⟨S1024, .f32⟩
  | .hbm, ⟨4, _⟩ => ⟨S4096x1024, .f32⟩
  | .hbm, ⟨5, _⟩ => ⟨S4096x1024, .f32⟩
  | .hbm, ⟨6, _⟩ => ⟨S_, .f32⟩
  | .hbm, ⟨7, _⟩ => ⟨S4096, .f32⟩
  | .hbm, ⟨8, _⟩ => ⟨S4096x1, .f32⟩
  | .hbm, ⟨9, _⟩ => ⟨S_, .f32⟩
  | .hbm, ⟨10, _⟩ => ⟨S4096x1, .f32⟩
  | .hbm, ⟨11, _⟩ => ⟨S4096x1, .f32⟩
  | .hbm, ⟨12, _⟩ => ⟨S_, .f32⟩
  | .hbm, ⟨13, _⟩ => ⟨S4096x1, .f32⟩
  | .hbm, ⟨14, _⟩ => ⟨S4096x1, .f32⟩
  | .hbm, ⟨15, _⟩ => ⟨S4096x1, .f32⟩
  | .hbm, ⟨16, _⟩ => ⟨S4096x1, .f32⟩
  | .hbm, ⟨17, _⟩ => ⟨S_, .f32⟩
  | .hbm, ⟨18, _⟩ => ⟨S4096x1, .f32⟩
  | .hbm, ⟨19, _⟩ => ⟨S4096x1, .f32⟩
  | .hbm, ⟨20, _⟩ => ⟨S4096x1024, .f32⟩
  | .hbm, ⟨21, _⟩ => ⟨S4096x1024, .f32⟩
  | .hbm, ⟨22, _⟩ => ⟨S1x1024, .f32⟩
  | .hbm, ⟨23, _⟩ => ⟨S4096x1024, .f32⟩
  | .hbm, ⟨24, _⟩ => ⟨S4096x1024, .f32⟩
  | .hbm, ⟨25, _⟩ => ⟨S4096x5632, .f32⟩
  | .hbm, ⟨26, _⟩ => ⟨S4096x1024, .f32⟩
  | .hbm, ⟨27, _⟩ => ⟨S4096x1024, .f32⟩
  | .hbm, ⟨28, _⟩ => ⟨S_, .f32⟩
  | .hbm, ⟨29, _⟩ => ⟨S1024, .f32⟩
  | .hbm, ⟨30, _⟩ => ⟨S1x1024, .f32⟩
  | .hbm, ⟨31, _⟩ => ⟨S4096x1024, .f32⟩
  | .hbm, ⟨32, _⟩ => ⟨S4096x1024, .f32⟩
  | .hbm, ⟨33, _⟩ => ⟨S_, .f32⟩
  | .hbm, ⟨34, _⟩ => ⟨S1024, .f32⟩
  | .hbm, ⟨35, _⟩ => ⟨S4096x1024, .f32⟩
  | .hbm, ⟨36, _⟩ => ⟨S_, .f32⟩
  | .hbm, ⟨37, _⟩ => ⟨S4096, .f32⟩
  | .hbm, ⟨38, _⟩ => ⟨S4096x1, .f32⟩
  | .hbm, ⟨39, _⟩ => ⟨S4096x1024, .f32⟩
  | .hbm, ⟨40, _⟩ => ⟨S4096x1024, .f32⟩
  | .hbm, ⟨41, _⟩ => ⟨S4096x1024, .f32⟩
  | .hbm, ⟨42, _⟩ => ⟨S4096x1, .f32⟩
  | .hbm, ⟨43, _⟩ => ⟨S_, .f32⟩
  | .hbm, ⟨44, _⟩ => ⟨S4096x1, .f32⟩
  | .hbm, ⟨45, _⟩ => ⟨S4096x1, .f32⟩
  | .hbm, ⟨46, _⟩ => ⟨S_, .f32⟩
  | .hbm, ⟨47, _⟩ => ⟨S4096, .f32⟩
  | .hbm, ⟨48, _⟩ => ⟨S4096x1024, .f32⟩
  | .hbm, ⟨49, _⟩ => ⟨S4096x1024, .f32⟩
  | .hbm, ⟨50, _⟩ => ⟨S4096x1024, .f32⟩
  | .hbm, ⟨51, _⟩ => ⟨S4096x1024, .f32⟩
  | .hbm, ⟨52, _⟩ => ⟨S4096x1024, .f32⟩
  | .hbm, ⟨53, _⟩ => ⟨S1x1024, .f32⟩
  | _, _ => ⟨S4096x5632, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_cst_3 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_cst_4 : Ref sig .tc := ⟨.hbm, 33, rfl⟩
abbrev main_v23 : Ref sig .tc := ⟨.hbm, 34, rfl⟩
abbrev main_v24 : Ref sig .tc := ⟨.hbm, 35, rfl⟩
abbrev main_cst_5 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_cst_6 : Ref sig .tc := ⟨.hbm, 43, rfl⟩
abbrev main_v31 : Ref sig .tc := ⟨.hbm, 44, rfl⟩
abbrev main_v32 : Ref sig .tc := ⟨.hbm, 45, rfl⟩
abbrev main_cst_7 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩

abbrev nD : Nat := 1
abbrev τ : Topo := Topo.v7x

variable {F : FTy → Type} [FloatOps F]
-- ==== KernelUpWg.lean ====
abbrev S4096x1024 : Shape := ⟨2, ![4096, 1024]⟩
abbrev S4096x5632 : Shape := ⟨2, ![4096, 5632]⟩
abbrev S4096x8x704 : Shape := ⟨3, ![4096, 8, 704]⟩
abbrev S8x4096x704 : Shape := ⟨3, ![8, 4096, 704]⟩
abbrev S8x1024x704 : Shape := ⟨3, ![8, 1024, 704]⟩
abbrev S1024x1024 : Shape := ⟨2, ![1024, 1024]⟩
abbrev S1x1024x704 : Shape := ⟨3, ![1, 1024, 704]⟩
abbrev S1024x704 : Shape := ⟨2, ![1024, 704]⟩

abbrev nBuf : Space → Nat
  | .hbm => 7
  | .vmem => 7
  | .smem => 0
  | _ => 0

abbrev bufTy : (tb : Table) → Fin (tcTables nBuf tb) → BufTy
  | .hbm, ⟨0, _⟩ => ⟨S4096x1024, .f32⟩
  | .hbm, ⟨1, _⟩ => ⟨S4096x5632, .f32⟩
  | .hbm, ⟨2, _⟩ => ⟨S4096x1024, .bf16⟩
  | .hbm, ⟨3, _⟩ => ⟨S4096x8x704, .f32⟩
  | .hbm, ⟨4, _⟩ => ⟨S8x4096x704, .f32⟩
  | .hbm, ⟨5, _⟩ => ⟨S8x4096x704, .bf16⟩
  | .hbm, ⟨6, _⟩ => ⟨S8x1024x704, .bf16⟩
  | .local _ .vmem, ⟨0, _⟩ => ⟨S1024x1024, .bf16⟩
  | .local _ .vmem, ⟨1, _⟩ => ⟨S1024x1024, .bf16⟩
  | .local _ .vmem, ⟨2, _⟩ => ⟨S1x1024x704, .bf16⟩
  | .local _ .vmem, ⟨3, _⟩ => ⟨S1x1024x704, .bf16⟩
  | .local _ .vmem, ⟨4, _⟩ => ⟨S1x1024x704, .bf16⟩
  | .local _ .vmem, ⟨5, _⟩ => ⟨S1x1024x704, .bf16⟩
  | .local _ .vmem, ⟨6, _⟩ => ⟨S1024x704, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 1, 4], ![false, false, false]⟩

def k0_cond2 (i : grid0.Coords) : BitVec 1 :=
  let arg2 : BitVec 32 := BitVec.ofNat 32 (i 2).val
  let c3_i32 : BitVec 32 := 3#32
  let v13 : BitVec 1 := Scalar.cmpi .eq arg2 c3_i32
  let v14 : BitVec 32 := Scalar.extui v13
  let c0_i32_9 : BitVec 32 := 0#32
  let v15 : BitVec 1 := Scalar.cmpi .ne v14 c0_i32_9
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, false, true]

abbrev stage0_1 : Fin 2 → Memref sig .tc .vmem S1x1024x704 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1x1024x704 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false]
-- ==== ReferenceUpWgIdeal.lean ====
abbrev S4096x1024 : Shape := ⟨2, ![4096, 1024]⟩
abbrev S4096x5632 : Shape := ⟨2, ![4096, 5632]⟩
abbrev S_ : Shape := ⟨0, ![]⟩
abbrev S1024x5632 : Shape := ⟨2, ![1024, 5632]⟩
abbrev S5632x1024 : Shape := ⟨2, ![5632, 1024]⟩
abbrev S1024x8x704 : Shape := ⟨3, ![1024, 8, 704]⟩
abbrev S8x1024x704 : Shape := ⟨3, ![8, 1024, 704]⟩

abbrev nBuf : Space → Nat
  | .hbm => 10
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x5632, .f32⟩
  | .hbm, ⟨2, _⟩ => ⟨S_, .f32⟩
  | .hbm, ⟨3, _⟩ => ⟨S1024x5632, .f32⟩
  | .hbm, ⟨4, _⟩ => ⟨S4096x5632, .f32⟩
  | .hbm, ⟨5, _⟩ => ⟨S5632x1024, .f32⟩
  | .hbm, ⟨6, _⟩ => ⟨S1024x5632, .f32⟩
  | .hbm, ⟨7, _⟩ => ⟨S1024x8x704, .f32⟩
  | .hbm, ⟨8, _⟩ => ⟨S8x1024x704, .f32⟩
  | .hbm, ⟨9, _⟩ => ⟨S8x1024x704, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== KernelDownDg.lean ====
abbrev S4096x1024 : Shape := ⟨2, ![4096, 1024]⟩
abbrev S2816x1024 : Shape := ⟨2, ![2816, 1024]⟩
abbrev S4x4096x704 : Shape := ⟨3, ![4, 4096, 704]⟩
abbrev S1024x1024 : Shape := ⟨2, ![1024, 1024]⟩
abbrev S704x1024 : Shape := ⟨2, ![704, 1024]⟩
abbrev S1x1024x704 : Shape := ⟨3, ![1, 1024, 704]⟩
abbrev S1024x704 : Shape := ⟨2, ![1024, 704]⟩

abbrev nBuf : Space → Nat
  | .hbm => 4
  | .vmem => 7
  | .smem => 0
  | _ => 0

abbrev bufTy : (tb : Table) → Fin (tcTables nBuf tb) → BufTy
  | .hbm, ⟨0, _⟩ => ⟨S4096x1024, .f32⟩
  | .hbm, ⟨1, _⟩ => ⟨S2816x1024, .f32⟩
  | .hbm, ⟨2, _⟩ => ⟨S2816x1024, .bf16⟩
  | .hbm, ⟨3, _⟩ => ⟨S4x4096x704, .bf16⟩
  | .local _ .vmem, ⟨0, _⟩ => ⟨S1024x1024, .f32⟩
  | .local _ .vmem, ⟨1, _⟩ => ⟨S1024x1024, .f32⟩
  | .local _ .vmem, ⟨2, _⟩ => ⟨S704x1024, .bf16⟩
  | .local _ .vmem, ⟨3, _⟩ => ⟨S704x1024, .bf16⟩
  | .local _ .vmem, ⟨4, _⟩ => ⟨S1x1024x704, .bf16⟩
  | .local _ .vmem, ⟨5, _⟩ => ⟨S1x1024x704, .bf16⟩
  | .local _ .vmem, ⟨6, _⟩ => ⟨S1024x704, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 4, 1], ![false, false, false]⟩

def k0_cond2 (i : grid0.Coords) : BitVec 1 :=
  let arg2 : BitVec 32 := BitVec.ofNat 32 (i 2).val
  let c0_i32_8 : BitVec 32 := 0#32
  let v13 : BitVec 1 := Scalar.cmpi .eq arg2 c0_i32_8
  let v14 : BitVec 32 := Scalar.extui v13
  let c0_i32_9 : BitVec 32 := 0#32
  let v15 : BitVec 1 := Scalar.cmpi .ne v14 c0_i32_9
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, c0_i32.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, false]

abbrev stage0_1 : Fin 2 → Memref sig .tc .vmem S704x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, false]

abbrev stage0_2 : Fin 2 → Memref sig .tc .vmem S1x1024x704 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ReferenceDownDgIdeal.lean ====
abbrev S4096x1024 : Shape := ⟨2, ![4096, 1024]⟩
abbrev S2816x1024 : Shape := ⟨2, ![2816, 1024]⟩
abbrev S_ : Shape := ⟨0, ![]⟩
abbrev S4096x2816 : Shape := ⟨2, ![4096, 2816]⟩
abbrev S4096x4x704 : Shape := ⟨3, ![4096, 4, 704]⟩
abbrev S4x4096x704 : Shape := ⟨3, ![4, 4096, 704]⟩

abbrev nBuf : Space → Nat
  | .hbm => 9
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S2816x1024, .f32⟩
  | .hbm, ⟨2, _⟩ => ⟨S_, .f32⟩
  | .hbm, ⟨3, _⟩ => ⟨S4096x2816, .f32⟩
  | .hbm, ⟨4, _⟩ => ⟨S4096x1024, .f32⟩
  | .hbm, ⟨5, _⟩ => ⟨S4096x2816, .f32⟩
  | .hbm, ⟨6, _⟩ => ⟨S4096x4x704, .f32⟩
  | .hbm, ⟨7, _⟩ => ⟨S4x4096x704, .f32⟩
  | .hbm, ⟨8, _⟩ => ⟨S4x4096x704, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== KernelDownWg.lean ====
abbrev S4096x2816 : Shape := ⟨2, ![4096, 2816]⟩
abbrev S4096x1024 : Shape := ⟨2, ![4096, 1024]⟩
abbrev S4096x4x704 : Shape := ⟨3, ![4096, 4, 704]⟩
abbrev S4x4096x704 : Shape := ⟨3, ![4, 4096, 704]⟩
abbrev S2816x1024 : Shape := ⟨2, ![2816, 1024]⟩
abbrev S1x1024x704 : Shape := ⟨3, ![1, 1024, 704]⟩
abbrev S1024x1024 : Shape := ⟨2, ![1024, 1024]⟩
abbrev S704x1024 : Shape := ⟨2, ![704, 1024]⟩
abbrev S1024x704 : Shape := ⟨2, ![1024, 704]⟩

abbrev nBuf : Space → Nat
  | .hbm => 6
  | .vmem => 7
  | .smem => 0
  | _ => 0

abbrev bufTy : (tb : Table) → Fin (tcTables nBuf tb) → BufTy
  | .hbm, ⟨0, _⟩ => ⟨S4096x2816, .f32⟩
  | .hbm, ⟨1, _⟩ => ⟨S4096x1024, .f32⟩
  | .hbm, ⟨2, _⟩ => ⟨S4096x4x704, .f32⟩
  | .hbm, ⟨3, _⟩ => ⟨S4x4096x704, .f32⟩
  | .hbm, ⟨4, _⟩ => ⟨S4x4096x704, .bf16⟩
  | .hbm, ⟨5, _⟩ => ⟨S2816x1024, .bf16⟩
  | .local _ .vmem, ⟨0, _⟩ => ⟨S1x1024x704, .bf16⟩
  | .local _ .vmem, ⟨1, _⟩ => ⟨S1x1024x704, .bf16⟩
  | .local _ .vmem, ⟨2, _⟩ => ⟨S1024x1024, .f32⟩
  | .local _ .vmem, ⟨3, _⟩ => ⟨S1024x1024, .f32⟩
  | .local _ .vmem, ⟨4, _⟩ => ⟨S704x1024, .bf16⟩
  | .local _ .vmem, ⟨5, _⟩ => ⟨S704x1024, .bf16⟩
  | .local _ .vmem, ⟨6, _⟩ => ⟨S704x1024, .f32⟩
  | _, _ => ⟨S4096x2816, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 1, 4], ![false, false, false]⟩

def k0_cond2 (i : grid0.Coords) : BitVec 1 :=
  let arg2 : BitVec 32 := BitVec.ofNat 32 (i 2).val
  let c3_i32 : BitVec 32 := 3#32
  let v13 : BitVec 1 := Scalar.cmpi .eq arg2 c3_i32
  let v14 : BitVec 32 := Scalar.extui v13
  let c0_i32_9 : BitVec 32 := 0#32
  let v15 : BitVec 1 := Scalar.cmpi .ne v14 c0_i32_9
  v15

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, c0_i32.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

abbrev stage0_0 : Fin 2 → Memref sig .tc .vmem S1x1024x704 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, false, true]

abbrev stage0_2 : Fin 2 → Memref sig .tc .vmem S704x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false]
-- ==== ReferenceDownWgIdeal.lean ====
abbrev S4096x2816 : Shape := ⟨2, ![4096, 2816]⟩
abbrev S4096x1024 : Shape := ⟨2, ![4096, 1024]⟩
abbrev S_ : Shape := ⟨0, ![]⟩
abbrev S2816x1024 : Shape := ⟨2, ![2816, 1024]⟩
abbrev S1024x2816 : Shape := ⟨2, ![1024, 2816]⟩

abbrev nBuf : Space → Nat
  | .hbm => 8
  | .vmem => 0
  | .smem => 0
  | _ => 0

abbrev bufTy : (tb : Table) → Fin (tcTables nBuf tb) → BufTy
  | .hbm, ⟨0, _⟩ => ⟨S4096x2816, .f32⟩
  | .hbm, ⟨1, _⟩ => ⟨S4096x1024, .f32⟩
  | .hbm, ⟨2, _⟩ => ⟨S_, .f32⟩
  | .hbm, ⟨3, _⟩ => ⟨S2816x1024, .f32⟩
  | .hbm, ⟨4, _⟩ => ⟨S4096x1024, .f32⟩
  | .hbm, ⟨5, _⟩ => ⟨S1024x2816, .f32⟩
  | .hbm, ⟨6, _⟩ => ⟨S2816x1024, .f32⟩
  | .hbm, ⟨7, _⟩ => ⟨S2816x1024, .bf16⟩
  | _, _ => ⟨S4096x2816, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== KernelDownFwd.lean ====
abbrev S4096x2816 : Shape := ⟨2, ![4096, 2816]⟩
abbrev S2816x1024 : Shape := ⟨2, ![2816, 1024]⟩
abbrev S4096x1024 : Shape := ⟨2, ![4096, 1024]⟩
abbrev S4096x4x704 : Shape := ⟨3, ![4096, 4, 704]⟩
abbrev S4x4096x704 : Shape := ⟨3, ![4, 4096, 704]⟩
abbrev S1x1024x704 : Shape := ⟨3, ![1, 1024, 704]⟩
abbrev S704x1024 : Shape := ⟨2, ![704, 1024]⟩
abbrev S1024x1024 : Shape := ⟨2, ![1024, 1024]⟩
abbrev S1024x704 : Shape := ⟨2, ![1024, 704]⟩

abbrev nBuf : Space → Nat
  | .hbm => 8
  | .vmem => 9
  | .smem => 0
  | _ => 0

abbrev bufTy : (tb : Table) → Fin (tcTables nBuf tb) → BufTy
  | .hbm, ⟨0, _⟩ => ⟨S4096x2816, .f32⟩
  | .hbm, ⟨1, _⟩ => ⟨S2816x1024, .f32⟩
  | .hbm, ⟨2, _⟩ => ⟨S4096x1024, .f32⟩
  | .hbm, ⟨3, _⟩ => ⟨S4096x4x704, .f32⟩
  | .hbm, ⟨4, _⟩ => ⟨S4x4096x704, .f32⟩
  | .hbm, ⟨5, _⟩ => ⟨S4x4096x704, .bf16⟩
  | .hbm, ⟨6, _⟩ => ⟨S2816x1024, .bf16⟩
  | .hbm, ⟨7, _⟩ => ⟨S4096x1024, .f32⟩
  | .local _ .vmem, ⟨0, _⟩ => ⟨S1x1024x704, .bf16⟩
  | .local _ .vmem, ⟨1, _⟩ => ⟨S1x1024x704, .bf16⟩
  | .local _ .vmem, ⟨2, _⟩ => ⟨S704x1024, .bf16⟩
  | .local _ .vmem, ⟨3, _⟩ => ⟨S704x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .f32⟩
  | .local _ .vmem, ⟨8, _⟩ => ⟨S1024x1024, .f32⟩
  | _, _ => ⟨S4096x2816, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![4, 1, 4], ![false, false, false]⟩

def k0_cond2 (i : grid0.Coords) : BitVec 1 :=
  let arg2 : BitVec 32 := BitVec.ofNat 32 (i 2).val
  let c3_i32 : BitVec 32 := 3#32
  let v13 : BitVec 1 := Scalar.cmpi .eq arg2 c3_i32
  let v14 : BitVec 32 := Scalar.extui v13
  let c0_i32_9 : BitVec 32 := 0#32
  let v15 : BitVec 1 := Scalar.cmpi .ne v14 c0_i32_9
  v15

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, arg0.toNat, c0_i32.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, c0_i32.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

abbrev stage0_0 : Fin 2 → Memref sig .tc .vmem S1x1024x704 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S704x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, false, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false, false]
-- ==== ReferenceDownFwdIdeal.lean ====
abbrev S4096x2816 : Shape := ⟨2, ![4096, 2816]⟩
abbrev S2816x1024 : Shape := ⟨2, ![2816, 1024]⟩
abbrev S4096x1024 : Shape := ⟨2, ![4096, 1024]⟩

abbrev nBuf : Space → Nat
  | .hbm => 5
  | .vmem => 0
  | .smem => 0
  | _ => 0

abbrev bufTy : (tb : Table) → Fin (tcTables nBuf tb) → BufTy
  | .hbm, ⟨0, _⟩ => ⟨S4096x2816, .f32⟩
  | .hbm, ⟨1, _⟩ => ⟨S2816x1024, .f32⟩
  | .hbm, ⟨2, _⟩ => ⟨S4096x1024, .f32⟩
  | .hbm, ⟨3, _⟩ => ⟨S4096x1024, .f32⟩
  | .hbm, ⟨4, _⟩ => ⟨S4096x1024, .f32⟩
  | _, _ => ⟨S4096x2816, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩

abbrev nD : Nat := 1
abbrev τ : Topo := Topo.v7x

variable {F : FTy → Type} [FloatOps F]
-- ==== KernelInDg.lean ====
abbrev S4096x3072 : Shape := ⟨2, ![4096, 3072]⟩
abbrev S1024x3072 : Shape := ⟨2, ![1024, 3072]⟩
abbrev S4096x1024 : Shape := ⟨2, ![4096, 1024]⟩
abbrev S1024 : Shape := ⟨1, ![1024]⟩
abbrev S1x1024 : Shape := ⟨2, ![1, 1024]⟩
abbrev S1024x1024 : Shape := ⟨2, ![1024, 1024]⟩
abbrev S1024x1 : Shape := ⟨2, ![1024, 1]⟩

abbrev nBuf : Space → Nat
  | .hbm => 9
  | .vmem => 13
  | .smem => 0
  | _ => 0

abbrev bufTy : (tb : Table) → Fin (tcTables nBuf tb) → BufTy
  | .hbm, ⟨0, _⟩ => ⟨S4096x3072, .f32⟩
  | .hbm, ⟨1, _⟩ => ⟨S1024x3072, .f32⟩
  | .hbm, ⟨2, _⟩ => ⟨S4096x1024, .f32⟩
  | .hbm, ⟨3, _⟩ => ⟨S1024, .f32⟩
  | .hbm, ⟨4, _⟩ => ⟨S4096x1024, .f32⟩
  | .hbm, ⟨5, _⟩ => ⟨S1024x3072, .bf16⟩
  | .hbm, ⟨6, _⟩ => ⟨S1x1024, .f32⟩
  | .hbm, ⟨7, _⟩ => ⟨S4096x1024, .f32⟩
  | .hbm, ⟨8, _⟩ => ⟨S1x1024, .f32⟩
  | .local _ .vmem, ⟨0, _⟩ => ⟨S1024x1024, .f32⟩
  | .local _ .vmem, ⟨1, _⟩ => ⟨S1024x1024, .f32⟩
  | .local _ .vmem, ⟨2, _⟩ => ⟨S1024x1024, .bf16⟩
  | .local _ .vmem, ⟨3, _⟩ => ⟨S1024x1024, .bf16⟩
  | .local _ .vmem, ⟨4, _⟩ => ⟨S1024x1024, .f32⟩
  | .local _ .vmem, ⟨5, _⟩ => ⟨S1024x1024, .f32⟩
  | .local _ .vmem, ⟨6, _⟩ => ⟨S1x1024, .f32⟩
  | .local _ .vmem, ⟨7, _⟩ => ⟨S1024x1024, .f32⟩
  | .local _ .vmem, ⟨8, _⟩ => ⟨S1024x1024, .f32⟩
  | .local _ .vmem, ⟨9, _⟩ => ⟨S1024x1024, .f32⟩
  | .local _ .vmem, ⟨10, _⟩ => ⟨S1024x1024, .f32⟩
  | .local _ .vmem, ⟨11, _⟩ => ⟨S1x1024, .f32⟩
  | .local _ .vmem, ⟨12, _⟩ => ⟨S1024x1024, .f32⟩
  | _, _ => ⟨S4096x3072, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2_0 : Ref sig .tc := ⟨.hbm, 7, rfl⟩
abbrev main_v2_1 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11

abbrev nD : Nat := 1
abbrev τ : Topo := Topo.v7x

variable {F : FTy → Type} [FloatOps F]

abbrev grid0 : Pipeline.Grid := ⟨3, ![4, 1, 3], ![false, false, false]⟩

def k0_cond3 (i : grid0.Coords) : BitVec 1 :=
  let arg2 : BitVec 32 := BitVec.ofNat 32 (i 2).val
  let c2_i32 : BitVec 32 := 2#32
  let v18 : BitVec 1 := Scalar.cmpi .eq arg2 c2_i32
  let v19 : BitVec 32 := Scalar.extui v18
  let c0_i32_11 : BitVec 32 := 0#32
  let v20 : BitVec 1 := Scalar.cmpi .ne v19 c0_i32_11
  v20

def k0_cond2 (i : grid0.Coords) : BitVec 1 :=
  let arg0 : BitVec 32 := BitVec.ofNat 32 (i 0).val
  let c0_i32_1 : BitVec 32 := 0#32
  let v3 : BitVec 1 := Scalar.cmpi .eq arg0 c0_i32_1
  let arg2 : BitVec 32 := BitVec.ofNat 32 (i 2).val
  let c0_i32_2 : BitVec 32 := 0#32
  let v4 : BitVec 1 := Scalar.cmpi .eq arg2 c0_i32_2
  let v5 : BitVec 1 := Scalar.andi v3 v4
  let v6 : BitVec 32 := Scalar.extui v5
  let c0_i32_3 : BitVec 32 := 0#32
  let v7 : BitVec 1 := Scalar.cmpi .ne v6 c0_i32_3
  v7

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, false, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false, false]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false, false]

abbrev stage0_5 : Fin 2 → Memref sig .tc .vmem S1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false, false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false, false]
-- ==== ReferenceInDgIdeal.lean ====
abbrev S4096x3072 : Shape := ⟨2, ![4096, 3072]⟩
abbrev S1024x3072 : Shape := ⟨2, ![1024, 3072]⟩
abbrev S4096x1024 : Shape := ⟨2, ![4096, 1024]⟩
abbrev S1024 : Shape := ⟨1, ![1024]⟩
abbrev S_ : Shape := ⟨0, ![]⟩
abbrev S4096 : Shape := ⟨1, ![4096]⟩
abbrev S4096x1 : Shape := ⟨2, ![4096, 1]⟩
abbrev S1x1024 : Shape := ⟨2, ![1, 1024]⟩

abbrev nBuf : Space → Nat
  | .hbm => 54
  | .vmem => 0
  | .smem => 0
  | _ => 0

abbrev bufTy : (tb : Table) → Fin (tcTables nBuf tb) → BufTy
  | .hbm, ⟨0, _⟩ => ⟨S4096x3072, .f32⟩
  | .hbm, ⟨1, _⟩ => ⟨S1024x3072, .f32⟩
  | .hbm, ⟨2, _⟩ => ⟨S4096x1024, .f32⟩
  | .hbm, ⟨3, _⟩ => ⟨S1024, .f32⟩
  | .hbm, ⟨4, _⟩ => ⟨S4096x1024, .f32⟩
  | .hbm, ⟨5, _⟩ => ⟨S4096x1024, .f32⟩
  | .hbm, ⟨6, _⟩ => ⟨S_, .f32⟩
  | .hbm, ⟨7, _⟩ => ⟨S4096, .f32⟩
  | .hbm, ⟨8, _⟩ => ⟨S4096x1, .f32⟩
  | .hbm, ⟨9, _⟩ => ⟨S_, .f32⟩
  | .hbm, ⟨10, _⟩ => ⟨S4096x1, .f32⟩
  | .hbm, ⟨11, _⟩ => ⟨S4096x1, .f32⟩
  | .hbm, ⟨12, _⟩ => ⟨S_, .f32⟩
  | .hbm, ⟨13, _⟩ => ⟨S4096x1, .f32⟩
  | .hbm, ⟨14, _⟩ => ⟨S4096x1, .f32⟩
  | .hbm, ⟨15, _⟩ => ⟨S4096x1, .f32⟩
  | .hbm, ⟨16, _⟩ => ⟨S4096x1, .f32⟩
  | .hbm, ⟨17, _⟩ => ⟨S_, .f32⟩
  | .hbm, ⟨18, _⟩ => ⟨S4096x1, .f32⟩
  | .hbm, ⟨19, _⟩ => ⟨S4096x1, .f32⟩
  | .hbm, ⟨20, _⟩ => ⟨S4096x1024, .f32⟩
  | .hbm, ⟨21, _⟩ => ⟨S4096x1024, .f32⟩
  | .hbm, ⟨22, _⟩ => ⟨S1x1024, .f32⟩
  | .hbm, ⟨23, _⟩ => ⟨S4096x1024, .f32⟩
  | .hbm, ⟨24, _⟩ => ⟨S4096x1024, .f32⟩
  | .hbm, ⟨25, _⟩ => ⟨S4096x3072, .f32⟩
  | .hbm, ⟨26, _⟩ => ⟨S4096x1024, .f32⟩
  | .hbm, ⟨27, _⟩ => ⟨S4096x1024, .f32⟩
  | .hbm, ⟨28, _⟩ => ⟨S_, .f32⟩
  | .hbm, ⟨29, _⟩ => ⟨S1024, .f32⟩
  | .hbm, ⟨30, _⟩ => ⟨S1x1024, .f32⟩
  | .hbm, ⟨31, _⟩ => ⟨S4096x1024, .f32⟩
  | .hbm, ⟨32, _⟩ => ⟨S4096x1024, .f32⟩
  | .hbm, ⟨33, _⟩ => ⟨S_, .f32⟩
  | .hbm, ⟨34, _⟩ => ⟨S1024, .f32⟩
  | .hbm, ⟨35, _⟩ => ⟨S4096x1024, .f32⟩
  | .hbm, ⟨36, _⟩ => ⟨S_, .f32⟩
  | .hbm, ⟨37, _⟩ => ⟨S4096, .f32⟩
  | .hbm, ⟨38, _⟩ => ⟨S4096x1, .f32⟩
  | .hbm, ⟨39, _⟩ => ⟨S4096x1024, .f32⟩
  | .hbm, ⟨40, _⟩ => ⟨S4096x1024, .f32⟩
  | .hbm, ⟨41, _⟩ => ⟨S4096x1024, .f32⟩
  | .hbm, ⟨42, _⟩ => ⟨S4096x1, .f32⟩
  | .hbm, ⟨43, _⟩ => ⟨S_, .f32⟩
  | .hbm, ⟨44, _⟩ => ⟨S4096x1, .f32⟩
  | .hbm, ⟨45, _⟩ => ⟨S4096x1, .f32⟩
  | .hbm, ⟨46, _⟩ => ⟨S_, .f32⟩
  | .hbm, ⟨47, _⟩ => ⟨S4096, .f32⟩
  | .hbm, ⟨48, _⟩ => ⟨S4096x1024, .f32⟩
  | .hbm, ⟨49, _⟩ => ⟨S4096x1024, .f32⟩
  | .hbm, ⟨50, _⟩ => ⟨S4096x1024, .f32⟩
  | .hbm, ⟨51, _⟩ => ⟨S4096x1024, .f32⟩
  | .hbm, ⟨52, _⟩ => ⟨S4096x1024, .f32⟩
  | .hbm, ⟨53, _⟩ => ⟨S1x1024, .f32⟩
  | _, _ => ⟨S4096x3072, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_cst_3 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_cst_4 : Ref sig .tc := ⟨.hbm, 33, rfl⟩
abbrev main_v23 : Ref sig .tc := ⟨.hbm, 34, rfl⟩
abbrev main_v24 : Ref sig .tc := ⟨.hbm, 35, rfl⟩
abbrev main_cst_5 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_cst_6 : Ref sig .tc := ⟨.hbm, 43, rfl⟩
abbrev main_v31 : Ref sig .tc := ⟨.hbm, 44, rfl⟩
abbrev main_v32 : Ref sig .tc := ⟨.hbm, 45, rfl⟩
abbrev main_cst_7 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩

abbrev nD : Nat := 1
abbrev τ : Topo := Topo.v7x

variable {F : FTy → Type} [FloatOps F]
-- ==== KernelInWg.lean ====
abbrev S4096x1024 : Shape := ⟨2, ![4096, 1024]⟩
abbrev S4096x3072 : Shape := ⟨2, ![4096, 3072]⟩
abbrev S1024x3072 : Shape := ⟨2, ![1024, 3072]⟩
abbrev S1024x1024 : Shape := ⟨2, ![1024, 1024]⟩

abbrev nBuf : Space → Nat
  | .hbm => 4
  | .vmem => 7
  | .smem => 0
  | _ => 0

abbrev bufTy : (tb : Table) → Fin (tcTables nBuf tb) → BufTy
  | .hbm, ⟨0, _⟩ => ⟨S4096x1024, .f32⟩
  | .hbm, ⟨1, _⟩ => ⟨S4096x3072, .f32⟩
  | .hbm, ⟨2, _⟩ => ⟨S4096x1024, .bf16⟩
  | .hbm, ⟨3, _⟩ => ⟨S1024x3072, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .f32⟩
  | .local _ .vmem, ⟨3, _⟩ => ⟨S1024x1024, .f32⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 3, 4], ![false, false, false]⟩

def k0_cond2 (i : grid0.Coords) : BitVec 1 :=
  let arg2 : BitVec 32 := BitVec.ofNat 32 (i 2).val
  let c3_i32 : BitVec 32 := 3#32
  let v13 : BitVec 1 := Scalar.cmpi .eq arg2 c3_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ReferenceInWgIdeal.lean ====
abbrev S4096x1024 : Shape := ⟨2, ![4096, 1024]⟩
abbrev S4096x3072 : Shape := ⟨2, ![4096, 3072]⟩
abbrev S_ : Shape := ⟨0, ![]⟩
abbrev S1024x3072 : Shape := ⟨2, ![1024, 3072]⟩
abbrev S3072x1024 : Shape := ⟨2, ![3072, 1024]⟩

abbrev nBuf : Space → Nat
  | .hbm => 8
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x3072, .f32⟩
  | .hbm, ⟨2, _⟩ => ⟨S_, .f32⟩
  | .hbm, ⟨3, _⟩ => ⟨S1024x3072, .f32⟩
  | .hbm, ⟨4, _⟩ => ⟨S4096x3072, .f32⟩
  | .hbm, ⟨5, _⟩ => ⟨S3072x1024, .f32⟩
  | .hbm, ⟨6, _⟩ => ⟨S1024x3072, .f32⟩
  | .hbm, ⟨7, _⟩ => ⟨S1024x3072, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== KernelOutDg.lean ====
abbrev S4096x1024 : Shape := ⟨2, ![4096, 1024]⟩
abbrev S1536x1024 : Shape := ⟨2, ![1536, 1024]⟩
abbrev S4096x1536 : Shape := ⟨2, ![4096, 1536]⟩
abbrev S1024x1024 : Shape := ⟨2, ![1024, 1024]⟩
abbrev S768x1024 : Shape := ⟨2, ![768, 1024]⟩
abbrev S1024x768 : Shape := ⟨2, ![1024, 768]⟩

abbrev nBuf : Space → Nat
  | .hbm => 4
  | .vmem => 7
  | .smem => 0
  | _ => 0

abbrev bufTy : (tb : Table) → Fin (tcTables nBuf tb) → BufTy
  | .hbm, ⟨0, _⟩ => ⟨S4096x1024, .f32⟩
  | .hbm, ⟨1, _⟩ => ⟨S1536x1024, .f32⟩
  | .hbm, ⟨2, _⟩ => ⟨S1536x1024, .bf16⟩
  | .hbm, ⟨3, _⟩ => ⟨S4096x1536, .f32⟩
  | .local _ .vmem, ⟨0, _⟩ => ⟨S1024x1024, .f32⟩
  | .local _ .vmem, ⟨1, _⟩ => ⟨S1024x1024, .f32⟩
  | .local _ .vmem, ⟨2, _⟩ => ⟨S768x1024, .bf16⟩
  | .local _ .vmem, ⟨3, _⟩ => ⟨S768x1024, .bf16⟩
  | .local _ .vmem, ⟨4, _⟩ => ⟨S1024x768, .f32⟩
  | .local _ .vmem, ⟨5, _⟩ => ⟨S1024x768, .f32⟩
  | .local _ .vmem, ⟨6, _⟩ => ⟨S1024x768, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 1], ![false, false, false]⟩

def k0_cond2 (i : grid0.Coords) : BitVec 1 :=
  let arg2 : BitVec 32 := BitVec.ofNat 32 (i 2).val
  let c0_i32_8 : BitVec 32 := 0#32
  let v13 : BitVec 1 := Scalar.cmpi .eq arg2 c0_i32_8
  let v14 : BitVec 32 := Scalar.extui v13
  let c0_i32_9 : BitVec 32 := 0#32
  let v15 : BitVec 1 := Scalar.cmpi .ne v14 c0_i32_9
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S768x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ReferenceOutDgIdeal.lean ====
abbrev S4096x1024 : Shape := ⟨2, ![4096, 1024]⟩
abbrev S1536x1024 : Shape := ⟨2, ![1536, 1024]⟩
abbrev S_ : Shape := ⟨0, ![]⟩
abbrev S4096x1536 : Shape := ⟨2, ![4096, 1536]⟩

abbrev nBuf : Space → Nat
  | .hbm => 6
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1536x1024, .f32⟩
  | .hbm, ⟨2, _⟩ => ⟨S_, .f32⟩
  | .hbm, ⟨3, _⟩ => ⟨S4096x1536, .f32⟩
  | .hbm, ⟨4, _⟩ => ⟨S4096x1024, .f32⟩
  | .hbm, ⟨5, _⟩ => ⟨S4096x1536, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== KernelOutWg.lean ====
abbrev S4096x1536 : Shape := ⟨2, ![4096, 1536]⟩
abbrev S4096x1024 : Shape := ⟨2, ![4096, 1024]⟩
abbrev S1536x1024 : Shape := ⟨2, ![1536, 1024]⟩
abbrev S1024x768 : Shape := ⟨2, ![1024, 768]⟩
abbrev S1024x1024 : Shape := ⟨2, ![1024, 1024]⟩
abbrev S768x1024 : Shape := ⟨2, ![768, 1024]⟩

abbrev nBuf : Space → Nat
  | .hbm => 4
  | .vmem => 7
  | .smem => 0
  | _ => 0

abbrev bufTy : (tb : Table) → Fin (tcTables nBuf tb) → BufTy
  | .hbm, ⟨0, _⟩ => ⟨S4096x1536, .f32⟩
  | .hbm, ⟨1, _⟩ => ⟨S4096x1024, .f32⟩
  | .hbm, ⟨2, _⟩ => ⟨S4096x1536, .bf16⟩
  | .hbm, ⟨3, _⟩ => ⟨S1536x1024, .bf16⟩
  | .local _ .vmem, ⟨0, _⟩ => ⟨S1024x768, .bf16⟩
  | .local _ .vmem, ⟨1, _⟩ => ⟨S1024x768, .bf16⟩
  | .local _ .vmem, ⟨2, _⟩ => ⟨S1024x1024, .f32⟩
  | .local _ .vmem, ⟨3, _⟩ => ⟨S1024x1024, .f32⟩
  | .local _ .vmem, ⟨4, _⟩ => ⟨S768x1024, .bf16⟩
  | .local _ .vmem, ⟨5, _⟩ => ⟨S768x1024, .bf16⟩
  | .local _ .vmem, ⟨6, _⟩ => ⟨S768x1024, .f32⟩
  | _, _ => ⟨S4096x1536, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 4], ![false, false, false]⟩

def k0_cond2 (i : grid0.Coords) : BitVec 1 :=
  let arg2 : BitVec 32 := BitVec.ofNat 32 (i 2).val
  let c3_i32 : BitVec 32 := 3#32
  let v13 : BitVec 1 := Scalar.cmpi .eq arg2 c3_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x768 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S768x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ReferenceOutWgIdeal.lean ====
abbrev S4096x1536 : Shape := ⟨2, ![4096, 1536]⟩
abbrev S4096x1024 : Shape := ⟨2, ![4096, 1024]⟩
abbrev S_ : Shape := ⟨0, ![]⟩
abbrev S1536x1024 : Shape := ⟨2, ![1536, 1024]⟩
abbrev S1024x1536 : Shape := ⟨2, ![1024, 1536]⟩

abbrev nBuf : Space → Nat
  | .hbm => 8
  | .vmem => 0
  | .smem => 0
  | _ => 0

abbrev bufTy : (tb : Table) → Fin (tcTables nBuf tb) → BufTy
  | .hbm, ⟨0, _⟩ => ⟨S4096x1536, .f32⟩
  | .hbm, ⟨1, _⟩ => ⟨S4096x1024, .f32⟩
  | .hbm, ⟨2, _⟩ => ⟨S_, .f32⟩
  | .hbm, ⟨3, _⟩ => ⟨S1536x1024, .f32⟩
  | .hbm, ⟨4, _⟩ => ⟨S4096x1024, .f32⟩
  | .hbm, ⟨5, _⟩ => ⟨S1024x1536, .f32⟩
  | .hbm, ⟨6, _⟩ => ⟨S1536x1024, .f32⟩
  | .hbm, ⟨7, _⟩ => ⟨S1536x1024, .bf16⟩
  | _, _ => ⟨S4096x1536, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== KernelOutFwd.lean ====
abbrev S4096x1536 : Shape := ⟨2, ![4096, 1536]⟩
abbrev S1536x1024 : Shape := ⟨2, ![1536, 1024]⟩
abbrev S4096x1024 : Shape := ⟨2, ![4096, 1024]⟩
abbrev S1024x768 : Shape := ⟨2, ![1024, 768]⟩
abbrev S768x1024 : Shape := ⟨2, ![768, 1024]⟩
abbrev S1024x1024 : Shape := ⟨2, ![1024, 1024]⟩

abbrev nBuf : Space → Nat
  | .hbm => 6
  | .vmem => 9
  | .smem => 0
  | _ => 0

abbrev bufTy : (tb : Table) → Fin (tcTables nBuf tb) → BufTy
  | .hbm, ⟨0, _⟩ => ⟨S4096x1536, .f32⟩
  | .hbm, ⟨1, _⟩ => ⟨S1536x1024, .f32⟩
  | .hbm, ⟨2, _⟩ => ⟨S4096x1024, .f32⟩
  | .hbm, ⟨3, _⟩ => ⟨S4096x1536, .bf16⟩
  | .hbm, ⟨4, _⟩ => ⟨S1536x1024, .bf16⟩
  | .hbm, ⟨5, _⟩ => ⟨S4096x1024, .f32⟩
  | .local _ .vmem, ⟨0, _⟩ => ⟨S1024x768, .bf16⟩
  | .local _ .vmem, ⟨1, _⟩ => ⟨S1024x768, .bf16⟩
  | .local _ .vmem, ⟨2, _⟩ => ⟨S768x1024, .bf16⟩
  | .local _ .vmem, ⟨3, _⟩ => ⟨S768x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .f32⟩
  | .local _ .vmem, ⟨8, _⟩ => ⟨S1024x1024, .f32⟩
  | _, _ => ⟨S4096x1536, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![4, 1, 2], ![false, false, false]⟩

def k0_cond2 (i : grid0.Coords) : BitVec 1 :=
  let arg2 : BitVec 32 := BitVec.ofNat 32 (i 2).val
  let c1_i32 : BitVec 32 := 1#32
  let v13 : BitVec 1 := Scalar.cmpi .eq arg2 c1_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x768 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S768x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== ReferenceOutFwdIdeal.lean ====
abbrev S4096x1536 : Shape := ⟨2, ![4096, 1536]⟩
abbrev S1536x1024 : Shape := ⟨2, ![1536, 1024]⟩
abbrev S4096x1024 : Shape := ⟨2, ![4096, 1024]⟩

abbrev nBuf : Space → Nat
  | .hbm => 5
  | .vmem => 0
  | .smem => 0
  | _ => 0

abbrev bufTy : (tb : Table) → Fin (tcTables nBuf tb) → BufTy
  | .hbm, ⟨0, _⟩ => ⟨S4096x1536, .f32⟩
  | .hbm, ⟨1, _⟩ => ⟨S1536x1024, .f32⟩
  | .hbm, ⟨2, _⟩ => ⟨S4096x1024, .f32⟩
  | .hbm, ⟨3, _⟩ => ⟨S4096x1024, .f32⟩
  | .hbm, ⟨4, _⟩ => ⟨S4096x1024, .f32⟩
  | _, _ => ⟨S4096x1536, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩

abbrev nD : Nat := 1
abbrev τ : Topo := Topo.v7x

variable {F : FTy → Type} [FloatOps F]
-- ==== KernelGateDg.lean ====
abbrev S4096x1024 : Shape := ⟨2, ![4096, 1024]⟩
abbrev S1024x1024 : Shape := ⟨2, ![1024, 1024]⟩
abbrev S1024 : Shape := ⟨1, ![1024]⟩
abbrev S1x1024 : Shape := ⟨2, ![1, 1024]⟩
abbrev S1024x1 : Shape := ⟨2, ![1024, 1]⟩

abbrev nBuf : Space → Nat
  | .hbm => 10
  | .vmem => 12
  | .smem => 0
  | _ => 0

abbrev bufTy : (tb : Table) → Fin (tcTables nBuf tb) → BufTy
  | .hbm, ⟨0, _⟩ => ⟨S4096x1024, .f32⟩
  | .hbm, ⟨1, _⟩ => ⟨S1024x1024, .f32⟩
  | .hbm, ⟨2, _⟩ => ⟨S4096x1024, .f32⟩
  | .hbm, ⟨3, _⟩ => ⟨S1024, .f32⟩
  | .hbm, ⟨4, _⟩ => ⟨S4096x1024, .f32⟩
  | .hbm, ⟨5, _⟩ => ⟨S4096x1024, .bf16⟩
  | .hbm, ⟨6, _⟩ => ⟨S1024x1024, .bf16⟩
  | .hbm, ⟨7, _⟩ => ⟨S1x1024, .f32⟩
  | .hbm, ⟨8, _⟩ => ⟨S4096x1024, .f32⟩
  | .hbm, ⟨9, _⟩ => ⟨S1x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .f32⟩
  | .local _ .vmem, ⟨4, _⟩ => ⟨S1024x1024, .f32⟩
  | .local _ .vmem, ⟨5, _⟩ => ⟨S1x1024, .f32⟩
  | .local _ .vmem, ⟨6, _⟩ => ⟨S1024x1024, .f32⟩
  | .local _ .vmem, ⟨7, _⟩ => ⟨S1024x1024, .f32⟩
  | .local _ .vmem, ⟨8, _⟩ => ⟨S1024x1024, .f32⟩
  | .local _ .vmem, ⟨9, _⟩ => ⟨S1024x1024, .f32⟩
  | .local _ .vmem, ⟨10, _⟩ => ⟨S1x1024, .f32⟩
  | .local _ .vmem, ⟨11, _⟩ => ⟨S1024x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3_0 : Ref sig .tc := ⟨.hbm, 8, rfl⟩
abbrev main_v3_1 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_scratch0 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10

abbrev nD : Nat := 1
abbrev τ : Topo := Topo.v7x

variable {F : FTy → Type} [FloatOps F]

abbrev grid0 : Pipeline.Grid := ⟨3, ![4, 1, 1], ![false, false, false]⟩

def k0_cond3 (i : grid0.Coords) : BitVec 1 :=
  let arg2 : BitVec 32 := BitVec.ofNat 32 (i 2).val
  let c0_i32_11 : BitVec 32 := 0#32
  let v18 : BitVec 1 := Scalar.cmpi .eq arg2 c0_i32_11
  let v19 : BitVec 32 := Scalar.extui v18
  let c0_i32_12 : BitVec 32 := 0#32
  let v20 : BitVec 1 := Scalar.cmpi .ne v19 c0_i32_12
  v20

def k0_cond2 (i : grid0.Coords) : BitVec 1 :=
  let arg0 : BitVec 32 := BitVec.ofNat 32 (i 0).val
  let c0_i32_1 : BitVec 32 := 0#32
  let v3 : BitVec 1 := Scalar.cmpi .eq arg0 c0_i32_1
  let arg2 : BitVec 32 := BitVec.ofNat 32 (i 2).val
  let c0_i32_2 : BitVec 32 := 0#32
  let v4 : BitVec 1 := Scalar.cmpi .eq arg2 c0_i32_2
  let v5 : BitVec 1 := Scalar.andi v3 v4
  let v6 : BitVec 32 := Scalar.extui v5
  let c0_i32_3 : BitVec 32 := 0#32
  let v7 : BitVec 1 := Scalar.cmpi .ne v6 c0_i32_3
  v7

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, false]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false, false]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false, false]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false, false]

abbrev stage0_5 : Fin 2 → Memref sig .tc .vmem S1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false, false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false, false]
-- ==== ReferenceGateDgIdeal.lean ====
abbrev S4096x1024 : Shape := ⟨2, ![4096, 1024]⟩
abbrev S1024x1024 : Shape := ⟨2, ![1024, 1024]⟩
abbrev S1024 : Shape := ⟨1, ![1024]⟩
abbrev S_ : Shape := ⟨0, ![]⟩
abbrev S4096 : Shape := ⟨1, ![4096]⟩
abbrev S4096x1 : Shape := ⟨2, ![4096, 1]⟩
abbrev S1x1024 : Shape := ⟨2, ![1, 1024]⟩

abbrev nBuf : Space → Nat
  | .hbm => 54
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024x1024, .f32⟩
  | .hbm, ⟨2, _⟩ => ⟨S4096x1024, .f32⟩
  | .hbm, ⟨3, _⟩ => ⟨S1024, .f32⟩
  | .hbm, ⟨4, _⟩ => ⟨S4096x1024, .f32⟩
  | .hbm, ⟨5, _⟩ => ⟨S4096x1024, .f32⟩
  | .hbm, ⟨6, _⟩ => ⟨S_, .f32⟩
  | .hbm, ⟨7, _⟩ => ⟨S4096, .f32⟩
  | .hbm, ⟨8, _⟩ => ⟨S4096x1, .f32⟩
  | .hbm, ⟨9, _⟩ => ⟨S_, .f32⟩
  | .hbm, ⟨10, _⟩ => ⟨S4096x1, .f32⟩
  | .hbm, ⟨11, _⟩ => ⟨S4096x1, .f32⟩
  | .hbm, ⟨12, _⟩ => ⟨S_, .f32⟩
  | .hbm, ⟨13, _⟩ => ⟨S4096x1, .f32⟩
  | .hbm, ⟨14, _⟩ => ⟨S4096x1, .f32⟩
  | .hbm, ⟨15, _⟩ => ⟨S4096x1, .f32⟩
  | .hbm, ⟨16, _⟩ => ⟨S4096x1, .f32⟩
  | .hbm, ⟨17, _⟩ => ⟨S_, .f32⟩
  | .hbm, ⟨18, _⟩ => ⟨S4096x1, .f32⟩
  | .hbm, ⟨19, _⟩ => ⟨S4096x1, .f32⟩
  | .hbm, ⟨20, _⟩ => ⟨S4096x1024, .f32⟩
  | .hbm, ⟨21, _⟩ => ⟨S4096x1024, .f32⟩
  | .hbm, ⟨22, _⟩ => ⟨S1x1024, .f32⟩
  | .hbm, ⟨23, _⟩ => ⟨S4096x1024, .f32⟩
  | .hbm, ⟨24, _⟩ => ⟨S4096x1024, .f32⟩
  | .hbm, ⟨25, _⟩ => ⟨S4096x1024, .f32⟩
  | .hbm, ⟨26, _⟩ => ⟨S4096x1024, .f32⟩
  | .hbm, ⟨27, _⟩ => ⟨S4096x1024, .f32⟩
  | .hbm, ⟨28, _⟩ => ⟨S_, .f32⟩
  | .hbm, ⟨29, _⟩ => ⟨S1024, .f32⟩
  | .hbm, ⟨30, _⟩ => ⟨S1x1024, .f32⟩
  | .hbm, ⟨31, _⟩ => ⟨S4096x1024, .f32⟩
  | .hbm, ⟨32, _⟩ => ⟨S4096x1024, .f32⟩
  | .hbm, ⟨33, _⟩ => ⟨S_, .f32⟩
  | .hbm, ⟨34, _⟩ => ⟨S1024, .f32⟩
  | .hbm, ⟨35, _⟩ => ⟨S4096x1024, .f32⟩
  | .hbm, ⟨36, _⟩ => ⟨S_, .f32⟩
  | .hbm, ⟨37, _⟩ => ⟨S4096, .f32⟩
  | .hbm, ⟨38, _⟩ => ⟨S4096x1, .f32⟩
  | .hbm, ⟨39, _⟩ => ⟨S4096x1024, .f32⟩
  | .hbm, ⟨40, _⟩ => ⟨S4096x1024, .f32⟩
  | .hbm, ⟨41, _⟩ => ⟨S4096x1024, .f32⟩
  | .hbm, ⟨42, _⟩ => ⟨S4096x1, .f32⟩
  | .hbm, ⟨43, _⟩ => ⟨S_, .f32⟩
  | .hbm, ⟨44, _⟩ => ⟨S4096x1, .f32⟩
  | .hbm, ⟨45, _⟩ => ⟨S4096x1, .f32⟩
  | .hbm, ⟨46, _⟩ => ⟨S_, .f32⟩
  | .hbm, ⟨47, _⟩ => ⟨S4096, .f32⟩
  | .hbm, ⟨48, _⟩ => ⟨S4096x1024, .f32⟩
  | .hbm, ⟨49, _⟩ => ⟨S4096x1024, .f32⟩
  | .hbm, ⟨50, _⟩ => ⟨S4096x1024, .f32⟩
  | .hbm, ⟨51, _⟩ => ⟨S4096x1024, .f32⟩
  | .hbm, ⟨52, _⟩ => ⟨S4096x1024, .f32⟩
  | .hbm, ⟨53, _⟩ => ⟨S1x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_cst_3 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_cst_4 : Ref sig .tc := ⟨.hbm, 33, rfl⟩
abbrev main_v23 : Ref sig .tc := ⟨.hbm, 34, rfl⟩
abbrev main_v24 : Ref sig .tc := ⟨.hbm, 35, rfl⟩
abbrev main_cst_5 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_cst_6 : Ref sig .tc := ⟨.hbm, 43, rfl⟩
abbrev main_v31 : Ref sig .tc := ⟨.hbm, 44, rfl⟩
abbrev main_v32 : Ref sig .tc := ⟨.hbm, 45, rfl⟩
abbrev main_cst_7 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩

abbrev nD : Nat := 1
abbrev τ : Topo := Topo.v7x

variable {F : FTy → Type} [FloatOps F]
-- ==== KernelGateWg.lean ====
abbrev S4096x1024 : Shape := ⟨2, ![4096, 1024]⟩
abbrev S1024x1024 : Shape := ⟨2, ![1024, 1024]⟩

abbrev nBuf : Space → Nat
  | .hbm => 5
  | .vmem => 6
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S4096x1024, .bf16⟩
  | .hbm, ⟨3, _⟩ => ⟨S4096x1024, .bf16⟩
  | .hbm, ⟨4, _⟩ => ⟨S1024x1024, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | .local _ .vmem, ⟨5, _⟩ => ⟨S1024x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 4], ![false, false, false]⟩

def k0_cond2 (i : grid0.Coords) : BitVec 1 :=
  let arg2 : BitVec 32 := BitVec.ofNat 32 (i 2).val
  let c3_i32 : BitVec 32 := 3#32
  let v13 : BitVec 1 := Scalar.cmpi .eq arg2 c3_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== ReferenceGateWgIdeal.lean ====
abbrev S4096x1024 : Shape := ⟨2, ![4096, 1024]⟩
abbrev S_ : Shape := ⟨0, ![]⟩
abbrev S1024x1024 : Shape := ⟨2, ![1024, 1024]⟩

abbrev nBuf : Space → Nat
  | .hbm => 8
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S_, .f32⟩
  | .hbm, ⟨3, _⟩ => ⟨S1024x1024, .f32⟩
  | .hbm, ⟨4, _⟩ => ⟨S4096x1024, .f32⟩
  | .hbm, ⟨5, _⟩ => ⟨S1024x1024, .f32⟩
  | .hbm, ⟨6, _⟩ => ⟨S1024x1024, .f32⟩
  | .hbm, ⟨7, _⟩ => ⟨S1024x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Proof.Attn.Trip.lean ====
/-
  One trip of the backward kernel's loop over key blocks, run once at a symbolic trip: what the trip stores into the
  gradient blocks and the two accumulators, as lists of writes found by the run.
-/
module

public import proofs.«01_k».proof.Defs
public import proofs.«01_k».proof.Proof.Gen.KernelIdeal
public import proofs.«01_k».proof.Proof.Gen.KernelIdeal.Skeleton
public import proofs.«01_k».proof.Proof.Gen.KernelIdeal.Loops
public import Idealize.ShloMosaic.Lib.LoopRemainder
public import Idealize.ShloMosaic.Lib.VecWindow

@[expose] public section

set_option maxRecDepth 16384

noncomputable section

namespace Cert.Proof.KernelIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄" => MT nD τ sig Unit (Elt F) ℕ (UR sig nD τ) ℕ

/-- A program read with its binds to the right. -/
theorem wp_assoc {𝒱 : Variants} {c : Dev nD} {bd : Option 𝒱.V} {E : Set ℕ} {α β γ : Type}
    (p : Prog (TpuEff nD τ sig (Elt F) Λ₀ .tc) α) (f : α → Prog (TpuEff nD τ sig (Elt F) Λ₀ .tc) β)
    (g : β → Prog (TpuEff nD τ sig (Elt F) Λ₀ .tc) γ) {Q : γ → sProp 𝕄} :
    wp frame (wpE (defs₀ (F := F)) 𝒱 (c : Thread nD τ) bd) E (p >>= fun a => f a >>= g) Q
    ⊢ wp frame (wpE (defs₀ (F := F)) 𝒱 (c : Thread nD τ) bd) E (p >>= f >>= g) Q := by
  rw [Prog.bind_assoc]

/-- What a trip of the loop over key blocks touches: the blocks that it reads at `X·`, the blocks that it writes at `f·`. -/
abbrev Trip2 (c : Dev nD) (arg1 : Memref sig .tc .vmem S4096x128 .bf16) (arg2 : Memref sig .tc .vmem S4096x128 .bf16) (arg3 : Memref sig .tc .vmem S4096x128 .bf16) (arg5 : Memref sig .tc .vmem S1x8x4096 .f32) (arg6 : Memref sig .tc .vmem S4096x128 .bf16) (arg10 : Memref sig .tc .vmem S8x8x512 .f32) (arg7 : Memref sig .tc .vmem S4096x128 .f32) (arg8 : Memref sig .tc .vmem S4096x128 .f32) (arg9 : Memref sig .tc .vmem S4096x128 .f32) (arg11 : Memref sig .tc .vmem S512x128 .f32) (arg12 : Memref sig .tc .vmem S512x128 .f32) (X1 : BufTy.Contents (Elt F) arg1.view.ty) (X2 : BufTy.Contents (Elt F) arg2.view.ty) (X3 : BufTy.Contents (Elt F) arg3.view.ty) (X5 : BufTy.Contents (Elt F) arg5.view.ty) (X6 : BufTy.Contents (Elt F) arg6.view.ty) (X10 : BufTy.Contents (Elt F) arg10.view.ty) (f7 : BufTy.Contents (Elt F) arg7.view.ty) (f8 : BufTy.Contents (Elt F) arg8.view.ty) (f9 : BufTy.Contents (Elt F) arg9.view.ty) (f11 : BufTy.Contents (Elt F) arg11.view.ty) (f12 : BufTy.Contents (Elt F) arg12.view.ty) : sProp 𝕄 :=
  iprop((arg1.view.loc (c : Thread nD τ) ↦[arg1.view.set]{fullShare} X1) ∗ (arg2.view.loc (c : Thread nD τ) ↦[arg2.view.set]{fullShare} X2) ∗ (arg3.view.loc (c : Thread nD τ) ↦[arg3.view.set]{fullShare} X3) ∗ (arg5.view.loc (c : Thread nD τ) ↦[arg5.view.set]{fullShare} X5) ∗ (arg6.view.loc (c : Thread nD τ) ↦[arg6.view.set]{fullShare} X6) ∗ (arg10.view.loc (c : Thread nD τ) ↦[arg10.view.set]{fullShare} X10) ∗ (arg7.view.loc (c : Thread nD τ) ↦[arg7.view.set]{fullShare} f7) ∗ (arg8.view.loc (c : Thread nD τ) ↦[arg8.view.set]{fullShare} f8) ∗ (arg9.view.loc (c : Thread nD τ) ↦[arg9.view.set]{fullShare} f9) ∗ (arg11.view.loc (c : Thread nD τ) ↦[arg11.view.set]{fullShare} f11) ∗ (arg12.view.loc (c : Thread nD τ) ↦[arg12.view.set]{fullShare} f12))

/-- What a trip leaves: the same, the two accumulators at anything. -/
abbrev Trip2Post (c : Dev nD) (arg1 : Memref sig .tc .vmem S4096x128 .bf16) (arg2 : Memref sig .tc .vmem S4096x128 .bf16) (arg3 : Memref sig .tc .vmem S4096x128 .bf16) (arg5 : Memref sig .tc .vmem S1x8x4096 .f32) (arg6 : Memref sig .tc .vmem S4096x128 .bf16) (arg10 : Memref sig .tc .vmem S8x8x512 .f32) (arg7 : Memref sig .tc .vmem S4096x128 .f32) (arg8 : Memref sig .tc .vmem S4096x128 .f32) (arg9 : Memref sig .tc .vmem S4096x128 .f32) (arg11 : Memref sig .tc .vmem S512x128 .f32) (arg12 : Memref sig .tc .vmem S512x128 .f32) (X1 : BufTy.Contents (Elt F) arg1.view.ty) (X2 : BufTy.Contents (Elt F) arg2.view.ty) (X3 : BufTy.Contents (Elt F) arg3.view.ty) (X5 : BufTy.Contents (Elt F) arg5.view.ty) (X6 : BufTy.Contents (Elt F) arg6.view.ty) (X10 : BufTy.Contents (Elt F) arg10.view.ty) (f7 : BufTy.Contents (Elt F) arg7.view.ty) (f8 : BufTy.Contents (Elt F) arg8.view.ty) (f9 : BufTy.Contents (Elt F) arg9.view.ty) : sProp 𝕄 :=
  iprop((arg1.view.loc (c : Thread nD τ) ↦[arg1.view.set]{fullShare} X1) ∗ (arg2.view.loc (c : Thread nD τ) ↦[arg2.view.set]{fullShare} X2) ∗ (arg3.view.loc (c : Thread nD τ) ↦[arg3.view.set]{fullShare} X3) ∗ (arg5.view.loc (c : Thread nD τ) ↦[arg5.view.set]{fullShare} X5) ∗ (arg6.view.loc (c : Thread nD τ) ↦[arg6.view.set]{fullShare} X6) ∗ (arg10.view.loc (c : Thread nD τ) ↦[arg10.view.set]{fullShare} X10) ∗ (arg7.view.loc (c : Thread nD τ) ↦[arg7.view.set]{fullShare} f7) ∗ (arg8.view.loc (c : Thread nD τ) ↦[arg8.view.set]{fullShare} f8) ∗ (arg9.view.loc (c : Thread nD τ) ↦[arg9.view.set]{fullShare} f9) ∗ (∃ f, arg11.view.loc (c : Thread nD τ) ↦[arg11.view.set]{fullShare} f) ∗ (∃ f, arg12.view.loc (c : Thread nD τ) ↦[arg12.view.set]{fullShare} f))

/-- One trip of the loop over key blocks, at a symbolic trip: the pieces that it writes are functions of the contents that
    it finds. -/
@[irreducible] def trip2 (𝒱 : Variants) (c : Dev nD) (bd : Option 𝒱.V) (i : grid0.Coords) (arg1 : Memref sig .tc .vmem S4096x128 .bf16) (harg1 : arg1.IsWhole) (arg2 : Memref sig .tc .vmem S4096x128 .bf16) (harg2 : arg2.IsWhole) (arg3 : Memref sig .tc .vmem S4096x128 .bf16) (harg3 : arg3.IsWhole) (arg4 : Memref sig .tc .vmem S4096x128 .f32) (harg4 : arg4.IsWhole) (arg5 : Memref sig .tc .vmem S1x8x4096 .f32) (harg5 : arg5.IsWhole) (arg6 : Memref sig .tc .vmem S4096x128 .bf16) (harg6 : arg6.IsWhole) (arg7 : Memref sig .tc .vmem S4096x128 .f32) (harg7 : arg7.IsWhole) (arg8 : Memref sig .tc .vmem S4096x128 .f32) (harg8 : arg8.IsWhole) (arg9 : Memref sig .tc .vmem S4096x128 .f32) (harg9 : arg9.IsWhole) (arg10 : Memref sig .tc .vmem S8x8x512 .f32) (harg10 : arg10.IsWhole) (arg11 : Memref sig .tc .vmem S512x128 .f32) (harg11 : arg11.IsWhole) (arg12 : Memref sig .tc .vmem S512x128 .f32) (harg12 : arg12.IsWhole) (X1 : BufTy.Contents (Elt F) arg1.view.ty) (X2 : BufTy.Contents (Elt F) arg2.view.ty) (X3 : BufTy.Contents (Elt F) arg3.view.ty) (X5 : BufTy.Contents (Elt F) arg5.view.ty) (X6 : BufTy.Contents (Elt F) arg6.view.ty) (X10 : BufTy.Contents (Elt F) arg10.view.ty) (k : Fin k0_t2_loop.trips) :
    Σ' (L7 : (BufTy.Contents (Elt F) arg7.view.ty → BufTy.Contents (Elt F) arg8.view.ty → BufTy.Contents (Elt F) arg9.view.ty → BufTy.Contents (Elt F) arg11.view.ty → BufTy.Contents (Elt F) arg12.view.ty → List (View.Piece (Elt F) S4096x128 .f32))), Σ' (L8 : (BufTy.Contents (Elt F) arg7.view.ty → BufTy.Contents (Elt F) arg8.view.ty → BufTy.Contents (Elt F) arg9.view.ty → BufTy.Contents (Elt F) arg11.view.ty → BufTy.Contents (Elt F) arg12.view.ty → List (View.Piece (Elt F) S4096x128 .f32))), { L9 : (BufTy.Contents (Elt F) arg7.view.ty → BufTy.Contents (Elt F) arg8.view.ty → BufTy.Contents (Elt F) arg9.view.ty → BufTy.Contents (Elt F) arg11.view.ty → BufTy.Contents (Elt F) arg12.view.ty → List (View.Piece (Elt F) S4096x128 .f32)) // ∀ (E : Set ℕ) (f7 : BufTy.Contents (Elt F) arg7.view.ty) (f8 : BufTy.Contents (Elt F) arg8.view.ty) (f9 : BufTy.Contents (Elt F) arg9.view.ty) (f11 : BufTy.Contents (Elt F) arg11.view.ty) (f12 : BufTy.Contents (Elt F) arg12.view.ty),
      Trip2 (F := F) c arg1 arg2 arg3 arg5 arg6 arg10 arg7 arg8 arg9 arg11 arg12 X1 X2 X3 X5 X6 X10 f7 f8 f9 f11 f12
      ⊢ wp frame (wpE (defs₀ (F := F)) 𝒱 (c : Thread nD τ) bd) E (k0_t2_body (F := F) i arg1 harg1 arg2 harg2 arg3 harg3 arg4 harg4 arg5 harg5 arg6 harg6 arg7 harg7 arg8 harg8 arg9 harg9 arg10 harg10 arg11 harg11 arg12 harg12 k PUnit.unit)
          (fun _ => Trip2Post (F := F) c arg1 arg2 arg3 arg5 arg6 arg10 arg7 arg8 arg9 arg11 arg12 X1 X2 X3 X5 X6 X10 (arg7.view.writes (Elt F) f7 (L7 f7 f8 f9 f11 f12)) (arg8.view.writes (Elt F) f8 (L8 f7 f8 f9 f11 f12)) (arg9.view.writes (Elt F) f9 (L9 f7 f8 f9 f11 f12))) } := by
  have hk : k.val < 8 := Nat.lt_of_lt_of_le k.isLt k0_t2_abs.2.1
  refine ⟨?_, ?_, ?_, fun E f7 f8 f9 f11 f12 => ?run⟩
  case run =>
    unfold k0_t2_body
    iintro ⟨HR1, HR2, HR3, HR5, HR6, HR10, HW7, HW8, HW9, HW11, HW12⟩
    sl_open_parts
    sl_exec
    iapply (wp_assoc _ _ _)
    sl_exec
    iapply (wp_assoc _ _ _)
    sl_exec
    sl_step
    sl_close

end Cert.Proof.KernelIdeal

end
-- ==== Proof.Attn.Model.lean ====
/-
  What the attention's backward kernel computes of one head, as plain functions of the head's blocks: the row blocks of
  a [4096, 128] array, one visit of a pair of key block and query block, and the recursion over the visits.
-/
module

public import proofs.«01_k».proof.Defs
public import proofs.«01_k».proof.Proof.Gen.KernelIdeal
public import proofs.«01_k».proof.Proof.Gen.KernelIdeal.Skeleton
public import Idealize.ShloMosaic.Lib.VecWindow
public import Idealize.ShloMosaic.Lib.ValueIdxCore

@[expose] public section

set_option maxRecDepth 16384

noncomputable section

namespace Cert.Proof.KernelIdeal

open Cert.KernelIdeal Cert.KernelIdeal.Gen
open Idealize.ShloMosaic Idealize.ShloMosaic.ValueIdx

variable {F : FTy → Type}

/-- Row block `i` of a [4096, 128] array. -/
def blk {e : EltTy} (x : Vec F S4096x128 e) (i : ℕ) : Vec F S512x128 e :=
  fun y => x (ix2 (n0 := 4096) (n1 := 128) ⟨(512 * i + (y 0).val) % 4096, Nat.mod_lt _ (by decide)⟩ (y 1))

/-- The array `x` with `w` in place of its row block `i`. -/
def putBlk {e : EltTy} (x : Vec F S4096x128 e) (i : ℕ) (w : Vec F S512x128 e) : Vec F S4096x128 e :=
  fun y => if (y 0).val / 512 = i then w (ix2 (n0 := 512) (n1 := 128) ⟨(y 0).val % 512, Nat.mod_lt _ (by decide)⟩ (y 1)) else x y

/-- The row's log-sums of query block `i`, as the row that a visit reads. -/
def lseRow (x : Vec F S1x8x4096 .f32) (i : ℕ) : Vec F S1x1x512 .f32 :=
  fun y => x (ix3 (n0 := 1) (n1 := 8) (n2 := 4096) 0 0 ⟨(512 * i + (y 2).val) % 4096, Nat.mod_lt _ (by decide)⟩)

/-- The row products of query block `i`, as the row that a visit reads. -/
def delRow (x : Vec F S8x8x512 .f32) (i : ℕ) : Vec F S1x1x512 .f32 :=
  fun y => x (ix3 (n0 := 8) (n1 := 8) (n2 := 512) ⟨i % 8, Nat.mod_lt _ (by decide)⟩ 0 (y 2))

/-- A window of 512 rows is a row block. -/
theorem window_blk {e : EltTy} (x : Vec F S4096x128 e) (i : ℕ) (hi : i < 8)
    (inb : ∀ a, (![512 * i, 0] : Fin 2 → ℕ) a + S512x128.size a ≤ S4096x128.size a) :
    VecWindow.window (s := S4096x128) x ![512 * i, 0] S512x128.size inb = blk x i := by
  funext y
  refine congrArg x (funext fun a => Fin.ext ?_)
  have h0 : (y 0).val < 512 := (y 0).isLt
  match a with
  | ⟨0, _⟩ => show 512 * i + 1 * (y 0).val = (512 * i + (y 0).val) % 4096; omega
  | ⟨1, _⟩ => show 0 + 1 * (y 1).val = (y 1).val; omega

/-- A put of 512 rows replaces a row block. -/
theorem put_blk {e : EltTy} (x : Vec F S4096x128 e) (i : ℕ) (w : Vec F S512x128 e) :
    VecWindow.put (s := S4096x128) x ![512 * i, 0] S512x128.size w = putBlk x i w := by
  funext y
  have h1 : (y 1).val < 128 := (y 1).isLt
  have hiff : (∀ a, (![512 * i, 0] : Fin 2 → ℕ) a ≤ (y a).val ∧ (y a).val < (![512 * i, 0] : Fin 2 → ℕ) a + S512x128.size a)
      ↔ (y 0).val / 512 = i := by
    constructor
    · intro h
      have h0 := h 0
      have h0' : 512 * i ≤ (y 0).val ∧ (y 0).val < 512 * i + 512 := h0
      omega
    · intro h a
      match a with
      | ⟨0, _⟩ => show 512 * i ≤ (y 0).val ∧ (y 0).val < 512 * i + 512; omega
      | ⟨1, _⟩ => show 0 ≤ (y 1).val ∧ (y 1).val < 0 + 128; omega
  unfold VecWindow.put putBlk
  by_cases h : (y 0).val / 512 = i
  · rw [dif_pos (hiff.2 h), if_pos h]
    refine congrArg w (funext fun a => Fin.ext ?_)
    match a with
    | ⟨0, _⟩ => show (y 0).val - 512 * i = (y 0).val % 512; omega
    | ⟨1, _⟩ => show (y 1).val - 0 = (y 1).val; omega
  · rw [dif_neg (fun h' => h (hiff.1 h')), if_neg h]

/-- The window of the log-sums at a query block is its row. -/
theorem window_lse (x : Vec F S1x8x4096 .f32) (i : ℕ) (hi : i < 8)
    (inb : ∀ a, (![0, 0, 512 * i] : Fin 3 → ℕ) a + S1x1x512.size a ≤ S1x8x4096.size a) :
    VecWindow.window (s := S1x8x4096) x ![0, 0, 512 * i] S1x1x512.size inb = lseRow x i := by
  funext y
  refine congrArg x (funext fun a => Fin.ext ?_)
  have h0 : (y 0).val < 1 := (y 0).isLt
  have h1 : (y 1).val < 1 := (y 1).isLt
  have h2 : (y 2).val < 512 := (y 2).isLt
  match a with
  | ⟨0, _⟩ => show 0 + 1 * (y 0).val = 0; omega
  | ⟨1, _⟩ => show 0 + 1 * (y 1).val = 0; omega
  | ⟨2, _⟩ => show 512 * i + 1 * (y 2).val = (512 * i + (y 2).val) % 4096; omega

/-- The window of the row products at a query block is its row. -/
theorem window_del (x : Vec F S8x8x512 .f32) (i : ℕ) (hi : i < 8)
    (inb : ∀ a, (![i, 0, 0] : Fin 3 → ℕ) a + S1x1x512.size a ≤ S8x8x512.size a) :
    VecWindow.window (s := S8x8x512) x ![i, 0, 0] S1x1x512.size inb = delRow x i := by
  funext y
  refine congrArg x (funext fun a => Fin.ext ?_)
  have h0 : (y 0).val < 1 := (y 0).isLt
  have h1 : (y 1).val < 1 := (y 1).isLt
  match a with
  | ⟨0, _⟩ => show i + 1 * (y 0).val = i % 8; omega
  | ⟨1, _⟩ => show 0 + 1 * (y 1).val = 0; omega
  | ⟨2, _⟩ => show 0 + 1 * (y 2).val = (y 2).val; omega

/-- The row block just put. -/
theorem blk_putBlk_same {e : EltTy} (x : Vec F S4096x128 e) (i : ℕ) (hi : i < 8) (w : Vec F S512x128 e) : blk (putBlk x i w) i = w := by
  funext y
  have h0 : (y 0).val < 512 := (y 0).isLt
  unfold blk putBlk
  rw [if_pos (by show (512 * i + (y 0).val) % 4096 / 512 = i; omega)]
  refine congrArg w (funext fun a => Fin.ext ?_)
  match a with
  | ⟨0, _⟩ => show (512 * i + (y 0).val) % 4096 % 512 = (y 0).val; omega
  | ⟨1, _⟩ => rfl

/-- Another row block is as it was. -/
theorem blk_putBlk_ne {e : EltTy} (x : Vec F S4096x128 e) (i i' : ℕ) (hi : i < 8) (h : i' ≠ i) (hi' : i' < 8) (w : Vec F S512x128 e) :
    blk (putBlk x i w) i' = blk x i' := by
  funext y
  have h0 : (y 0).val < 512 := (y 0).isLt
  unfold blk putBlk
  rw [if_neg (by show ¬ (512 * i' + (y 0).val) % 4096 / 512 = i; omega)]

section Visits
variable [FloatOps F] [Named F]

/-- The state of the loop over query blocks after `n` visits at key block `j` past the diagonal: the queries' gradient, and the
    accumulators of the keys' and the values' gradient. `vk`, `vv` are the key block and the value block. -/
def inner (vk vv : FVec F S512x128 .bf16) (x1 x6 : Vec F S4096x128 .bf16) (x5 : Vec F S1x8x4096 .f32) (d : Vec F S8x8x512 .f32) (j : ℕ)
    (s₀ : Vec F S4096x128 .f32 × Vec F S512x128 .f32 × Vec F S512x128 .f32) : ℕ → Vec F S4096x128 .f32 × Vec F S512x128 .f32 × Vec F S512x128 .f32
  | 0 => s₀
  | n + 1 =>
    let s := inner vk vv x1 x6 x5 d j s₀ n
    (putBlk s.1 (j + n + 1) (k0_pay28 vk (k0_pay14 vk vv (blk x1 (j + n + 1)) (blk x6 (j + n + 1)) (lseRow x5 (j + n + 1)) (delRow d (j + n + 1))) (blk s.1 (j + n + 1))),
     k0_pay15 vk vv (blk x1 (j + n + 1)) (blk x6 (j + n + 1)) (lseRow x5 (j + n + 1)) (delRow d (j + n + 1)) s.2.1,
     k0_pay13 vk (blk x1 (j + n + 1)) (blk x6 (j + n + 1)) (lseRow x5 (j + n + 1)) s.2.2)

/-- The exponentials of the diagonal visit at key block `j`, masked. -/
def diagP (x1 x2 : Vec F S4096x128 .bf16) (x5 : Vec F S1x8x4096 .f32) (j : ℕ) : FVec F S512x512 .f32 :=
  k0_pay22 (blk x2 j) (blk x1 j) (lseRow x5 j)

/-- The state after the diagonal visit at key block `j`. -/
def diag (x1 x2 x3 x6 : Vec F S4096x128 .bf16) (x5 : Vec F S1x8x4096 .f32) (d : Vec F S8x8x512 .f32) (j : ℕ) (a7 : Vec F S4096x128 .f32) :
    Vec F S4096x128 .f32 × Vec F S512x128 .f32 × Vec F S512x128 .f32 :=
  (putBlk a7 j (k0_pay27 (k0_pay16 (blk x2 j)) (k0_pay17 (blk x3 j)) (k0_pay21 (blk x6 j)) (diagP x1 x2 x5 j) (delRow d j) (blk a7 j)),
   k0_pay26 (k0_pay17 (blk x3 j)) (k0_pay20 (blk x1 j)) (k0_pay21 (blk x6 j)) (diagP x1 x2 x5 j) (delRow d j) k0_pay18,
   k0_pay24 (k0_pay21 (blk x6 j)) k0_pay19 (k0_pay23 (blk x2 j) (blk x1 j) (lseRow x5 j)) (constant S512x128 .f32 0x00000000#32))

/-- The state after all visits at key block `j`. -/
def outer (x1 x2 x3 x6 : Vec F S4096x128 .bf16) (x5 : Vec F S1x8x4096 .f32) (d : Vec F S8x8x512 .f32) (j : ℕ) (a7 : Vec F S4096x128 .f32) :
    Vec F S4096x128 .f32 × Vec F S512x128 .f32 × Vec F S512x128 .f32 :=
  inner (k0_pay16 (blk x2 j)) (k0_pay17 (blk x3 j)) x1 x6 x5 d j (diag x1 x2 x3 x6 x5 d j a7) (7 - j)

/-- The queries' gradient, unscaled, after the key blocks before `j`. -/
def dqAt (x1 x2 x3 x6 : Vec F S4096x128 .bf16) (x5 : Vec F S1x8x4096 .f32) (d : Vec F S8x8x512 .f32) : ℕ → Vec F S4096x128 .f32
  | 0 => k0_pay1
  | j + 1 => (outer x1 x2 x3 x6 x5 d j (dqAt x1 x2 x3 x6 x5 d j)).1

/-- The keys' and the values' gradients of key block `j`. -/
def dkvAt (x1 x2 x3 x6 : Vec F S4096x128 .bf16) (x5 : Vec F S1x8x4096 .f32) (d : Vec F S8x8x512 .f32) (j : ℕ) :
    Vec F S512x128 .f32 × Vec F S512x128 .f32 :=
  (outer x1 x2 x3 x6 x5 d j (dqAt x1 x2 x3 x6 x5 d j)).2

/-- The row products of all query blocks, the array that the first loop fills. -/
def delta (x4 : Vec F S4096x128 .f32) (x6 : Vec F S4096x128 .bf16) : Vec F S8x8x512 .f32 :=
  fun y => k0_pay2 (blk x6 (y 0).val) (blk x4 (y 0).val) (ix3 (n0 := 1) (n1 := 8) (n2 := 512) 0 (y 1) (y 2))

/-- The queries' gradient of a head, from its blocks. -/
def outQ (x1 x2 x3 : Vec F S4096x128 .bf16) (x4 : Vec F S4096x128 .f32) (x5 : Vec F S1x8x4096 .f32) (x6 : Vec F S4096x128 .bf16) :
    Vec F S4096x128 .f32 :=
  k0_pay3 (dqAt x1 x2 x3 x6 x5 (delta x4 x6) 8)

/-- The keys' gradient of a head, from its blocks. -/
def outK (x1 x2 x3 : Vec F S4096x128 .bf16) (x4 : Vec F S4096x128 .f32) (x5 : Vec F S1x8x4096 .f32) (x6 : Vec F S4096x128 .bf16) :
    Vec F S4096x128 .f32 :=
  fun y => (dkvAt x1 x2 x3 x6 x5 (delta x4 x6) ((y 0).val / 512)).1 (ix2 (n0 := 512) (n1 := 128) ⟨(y 0).val % 512, Nat.mod_lt _ (by decide)⟩ (y 1))

/-- The values' gradient of a head, from its blocks. -/
def outV (x1 x2 x3 : Vec F S4096x128 .bf16) (x4 : Vec F S4096x128 .f32) (x5 : Vec F S1x8x4096 .f32) (x6 : Vec F S4096x128 .bf16) :
    Vec F S4096x128 .f32 :=
  fun y => (dkvAt x1 x2 x3 x6 x5 (delta x4 x6) ((y 0).val / 512)).2 (ix2 (n0 := 512) (n1 := 128) ⟨(y 0).val % 512, Nat.mod_lt _ (by decide)⟩ (y 1))

end Visits

end Cert.Proof.KernelIdeal

end
-- ==== Proof.Attn.Lists.lean ====
/-
  The lists of writes of the inner loop (over the query blocks past the diagonal), read: after `n` trips the gradient
  block and the two accumulators are those of the recursion `inner`.
-/
module

public import proofs.«01_k».proof.Defs
public import proofs.«01_k».proof.Proof.Gen.KernelIdeal
public import proofs.«01_k».proof.Proof.Gen.KernelIdeal.Skeleton
public import proofs.«01_k».proof.Proof.Gen.KernelIdeal.Loops
public import proofs.«01_k».proof.Proof.Attn.Model
public import Idealize.ShloMosaic.Lib.VecWindow

@[expose] public section

set_option maxRecDepth 16384

noncomputable section

namespace Cert.Proof.KernelIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

section Reads
variable {F : FTy → Type} {κ : Kind} {sp : Space} {e : EltTy}

/-- A load of 512 rows reads a row block of what the view reads. -/
theorem readAt_blk (v : View sig κ sp S4096x128 e) (f : v.ty.Contents (Elt F)) {off : Fin 2 → ℕ}
    (inb : ∀ a, off a + S512x128.size a ≤ S4096x128.size a) (i : ℕ) (hi : i < 8) (h : off = ![512 * i, 0]) :
    v.readAt (Elt F) (Rect.unit (s := S4096x128) off S512x128.size inb).toLoadRect f = blk (v.read (Elt F) f) i := by
  subst h
  exact (View.readAt_unit v f inb rfl inb).trans (window_blk _ i hi inb)

/-- A store of 512 rows replaces a row block of what the view reads. -/
theorem read_writes_blk (v : View sig κ sp S4096x128 e) (f : v.ty.Contents (Elt F)) {off : Fin 2 → ℕ}
    (inb : ∀ a, off a + S512x128.size a ≤ S4096x128.size a) (i : ℕ) (h : off = ![512 * i, 0]) (w : Vec F S512x128 e)
    (L : List (View.Piece (Elt F) S4096x128 e)) :
    v.read (Elt F) (v.writes (Elt F) f (⟨Rect.unit (s := S4096x128) off S512x128.size inb, w⟩ :: L))
      = putBlk (v.read (Elt F) (v.writes (Elt F) f L)) i w := by
  subst h
  exact (View.read_writes_cons_put v f inb w L rfl).trans (put_blk _ i w)

/-- A load of a row of log-sums. -/
theorem readAt_lse (v : View sig κ sp S1x8x4096 .f32) (f : v.ty.Contents (Elt F)) {off : Fin 3 → ℕ}
    (inb : ∀ a, off a + S1x1x512.size a ≤ S1x8x4096.size a) (i : ℕ) (hi : i < 8) (h : off = ![0, 0, 512 * i]) :
    v.readAt (Elt F) (Rect.unit (s := S1x8x4096) off S1x1x512.size inb).toLoadRect f = lseRow (v.read (Elt F) f) i := by
  subst h
  exact (View.readAt_unit v f inb rfl inb).trans (window_lse _ i hi inb)

/-- A load of a row of row products. -/
theorem readAt_del (v : View sig κ sp S8x8x512 .f32) (f : v.ty.Contents (Elt F)) {off : Fin 3 → ℕ}
    (inb : ∀ a, off a + S1x1x512.size a ≤ S8x8x512.size a) (i : ℕ) (hi : i < 8) (h : off = ![i, 0, 0]) :
    v.readAt (Elt F) (Rect.unit (s := S8x8x512) off S1x1x512.size inb).toLoadRect f = delRow (v.read (Elt F) f) i := by
  subst h
  exact (View.readAt_unit v f inb rfl inb).trans (window_del _ i hi inb)

/-- A load of the whole of a [512, 128] array. -/
theorem readAt_acc (v : View sig κ sp S512x128 e) (f : v.ty.Contents (Elt F)) {off : Fin 2 → ℕ}
    (inb : ∀ a, off a + S512x128.size a ≤ S512x128.size a) :
    v.readAt (Elt F) (Rect.unit (s := S512x128) off S512x128.size inb).toLoadRect f = v.read (Elt F) f :=
  View.readAt_full v f inb

/-- A store of the whole of a [512, 128] array. -/
theorem read_writes_acc (v : View sig κ sp S512x128 e) (f : v.ty.Contents (Elt F)) {off : Fin 2 → ℕ}
    (inb : ∀ a, off a + S512x128.size a ≤ S512x128.size a) (w : Vec F S512x128 e) (L : List (View.Piece (Elt F) S512x128 e)) :
    v.read (Elt F) (v.writes (Elt F) f (⟨Rect.unit (s := S512x128) off S512x128.size inb, w⟩ :: L)) = w :=
  View.read_writes_full v f inb w L

end Reads

variable {F : FTy → Type} [FloatOps F] [Named F]

/-- The loop over key blocks has eight trips. -/
theorem trips2 : k0_t2_loop.trips = 8 := by decide +kernel

/-- The inner loop at key block `j` has `7 - j` trips. -/
theorem trips3 : ∀ j : Fin k0_t2_loop.trips, (k0_t3_loop j).trips = 7 - j.val := by decide +kernel

/-- One trip of the inner loop. -/
theorem t3_step (𝒱 : Variants) (c : Dev nD) (bd : Option 𝒱.V) (i : grid0.Coords) (arg1 : Memref sig .tc .vmem S4096x128 .bf16) (harg1 : arg1.IsWhole) (arg2 : Memref sig .tc .vmem S4096x128 .bf16) (harg2 : arg2.IsWhole) (arg3 : Memref sig .tc .vmem S4096x128 .bf16) (harg3 : arg3.IsWhole) (arg4 : Memref sig .tc .vmem S4096x128 .f32) (harg4 : arg4.IsWhole) (arg5 : Memref sig .tc .vmem S1x8x4096 .f32) (harg5 : arg5.IsWhole) (arg6 : Memref sig .tc .vmem S4096x128 .bf16) (harg6 : arg6.IsWhole) (arg7 : Memref sig .tc .vmem S4096x128 .f32) (harg7 : arg7.IsWhole) (arg8 : Memref sig .tc .vmem S4096x128 .f32) (harg8 : arg8.IsWhole) (arg9 : Memref sig .tc .vmem S4096x128 .f32) (harg9 : arg9.IsWhole) (arg10 : Memref sig .tc .vmem S8x8x512 .f32) (harg10 : arg10.IsWhole) (arg11 : Memref sig .tc .vmem S512x128 .f32) (harg11 : arg11.IsWhole) (arg12 : Memref sig .tc .vmem S512x128 .f32) (harg12 : arg12.IsWhole) (j : Fin k0_t2_loop.trips) (arg13 : BitVec 32) (v13 : FVec F S512x128 .bf16) (v16 : FVec F S512x128 .bf16) (v26 : BitVec 32) (v29 : FVec F S512x128 .bf16) (v32 : FVec F S512x128 .bf16) (v44 : FVec F S512x512 .f32) (v45 : Vec F S512x128 .f32) (v46 : FVec F S512x512 .bf16) (cst_28 : FVec F S512x128 .f32) (v74 : BitVec 32) (X1 : BufTy.Contents (Elt F) arg1.view.ty) (X5 : BufTy.Contents (Elt F) arg5.view.ty) (X6 : BufTy.Contents (Elt F) arg6.view.ty) (X10 : BufTy.Contents (Elt F) arg10.view.ty) (k : Fin (k0_t3_loop j).trips) (f7 : BufTy.Contents (Elt F) arg7.view.ty) (f11 : BufTy.Contents (Elt F) arg11.view.ty) (f12 : BufTy.Contents (Elt F) arg12.view.ty) :
    arg7.view.read (Elt F) (arg7.view.writes (Elt F) f7 (tripL_k0_t3 (F := F) 𝒱 c bd i arg1 harg1 arg2 harg2 arg3 harg3 arg4 harg4 arg5 harg5 arg6 harg6 arg7 harg7 arg8 harg8 arg9 harg9 arg10 harg10 arg11 harg11 arg12 harg12 j arg13 v13 v16 v26 v29 v32 v44 v45 v46 cst_28 v74 X1 X5 X6 X10 k f7 f11 f12).1)
        = putBlk (arg7.view.read (Elt F) f7) (j.val + k.val + 1) (k0_pay28 v13 (k0_pay14 v13 v16 (blk (arg1.view.read (Elt F) X1) (j.val + k.val + 1)) (blk (arg6.view.read (Elt F) X6) (j.val + k.val + 1)) (lseRow (arg5.view.read (Elt F) X5) (j.val + k.val + 1)) (delRow (arg10.view.read (Elt F) X10) (j.val + k.val + 1))) (blk (arg7.view.read (Elt F) f7) (j.val + k.val + 1)))
    ∧ arg11.view.read (Elt F) (arg11.view.writes (Elt F) f11 (tripL_k0_t3 (F := F) 𝒱 c bd i arg1 harg1 arg2 harg2 arg3 harg3 arg4 harg4 arg5 harg5 arg6 harg6 arg7 harg7 arg8 harg8 arg9 harg9 arg10 harg10 arg11 harg11 arg12 harg12 j arg13 v13 v16 v26 v29 v32 v44 v45 v46 cst_28 v74 X1 X5 X6 X10 k f7 f11 f12).2.1) = k0_pay15 v13 v16 (blk (arg1.view.read (Elt F) X1) (j.val + k.val + 1)) (blk (arg6.view.read (Elt F) X6) (j.val + k.val + 1)) (lseRow (arg5.view.read (Elt F) X5) (j.val + k.val + 1)) (delRow (arg10.view.read (Elt F) X10) (j.val + k.val + 1)) (arg11.view.read (Elt F) f11)
    ∧ arg12.view.read (Elt F) (arg12.view.writes (Elt F) f12 (tripL_k0_t3 (F := F) 𝒱 c bd i arg1 harg1 arg2 harg2 arg3 harg3 arg4 harg4 arg5 harg5 arg6 harg6 arg7 harg7 arg8 harg8 arg9 harg9 arg10 harg10 arg11 harg11 arg12 harg12 j arg13 v13 v16 v26 v29 v32 v44 v45 v46 cst_28 v74 X1 X5 X6 X10 k f7 f11 f12).2.2) = k0_pay13 v13 (blk (arg1.view.read (Elt F) X1) (j.val + k.val + 1)) (blk (arg6.view.read (Elt F) X6) (j.val + k.val + 1)) (lseRow (arg5.view.read (Elt F) X5) (j.val + k.val + 1)) (arg12.view.read (Elt F) f12) := by
  have hn : (j.val + k.val + 1) < 8 := by
    have h1 := k.isLt
    have h2 : j.val < 8 := Nat.lt_of_lt_of_eq j.isLt trips2
    have h3 := trips3 j
    omega
  have e6 : k0_off6 j k = ![512 * (j.val + k.val + 1), 0] := by rw [k0_off6_eq]; congr 1; omega
  have e7 : k0_off7 j k = ![0, 0, 512 * (j.val + k.val + 1)] := by rw [k0_off7_eq]; congr 3; omega
  unfold tripL_k0_t3 trip_k0_t3
  dsimp only
  rw [read_writes_blk _ _ _ (j.val + k.val + 1) e6, read_writes_acc, read_writes_acc,
    ← readAt_blk arg1.view X1 (k0_off6_inb j k) (j.val + k.val + 1) hn e6, ← readAt_blk arg6.view X6 (k0_off6_inb j k) (j.val + k.val + 1) hn e6,
    ← readAt_blk arg7.view f7 (k0_off6_inb j k) (j.val + k.val + 1) hn e6, ← readAt_lse arg5.view X5 (k0_off7_inb j k) (j.val + k.val + 1) hn e7,
    ← readAt_del arg10.view X10 (k0_off8_inb j k) (j.val + k.val + 1) hn (k0_off8_eq j k),
    ← readAt_acc arg11.view f11 inb_S512x128_S512x128_0_0, ← readAt_acc arg12.view f12 inb_S512x128_S512x128_0_0]
  exact ⟨rfl, rfl, rfl⟩

/-- The inner loop's writes, read: the recursion `inner`. -/
theorem t3_read (𝒱 : Variants) (c : Dev nD) (bd : Option 𝒱.V) (i : grid0.Coords) (arg1 : Memref sig .tc .vmem S4096x128 .bf16) (harg1 : arg1.IsWhole) (arg2 : Memref sig .tc .vmem S4096x128 .bf16) (harg2 : arg2.IsWhole) (arg3 : Memref sig .tc .vmem S4096x128 .bf16) (harg3 : arg3.IsWhole) (arg4 : Memref sig .tc .vmem S4096x128 .f32) (harg4 : arg4.IsWhole) (arg5 : Memref sig .tc .vmem S1x8x4096 .f32) (harg5 : arg5.IsWhole) (arg6 : Memref sig .tc .vmem S4096x128 .bf16) (harg6 : arg6.IsWhole) (arg7 : Memref sig .tc .vmem S4096x128 .f32) (harg7 : arg7.IsWhole) (arg8 : Memref sig .tc .vmem S4096x128 .f32) (harg8 : arg8.IsWhole) (arg9 : Memref sig .tc .vmem S4096x128 .f32) (harg9 : arg9.IsWhole) (arg10 : Memref sig .tc .vmem S8x8x512 .f32) (harg10 : arg10.IsWhole) (arg11 : Memref sig .tc .vmem S512x128 .f32) (harg11 : arg11.IsWhole) (arg12 : Memref sig .tc .vmem S512x128 .f32) (harg12 : arg12.IsWhole) (j : Fin k0_t2_loop.trips) (arg13 : BitVec 32) (v13 : FVec F S512x128 .bf16) (v16 : FVec F S512x128 .bf16) (v26 : BitVec 32) (v29 : FVec F S512x128 .bf16) (v32 : FVec F S512x128 .bf16) (v44 : FVec F S512x512 .f32) (v45 : Vec F S512x128 .f32) (v46 : FVec F S512x512 .bf16) (cst_28 : FVec F S512x128 .f32) (v74 : BitVec 32) (X1 : BufTy.Contents (Elt F) arg1.view.ty) (X5 : BufTy.Contents (Elt F) arg5.view.ty) (X6 : BufTy.Contents (Elt F) arg6.view.ty) (X10 : BufTy.Contents (Elt F) arg10.view.ty) (f7 : BufTy.Contents (Elt F) arg7.view.ty) (f11 : BufTy.Contents (Elt F) arg11.view.ty) (f12 : BufTy.Contents (Elt F) arg12.view.ty) (n : ℕ) (hn : n ≤ (k0_t3_loop j).trips) :
    arg7.view.read (Elt F) (arg7.view.writes (Elt F) f7 (pb_k0_t3 (F := F) 𝒱 c bd i arg1 harg1 arg2 harg2 arg3 harg3 arg4 harg4 arg5 harg5 arg6 harg6 arg7 harg7 arg8 harg8 arg9 harg9 arg10 harg10 arg11 harg11 arg12 harg12 j arg13 v13 v16 v26 v29 v32 v44 v45 v46 cst_28 v74 X1 X5 X6 X10 f7 f11 f12 n).1) = (inner v13 v16 (arg1.view.read (Elt F) X1) (arg6.view.read (Elt F) X6) (arg5.view.read (Elt F) X5) (arg10.view.read (Elt F) X10) j.val ((arg7.view.read (Elt F) f7), (arg11.view.read (Elt F) f11), (arg12.view.read (Elt F) f12)) n).1
    ∧ arg11.view.read (Elt F) (arg11.view.writes (Elt F) f11 (pb_k0_t3 (F := F) 𝒱 c bd i arg1 harg1 arg2 harg2 arg3 harg3 arg4 harg4 arg5 harg5 arg6 harg6 arg7 harg7 arg8 harg8 arg9 harg9 arg10 harg10 arg11 harg11 arg12 harg12 j arg13 v13 v16 v26 v29 v32 v44 v45 v46 cst_28 v74 X1 X5 X6 X10 f7 f11 f12 n).2.1) = (inner v13 v16 (arg1.view.read (Elt F) X1) (arg6.view.read (Elt F) X6) (arg5.view.read (Elt F) X5) (arg10.view.read (Elt F) X10) j.val ((arg7.view.read (Elt F) f7), (arg11.view.read (Elt F) f11), (arg12.view.read (Elt F) f12)) n).2.1
    ∧ arg12.view.read (Elt F) (arg12.view.writes (Elt F) f12 (pb_k0_t3 (F := F) 𝒱 c bd i arg1 harg1 arg2 harg2 arg3 harg3 arg4 harg4 arg5 harg5 arg6 harg6 arg7 harg7 arg8 harg8 arg9 harg9 arg10 harg10 arg11 harg11 arg12 harg12 j arg13 v13 v16 v26 v29 v32 v44 v45 v46 cst_28 v74 X1 X5 X6 X10 f7 f11 f12 n).2.2) = (inner v13 v16 (arg1.view.read (Elt F) X1) (arg6.view.read (Elt F) X6) (arg5.view.read (Elt F) X5) (arg10.view.read (Elt F) X10) j.val ((arg7.view.read (Elt F) f7), (arg11.view.read (Elt F) f11), (arg12.view.read (Elt F) f12)) n).2.2 := by
  induction n with
  | zero => exact ⟨rfl, rfl, rfl⟩
  | succ n ih =>
    obtain ⟨h7, h11, h12⟩ := ih (by omega)
    have hs := pb_k0_t3_succ (F := F) 𝒱 c bd i arg1 harg1 arg2 harg2 arg3 harg3 arg4 harg4 arg5 harg5 arg6 harg6 arg7 harg7 arg8 harg8 arg9 harg9 arg10 harg10 arg11 harg11 arg12 harg12 j arg13 v13 v16 v26 v29 v32 v44 v45 v46 cst_28 v74 X1 X5 X6 X10 f7 f11 f12 ⟨n, hn⟩
    have ht := t3_step (F := F) 𝒱 c bd i arg1 harg1 arg2 harg2 arg3 harg3 arg4 harg4 arg5 harg5 arg6 harg6 arg7 harg7 arg8 harg8 arg9 harg9 arg10 harg10 arg11 harg11 arg12 harg12 j arg13 v13 v16 v26 v29 v32 v44 v45 v46 cst_28 v74 X1 X5 X6 X10 ⟨n, hn⟩ (arg7.view.writes (Elt F) f7 (pb_k0_t3 (F := F) 𝒱 c bd i arg1 harg1 arg2 harg2 arg3 harg3 arg4 harg4 arg5 harg5 arg6 harg6 arg7 harg7 arg8 harg8 arg9 harg9 arg10 harg10 arg11 harg11 arg12 harg12 j arg13 v13 v16 v26 v29 v32 v44 v45 v46 cst_28 v74 X1 X5 X6 X10 f7 f11 f12 n).1) (arg11.view.writes (Elt F) f11 (pb_k0_t3 (F := F) 𝒱 c bd i arg1 harg1 arg2 harg2 arg3 harg3 arg4 harg4 arg5 harg5 arg6 harg6 arg7 harg7 arg8 harg8 arg9 harg9 arg10 harg10 arg11 harg11 arg12 harg12 j arg13 v13 v16 v26 v29 v32 v44 v45 v46 cst_28 v74 X1 X5 X6 X10 f7 f11 f12 n).2.1) (arg12.view.writes (Elt F) f12 (pb_k0_t3 (F := F) 𝒱 c bd i arg1 harg1 arg2 harg2 arg3 harg3 arg4 harg4 arg5 harg5 arg6 harg6 arg7 harg7 arg8 harg8 arg9 harg9 arg10 harg10 arg11 harg11 arg12 harg12 j arg13 v13 v16 v26 v29 v32 v44 v45 v46 cst_28 v74 X1 X5 X6 X10 f7 f11 f12 n).2.2)
    rw [hs]
    rw [h7, h11, h12] at ht
    rw [View.writes_append, View.writes_append, View.writes_append]
    exact ht

end Cert.Proof.KernelIdeal

end
-- ==== Proof.Attn.Outer.lean ====
/-
  One trip of the loop over key blocks, read: the gradient blocks after the trip.
-/
module

public import proofs.«01_k».proof.Proof.Attn.Trip
public import proofs.«01_k».proof.Proof.Attn.Lists

@[expose] public section

set_option maxRecDepth 16384

noncomputable section

namespace Cert.Proof.KernelIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

set_option maxHeartbeats 1000000 in
/-- One trip of the loop over key blocks. -/
theorem t2_step (𝒱 : Variants) (c : Dev nD) (bd : Option 𝒱.V) (i : grid0.Coords) (arg1 : Memref sig .tc .vmem S4096x128 .bf16) (harg1 : arg1.IsWhole) (arg2 : Memref sig .tc .vmem S4096x128 .bf16) (harg2 : arg2.IsWhole) (arg3 : Memref sig .tc .vmem S4096x128 .bf16) (harg3 : arg3.IsWhole) (arg4 : Memref sig .tc .vmem S4096x128 .f32) (harg4 : arg4.IsWhole) (arg5 : Memref sig .tc .vmem S1x8x4096 .f32) (harg5 : arg5.IsWhole) (arg6 : Memref sig .tc .vmem S4096x128 .bf16) (harg6 : arg6.IsWhole) (arg7 : Memref sig .tc .vmem S4096x128 .f32) (harg7 : arg7.IsWhole) (arg8 : Memref sig .tc .vmem S4096x128 .f32) (harg8 : arg8.IsWhole) (arg9 : Memref sig .tc .vmem S4096x128 .f32) (harg9 : arg9.IsWhole) (arg10 : Memref sig .tc .vmem S8x8x512 .f32) (harg10 : arg10.IsWhole) (arg11 : Memref sig .tc .vmem S512x128 .f32) (harg11 : arg11.IsWhole) (arg12 : Memref sig .tc .vmem S512x128 .f32) (harg12 : arg12.IsWhole) (X1 : BufTy.Contents (Elt F) arg1.view.ty) (X2 : BufTy.Contents (Elt F) arg2.view.ty) (X3 : BufTy.Contents (Elt F) arg3.view.ty) (X5 : BufTy.Contents (Elt F) arg5.view.ty) (X6 : BufTy.Contents (Elt F) arg6.view.ty) (X10 : BufTy.Contents (Elt F) arg10.view.ty) (j : Fin k0_t2_loop.trips) (f7 : BufTy.Contents (Elt F) arg7.view.ty) (f8 : BufTy.Contents (Elt F) arg8.view.ty) (f9 : BufTy.Contents (Elt F) arg9.view.ty) (f11 : BufTy.Contents (Elt F) arg11.view.ty) (f12 : BufTy.Contents (Elt F) arg12.view.ty) :
    arg7.view.read (Elt F) (arg7.view.writes (Elt F) f7 ((trip2 (F := F) 𝒱 c bd i arg1 harg1 arg2 harg2 arg3 harg3 arg4 harg4 arg5 harg5 arg6 harg6 arg7 harg7 arg8 harg8 arg9 harg9 arg10 harg10 arg11 harg11 arg12 harg12 X1 X2 X3 X5 X6 X10 j).1 f7 f8 f9 f11 f12)) = (outer (arg1.view.read (Elt F) X1) (arg2.view.read (Elt F) X2) (arg3.view.read (Elt F) X3) (arg6.view.read (Elt F) X6) (arg5.view.read (Elt F) X5) (arg10.view.read (Elt F) X10) j.val (arg7.view.read (Elt F) f7)).1
    ∧ arg8.view.read (Elt F) (arg8.view.writes (Elt F) f8 ((trip2 (F := F) 𝒱 c bd i arg1 harg1 arg2 harg2 arg3 harg3 arg4 harg4 arg5 harg5 arg6 harg6 arg7 harg7 arg8 harg8 arg9 harg9 arg10 harg10 arg11 harg11 arg12 harg12 X1 X2 X3 X5 X6 X10 j).2.1 f7 f8 f9 f11 f12)) = putBlk (arg8.view.read (Elt F) f8) j.val (outer (arg1.view.read (Elt F) X1) (arg2.view.read (Elt F) X2) (arg3.view.read (Elt F) X3) (arg6.view.read (Elt F) X6) (arg5.view.read (Elt F) X5) (arg10.view.read (Elt F) X10) j.val (arg7.view.read (Elt F) f7)).2.1
    ∧ arg9.view.read (Elt F) (arg9.view.writes (Elt F) f9 ((trip2 (F := F) 𝒱 c bd i arg1 harg1 arg2 harg2 arg3 harg3 arg4 harg4 arg5 harg5 arg6 harg6 arg7 harg7 arg8 harg8 arg9 harg9 arg10 harg10 arg11 harg11 arg12 harg12 X1 X2 X3 X5 X6 X10 j).2.2.1 f7 f8 f9 f11 f12)) = putBlk (arg9.view.read (Elt F) f9) j.val (outer (arg1.view.read (Elt F) X1) (arg2.view.read (Elt F) X2) (arg3.view.read (Elt F) X3) (arg6.view.read (Elt F) X6) (arg5.view.read (Elt F) X5) (arg10.view.read (Elt F) X10) j.val (arg7.view.read (Elt F) f7)).2.2 := by
  have hj : j.val < 8 := Nat.lt_of_lt_of_eq j.isLt trips2
  unfold trip2
  dsimp only
  rw [read_writes_blk _ _ _ j.val (k0_off3_eq j), read_writes_blk _ _ _ j.val (k0_off3_eq j)]
  have z11 : trip2.sl.v59 (F := F) arg11 = k0_pay18 := by unfold trip2.sl.v59; exact View.readCov_full _ _ _ _ _
  have z12 : trip2.sl.v45 (F := F) arg12 = k0_pay19 := by unfold trip2.sl.v45; exact View.readCov_full _ _ _ _ _
  have b1 := readAt_blk arg1.view X1 (k0_off3_inb j) j.val hj (k0_off3_eq j)
  have b2 := readAt_blk arg2.view X2 (k0_off3_inb j) j.val hj (k0_off3_eq j)
  have b3 := readAt_blk arg3.view X3 (k0_off3_inb j) j.val hj (k0_off3_eq j)
  have b6 := readAt_blk arg6.view X6 (k0_off3_inb j) j.val hj (k0_off3_eq j)
  have b7 := readAt_blk arg7.view f7 (k0_off3_inb j) j.val hj (k0_off3_eq j)
  have b5 := readAt_lse arg5.view X5 (k0_off4_inb j) j.val hj (k0_off4_eq j)
  have b10 := readAt_del arg10.view X10 (k0_off5_inb j) j.val hj (k0_off5_eq j)
  have ht : (k0_t3_loop j).trips = 7 - j.val := trips3 j
  unfold trip2.sl.v80 trip2.sl.v83 View.readCov
  rw [readAt_acc, readAt_acc, b1, b2, b3, b5, b6, b7, b10, z11, z12]
  refine ⟨?_, congrArg (putBlk _ j.val) ?_, congrArg (putBlk _ j.val) ?_⟩
  · rw [View.writes_append]
    refine (t3_read (F := F) 𝒱 c bd i arg1 harg1 arg2 harg2 arg3 harg3 arg4 harg4 arg5 harg5 arg6 harg6 arg7 harg7 arg8 harg8 arg9 harg9 arg10 harg10 arg11 harg11 arg12 harg12 j _ _ _ _ _ _ _ _ _ _ _ X1 X5 X6 X10 _ _ _ (k0_t3_loop j).trips le_rfl).1.trans ?_
    rw [read_writes_blk _ _ _ j.val (k0_off3_eq j), read_writes_acc, read_writes_acc]
    unfold outer
    rw [← ht]
    rfl
  · rw [View.writes_append]
    refine (t3_read (F := F) 𝒱 c bd i arg1 harg1 arg2 harg2 arg3 harg3 arg4 harg4 arg5 harg5 arg6 harg6 arg7 harg7 arg8 harg8 arg9 harg9 arg10 harg10 arg11 harg11 arg12 harg12 j _ _ _ _ _ _ _ _ _ _ _ X1 X5 X6 X10 _ _ _ (k0_t3_loop j).trips le_rfl).2.1.trans ?_
    rw [read_writes_blk _ _ _ j.val (k0_off3_eq j), read_writes_acc, read_writes_acc]
    unfold outer
    rw [← ht]
    rfl
  · rw [View.writes_append]
    refine (t3_read (F := F) 𝒱 c bd i arg1 harg1 arg2 harg2 arg3 harg3 arg4 harg4 arg5 harg5 arg6 harg6 arg7 harg7 arg8 harg8 arg9 harg9 arg10 harg10 arg11 harg11 arg12 harg12 j _ _ _ _ _ _ _ _ _ _ _ X1 X5 X6 X10 _ _ _ (k0_t3_loop j).trips le_rfl).2.2.trans ?_
    rw [read_writes_blk _ _ _ j.val (k0_off3_eq j), read_writes_acc, read_writes_acc]
    unfold outer
    rw [← ht]
    rfl

end Cert.Proof.KernelIdeal

end
-- ==== Proof.Attn.Delta.lean ====
/-
  The kernel's first loop, read: the array of row products `delta`.
-/
module

public import proofs.«01_k».proof.Proof.Attn.Lists

@[expose] public section

set_option maxRecDepth 16384

noncomputable section

namespace Cert.Proof.KernelIdeal

open Cert.KernelIdeal Cert.KernelIdeal.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

/-- The first loop has eight trips. -/
theorem trips1 : k0_t1_loop.trips = 8 := by decide +kernel

/-- After `n` trips of the first loop the array's first `n` slabs are those of `delta`. -/
theorem t1_read (𝒱 : Variants) (c : Dev nD) (bd : Option 𝒱.V) (i : grid0.Coords) (arg1 : Memref sig .tc .vmem S4096x128 .bf16) (harg1 : arg1.IsWhole) (arg2 : Memref sig .tc .vmem S4096x128 .bf16) (harg2 : arg2.IsWhole) (arg3 : Memref sig .tc .vmem S4096x128 .bf16) (harg3 : arg3.IsWhole) (arg4 : Memref sig .tc .vmem S4096x128 .f32) (harg4 : arg4.IsWhole) (arg5 : Memref sig .tc .vmem S1x8x4096 .f32) (harg5 : arg5.IsWhole) (arg6 : Memref sig .tc .vmem S4096x128 .bf16) (harg6 : arg6.IsWhole) (arg7 : Memref sig .tc .vmem S4096x128 .f32) (harg7 : arg7.IsWhole) (arg8 : Memref sig .tc .vmem S4096x128 .f32) (harg8 : arg8.IsWhole) (arg9 : Memref sig .tc .vmem S4096x128 .f32) (harg9 : arg9.IsWhole) (arg10 : Memref sig .tc .vmem S8x8x512 .f32) (harg10 : arg10.IsWhole) (arg11 : Memref sig .tc .vmem S512x128 .f32) (harg11 : arg11.IsWhole) (arg12 : Memref sig .tc .vmem S512x128 .f32) (harg12 : arg12.IsWhole) (X4 : BufTy.Contents (Elt F) arg4.view.ty) (X6 : BufTy.Contents (Elt F) arg6.view.ty) (f10 : BufTy.Contents (Elt F) arg10.view.ty)
    (n : ℕ) (hn : n ≤ 8) (y : S8x8x512.Idx) (hy : (y 0).val < n) :
    arg10.view.read (Elt F) (arg10.view.writes (Elt F) f10 (pb_k0_t1 (F := F) 𝒱 c bd i arg1 harg1 arg2 harg2 arg3 harg3 arg4 harg4 arg5 harg5 arg6 harg6 arg7 harg7 arg8 harg8 arg9 harg9 arg10 harg10 arg11 harg11 arg12 harg12 X4 X6 n)) y = delta (arg4.view.read (Elt F) X4) (arg6.view.read (Elt F) X6) y := by
  induction n with
  | zero => exact absurd hy (Nat.not_lt_zero _)
  | succ n ih =>
    have hs := pb_k0_t1_succ (F := F) 𝒱 c bd i arg1 harg1 arg2 harg2 arg3 harg3 arg4 harg4 arg5 harg5 arg6 harg6 arg7 harg7 arg8 harg8 arg9 harg9 arg10 harg10 arg11 harg11 arg12 harg12 X4 X6 ⟨n, Nat.lt_of_lt_of_eq hn trips1.symm⟩
    have b6 := readAt_blk arg6.view X6 (k0_off1_inb ⟨n, Nat.lt_of_lt_of_eq hn trips1.symm⟩) n hn (k0_off1_eq _)
    have b4 := readAt_blk arg4.view X4 (k0_off1_inb ⟨n, Nat.lt_of_lt_of_eq hn trips1.symm⟩) n hn (k0_off1_eq _)
    rw [hs]
    unfold tripL_k0_t1 trip_k0_t1
    dsimp only [List.cons_append, List.nil_append]
    rw [View.read_writes_cons_put arg10.view f10 _ _ _ (k0_off2_eq ⟨n, Nat.lt_of_lt_of_eq hn trips1.symm⟩)]
    have h1 : (y 1).val < 8 := (y 1).isLt
    have h2 : (y 2).val < 512 := (y 2).isLt
    unfold VecWindow.put
    by_cases h : (y 0).val = n
    · rw [dif_pos (fun a => by
        match a with
        | ⟨0, _⟩ => show n ≤ (y 0).val ∧ (y 0).val < n + 1; omega
        | ⟨1, _⟩ => show 0 ≤ (y 1).val ∧ (y 1).val < 0 + 8; omega
        | ⟨2, _⟩ => show 0 ≤ (y 2).val ∧ (y 2).val < 0 + 512; omega)]
      have hd : ∀ m, (y 0).val = m → delta (arg4.view.read (Elt F) X4) (arg6.view.read (Elt F) X6) y = k0_pay2 (blk (arg6.view.read (Elt F) X6) m) (blk (arg4.view.read (Elt F) X4) m) (ix3 (n0 := 1) (n1 := 8) (n2 := 512) 0 (y 1) (y 2)) := by
        intro m hm; subst hm; rfl
      refine Eq.trans ?_ (hd n h).symm
      refine (congrFun (congrArg₂ (k0_pay2 (F := F)) b6 b4) _).trans (congrArg (k0_pay2 _ _) (funext fun a => Fin.ext ?_))
      match a with
      | ⟨0, _⟩ => show (y 0).val - n = 0; omega
      | ⟨1, _⟩ => show (y 1).val - 0 = (y 1).val; omega
      | ⟨2, _⟩ => show (y 2).val - 0 = (y 2).val; omega
    · rw [dif_neg (fun h' => by
        have h0 : n ≤ (y 0).val ∧ (y 0).val < n + 1 := h' 0
        omega)]
      exact ih (Nat.le_of_succ_le hn) (by omega)

/-- The array of row products after the first loop. -/
theorem t1_delta (𝒱 : Variants) (c : Dev nD) (bd : Option 𝒱.V) (i : grid0.Coords) (arg1 : Memref sig .tc .vmem S4096x128 .bf16) (harg1 : arg1.IsWhole) (arg2 : Memref sig .tc .vmem S4096x128 .bf16) (harg2 : arg2.IsWhole) (arg3 : Memref sig .tc .vmem S4096x128 .bf16) (harg3 : arg3.IsWhole) (arg4 : Memref sig .tc .vmem S4096x128 .f32) (harg4 : arg4.IsWhole) (arg5 : Memref sig .tc .vmem S1x8x4096 .f32) (harg5 : arg5.IsWhole) (arg6 : Memref sig .tc .vmem S4096x128 .bf16) (harg6 : arg6.IsWhole) (arg7 : Memref sig .tc .vmem S4096x128 .f32) (harg7 : arg7.IsWhole) (arg8 : Memref sig .tc .vmem S4096x128 .f32) (harg8 : arg8.IsWhole) (arg9 : Memref sig .tc .vmem S4096x128 .f32) (harg9 : arg9.IsWhole) (arg10 : Memref sig .tc .vmem S8x8x512 .f32) (harg10 : arg10.IsWhole) (arg11 : Memref sig .tc .vmem S512x128 .f32) (harg11 : arg11.IsWhole) (arg12 : Memref sig .tc .vmem S512x128 .f32) (harg12 : arg12.IsWhole) (X4 : BufTy.Contents (Elt F) arg4.view.ty) (X6 : BufTy.Contents (Elt F) arg6.view.ty) (f10 : BufTy.Contents (Elt F) arg10.view.ty) :
    arg10.view.read (Elt F) (arg10.view.writes (Elt F) f10 (pb_k0_t1 (F := F) 𝒱 c bd i arg1 harg1 arg2 harg2 arg3 harg3 arg4 harg4 arg5 harg5 arg6 harg6 arg7 harg7 arg8 harg8 arg9 harg9 arg10 harg10 arg11 harg11 arg12 harg12 X4 X6 k0_t1_loop.trips)) = delta (arg4.view.read (Elt F) X4) (arg6.view.read (Elt F) X6) :=
  funext fun y => t1_read 𝒱 c bd i arg1 harg1 arg2 harg2 arg3 harg3 arg4 harg4 arg5 harg5 arg6 harg6 arg7 harg7 arg8 harg8 arg9 harg9 arg10 harg10 arg11 harg11 arg12 harg12 X4 X6 f10 k0_t1_loop.trips (Nat.le_of_eq trips1) y (Nat.lt_of_lt_of_eq (y 0).isLt trips1.symm)

end Cert.Proof.KernelIdeal

end
-- ==== Proof.Attn.Body.lean ====
/-
  The kernel's body on one head, run: what the three gradient blocks hold afterwards.
-/
module

public import proofs.«01_k».proof.Proof.Attn.Outer
public import proofs.«01_k».proof.Proof.Attn.Delta

@[expose] public section

set_option maxRecDepth 16384

noncomputable section

namespace Cert.Proof.KernelIdeal

open Cert.KernelIdeal Cert.KernelIdeal.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄" => MT nD τ sig Unit (Elt F) ℕ (UR sig nD τ) ℕ

/-- The loop over key blocks before trip `k`: the queries' gradient of the key blocks so far, and the keys' and the values'
    gradients of each of them. -/
def inv2 (c : Dev nD) (arg1 : Memref sig .tc .vmem S4096x128 .bf16) (arg2 : Memref sig .tc .vmem S4096x128 .bf16) (arg3 : Memref sig .tc .vmem S4096x128 .bf16) (arg5 : Memref sig .tc .vmem S1x8x4096 .f32) (arg6 : Memref sig .tc .vmem S4096x128 .bf16) (arg10 : Memref sig .tc .vmem S8x8x512 .f32) (arg7 : Memref sig .tc .vmem S4096x128 .f32) (arg8 : Memref sig .tc .vmem S4096x128 .f32) (arg9 : Memref sig .tc .vmem S4096x128 .f32) (arg11 : Memref sig .tc .vmem S512x128 .f32) (arg12 : Memref sig .tc .vmem S512x128 .f32) (X1 : BufTy.Contents (Elt F) arg1.view.ty) (X2 : BufTy.Contents (Elt F) arg2.view.ty) (X3 : BufTy.Contents (Elt F) arg3.view.ty) (X5 : BufTy.Contents (Elt F) arg5.view.ty) (X6 : BufTy.Contents (Elt F) arg6.view.ty) (X10 : BufTy.Contents (Elt F) arg10.view.ty) (k : ℕ) : sProp 𝕄 :=
  iprop((arg1.view.loc (c : Thread nD τ) ↦[arg1.view.set]{fullShare} X1) ∗ (arg2.view.loc (c : Thread nD τ) ↦[arg2.view.set]{fullShare} X2) ∗ (arg3.view.loc (c : Thread nD τ) ↦[arg3.view.set]{fullShare} X3) ∗ (arg5.view.loc (c : Thread nD τ) ↦[arg5.view.set]{fullShare} X5) ∗ (arg6.view.loc (c : Thread nD τ) ↦[arg6.view.set]{fullShare} X6) ∗ (arg10.view.loc (c : Thread nD τ) ↦[arg10.view.set]{fullShare} X10)
    ∗ (∃ f7, (arg7.view.loc (c : Thread nD τ) ↦[arg7.view.set]{fullShare} f7) ∗ ⌜(arg7.view.read (Elt F) f7) = dqAt (arg1.view.read (Elt F) X1) (arg2.view.read (Elt F) X2) (arg3.view.read (Elt F) X3) (arg6.view.read (Elt F) X6) (arg5.view.read (Elt F) X5) (arg10.view.read (Elt F) X10) k⌝)
    ∗ (∃ f8, (arg8.view.loc (c : Thread nD τ) ↦[arg8.view.set]{fullShare} f8) ∗ ⌜∀ i < k, blk (arg8.view.read (Elt F) f8) i = (dkvAt (arg1.view.read (Elt F) X1) (arg2.view.read (Elt F) X2) (arg3.view.read (Elt F) X3) (arg6.view.read (Elt F) X6) (arg5.view.read (Elt F) X5) (arg10.view.read (Elt F) X10) i).1⌝)
    ∗ (∃ f9, (arg9.view.loc (c : Thread nD τ) ↦[arg9.view.set]{fullShare} f9) ∗ ⌜∀ i < k, blk (arg9.view.read (Elt F) f9) i = (dkvAt (arg1.view.read (Elt F) X1) (arg2.view.read (Elt F) X2) (arg3.view.read (Elt F) X3) (arg6.view.read (Elt F) X6) (arg5.view.read (Elt F) X5) (arg10.view.read (Elt F) X10) i).2⌝)
    ∗ (∃ f11, (arg11.view.loc (c : Thread nD τ) ↦[arg11.view.set]{fullShare} f11)) ∗ (∃ f12, (arg12.view.loc (c : Thread nD τ) ↦[arg12.view.set]{fullShare} f12)))

/-- One trip keeps the invariant. -/
theorem inv2_step (𝒱 : Variants) (c : Dev nD) (bd : Option 𝒱.V) (E : Set ℕ) (i : grid0.Coords) (arg1 : Memref sig .tc .vmem S4096x128 .bf16) (harg1 : arg1.IsWhole) (arg2 : Memref sig .tc .vmem S4096x128 .bf16) (harg2 : arg2.IsWhole) (arg3 : Memref sig .tc .vmem S4096x128 .bf16) (harg3 : arg3.IsWhole) (arg4 : Memref sig .tc .vmem S4096x128 .f32) (harg4 : arg4.IsWhole) (arg5 : Memref sig .tc .vmem S1x8x4096 .f32) (harg5 : arg5.IsWhole) (arg6 : Memref sig .tc .vmem S4096x128 .bf16) (harg6 : arg6.IsWhole) (arg7 : Memref sig .tc .vmem S4096x128 .f32) (harg7 : arg7.IsWhole) (arg8 : Memref sig .tc .vmem S4096x128 .f32) (harg8 : arg8.IsWhole) (arg9 : Memref sig .tc .vmem S4096x128 .f32) (harg9 : arg9.IsWhole) (arg10 : Memref sig .tc .vmem S8x8x512 .f32) (harg10 : arg10.IsWhole) (arg11 : Memref sig .tc .vmem S512x128 .f32) (harg11 : arg11.IsWhole) (arg12 : Memref sig .tc .vmem S512x128 .f32) (harg12 : arg12.IsWhole) (X1 : BufTy.Contents (Elt F) arg1.view.ty) (X2 : BufTy.Contents (Elt F) arg2.view.ty) (X3 : BufTy.Contents (Elt F) arg3.view.ty) (X5 : BufTy.Contents (Elt F) arg5.view.ty) (X6 : BufTy.Contents (Elt F) arg6.view.ty) (X10 : BufTy.Contents (Elt F) arg10.view.ty) (k : Fin k0_t2_loop.trips) :
    inv2 (F := F) c arg1 arg2 arg3 arg5 arg6 arg10 arg7 arg8 arg9 arg11 arg12 X1 X2 X3 X5 X6 X10 k.val
      ⊢ wp frame (wpE (defs₀ (F := F)) 𝒱 (c : Thread nD τ) bd) E (k0_t2_body (F := F) i arg1 harg1 arg2 harg2 arg3 harg3 arg4 harg4 arg5 harg5 arg6 harg6 arg7 harg7 arg8 harg8 arg9 harg9 arg10 harg10 arg11 harg11 arg12 harg12 k PUnit.unit) (fun _ => inv2 (F := F) c arg1 arg2 arg3 arg5 arg6 arg10 arg7 arg8 arg9 arg11 arg12 X1 X2 X3 X5 X6 X10 (k.val + 1)) := by
  have hk : k.val < 8 := Nat.lt_of_lt_of_eq k.isLt trips2
  unfold inv2
  iintro ⟨HR1, HR2, HR3, HR5, HR6, HR10, ⟨%f7, HW7, %h7⟩, ⟨%f8, HW8, %h8⟩, ⟨%f9, HW9, %h9⟩, ⟨%f11, HW11⟩, ⟨%f12, HW12⟩⟩
  iapply (wp_wand_r Idealize.ShloMosaic.frame (wpE (defs₀ (F := F)) 𝒱 (c : Thread nD τ) bd) E (Q := fun _ => Trip2Post (F := F) c arg1 arg2 arg3 arg5 arg6 arg10 arg7 arg8 arg9 arg11 arg12 X1 X2 X3 X5 X6 X10 (arg7.view.writes (Elt F) f7 ((trip2 (F := F) 𝒱 c bd i arg1 harg1 arg2 harg2 arg3 harg3 arg4 harg4 arg5 harg5 arg6 harg6 arg7 harg7 arg8 harg8 arg9 harg9 arg10 harg10 arg11 harg11 arg12 harg12 X1 X2 X3 X5 X6 X10 k).1 f7 f8 f9 f11 f12)) (arg8.view.writes (Elt F) f8 ((trip2 (F := F) 𝒱 c bd i arg1 harg1 arg2 harg2 arg3 harg3 arg4 harg4 arg5 harg5 arg6 harg6 arg7 harg7 arg8 harg8 arg9 harg9 arg10 harg10 arg11 harg11 arg12 harg12 X1 X2 X3 X5 X6 X10 k).2.1 f7 f8 f9 f11 f12)) (arg9.view.writes (Elt F) f9 ((trip2 (F := F) 𝒱 c bd i arg1 harg1 arg2 harg2 arg3 harg3 arg4 harg4 arg5 harg5 arg6 harg6 arg7 harg7 arg8 harg8 arg9 harg9 arg10 harg10 arg11 harg11 arg12 harg12 X1 X2 X3 X5 X6 X10 k).2.2.1 f7 f8 f9 f11 f12))))
  isplitl [HR1 HR2 HR3 HR5 HR6 HR10 HW7 HW8 HW9 HW11 HW12]
  · iapply ((trip2 (F := F) 𝒱 c bd i arg1 harg1 arg2 harg2 arg3 harg3 arg4 harg4 arg5 harg5 arg6 harg6 arg7 harg7 arg8 harg8 arg9 harg9 arg10 harg10 arg11 harg11 arg12 harg12 X1 X2 X3 X5 X6 X10 k).2.2.2 E f7 f8 f9 f11 f12)
    isplitl [HR1]; · iexact HR1
    isplitl [HR2]; · iexact HR2
    isplitl [HR3]; · iexact HR3
    isplitl [HR5]; · iexact HR5
    isplitl [HR6]; · iexact HR6
    isplitl [HR10]; · iexact HR10
    isplitl [HW7]; · iexact HW7
    isplitl [HW8]; · iexact HW8
    isplitl [HW9]; · iexact HW9
    isplitl [HW11]; · iexact HW11
    iexact HW12
  · iintro %_ ⟨HR1, HR2, HR3, HR5, HR6, HR10, HW7, HW8, HW9, HW11, HW12⟩
    obtain ⟨s7, s8, s9⟩ := t2_step (F := F) 𝒱 c bd i arg1 harg1 arg2 harg2 arg3 harg3 arg4 harg4 arg5 harg5 arg6 harg6 arg7 harg7 arg8 harg8 arg9 harg9 arg10 harg10 arg11 harg11 arg12 harg12 X1 X2 X3 X5 X6 X10 k f7 f8 f9 f11 f12
    isplitl [HR1]; · iexact HR1
    isplitl [HR2]; · iexact HR2
    isplitl [HR3]; · iexact HR3
    isplitl [HR5]; · iexact HR5
    isplitl [HR6]; · iexact HR6
    isplitl [HR10]; · iexact HR10
    isplitl [HW7]
    · iexists _; isplitl [HW7]; · iexact HW7
      ipureintro; rw [s7, h7]; rfl
    isplitl [HW8]
    · iexists _; isplitl [HW8]; · iexact HW8
      ipureintro; intro n hn; rw [s8, h7]
      by_cases e : n = k.val
      · subst e; exact blk_putBlk_same _ _ hk _
      · rw [blk_putBlk_ne _ _ _ hk e (by omega)]; exact h8 n (by omega)
    isplitl [HW9]
    · iexists _; isplitl [HW9]; · iexact HW9
      ipureintro; intro n hn; rw [s9, h7]
      by_cases e : n = k.val
      · subst e; exact blk_putBlk_same _ _ hk _
      · rw [blk_putBlk_ne _ _ _ hk e (by omega)]; exact h9 n (by omega)
    isplitl [HW11]; · iexact HW11
    iexact HW12

omit [FloatOps F] [Named F] in
/-- An array is known by its row blocks. -/
theorem eq_of_blk {e : EltTy} (x : Vec F S4096x128 e) (g : ℕ → Vec F S512x128 e) (h : ∀ i < 8, blk x i = g i) :
    x = fun y => g ((y 0).val / 512) (ix2 (n0 := 512) (n1 := 128) ⟨(y 0).val % 512, Nat.mod_lt _ (by decide)⟩ (y 1)) := by
  funext y
  have h0 : (y 0).val < 4096 := (y 0).isLt
  rw [← h _ (by omega)]
  unfold blk
  refine congrArg x (funext fun a => Fin.ext ?_)
  match a with
  | ⟨0, _⟩ => show (y 0).val = (512 * ((y 0).val / 512) + (y 0).val % 512) % 4096; omega
  | ⟨1, _⟩ => rfl

set_option maxHeartbeats 2000000 in
/-- The body on one head: the input blocks are as they were and the three gradient blocks hold `outQ`, `outK` and `outV`
    of them. -/
theorem body_run (𝒱 : Variants) (c : Dev nD) (bd : Option 𝒱.V) (E : Set ℕ) (i : grid0.Coords) (arg1 : Memref sig .tc .vmem S4096x128 .bf16) (harg1 : arg1.IsWhole) (arg2 : Memref sig .tc .vmem S4096x128 .bf16) (harg2 : arg2.IsWhole) (arg3 : Memref sig .tc .vmem S4096x128 .bf16) (harg3 : arg3.IsWhole) (arg4 : Memref sig .tc .vmem S4096x128 .f32) (harg4 : arg4.IsWhole) (arg5 : Memref sig .tc .vmem S1x8x4096 .f32) (harg5 : arg5.IsWhole) (arg6 : Memref sig .tc .vmem S4096x128 .bf16) (harg6 : arg6.IsWhole) (arg7 : Memref sig .tc .vmem S4096x128 .f32) (harg7 : arg7.IsWhole) (arg8 : Memref sig .tc .vmem S4096x128 .f32) (harg8 : arg8.IsWhole) (arg9 : Memref sig .tc .vmem S4096x128 .f32) (harg9 : arg9.IsWhole) (arg10 : Memref sig .tc .vmem S8x8x512 .f32) (harg10 : arg10.IsWhole) (arg11 : Memref sig .tc .vmem S512x128 .f32) (harg11 : arg11.IsWhole) (arg12 : Memref sig .tc .vmem S512x128 .f32) (harg12 : arg12.IsWhole) (X1 : BufTy.Contents (Elt F) arg1.view.ty) (X2 : BufTy.Contents (Elt F) arg2.view.ty) (X3 : BufTy.Contents (Elt F) arg3.view.ty) (X4 : BufTy.Contents (Elt F) arg4.view.ty) (X5 : BufTy.Contents (Elt F) arg5.view.ty) (X6 : BufTy.Contents (Elt F) arg6.view.ty) (f7 : BufTy.Contents (Elt F) arg7.view.ty) (f8 : BufTy.Contents (Elt F) arg8.view.ty) (f9 : BufTy.Contents (Elt F) arg9.view.ty) (f10 : BufTy.Contents (Elt F) arg10.view.ty) (f11 : BufTy.Contents (Elt F) arg11.view.ty) (f12 : BufTy.Contents (Elt F) arg12.view.ty) :
    (iprop((arg1.view.loc (c : Thread nD τ) ↦[arg1.view.set]{fullShare} X1) ∗ (arg2.view.loc (c : Thread nD τ) ↦[arg2.view.set]{fullShare} X2) ∗ (arg3.view.loc (c : Thread nD τ) ↦[arg3.view.set]{fullShare} X3) ∗ (arg4.view.loc (c : Thread nD τ) ↦[arg4.view.set]{fullShare} X4) ∗ (arg5.view.loc (c : Thread nD τ) ↦[arg5.view.set]{fullShare} X5) ∗ (arg6.view.loc (c : Thread nD τ) ↦[arg6.view.set]{fullShare} X6) ∗ (arg7.view.loc (c : Thread nD τ) ↦[arg7.view.set]{fullShare} f7) ∗ (arg8.view.loc (c : Thread nD τ) ↦[arg8.view.set]{fullShare} f8) ∗ (arg9.view.loc (c : Thread nD τ) ↦[arg9.view.set]{fullShare} f9) ∗ (arg10.view.loc (c : Thread nD τ) ↦[arg10.view.set]{fullShare} f10) ∗ (arg11.view.loc (c : Thread nD τ) ↦[arg11.view.set]{fullShare} f11) ∗ (arg12.view.loc (c : Thread nD τ) ↦[arg12.view.set]{fullShare} f12)) : sProp 𝕄)
      ⊢ wp frame (wpE (defs₀ (F := F)) 𝒱 (c : Thread nD τ) bd) E (cc0_mla_attn_bwd (F := F) i arg1 harg1 arg2 harg2 arg3 harg3 arg4 harg4 arg5 harg5 arg6 harg6 arg7 harg7 arg8 harg8 arg9 harg9 arg10 harg10 arg11 harg11 arg12 harg12)
          (fun _ => iprop((arg1.view.loc (c : Thread nD τ) ↦[arg1.view.set]{fullShare} X1) ∗ (arg2.view.loc (c : Thread nD τ) ↦[arg2.view.set]{fullShare} X2) ∗ (arg3.view.loc (c : Thread nD τ) ↦[arg3.view.set]{fullShare} X3) ∗ (arg4.view.loc (c : Thread nD τ) ↦[arg4.view.set]{fullShare} X4) ∗ (arg5.view.loc (c : Thread nD τ) ↦[arg5.view.set]{fullShare} X5) ∗ (arg6.view.loc (c : Thread nD τ) ↦[arg6.view.set]{fullShare} X6)
            ∗ (∃ f, ⌜(arg7.view.read (Elt F) f) = outQ (arg1.view.read (Elt F) X1) (arg2.view.read (Elt F) X2) (arg3.view.read (Elt F) X3) (arg4.view.read (Elt F) X4) (arg5.view.read (Elt F) X5) (arg6.view.read (Elt F) X6)⌝ ∗ (arg7.view.loc (c : Thread nD τ) ↦[arg7.view.set]{fullShare} f))
            ∗ (∃ f, ⌜(arg8.view.read (Elt F) f) = outK (arg1.view.read (Elt F) X1) (arg2.view.read (Elt F) X2) (arg3.view.read (Elt F) X3) (arg4.view.read (Elt F) X4) (arg5.view.read (Elt F) X5) (arg6.view.read (Elt F) X6)⌝ ∗ (arg8.view.loc (c : Thread nD τ) ↦[arg8.view.set]{fullShare} f))
            ∗ (∃ f, ⌜(arg9.view.read (Elt F) f) = outV (arg1.view.read (Elt F) X1) (arg2.view.read (Elt F) X2) (arg3.view.read (Elt F) X3) (arg4.view.read (Elt F) X4) (arg5.view.read (Elt F) X5) (arg6.view.read (Elt F) X6)⌝ ∗ (arg9.view.loc (c : Thread nD τ) ↦[arg9.view.set]{fullShare} f))
            ∗ (∃ f, (arg10.view.loc (c : Thread nD τ) ↦[arg10.view.set]{fullShare} f)) ∗ (∃ f, (arg11.view.loc (c : Thread nD τ) ↦[arg11.view.set]{fullShare} f)) ∗ (∃ f, (arg12.view.loc (c : Thread nD τ) ↦[arg12.view.set]{fullShare} f)))) := by
  simp only [cc0_mla_attn_bwd_eq_skeleton]; unfold cc0_mla_attn_bwd_skel
  iintro ⟨HR1, HR2, HR3, HR4, HR5, HR6, HW7, HW8, HW9, HW10, HW11, HW12⟩
  sl_exec
  sl_for (fun k _ => inv2 (F := F) c arg1 arg2 arg3 arg5 arg6 arg10 arg7 arg8 arg9 arg11 arg12 X1 X2 X3 X5 X6 (arg10.view.writes (Elt F) f10 (pb_k0_t1 (F := F) 𝒱 c bd i arg1 harg1 arg2 harg2 arg3 harg3 arg4 harg4 arg5 harg5 arg6 harg6 arg7 harg7 arg8 harg8 arg9 harg9 arg10 harg10 arg11 harg11 arg12 harg12 X4 X6 k0_t1_loop.trips)) k) $$ [HR1 HR2 HR3 HR5 HR6 HW10 HW7 HW8 HW9 HW11 HW12]
  case region =>
    intro k _
    exact inv2_step 𝒱 c bd E i arg1 harg1 arg2 harg2 arg3 harg3 arg4 harg4 arg5 harg5 arg6 harg6 arg7 harg7 arg8 harg8 arg9 harg9 arg10 harg10 arg11 harg11 arg12 harg12 X1 X2 X3 X5 X6 (arg10.view.writes (Elt F) f10 (pb_k0_t1 (F := F) 𝒱 c bd i arg1 harg1 arg2 harg2 arg3 harg3 arg4 harg4 arg5 harg5 arg6 harg6 arg7 harg7 arg8 harg8 arg9 harg9 arg10 harg10 arg11 harg11 arg12 harg12 X4 X6 k0_t1_loop.trips)) k
  · unfold inv2
    isplitl [HR1]; · iexact HR1
    isplitl [HR2]; · iexact HR2
    isplitl [HR3]; · iexact HR3
    isplitl [HR5]; · iexact HR5
    isplitl [HR6]; · iexact HR6
    isplitl [HW10]; · iexact HW10
    isplitl [HW7]
    · iexists _; isplitl [HW7]; · iexact HW7
      ipureintro; exact View.read_writes_full _ _ _ _ _
    isplitl [HW8]
    · iexists _; isplitl [HW8]; · iexact HW8
      ipureintro; intro n hn; exact absurd hn (Nat.not_lt_zero _)
    isplitl [HW9]
    · iexists _; isplitl [HW9]; · iexact HW9
      ipureintro; intro n hn; exact absurd hn (Nat.not_lt_zero _)
    isplitl [HW11]; · iexists _; iexact HW11
    iexists _; iexact HW12
  iintro %_ HI
  unfold inv2
  icases HI with ⟨HR1, HR2, HR3, HR5, HR6, HR10, ⟨%g7, HW7, %h7⟩, ⟨%g8, HW8, %h8⟩, ⟨%g9, HW9, %h9⟩, ⟨%g11, HW11⟩, ⟨%g12, HW12⟩⟩
  sl_exec
  sl_step
  have ht : Scf.trips k0_t2_loop.lb k0_t2_loop.ub k0_t2_loop.st = 8 := trips2
  rw [t1_delta, ht] at h7 h8 h9
  isplitl [HR1]; · iexact HR1
  isplitl [HR2]; · iexact HR2
  isplitl [HR3]; · iexact HR3
  isplitl [HR4]; · iexact HR4
  isplitl [HR5]; · iexact HR5
  isplitl [HR6]; · iexact HR6
  isplitl [HW7]
  · iexists _; isplitr [HW7]; rotate_left; · iexact HW7
    ipureintro; refine (View.read_writes_full _ _ _ _ _).trans ?_
    unfold outQ; rw [← h7]; exact congrArg _ (View.readAt_full _ _ _)
  isplitl [HW8]
  · iexists _; isplitr [HW8]; rotate_left; · iexact HW8
    ipureintro; exact eq_of_blk _ _ h8
  isplitl [HW9]
  · iexists _; isplitr [HW9]; rotate_left; · iexact HW9
    ipureintro; exact eq_of_blk _ _ h9
  isplitl [HR10]; · iexists _; iexact HR10
  isplitl [HW11]; · iexists _; iexact HW11
  iexists _; iexact HW12

end Cert.Proof.KernelIdeal

end
-- ==== Proof.Attn.Launch.lean ====
/-
  The launch: the pipeline's proof data over the four heads, the kernel's body at every head, the run of the whole
  program, and its frame.
-/
module

public import proofs.«01_k».proof.Proof.Attn.Body
public import proofs.«01_k».proof.Proof.Gen.KernelIdeal.Frame
public import Idealize.ShloMosaic.Lib.Claim

@[expose] public section

set_option maxRecDepth 16384

noncomputable section

namespace Cert.Proof.KernelIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-- The proof data on core `c`: the arrays as the region finds them; after the body at a head the inputs' blocks as they
    were and the gradients' blocks at what the body computes of them. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => outQ (iblk m c 0 t) (iblk m c 1 t) (iblk m c 2 t) (iblk m c 3 t) (iblk m c 4 t) (iblk m c 5 t)
    | ⟨7, _⟩ => outK (iblk m c 0 t) (iblk m c 1 t) (iblk m c 2 t) (iblk m c 3 t) (iblk m c 4 t) (iblk m c 5 t)
    | ⟨8, _⟩ => outV (iblk m c 0 t) (iblk m c 1 t) (iblk m c 2 t) (iblk m c 3 t) (iblk m c 4 t) (iblk m c 5 t)
  Φ _ := Pipeline.ΦA spec0 c
  q _ := fullShare
  owed _ := 0

/-- The proof data's arrays are the region's. -/
theorem A_eq (c : Dev nD) (w : Fin cfg0.W) : (dats m 0 c).A w = V m c (Pipeline.arrRef spec0 w) := by
  dsimp only [dats]

theorem before_0 (c : Dev nD) (t : Fin cfg0.N) (d) : (dats m 0 c).before 0 t d = iblk m c 0 t :=
  before0_0_of m (dats m 0 c) (A_eq m c 0) (fun _ => rfl) t d
theorem before_1 (c : Dev nD) (t : Fin cfg0.N) (d) : (dats m 0 c).before 1 t d = iblk m c 1 t :=
  before0_1_of m (dats m 0 c) (A_eq m c 1) (fun _ => rfl) t d
theorem before_2 (c : Dev nD) (t : Fin cfg0.N) (d) : (dats m 0 c).before 2 t d = iblk m c 2 t :=
  before0_2_of m (dats m 0 c) (A_eq m c 2) (fun _ => rfl) t d
theorem before_3 (c : Dev nD) (t : Fin cfg0.N) (d) : (dats m 0 c).before 3 t d = iblk m c 3 t :=
  before0_3_of m (dats m 0 c) (A_eq m c 3) (fun _ => rfl) t d
theorem before_4 (c : Dev nD) (t : Fin cfg0.N) (d) : (dats m 0 c).before 4 t d = iblk m c 4 t :=
  before0_4_of m (dats m 0 c) (A_eq m c 4) (fun _ => rfl) t d
theorem before_5 (c : Dev nD) (t : Fin cfg0.N) (d) : (dats m 0 c).before 5 t d = iblk m c 5 t :=
  before0_5_of m (dats m 0 c) (A_eq m c 5) (fun _ => rfl) t d

/-- What the body is called with at point `t`. -/
def bodyPre (c : Dev nD) (t : Fin cfg0.N) : sProp 𝕄 :=
  iprop((dats m 0 c).Φ t.castSucc ∗ (dats m 0 c).owesAt () t.castSucc ∗ (∃ d, owns c ((cfg0.win 0).stage (cfg0.slots t 0)) fullShare ((dats m 0 c).before 0 t d)) ∗ (∃ d, owns c ((cfg0.win 1).stage (cfg0.slots t 1)) fullShare ((dats m 0 c).before 1 t d)) ∗ (∃ d, owns c ((cfg0.win 2).stage (cfg0.slots t 2)) fullShare ((dats m 0 c).before 2 t d)) ∗ (∃ d, owns c ((cfg0.win 3).stage (cfg0.slots t 3)) fullShare ((dats m 0 c).before 3 t d)) ∗ (∃ d, owns c ((cfg0.win 4).stage (cfg0.slots t 4)) fullShare ((dats m 0 c).before 4 t d)) ∗ (∃ d, owns c ((cfg0.win 5).stage (cfg0.slots t 5)) fullShare ((dats m 0 c).before 5 t d)) ∗ (∃ d, owns c ((cfg0.win 6).stage (cfg0.slots t 6)) fullShare ((dats m 0 c).before 6 t d)) ∗ (∃ d, owns c ((cfg0.win 7).stage (cfg0.slots t 7)) fullShare ((dats m 0 c).before 7 t d)) ∗ (∃ d, owns c ((cfg0.win 8).stage (cfg0.slots t 8)) fullShare ((dats m 0 c).before 8 t d)))

/-- What the body returns at point `t`. -/
def bodyPost (c : Dev nD) (t : Fin cfg0.N) : sProp 𝕄 :=
  iprop((dats m 0 c).Φ t.succ ∗ (dats m 0 c).owesAt () t.succ ∗ owns c ((cfg0.win 0).stage (cfg0.slots t 0)) fullShare ((dats m 0 c).after 0 t) ∗ owns c ((cfg0.win 1).stage (cfg0.slots t 1)) fullShare ((dats m 0 c).after 1 t) ∗ owns c ((cfg0.win 2).stage (cfg0.slots t 2)) fullShare ((dats m 0 c).after 2 t) ∗ owns c ((cfg0.win 3).stage (cfg0.slots t 3)) fullShare ((dats m 0 c).after 3 t) ∗ owns c ((cfg0.win 4).stage (cfg0.slots t 4)) fullShare ((dats m 0 c).after 4 t) ∗ owns c ((cfg0.win 5).stage (cfg0.slots t 5)) fullShare ((dats m 0 c).after 5 t) ∗ owns c ((cfg0.win 6).stage (cfg0.slots t 6)) fullShare ((dats m 0 c).after 6 t) ∗ owns c ((cfg0.win 7).stage (cfg0.slots t 7)) fullShare ((dats m 0 c).after 7 t) ∗ owns c ((cfg0.win 8).stage (cfg0.slots t 8)) fullShare ((dats m 0 c).after 8 t))

set_option maxHeartbeats 2000000 in
/-- The body at any head. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3, before_4, before_5]
  rw [show (dats m 0 c).Φ t.succ = Pipeline.ΦA spec0 c from rfl, show (dats m 0 c).Φ t.castSucc = Pipeline.ΦA spec0 c from rfl,
    show (dats m 0 c).owesAt () t.succ = (dats m 0 c).owesAt () t.castSucc from rfl]
  unfold Pipeline.ΦA
  rw [scopedRest0_eq]
  unfold owns
  iintro ⟨⟨⟨⟨%g10, G10⟩, ⟨%g11, G11⟩, ⟨%g12, G12⟩⟩, Hr⟩, Ho, ⟨%d0, %f1, %h1, H1⟩, ⟨%d1, %f2, %h2, H2⟩, ⟨%d2, %f3, %h3, H3⟩, ⟨%d3, %f4, %h4, H4⟩, ⟨%d4, %f5, %h5, H5⟩, ⟨%d5, %f6, %h6, H6⟩, ⟨%d6, %f7, %h7, H7⟩, ⟨%d7, %f8, %h8, H8⟩, ⟨%d8, %f9, %h9, H9⟩⟩
  ihave R := (body_run (F := F) Variants.none c none Set.univ (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (Memref.whole cc0_scratch0) (Memref.isWhole_whole _) (Memref.whole cc0_scratch1) (Memref.isWhole_whole _) (Memref.whole cc0_scratch2) (Memref.isWhole_whole _) f1 f2 f3 f4 f5 f6 f7 f8 f9 g10 g11 g12) $$ [H1 H2 H3 H4 H5 H6 H7 H8 H9 G10 G11 G12]
  · isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [G10]; · simp only [Memref.view_whole, View.set_whole]; iexact G10
    isplitl [G11]; · simp only [Memref.view_whole, View.set_whole]; iexact G11
    simp only [Memref.view_whole, View.set_whole]; iexact G12
  rw [h1, h2, h3, h4, h5, h6]
  iapply (wp_wand_r Idealize.ShloMosaic.frame (wpE (defs₀ (F := F)) Variants.none (c : Thread nD τ) none) Set.univ)
  isplitl [R]; · iexact R
  iintro %_ ⟨H1, H2, H3, H4, H5, H6, H7, H8, H9, ⟨%k10, G10⟩, ⟨%k11, G11⟩, ⟨%k12, G12⟩⟩
  isplitl [Hr G10 G11 G12]
  · isplitl [G10 G11 G12]
    · isplitl [G10]; · iexists k10; simp only [Memref.view_whole, View.set_whole]; iexact G10
      isplitl [G11]; · iexists k11; simp only [Memref.view_whole, View.set_whole]; iexact G11
      iexists k12; simp only [Memref.view_whole, View.set_whole]; iexact G12
    · iexact Hr
  isplitl [Ho]; · iexact Ho
  isplitl [H1]; · iexists f1; isplitr; · ipureintro; exact h1
                  iexact H1
  isplitl [H2]; · iexists f2; isplitr; · ipureintro; exact h2
                  iexact H2
  isplitl [H3]; · iexists f3; isplitr; · ipureintro; exact h3
                  iexact H3
  isplitl [H4]; · iexists f4; isplitr; · ipureintro; exact h4
                  iexact H4
  isplitl [H5]; · iexists f5; isplitr; · ipureintro; exact h5
                  iexact H5
  isplitl [H6]; · iexists f6; isplitr; · ipureintro; exact h6
                  iexact H6
  isplitl [H7]; · iexact H7
  isplitl [H8]; · iexact H8
  iexact H9

/-- The body table's row at a head is the body. -/
theorem defs₀_row (t : Fin cfg0.N) :
    defs₀ (F := F) .tc cfg0.body (cfg0.bodyArgs t (cfg0.slots t)) = bodyAt0 t := by
  unfold defs₀; rw [Defs.onTc_tc]

/-- The library's body obligation. -/
theorem body_obligation (c : Dev nD) : BodyObligation (dats m 0 c) (defs₀ (F := F)) Variants.none () Set.univ := fun t => by
  rw [bigSep_W0, bigSep_W0, defs₀_row]
  exact triple_restated (sound_body m c t) rfl .rfl fun _ => .rfl

set_option backward.isDefEq.respectTransparency.types false in
set_option maxHeartbeats 1000000 in
/-- The launch: every array of the pipeline ends at what the proof data say, every other buffer as the region found it, every
    semaphore counter at zero. -/
theorem run_quiescent : θ_run defs (onTc (τ := τ) (main (F := F))) (s₀ m ρ)
    (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The launch without the counters. -/
theorem run_post : θ_run defs (onTc (τ := τ) (main (F := F))) (s₀ m ρ) (Pipeline.FramePost cfgs (dats m) 0 (V m)) :=
  (θ_run defs _ _).mono (fun _ h => h.1) (run_quiescent m ρ)

/-- The frame: the arguments end as they were, every counter at zero. -/
theorem frame_quiescent : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) ∧ r.2.sem = fun _ => 0) :=
  θ_run_and (frame_of m ρ (dats m) (A_eq m) (run_post m ρ)) ((θ_run defs _ _).mono (fun _ h => h.2) (run_quiescent m ρ))

end Cert.Proof.KernelIdeal

end
-- ==== Proof.Value.Pay.lean ====
/-
  What each visit computes, read at an index over the extended reals.
-/
module

public import proofs.«01_k».proof.Proof.Attn.Model
public import Idealize.ShloMosaic.Lib.Pointwise
public import Idealize.ShloMosaic.Lib.WordCmp

@[expose] public section

set_option maxRecDepth 16384

noncomputable section

namespace Cert.Proof.KernelIdeal

open Cert.KernelIdeal Cert.KernelIdeal.Gen
open Idealize.ShloMosaic

/-- The product of row `r` of one block and row `m` of another. -/
def sc (k q : Vec Ideal S512x128 .bf16) (r m : Fin 512) : EReal := ∑ d : Fin 128, k (ix2 r d) * q (ix2 m d)

/-- The exponentials of a visit past the diagonal. -/
theorem p12 (vk q : Vec Ideal S512x128 .bf16) (l : Vec Ideal S1x1x512 .f32) (r m : Fin 512) :
    k0_pay12 (F := Ideal) vk q l (ix2 r m) = Ideal.exp (sc vk q r m - l (ix3 0 0 m)) := by
  unfold sc
  pointwise [k0_pay12, k0_pay10]

/-- A visit's addition to the values' gradient. -/
theorem p13 (vk q o : Vec Ideal S512x128 .bf16) (l : Vec Ideal S1x1x512 .f32) (s : Vec Ideal S512x128 .f32) (r : Fin 512) (c : Fin 128) :
    k0_pay13 (F := Ideal) vk q o l s (ix2 r c)
      = s (ix2 r c) + ∑ m : Fin 512, Ideal.exp (sc vk q r m - l (ix3 0 0 m)) * o (ix2 m c) := by
  pointwise [k0_pay13, k0_pay11]
  exact congrArg _ (Finset.sum_congr rfl fun m _ => by rw [p12])

/-- The scores' gradients of a visit past the diagonal. -/
theorem p14 (vk vv q o : Vec Ideal S512x128 .bf16) (l d : Vec Ideal S1x1x512 .f32) (r m : Fin 512) :
    k0_pay14 (F := Ideal) vk vv q o l d (ix2 r m)
      = Ideal.exp (sc vk q r m - l (ix3 0 0 m)) * (sc vv o r m - d (ix3 0 0 m)) := by
  pointwise [k0_pay14, k0_pay11]
  rw [p12]; rfl

/-- A visit's addition to the keys' gradient. -/
theorem p15 (vk vv q o : Vec Ideal S512x128 .bf16) (l d : Vec Ideal S1x1x512 .f32) (s : Vec Ideal S512x128 .f32) (r : Fin 512) (c : Fin 128) :
    k0_pay15 (F := Ideal) vk vv q o l d s (ix2 r c)
      = s (ix2 r c) + ∑ m : Fin 512, Ideal.exp (sc vk q r m - l (ix3 0 0 m)) * (sc vv o r m - d (ix3 0 0 m)) * q (ix2 m c) := by
  pointwise [k0_pay15, k0_pay10]
  exact congrArg _ (Finset.sum_congr rfl fun m _ => by rw [p14])

/-- A visit's addition to the queries' gradient. -/
theorem p28 (k : Vec Ideal S512x128 .bf16) (d : FVec Ideal S512x512 .f32) (x : Vec Ideal S512x128 .f32) (m : Fin 512) (c : Fin 128) :
    k0_pay28 (F := Ideal) k d x (ix2 m c) = x (ix2 m c) + ∑ r : Fin 512, d (ix2 r m) * k (ix2 r c) := by
  pointwise [k0_pay28]

/-- The row products of a block, the same in each of the eight sublanes. -/
theorem p2 (o : Vec Ideal S512x128 .bf16) (x : Vec Ideal S512x128 .f32) (a : Fin 8) (m : Fin 512) :
    k0_pay2 (F := Ideal) o x (ix3 0 a m) = ∑ d : Fin 128, o (ix2 m d) * x (ix2 m d) := by
  pointwise [k0_pay2]

/-- The exponentials of the diagonal visit: none where the key lies after the query. -/
theorem p22 (k q : Vec Ideal S512x128 .bf16) (l : Vec Ideal S1x1x512 .f32) (r m : Fin 512) :
    k0_pay22 (F := Ideal) k q l (ix2 r m) = if r.val ≤ m.val then Ideal.exp (sc k q r m - l (ix3 0 0 m)) else 0 := by
  unfold sc
  pointwise [k0_pay22, k0_pay16, k0_pay20]
  have hr := r.isLt
  have hm := m.isLt
  rw [WordCmp.cmpi_sle_ofNat (by omega) (by omega)]
  by_cases h : r.val ≤ m.val
  · simp [h, Scalar.select]
  · simp [h, Scalar.select, Named.named, κ]

/-- The diagonal visit's addition to the values' gradient. -/
theorem p24 (o : Vec Ideal S512x128 .bf16) (s : Vec Ideal S512x128 .f32) (k q : Vec Ideal S512x128 .bf16) (l : Vec Ideal S1x1x512 .f32) (r : Fin 512) (c : Fin 128) :
    k0_pay24 (F := Ideal) (k0_pay21 o) s (k0_pay23 k q l) (constant S512x128 .f32 0x00000000#32) (ix2 r c)
      = s (ix2 r c) + ∑ m : Fin 512, k0_pay22 (F := Ideal) k q l (ix2 r m) * o (ix2 m c) := by
  pointwise [k0_pay24, k0_pay21, k0_pay23]

/-- The scores' gradients of the diagonal visit. -/
theorem p25 (v o : Vec Ideal S512x128 .bf16) (p : FVec Ideal S512x512 .f32) (d : Vec Ideal S1x1x512 .f32) (r m : Fin 512) :
    k0_pay25 (F := Ideal) (k0_pay17 v) (k0_pay21 o) p d (ix2 r m) = p (ix2 r m) * (sc v o r m - d (ix3 0 0 m)) := by
  unfold sc
  pointwise [k0_pay25, k0_pay17, k0_pay21]

/-- The diagonal visit's addition to the keys' gradient. -/
theorem p26 (v q o : Vec Ideal S512x128 .bf16) (p : FVec Ideal S512x512 .f32) (d : Vec Ideal S1x1x512 .f32) (s : Vec Ideal S512x128 .f32) (r : Fin 512) (c : Fin 128) :
    k0_pay26 (F := Ideal) (k0_pay17 v) (k0_pay20 q) (k0_pay21 o) p d s (ix2 r c)
      = s (ix2 r c) + ∑ m : Fin 512, p (ix2 r m) * (sc v o r m - d (ix3 0 0 m)) * q (ix2 m c) := by
  pointwise [k0_pay26, k0_pay20]
  exact congrArg _ (Finset.sum_congr rfl fun m _ => by rw [p25])

/-- The diagonal visit's addition to the queries' gradient. -/
theorem p27 (k v o : Vec Ideal S512x128 .bf16) (p : FVec Ideal S512x512 .f32) (d : Vec Ideal S1x1x512 .f32) (s : Vec Ideal S512x128 .f32) (m : Fin 512) (c : Fin 128) :
    k0_pay27 (F := Ideal) (k0_pay16 k) (k0_pay17 v) (k0_pay21 o) p d s (ix2 m c)
      = s (ix2 m c) + ∑ r : Fin 512, p (ix2 r m) * (sc v o r m - d (ix3 0 0 m)) * k (ix2 r c) := by
  pointwise [k0_pay27, k0_pay16]
  exact congrArg _ (Finset.sum_congr rfl fun r _ => by rw [p25])

/-- The starting values are zero. -/
theorem p1 (b : Fin 4096) (c : Fin 128) : k0_pay1 (F := Ideal) (ix2 b c) = 0 := by
  pointwise [k0_pay1]

theorem p18 (r : Fin 512) (c : Fin 128) : k0_pay18 (F := Ideal) (ix2 r c) = 0 := by
  pointwise [k0_pay18]

theorem p19 (r : Fin 512) (c : Fin 128) : k0_pay19 (F := Ideal) (ix2 r c) = 0 := by
  pointwise [k0_pay19]

/-- The scale of the logits. -/
def scale : EReal := Ideal.ofBits .f32 0x3DD105EC#32

/-- The queries' gradient is scaled at the end. -/
theorem p3 (x : Vec Ideal S4096x128 .f32) (b : Fin 4096) (c : Fin 128) : k0_pay3 (F := Ideal) x (ix2 b c) = x (ix2 b c) * scale := by
  unfold scale
  pointwise [k0_pay3]

theorem p16 (x : Vec Ideal S512x128 .bf16) : k0_pay16 (F := Ideal) x = x := by
  funext y; pointwise [k0_pay16]

theorem p17 (x : Vec Ideal S512x128 .bf16) : k0_pay17 (F := Ideal) x = x := by
  funext y; pointwise [k0_pay17]

end Cert.Proof.KernelIdeal

end
-- ==== Proof.Value.Head.lean ====
/-
  What the body computes at one head, as sums over the head's rows: the visits' blocks put together.
-/
module

public import proofs.«01_k».proof.Proof.Value.Pay

@[expose] public section

set_option maxRecDepth 16384

noncomputable section

namespace Cert.Proof.KernelIdeal

open Cert.KernelIdeal Cert.KernelIdeal.Gen
open Idealize.ShloMosaic

/-- Row `n` of an array, at lane `d`. -/
def row {e : EltTy} (x : Vec Ideal S4096x128 e) (n : ℕ) (d : Fin 128) : Elt Ideal e :=
  x (ix2 (n0 := 4096) (n1 := 128) ⟨n % 4096, Nat.mod_lt _ (by decide)⟩ d)

section Rows
variable (x1 x2 x3 x6 : Vec Ideal S4096x128 .bf16) (x5 : Vec Ideal S1x8x4096 .f32) (δ : Vec Ideal S8x8x512 .f32)

/-- The exponential at key row `a` and query row `b`: none where the key lies after the query. -/
def ex (a b : ℕ) : EReal :=
  if a ≤ b then Ideal.exp ((∑ d : Fin 128, row x2 a d * row x1 b d)
    - x5 (ix3 (n0 := 1) (n1 := 8) (n2 := 4096) 0 0 ⟨b % 4096, Nat.mod_lt _ (by decide)⟩)) else 0

/-- The score's gradient at key row `a` and query row `b`. -/
def ds (a b : ℕ) : EReal :=
  ex x1 x2 x5 a b * ((∑ d : Fin 128, row x3 a d * row x6 b d)
    - δ (ix3 (n0 := 8) (n1 := 8) (n2 := 512) ⟨b / 512 % 8, Nat.mod_lt _ (by decide)⟩ 0 ⟨b % 512, Nat.mod_lt _ (by decide)⟩))

/-- What query block `i` adds to the values' gradient of key block `j`. -/
def addV (j i : ℕ) (r : Fin 512) (c : Fin 128) : EReal :=
  ∑ m : Fin 512, ex x1 x2 x5 (512 * j + r.val) (512 * i + m.val) * row x6 (512 * i + m.val) c

/-- What query block `i` adds to the keys' gradient of key block `j`. -/
def addK (j i : ℕ) (r : Fin 512) (c : Fin 128) : EReal :=
  ∑ m : Fin 512, ds x1 x2 x3 x6 x5 δ (512 * j + r.val) (512 * i + m.val) * row x1 (512 * i + m.val) c

/-- What key block `j` adds to the queries' gradient of query block `i`. -/
def addQ (j i : ℕ) (m : Fin 512) (c : Fin 128) : EReal :=
  ∑ r : Fin 512, ds x1 x2 x3 x6 x5 δ (512 * j + r.val) (512 * i + m.val) * row x2 (512 * j + r.val) c

variable {x1 x2 x3 x6 x5 δ}

theorem delRow_at (i : ℕ) (m : Fin 512) : delRow δ i (ix3 (n0 := 1) (n1 := 1) (n2 := 512) 0 0 m)
    = δ (ix3 (n0 := 8) (n1 := 8) (n2 := 512) ⟨(512 * i + m.val) / 512 % 8, Nat.mod_lt _ (by decide)⟩ 0 ⟨(512 * i + m.val) % 512, Nat.mod_lt _ (by decide)⟩) := by
  have hm := m.isLt
  have h1 : (512 * i + m.val) / 512 = i := by omega
  have h2 : (512 * i + m.val) % 512 = m.val := by omega
  refine congrArg δ (funext fun a => Fin.ext ?_)
  match a with
  | ⟨0, _⟩ => show i % 8 = (512 * i + m.val) / 512 % 8; rw [h1]
  | ⟨1, _⟩ => rfl
  | ⟨2, _⟩ => show m.val = (512 * i + m.val) % 512; rw [h2]

/-- The exponential of a visit past the diagonal. -/
theorem ex_past {j i : ℕ} (h : j < i) (r m : Fin 512) :
    Ideal.exp (sc (blk x2 j) (blk x1 i) r m - lseRow x5 i (ix3 (n0 := 1) (n1 := 1) (n2 := 512) 0 0 m)) = ex x1 x2 x5 (512 * j + r.val) (512 * i + m.val) := by
  unfold ex
  rw [if_pos (by have := r.isLt; omega)]
  rfl

/-- The exponential of the diagonal visit. -/
theorem ex_diag (j : ℕ) (r m : Fin 512) : diagP (F := Ideal) x1 x2 x5 j (ix2 r m) = ex x1 x2 x5 (512 * j + r.val) (512 * j + m.val) := by
  unfold diagP ex
  rw [p22]
  by_cases h : r.val ≤ m.val
  · rw [if_pos h, if_pos (by omega)]; rfl
  · rw [if_neg h, if_neg (by omega)]

/-- The score's gradient of a visit past the diagonal. -/
theorem ds_past {j i : ℕ} (h : j < i) (r m : Fin 512) :
    Ideal.exp (sc (blk x2 j) (blk x1 i) r m - lseRow x5 i (ix3 (n0 := 1) (n1 := 1) (n2 := 512) 0 0 m))
      * (sc (blk x3 j) (blk x6 i) r m - delRow δ i (ix3 (n0 := 1) (n1 := 1) (n2 := 512) 0 0 m))
      = ds x1 x2 x3 x6 x5 δ (512 * j + r.val) (512 * i + m.val) := by
  rw [ex_past h, delRow_at]; rfl

/-- The score's gradient of the diagonal visit. -/
theorem ds_diag (j : ℕ) (r m : Fin 512) : diagP (F := Ideal) x1 x2 x5 j (ix2 r m)
      * (sc (blk x3 j) (blk x6 j) r m - delRow δ j (ix3 (n0 := 1) (n1 := 1) (n2 := 512) 0 0 m))
      = ds x1 x2 x3 x6 x5 δ (512 * j + r.val) (512 * j + m.val) := by
  rw [ex_diag, delRow_at]; rfl

/-- Nothing where the key lies after the query. -/
theorem ex_before {a b : ℕ} (h : b < a) : ex x1 x2 x5 a b = 0 := by
  unfold ex; rw [if_neg (by omega)]

theorem ds_before {a b : ℕ} (h : b < a) : ds x1 x2 x3 x6 x5 δ a b = 0 := by
  unfold ds; rw [ex_before h, zero_mul]

theorem addV_before {j i : ℕ} (h : i < j) (r : Fin 512) (c : Fin 128) : addV x1 x2 x6 x5 j i r c = 0 :=
  Finset.sum_eq_zero fun m _ => by rw [ex_before (by have := m.isLt; omega)]; exact zero_mul _

theorem addK_before {j i : ℕ} (h : i < j) (r : Fin 512) (c : Fin 128) : addK x1 x2 x3 x6 x5 δ j i r c = 0 :=
  Finset.sum_eq_zero fun m _ => by rw [ds_before (by have := m.isLt; omega)]; exact zero_mul _

theorem addQ_before {j i : ℕ} (h : i < j) (m : Fin 512) (c : Fin 128) : addQ x1 x2 x3 x6 x5 δ j i m c = 0 :=
  Finset.sum_eq_zero fun r _ => by rw [ds_before (by have := m.isLt; omega)]; exact zero_mul _

/-! ### The loop over query blocks -/

section Inner
variable (j : ℕ) (s₀ : Vec Ideal S4096x128 .f32 × Vec Ideal S512x128 .f32 × Vec Ideal S512x128 .f32)

/-- The values' gradient after `n` visits. -/
theorem inner_v (n : ℕ) (r : Fin 512) (c : Fin 128) :
    (inner (F := Ideal) (blk x2 j) (blk x3 j) x1 x6 x5 δ j s₀ n).2.2 (ix2 r c)
      = s₀.2.2 (ix2 r c) + ∑ t ∈ Finset.range n, addV x1 x2 x6 x5 j (j + t + 1) r c := by
  induction n with
  | zero => rw [Finset.sum_range_zero, add_zero]; rfl
  | succ n ih =>
    rw [Finset.sum_range_succ, ← add_assoc, ← ih]
    refine (p13 (blk x2 j) (blk x1 (j + n + 1)) (blk x6 (j + n + 1)) (lseRow x5 (j + n + 1)) _ r c).trans (congrArg _ ?_)
    exact Finset.sum_congr rfl fun m _ => by rw [ex_past (by omega)]; rfl

/-- The keys' gradient after `n` visits. -/
theorem inner_k (n : ℕ) (r : Fin 512) (c : Fin 128) :
    (inner (F := Ideal) (blk x2 j) (blk x3 j) x1 x6 x5 δ j s₀ n).2.1 (ix2 r c)
      = s₀.2.1 (ix2 r c) + ∑ t ∈ Finset.range n, addK x1 x2 x3 x6 x5 δ j (j + t + 1) r c := by
  induction n with
  | zero => rw [Finset.sum_range_zero, add_zero]; rfl
  | succ n ih =>
    rw [Finset.sum_range_succ, ← add_assoc, ← ih]
    refine (p15 (blk x2 j) (blk x3 j) (blk x1 (j + n + 1)) (blk x6 (j + n + 1)) (lseRow x5 (j + n + 1)) (delRow δ (j + n + 1)) _ r c).trans (congrArg _ ?_)
    exact Finset.sum_congr rfl fun m _ => by rw [ds_past (by omega)]; rfl

/-- Row block `i` of the queries' gradient after `n` visits. -/
theorem inner_q (n : ℕ) (hn : j + n < 8) (i : ℕ) (hi : i < 8) (m : Fin 512) (c : Fin 128) :
    blk (inner (F := Ideal) (blk x2 j) (blk x3 j) x1 x6 x5 δ j s₀ n).1 i (ix2 m c)
      = blk s₀.1 i (ix2 m c) + if j < i ∧ i ≤ j + n then addQ x1 x2 x3 x6 x5 δ j i m c else 0 := by
  induction n with
  | zero => rw [if_neg (by omega), add_zero]; rfl
  | succ n ih =>
    have ih := ih (by omega)
    by_cases h : i = j + n + 1
    · subst h
      rw [if_neg (by omega), add_zero] at ih
      rw [if_pos (by omega), ← ih]
      show blk (putBlk _ (j + n + 1) _) (j + n + 1) (ix2 m c) = _
      rw [blk_putBlk_same _ _ (by omega)]
      refine (p28 _ _ _ m c).trans (congrArg _ ?_)
      exact Finset.sum_congr rfl fun r _ => by rw [p14, ds_past (by omega)]; rfl
    · show blk (putBlk _ (j + n + 1) _) i (ix2 m c) = _
      rw [blk_putBlk_ne _ _ _ (by omega) h hi, ih]
      have hiff : (j < i ∧ i ≤ j + n) ↔ (j < i ∧ i ≤ j + (n + 1)) := by omega
      simp only [hiff]

end Inner

/-! ### The loop over key blocks -/

/-- The values' gradient of key block `j`, from any queries' gradient before it. -/
theorem outer_v (j : ℕ) (a7 : Vec Ideal S4096x128 .f32) (r : Fin 512) (c : Fin 128) :
    (outer (F := Ideal) x1 x2 x3 x6 x5 δ j a7).2.2 (ix2 r c) = addV x1 x2 x6 x5 j j r c + ∑ t ∈ Finset.range (7 - j), addV x1 x2 x6 x5 j (j + t + 1) r c := by
  unfold outer
  rw [p16, p17, inner_v]
  refine congrArg₂ _ ?_ rfl
  refine (p24 _ _ _ _ _ r c).trans ?_
  rw [p19, zero_add]
  exact Finset.sum_congr rfl fun m _ => congrArg₂ _ (ex_diag j r m) rfl

/-- The keys' gradient of key block `j`. -/
theorem outer_k (j : ℕ) (a7 : Vec Ideal S4096x128 .f32) (r : Fin 512) (c : Fin 128) :
    (outer (F := Ideal) x1 x2 x3 x6 x5 δ j a7).2.1 (ix2 r c) = addK x1 x2 x3 x6 x5 δ j j r c + ∑ t ∈ Finset.range (7 - j), addK x1 x2 x3 x6 x5 δ j (j + t + 1) r c := by
  unfold outer
  rw [p16, p17, inner_k]
  refine congrArg₂ _ ?_ rfl
  refine (p26 _ _ _ _ _ _ r c).trans ?_
  rw [p18, zero_add]
  exact Finset.sum_congr rfl fun m _ => congrArg₂ _ (ds_diag j r m) rfl

/-- Row block `i` of the queries' gradient after key block `j`. -/
theorem outer_q (j : ℕ) (hj : j < 8) (a7 : Vec Ideal S4096x128 .f32) (i : ℕ) (hi : i < 8) (m : Fin 512) (c : Fin 128) :
    blk (outer (F := Ideal) x1 x2 x3 x6 x5 δ j a7).1 i (ix2 m c) = blk a7 i (ix2 m c) + addQ x1 x2 x3 x6 x5 δ j i m c := by
  unfold outer
  rw [p16, p17, inner_q j _ (7 - j) (by omega) i hi]
  show blk (putBlk a7 j _) i (ix2 m c) + _ = _
  rcases lt_trichotomy i j with h | h | h
  · rw [blk_putBlk_ne _ _ _ hj (by omega) hi, if_neg (by omega), addQ_before h]
  · subst h
    rw [blk_putBlk_same _ _ hi, if_neg (by omega), add_zero]
    refine (p27 _ _ _ _ _ _ m c).trans (congrArg _ ?_)
    exact Finset.sum_congr rfl fun r _ => congrArg₂ _ (ds_diag i r m) rfl
  · rw [blk_putBlk_ne _ _ _ hj (by omega) hi, if_pos (by omega)]

/-- Row block `i` of the queries' gradient after `n` key blocks. -/
theorem dqAt_eq (n : ℕ) (hn : n ≤ 8) (i : ℕ) (hi : i < 8) (m : Fin 512) (c : Fin 128) :
    blk (dqAt (F := Ideal) x1 x2 x3 x6 x5 δ n) i (ix2 m c) = ∑ j ∈ Finset.range n, addQ x1 x2 x3 x6 x5 δ j i m c := by
  induction n with
  | zero => rw [Finset.sum_range_zero]; exact p1 (⟨(512 * i + m.val) % 4096, Nat.mod_lt _ (by decide)⟩ : Fin 4096) c
  | succ n ih =>
    rw [Finset.sum_range_succ, ← ih (by omega)]
    exact outer_q n (by omega) _ i hi m c

/-! ### Sums over blocks -/

/-- A sum over blocks of 512 rows is the sum over the rows. -/
theorem sum_blocks {M : Type} [AddCommMonoid M] (f : ℕ → M) (n : ℕ) :
    ∑ i ∈ Finset.range n, ∑ m : Fin 512, f (512 * i + m.val) = ∑ b ∈ Finset.range (512 * n), f b := by
  induction n with
  | zero => simp
  | succ n ih =>
    rw [Finset.sum_range_succ, ih, Nat.mul_succ, Finset.sum_range_add]
    exact congrArg _ (Finset.sum_range fun m => f (512 * n + m)).symm

/-- A sum over eight blocks of which those before `j` add nothing. -/
theorem sum_from {M : Type} [AddCommMonoid M] (f : ℕ → M) (j : ℕ) (hj : j < 8) (h : ∀ i, i < j → f i = 0) :
    f j + ∑ t ∈ Finset.range (7 - j), f (j + t + 1) = ∑ i ∈ Finset.range 8, f i := by
  have e : (8 : ℕ) = j + (7 - j + 1) := by omega
  rw [e, Finset.sum_range_add, Finset.sum_eq_zero (fun i hi => h i (Finset.mem_range.1 hi)), zero_add, Finset.sum_range_succ', add_comm]
  rfl

/-! ### The results of a head -/

variable (x1 x2 x3 x6 x5)
variable (x4 : Vec Ideal S4096x128 .f32)

/-- The values' gradient. -/
theorem outV_eq (a : Fin 4096) (c : Fin 128) : outV (F := Ideal) x1 x2 x3 x4 x5 x6 (ix2 a c)
    = ∑ b ∈ Finset.range 4096, ex x1 x2 x5 a.val b * row x6 b c := by
  have ha := a.isLt
  refine (outer_v (a.val / 512) _ ⟨a.val % 512, Nat.mod_lt _ (by decide)⟩ c).trans ?_
  rw [sum_from (fun i => addV x1 x2 x6 x5 (a.val / 512) i ⟨a.val % 512, Nat.mod_lt _ (by decide)⟩ c) (a.val / 512) (by omega) (fun i hi => addV_before hi _ c)]
  refine (Finset.sum_congr rfl fun i _ => ?_).trans (sum_blocks (fun b => ex x1 x2 x5 a.val b * row x6 b c) 8)
  unfold addV
  rw [show 512 * (a.val / 512) + a.val % 512 = a.val by omega]

/-- The keys' gradient. -/
theorem outK_eq (a : Fin 4096) (c : Fin 128) : outK (F := Ideal) x1 x2 x3 x4 x5 x6 (ix2 a c)
    = ∑ b ∈ Finset.range 4096, ds x1 x2 x3 x6 x5 (delta (F := Ideal) x4 x6) a.val b * row x1 b c := by
  have ha := a.isLt
  refine (outer_k (a.val / 512) _ ⟨a.val % 512, Nat.mod_lt _ (by decide)⟩ c).trans ?_
  rw [sum_from (fun i => addK x1 x2 x3 x6 x5 (delta (F := Ideal) x4 x6) (a.val / 512) i ⟨a.val % 512, Nat.mod_lt _ (by decide)⟩ c) (a.val / 512) (by omega) (fun i hi => addK_before hi _ c)]
  refine (Finset.sum_congr rfl fun i _ => ?_).trans (sum_blocks (fun b => ds x1 x2 x3 x6 x5 (delta (F := Ideal) x4 x6) a.val b * row x1 b c) 8)
  unfold addK
  rw [show 512 * (a.val / 512) + a.val % 512 = a.val by omega]

/-- The queries' gradient. -/
theorem outQ_eq (b : Fin 4096) (c : Fin 128) : outQ (F := Ideal) x1 x2 x3 x4 x5 x6 (ix2 b c)
    = (∑ a ∈ Finset.range 4096, ds x1 x2 x3 x6 x5 (delta (F := Ideal) x4 x6) a b.val * row x2 a c) * scale := by
  have hb := b.isLt
  refine (p3 _ b c).trans (congrArg (· * scale) ?_)
  have h := dqAt_eq (x1 := x1) (x2 := x2) (x3 := x3) (x6 := x6) (x5 := x5) (δ := delta (F := Ideal) x4 x6) 8 le_rfl (b.val / 512) (by omega) ⟨b.val % 512, Nat.mod_lt _ (by decide)⟩ c
  refine Eq.trans (congrArg (dqAt (F := Ideal) x1 x2 x3 x6 x5 (delta (F := Ideal) x4 x6) 8) (funext fun d => Fin.ext ?_)) (h.trans ?_)
  · match d with
    | ⟨0, _⟩ => show b.val = (512 * (b.val / 512) + b.val % 512) % 4096; omega
    | ⟨1, _⟩ => rfl
  · refine (Finset.sum_congr rfl fun j _ => ?_).trans (sum_blocks (fun a => ds x1 x2 x3 x6 x5 (delta (F := Ideal) x4 x6) a b.val * row x2 a c) 8)
    unfold addQ
    rw [show 512 * (b.val / 512) + b.val % 512 = b.val by omega]

/-- A row's product, read as a visit reads it. -/
theorem delta_eq (b : ℕ) : delta (F := Ideal) x4 x6 (ix3 (n0 := 8) (n1 := 8) (n2 := 512) ⟨b / 512 % 8, Nat.mod_lt _ (by decide)⟩ 0 ⟨b % 512, Nat.mod_lt _ (by decide)⟩)
    = ∑ d : Fin 128, row x6 b d * row x4 b d := by
  refine (p2 (blk x6 (b / 512 % 8)) (blk x4 (b / 512 % 8)) 0 _).trans (Finset.sum_congr rfl fun d _ => ?_)
  have e : (512 * (b / 512 % 8) + b % 512) % 4096 = b % 4096 := by omega
  unfold blk row
  refine congrArg₂ _ (congrArg x6 (funext fun a => Fin.ext ?_)) (congrArg x4 (funext fun a => Fin.ext ?_))
  · match a with
    | ⟨0, _⟩ => exact e
    | ⟨1, _⟩ => rfl
  · match a with
    | ⟨0, _⟩ => exact e
    | ⟨1, _⟩ => rfl

end Rows

end Cert.Proof.KernelIdeal

end
-- ==== Proof.Value.Host.lean ====
/-
  The host's lines before the launch, as terms over the arguments.
-/
module

public import proofs.«01_k».proof.Proof.Value.Head
public import proofs.«01_k».proof.Proof.Gen.KernelIdeal.Frame
public import Idealize.ShloMosaic.Lib.StableHlo.ReadAt

@[expose] public section

set_option maxRecDepth 16384

noncomputable section

namespace Cert.Proof.KernelIdeal

open Cert.KernelIdeal Cert.KernelIdeal.Gen
open Idealize.ShloMosaic

/-- The masked scores. -/
def hostS (q k : FVec Ideal S4096x4x96 .f32) : FVec Ideal S4x4096x4096 .f32 :=
  select (broadcastInDim S4x4096x4096 ![1, 2] bcast_S4096x4096_S4x4096x4096_1_2 (cmpi .sle (broadcastInDim S4096x4096 ![0, 1] bcast_S1x4096_S4096x4096_0_1 (broadcastInDim S1x4096 ![1] bcast_S4096_S1x4096_1 (iotaInDim S4096 32 0))) (broadcastInDim S4096x4096 ![0, 1] bcast_S4096x1_S4096x4096_0_1 (broadcastInDim S4096x1 ![0] bcast_S4096_S4096x1_0 (iotaInDim S4096 32 0)))))
    (mulf (Host.dotGeneral dot_S4096x4x96_S4096x4x96_S4x4096x4096_2_2_0_0_1_1 none q k) (broadcastInDim S4x4096x4096 ![] bcast_S_S4x4096x4096 (constant S_ .f32 0x3DD105EC#32)))
    (broadcastInDim S4x4096x4096 ![] bcast_S_S4x4096x4096 (id (constant S_ .f32 0xFF800000#32)))

/-- The rows' largest scores. -/
def hostM (s : FVec Ideal S4x4096x4096 .f32) : FVec Ideal S4x4096x1 .f32 :=
  broadcastInDim S4x4096x1 ![0, 1] bcast_S4x4096_S4x4096x1_0_1 (Host.reduce FloatOps.maximumf s (constant S_ .f32 0xFF800000#32) reducesTo_S4x4096x4096_S4x4096_d2 h_S_)

/-- The exponentials. -/
def hostE (s : FVec Ideal S4x4096x4096 .f32) : FVec Ideal S4x4096x4096 .f32 :=
  Host.exp (subf s (broadcastInDim S4x4096x4096 ![0, 1, 2] bcast_S4x4096x1_S4x4096x4096_0_1_2 (hostM s)))

/-- The rows' sums. -/
def hostL (s : FVec Ideal S4x4096x4096 .f32) : FVec Ideal S4x4096x1 .f32 :=
  broadcastInDim S4x4096x1 ![0, 1] bcast_S4x4096_S4x4096x1_0_1 (Host.reduceAdd (hostE s) (constant S_ .f32 0x00000000#32) reducesTo_S4x4096x4096_S4x4096_d2 h_S_)

/-- The saved output, padded to lanes. -/
def hostO (v : FVec Ideal S4096x4x64 .f32) (s : FVec Ideal S4x4096x4096 .f32) : FVec Ideal S4096x512 .f32 :=
  shapeCast S4096x512 (pad S4096x4x128 ![0, 0, 0] ![0, 0, 64] ![0, 0, 0] (transpose S4096x4x64 [2, 0, 1] (Host.dotGeneral dot_S4096x4x64_S4x4096x4096_S4x64x4096_0_2_2_1_1_0 none v
    (Host.divf (hostE s) (broadcastInDim S4x4096x4096 ![0, 1, 2] bcast_S4x4096x1_S4x4096x4096_0_1_2 (hostL s)))) transposes_S4x64x4096_S4096x4x64_2_0_1)
    (sitofp .f32 (constantI S_ 32 0#32)) pads_S4096x4x64_S4096x4x128_000_000_0640 h_S_) shapeCasts_S4096x4x128_S4096x512

/-- The saved row log-sums. -/
def hostLse (s : FVec Ideal S4x4096x4096 .f32) : FVec Ideal S4x8x4096 .f32 :=
  broadcastInDim S4x8x4096 ![0, 1, 2] bcast_S4x1x4096_S4x8x4096_0_1_2 (shapeCast S4x1x4096 (addf (hostM s) (Host.log (hostL s))) shapeCasts_S4x4096x1_S4x1x4096)

/-- The divisor of the remainder. -/
def hostDiv : IVec S_ 32 := select (cmpi .eq (id (constantI S_ 32 128#32)) (constantI S_ 32 0#32)) (constantI S_ 32 1#32) (id (constantI S_ 32 128#32))

/-- The lanes' remainders as the host divides. -/
def hostRem : IVec S4096x512 32 := Host.remsi (iotaInDim S4096x512 32 1) (broadcastInDim S4096x512 ![] bcast_S_S4096x512 hostDiv)

/-- Which lanes are lane 64 of their head. -/
def hostB : IVec S4096x512 1 :=
  cmpi .eq (select (andi (cmpi .ne (cmpi .slt hostRem (broadcastInDim S4096x512 ![] bcast_S_S4096x512 (constantI S_ 32 0#32)))
      (broadcastInDim S4096x512 ![] bcast_S_S4096x512 (cmpi .slt hostDiv (constantI S_ 32 0#32))))
    (cmpi .ne hostRem (broadcastInDim S4096x512 ![] bcast_S_S4096x512 (constantI S_ 32 0#32))))
    (addi hostRem (broadcastInDim S4096x512 ![] bcast_S_S4096x512 hostDiv)) hostRem) (broadcastInDim S4096x512 ![] bcast_S_S4096x512 (constantI S_ 32 64#32))

/-- The values, padded to lanes, with a one in lane 64. -/
def hostV (v : FVec Ideal S4096x4x64 .f32) : FVec Ideal S4096x512 .bf16 :=
  truncf .bf16 (select hostB (broadcastInDim S4096x512 ![] bcast_S_S4096x512 (id (constant S_ .f32 0x3F800000#32)))
    (shapeCast S4096x512 (pad S4096x4x128 ![0, 0, 0] ![0, 0, 64] ![0, 0, 0] v (sitofp .f32 (constantI S_ 32 0#32)) pads_S4096x4x64_S4096x4x128_000_000_0640 h_S_) shapeCasts_S4096x4x128_S4096x512)) bitsLt_bf16_f32

variable (m : (ℓ : Loc nD τ sig) → Buf (Elt Ideal) ℓ) (c : Dev nD)

theorem V_o : V m c main_v42 = hostO (m (c.tc.loc main_arg2)) (hostS (m (c.tc.loc main_arg0)) (m (c.tc.loc main_arg1))) := by
  unfold V
  after_reads_simp
  all_goals try simp -implicitDefEqProofs only [StableHlo.TRef.toBuf, StableHlo.TRef.ofBuf, cast_cast, cast_eq]
  all_goals clean_types
  unfold hostO hostL hostE hostM hostS
  first | (with_reducible rfl) | (funext i; with_reducible rfl) | rfl

theorem V_vArr : V m c main_v40 = hostV (m (c.tc.loc main_arg2)) := by
  unfold V
  after_reads_simp
  all_goals try simp -implicitDefEqProofs only [StableHlo.TRef.toBuf, StableHlo.TRef.ofBuf, cast_cast, cast_eq]
  all_goals clean_types
  unfold hostV hostB hostRem hostDiv
  first | (with_reducible rfl) | (funext i; with_reducible rfl) | rfl

theorem V_lse : V m c main_v24 = hostLse (hostS (m (c.tc.loc main_arg0)) (m (c.tc.loc main_arg1))) := by
  unfold V
  after_reads_simp
  all_goals try simp -implicitDefEqProofs only [StableHlo.TRef.toBuf, StableHlo.TRef.ofBuf, cast_cast, cast_eq]
  all_goals clean_types
  unfold hostLse hostL hostE hostM hostS
  first | (with_reducible rfl) | (funext i; with_reducible rfl) | rfl

end Cert.Proof.KernelIdeal

end
-- ==== Proof.Value.Read.lean ====
/-
  The host's arrays before the launch, read at an index.
-/
module

public import proofs.«01_k».proof.Proof.Value.Host
public import Idealize.ShloMosaic.Lib.IdealHost

@[expose] public section

set_option maxRecDepth 16384

noncomputable section

namespace Cert.Proof.KernelIdeal

open Cert.KernelIdeal Cert.KernelIdeal.Gen
open Idealize.ShloMosaic

/-- The word of minus infinity. -/
theorem ofBits_bot : Ideal.ofBits .f32 0xFF800000#32 = (⊥ : EReal) := by
  simp [Ideal.ofBits, Ideal.ieee]

/-- The word zero as a number. -/
theorem sitofp_word : (FloatOps.sitofp .f32 0#32 : Ideal .f32) = (0 : EReal) := by
  show ((((0#32 : BitVec 32).toInt : ℤ) : ℝ) : EReal) = 0
  simp

/-- A column read as a row. -/
theorem cast_row (x : FVec Ideal S4x4096x1 .f32) (h : Fin 4) (z : Fin 1) (n : Fin 4096) :
    shapeCast S4x1x4096 x shapeCasts_S4x4096x1_S4x1x4096 (ix3 h z n) = x (ix3 h n 0) :=
  shapeCast_apply x _ _ _ (by rw [Shape.rowMajor_val_three, Shape.rowMajor_val_three]; show (h.val * 4096 + n.val) * 1 + 0 = (h.val * 1 + z.val) * 4096 + n.val; have := z.isLt; omega)

theorem hostS_at (q k : FVec Ideal S4096x4x96 .f32) (h : Fin 4) (i j : Fin 4096) : hostS q k (ix3 h i j)
    = if j.val ≤ i.val then (∑ d : Fin 96, q (ix3 i h d) * k (ix3 j h d)) * scale else (⊥ : EReal) := by
  unfold hostS
  pointwise
  rw [WordCmp.cmpi_sle_ofNat (by have := j.isLt; omega) (by have := i.isLt; omega)]
  by_cases hc : j.val ≤ i.val
  · simp [hc, Scalar.select, scale]
  · simp only [hc, decide_false, BitVec.ofBool_false, Scalar.select, if_false]
    exact ofBits_bot

theorem hostM_at (s : FVec Ideal S4x4096x4096 .f32) (h : Fin 4) (i : Fin 4096) (z : Fin 1) : hostM s (ix3 h i z)
    = Finset.univ.fold max (⊥ : EReal) fun j : Fin 4096 => s (ix3 h i j) := by
  unfold hostM
  pointwise
  rw [ofBits_bot]

theorem hostE_at (s : FVec Ideal S4x4096x4096 .f32) (h : Fin 4) (i j : Fin 4096) : hostE s (ix3 h i j)
    = Ideal.exp (s (ix3 h i j) - hostM s (ix3 h i 0)) := by
  unfold hostE
  pointwise

theorem hostL_at (s : FVec Ideal S4x4096x4096 .f32) (h : Fin 4) (i : Fin 4096) (z : Fin 1) : hostL s (ix3 h i z)
    = ∑ j : Fin 4096, hostE s (ix3 h i j) := by
  unfold hostL
  pointwise

theorem hostO_at (v : FVec Ideal S4096x4x64 .f32) (s : FVec Ideal S4x4096x4096 .f32) (n : Fin 4096) (h : Fin 4) (d : Fin 128) :
    hostO v s (ix2 (n0 := 4096) (n1 := 512) n ⟨128 * h.val + d.val, by omega⟩)
    = if hd : d.val < 64 then ∑ j : Fin 4096, v (ix3 j h ⟨d.val, hd⟩) * Ideal.div (hostE s (ix3 h n j)) (hostL s (ix3 h n 0)) else (0 : EReal) := by
  unfold hostO
  pointwise
  rw [sitofp_word]

theorem add_log_at (a b : FVec Ideal S4x4096x1 .f32) (i : S4x4096x1.Idx) : addf a (Host.log b) i = a i + Ideal.log (b i) := rfl

theorem hostLse_at (s : FVec Ideal S4x4096x4096 .f32) (h : Fin 4) (z : Fin 8) (n : Fin 4096) : hostLse s (ix3 h z n)
    = hostM s (ix3 h n 0) + Ideal.log (hostL s (ix3 h n 0)) := by
  unfold hostLse
  refine (broadcastInDim_apply _ _ _ _ (ix3 h (0 : Fin 1) n) (fun a => ?_)).trans ?_
  · match a with
    | ⟨0, _⟩ => rfl
    | ⟨1, _⟩ => rfl
    | ⟨2, _⟩ => rfl
  · rw [cast_row, add_log_at]

/-- The word that says a lane is lane 64 of its head. -/
def oneWord (w : BitVec 32) : BitVec 1 :=
  IntOp.cmpi .eq (Scalar.select (IntOp.andi (IntOp.cmpi .ne (IntOp.cmpi .slt (IntOp.remsi .host w (Scalar.select (IntOp.cmpi .eq 128#32 0#32) 1#32 128#32)) 0#32)
      (IntOp.cmpi .slt (Scalar.select (IntOp.cmpi .eq 128#32 0#32) 1#32 128#32) 0#32)) (IntOp.cmpi .ne (IntOp.remsi .host w (Scalar.select (IntOp.cmpi .eq 128#32 0#32) 1#32 128#32)) 0#32))
    (IntOp.addi (IntOp.remsi .host w (Scalar.select (IntOp.cmpi .eq 128#32 0#32) 1#32 128#32)) (Scalar.select (IntOp.cmpi .eq 128#32 0#32) 1#32 128#32))
    (IntOp.remsi .host w (Scalar.select (IntOp.cmpi .eq 128#32 0#32) 1#32 128#32))) 64#32

theorem oneWord_at : ∀ l : Fin 512, oneWord (BitVec.ofNat 32 l.val) = if l.val % 128 = 64 then 1#1 else 0#1 := by
  decide +kernel

/-- The word of one. -/
theorem ofBits_one : Ideal.ofBits .f32 0x3F800000#32 = (1 : EReal) := by
  exact Idealize.ShloMosaic.Ideal.ofBits_one_f32

theorem hostV_at (v : FVec Ideal S4096x4x64 .f32) (n : Fin 4096) (l : Fin 512) : (hostV v : S4096x512.Idx → EReal) (ix2 n l)
    = Scalar.select (hostB (ix2 n l)) (Ideal.ofBits .f32 0x3F800000#32)
      (if g : l.val / 128 < 4 ∧ l.val % 128 < 64 then v (ix3 n ⟨l.val / 128, g.1⟩ ⟨l.val % 128, g.2⟩) else (0 : EReal)) := by
  unfold hostV
  pointwise
  rw [sitofp_word, show (id (constant S_ FTy.f32 0x3F800000#32) ix0 : Ideal .f32) = (1 : EReal) from ofBits_one]

variable (m : (ℓ : Loc nD τ sig) → Buf (Elt Ideal) ℓ) (c : Dev nD)

/-- The arguments. -/
abbrev argQ : FVec Ideal S4096x4x96 .f32 := m (c.tc.loc main_arg0)
abbrev argK : FVec Ideal S4096x4x96 .f32 := m (c.tc.loc main_arg1)
abbrev argV : FVec Ideal S4096x4x64 .f32 := m (c.tc.loc main_arg2)
abbrev argD : FVec Ideal S4096x4x64 .f32 := m (c.tc.loc main_arg3)

/-- Lane `d` of head `h`. -/
def lane (h : Fin 4) (d : Fin 128) : Fin 512 := ⟨128 * h.val + d.val, by omega⟩

/-- An array padded to lanes, at a lane of a head. -/
theorem lane_at {w : ℕ} (f : Fin 4 → Fin w → EReal) (h : Fin 4) (d : Fin 128) :
    (if g : (128 * h.val + d.val) / 128 < 4 ∧ (128 * h.val + d.val) % 128 < w then f ⟨(128 * h.val + d.val) / 128, g.1⟩ ⟨(128 * h.val + d.val) % 128, g.2⟩ else (0 : EReal))
      = if hd : d.val < w then f h ⟨d.val, hd⟩ else (0 : EReal) := by
  have hh := h.isLt
  have hd := d.isLt
  have e1 : (128 * h.val + d.val) / 128 = h.val := by omega
  have e2 : (128 * h.val + d.val) % 128 = d.val := by omega
  by_cases hw : d.val < w
  · rw [dif_pos ⟨by omega, by omega⟩, dif_pos hw]
    exact congrArg₂ f (Fin.ext e1) (Fin.ext e2)
  · rw [dif_neg (by omega), dif_neg hw]

/-- The gradient of the output, padded to lanes. -/
theorem V_do (n : Fin 4096) (h : Fin 4) (d : Fin 128) : (V m c main_v45 : S4096x512.Idx → EReal) (ix2 n (lane h d)) =
    if hd : d.val < 64 then argD m c (ix3 n h ⟨d.val, hd⟩) else (0 : EReal) := by
  unfold V lane
  after_reads_at
  rw [sitofp_word]
  exact lane_at (fun a b => argD m c (ix3 n a b)) h d

/-- The keys, padded to lanes. -/
theorem V_k (n : Fin 4096) (h : Fin 4) (d : Fin 128) : (V m c main_v32 : S4096x512.Idx → EReal) (ix2 n (lane h d)) =
    if hd : d.val < 96 then argK m c (ix3 n h ⟨d.val, hd⟩) else (0 : EReal) := by
  unfold V lane
  after_reads_at
  rw [sitofp_word]
  exact lane_at (fun a b => argK m c (ix3 n a b)) h d

/-- The queries, scaled and padded to lanes. -/
theorem V_q (n : Fin 4096) (h : Fin 4) (d : Fin 128) : (V m c main_v29 : S4096x512.Idx → EReal) (ix2 n (lane h d)) =
    if hd : d.val < 96 then argQ m c (ix3 n h ⟨d.val, hd⟩) * scale else (0 : EReal) := by
  unfold V lane
  after_reads_at
  rw [sitofp_word]
  exact lane_at (fun a b => argQ m c (ix3 n a b) * scale) h d

/-- The values, padded to lanes, with a one in lane 64. -/
theorem V_v (n : Fin 4096) (h : Fin 4) (d : Fin 128) : (V m c main_v40 : S4096x512.Idx → EReal) (ix2 n (lane h d)) =
    if hd : d.val < 64 then argV m c (ix3 n h ⟨d.val, hd⟩) else if d.val = 64 then (1 : EReal) else 0 := by
  rw [V_vArr]
  have hb : hostB (ix2 n (lane h d)) = oneWord (BitVec.ofNat 32 (lane h d).val) := rfl
  have hw := oneWord_at (lane h d)
  refine (hostV_at (argV m c) n (lane h d)).trans ?_
  rw [hb, hw, ofBits_one]
  refine Eq.trans (congrArg _ (lane_at (fun a b => argV m c (ix3 n a b)) h d)) ?_
  have e : (lane h d).val % 128 = d.val := by have := d.isLt; show (128 * h.val + d.val) % 128 = _; omega
  rw [e]
  by_cases h1 : d.val < 64
  · have h2 : d.val ≠ 64 := by omega
    simp [h1, h2, Scalar.select]
  · by_cases h2 : d.val = 64 <;> simp [h1, h2, Scalar.select]

end Cert.Proof.KernelIdeal

end
-- ==== Proof.Value.Final.lean ====
/-
  What the launch leaves in its three arrays, lane by lane.
-/
module

public import proofs.«01_k».proof.Proof.Value.Read
public import proofs.«01_k».proof.Proof.Attn.Launch
public import Idealize.ShloMosaic.Lib.Pipeline.ValueKit

@[expose] public section

set_option maxRecDepth 16384

noncomputable section

namespace Cert.Proof.KernelIdeal

open Cert.KernelIdeal Cert.KernelIdeal.Gen
open Idealize.ShloMosaic

variable (m : (ℓ : Loc nD τ sig) → Buf (Elt Ideal) ℓ) (c : Dev nD)

/-- The head of a lane, and its lane within the head. -/
def headOf (l : Fin 512) : Fin 4 := ⟨l.val / 128, by omega⟩
def within (l : Fin 512) : Fin 128 := ⟨l.val % 128, Nat.mod_lt _ (by decide)⟩

theorem headOf_lane (h : Fin 4) (d : Fin 128) : headOf (lane h d) = h :=
  Fin.ext (by have := d.isLt; show (128 * h.val + d.val) / 128 = h.val; omega)
theorem within_lane (h : Fin 4) (d : Fin 128) : within (lane h d) = d :=
  Fin.ext (by have := d.isLt; show (128 * h.val + d.val) % 128 = d.val; omega)
theorem lane_headOf (l : Fin 512) : lane (headOf l) (within l) = l :=
  Fin.ext (by show 128 * (l.val / 128) + l.val % 128 = l.val; omega)

/-! ### The windows' blocks: head `t`'s lanes -/

theorem idx_0 : ∀ t : Fin cfg0.N, win0_0.index t = ![0, t.val] := by decide +kernel
theorem idx_1 : ∀ t : Fin cfg0.N, win0_1.index t = ![0, t.val] := by decide +kernel
theorem idx_2 : ∀ t : Fin cfg0.N, win0_2.index t = ![0, t.val] := by decide +kernel
theorem idx_3 : ∀ t : Fin cfg0.N, win0_3.index t = ![0, t.val] := by decide +kernel
theorem idx_5 : ∀ t : Fin cfg0.N, win0_5.index t = ![0, t.val] := by decide +kernel
theorem idx_6 : ∀ t : Fin cfg0.N, win0_6.index t = ![0, t.val] := by decide +kernel
theorem idx_7 : ∀ t : Fin cfg0.N, win0_7.index t = ![0, t.val] := by decide +kernel
theorem idx_8 : ∀ t : Fin cfg0.N, win0_8.index t = ![0, t.val] := by decide +kernel
theorem idx_4 : ∀ t : Fin cfg0.N, win0_4.index t = ![t.val, 0, 0] := by decide +kernel

theorem emb_0 (t : Fin cfg0.N) (n : Fin 4096) (d : Fin 128) : (win0_0.blk t).view.emb (ix2 n d) = ix2 n (lane t d) := by
  funext a
  refine Fin.ext ?_
  match a with
  | ⟨0, _⟩ => blk_simp [idx_0]
  | ⟨1, _⟩ => blk_simp [idx_0]; show t.val * 128 + d.val = 128 * t.val + d.val; omega
theorem emb_1 (t : Fin cfg0.N) (n : Fin 4096) (d : Fin 128) : (win0_1.blk t).view.emb (ix2 n d) = ix2 n (lane t d) := by
  funext a
  refine Fin.ext ?_
  match a with
  | ⟨0, _⟩ => blk_simp [idx_1]
  | ⟨1, _⟩ => blk_simp [idx_1]; show t.val * 128 + d.val = 128 * t.val + d.val; omega
theorem emb_2 (t : Fin cfg0.N) (n : Fin 4096) (d : Fin 128) : (win0_2.blk t).view.emb (ix2 n d) = ix2 n (lane t d) := by
  funext a
  refine Fin.ext ?_
  match a with
  | ⟨0, _⟩ => blk_simp [idx_2]
  | ⟨1, _⟩ => blk_simp [idx_2]; show t.val * 128 + d.val = 128 * t.val + d.val; omega
theorem emb_3 (t : Fin cfg0.N) (n : Fin 4096) (d : Fin 128) : (win0_3.blk t).view.emb (ix2 n d) = ix2 n (lane t d) := by
  funext a
  refine Fin.ext ?_
  match a with
  | ⟨0, _⟩ => blk_simp [idx_3]
  | ⟨1, _⟩ => blk_simp [idx_3]; show t.val * 128 + d.val = 128 * t.val + d.val; omega
theorem emb_5 (t : Fin cfg0.N) (n : Fin 4096) (d : Fin 128) : (win0_5.blk t).view.emb (ix2 n d) = ix2 n (lane t d) := by
  funext a
  refine Fin.ext ?_
  match a with
  | ⟨0, _⟩ => blk_simp [idx_5]
  | ⟨1, _⟩ => blk_simp [idx_5]; show t.val * 128 + d.val = 128 * t.val + d.val; omega
theorem emb_6 (t : Fin cfg0.N) (n : Fin 4096) (d : Fin 128) : (win0_6.blk t).view.emb (ix2 n d) = ix2 n (lane t d) := by
  funext a
  refine Fin.ext ?_
  match a with
  | ⟨0, _⟩ => blk_simp [idx_6]
  | ⟨1, _⟩ => blk_simp [idx_6]; show t.val * 128 + d.val = 128 * t.val + d.val; omega
theorem emb_7 (t : Fin cfg0.N) (n : Fin 4096) (d : Fin 128) : (win0_7.blk t).view.emb (ix2 n d) = ix2 n (lane t d) := by
  funext a
  refine Fin.ext ?_
  match a with
  | ⟨0, _⟩ => blk_simp [idx_7]
  | ⟨1, _⟩ => blk_simp [idx_7]; show t.val * 128 + d.val = 128 * t.val + d.val; omega
theorem emb_8 (t : Fin cfg0.N) (n : Fin 4096) (d : Fin 128) : (win0_8.blk t).view.emb (ix2 n d) = ix2 n (lane t d) := by
  funext a
  refine Fin.ext ?_
  match a with
  | ⟨0, _⟩ => blk_simp [idx_8]
  | ⟨1, _⟩ => blk_simp [idx_8]; show t.val * 128 + d.val = 128 * t.val + d.val; omega
theorem emb_4 (t : Fin cfg0.N) (z : Fin 1) (r : Fin 8) (n : Fin 4096) : (win0_4.blk t).view.emb (ix3 z r n) = ix3 (n0 := 4) t r n := by
  funext a
  refine Fin.ext ?_
  match a with
  | ⟨0, _⟩ => blk_simp [idx_4]
  | ⟨1, _⟩ => blk_simp [idx_4]
  | ⟨2, _⟩ => blk_simp [idx_4]

theorem read_0 (x : S4096x512.Idx → EReal) (t : Fin cfg0.N) (n : Fin 4096) (d : Fin 128) : ((win0_0.blk t).view.read (Elt Ideal) x : S4096x128.Idx → EReal) (ix2 n d) = x (ix2 n (lane t d)) := by
  blk_simp
  exact congrArg x (emb_0 t n d)
theorem read_1 (x : S4096x512.Idx → EReal) (t : Fin cfg0.N) (n : Fin 4096) (d : Fin 128) : ((win0_1.blk t).view.read (Elt Ideal) x : S4096x128.Idx → EReal) (ix2 n d) = x (ix2 n (lane t d)) := by
  blk_simp
  exact congrArg x (emb_1 t n d)
theorem read_2 (x : S4096x512.Idx → EReal) (t : Fin cfg0.N) (n : Fin 4096) (d : Fin 128) : ((win0_2.blk t).view.read (Elt Ideal) x : S4096x128.Idx → EReal) (ix2 n d) = x (ix2 n (lane t d)) := by
  blk_simp
  exact congrArg x (emb_2 t n d)
theorem read_3 (x : S4096x512.Idx → EReal) (t : Fin cfg0.N) (n : Fin 4096) (d : Fin 128) : ((win0_3.blk t).view.read (Elt Ideal) x : S4096x128.Idx → EReal) (ix2 n d) = x (ix2 n (lane t d)) := by
  blk_simp
  exact congrArg x (emb_3 t n d)
theorem read_5 (x : S4096x512.Idx → EReal) (t : Fin cfg0.N) (n : Fin 4096) (d : Fin 128) : ((win0_5.blk t).view.read (Elt Ideal) x : S4096x128.Idx → EReal) (ix2 n d) = x (ix2 n (lane t d)) := by
  blk_simp
  exact congrArg x (emb_5 t n d)
theorem read_4 (x : S4x8x4096.Idx → EReal) (t : Fin cfg0.N) (r : Fin 8) (n : Fin 4096) : ((win0_4.blk t).view.read (Elt Ideal) x : S1x8x4096.Idx → EReal) (ix3 0 r n) = x (ix3 (n0 := 4) t r n) := by
  blk_simp
  exact congrArg x (emb_4 t 0 r n)

theorem iblk_0 (t : Fin cfg0.N) (n : Fin 4096) (d : Fin 128) : (iblk m c 0 t : S4096x128.Idx → EReal) (ix2 n d) = (V m c main_v29 : S4096x512.Idx → EReal) (ix2 n (lane t d)) :=
  read_0 (V m c main_v29) t n d
theorem iblk_1 (t : Fin cfg0.N) (n : Fin 4096) (d : Fin 128) : (iblk m c 1 t : S4096x128.Idx → EReal) (ix2 n d) = (V m c main_v32 : S4096x512.Idx → EReal) (ix2 n (lane t d)) :=
  read_1 (V m c main_v32) t n d
theorem iblk_2 (t : Fin cfg0.N) (n : Fin 4096) (d : Fin 128) : (iblk m c 2 t : S4096x128.Idx → EReal) (ix2 n d) = (V m c main_v40 : S4096x512.Idx → EReal) (ix2 n (lane t d)) :=
  read_2 (V m c main_v40) t n d
theorem iblk_3 (t : Fin cfg0.N) (n : Fin 4096) (d : Fin 128) : (iblk m c 3 t : S4096x128.Idx → EReal) (ix2 n d) = (V m c main_v42 : S4096x512.Idx → EReal) (ix2 n (lane t d)) :=
  read_3 (V m c main_v42) t n d
theorem iblk_5 (t : Fin cfg0.N) (n : Fin 4096) (d : Fin 128) : (iblk m c 5 t : S4096x128.Idx → EReal) (ix2 n d) = (V m c main_v45 : S4096x512.Idx → EReal) (ix2 n (lane t d)) :=
  read_5 (V m c main_v45) t n d
theorem iblk_4 (t : Fin cfg0.N) (r : Fin 8) (n : Fin 4096) : (iblk m c 4 t : S1x8x4096.Idx → EReal) (ix3 0 r n) = (V m c main_v24 : S4x8x4096.Idx → EReal) (ix3 (n0 := 4) t r n) :=
  read_4 (V m c main_v24) t r n

/-! ### The three arrays -/

/-- The queries' gradient, one head to 128 lanes. -/
def finQ : S4096x512.Idx → EReal := fun i =>
  outQ (F := Ideal) (iblk m c 0 (headOf (i 1))) (iblk m c 1 (headOf (i 1))) (iblk m c 2 (headOf (i 1))) (iblk m c 3 (headOf (i 1))) (iblk m c 4 (headOf (i 1))) (iblk m c 5 (headOf (i 1)))
    (ix2 (i 0) (within (i 1)))

theorem final_6 : (dats m 0 c).arrAt 6 cfg0.N = finQ m c := by
  refine (dats m 0 c).arrAt_eq_of_covers 6 _ (by decide +kernel) fun t hf y => ?_
  blk_simp
  obtain ⟨n, d, rfl⟩ : ∃ (n : Fin 4096) (d : Fin 128), y = ix2 n d := ⟨y 0, y 1, eq_ix2 y⟩
  exact ((congrArg (finQ m c) (emb_6 t n d)).trans (congrArg₂ (fun (t' : Fin 4) (d' : Fin 128) => outQ (F := Ideal) (iblk m c 0 t') (iblk m c 1 t') (iblk m c 2 t') (iblk m c 3 t') (iblk m c 4 t') (iblk m c 5 t') (ix2 n d'))
    (headOf_lane t d) (within_lane t d))).symm

/-- The keys' gradient, one head to 128 lanes. -/
def finK : S4096x512.Idx → EReal := fun i =>
  outK (F := Ideal) (iblk m c 0 (headOf (i 1))) (iblk m c 1 (headOf (i 1))) (iblk m c 2 (headOf (i 1))) (iblk m c 3 (headOf (i 1))) (iblk m c 4 (headOf (i 1))) (iblk m c 5 (headOf (i 1)))
    (ix2 (i 0) (within (i 1)))

theorem final_7 : (dats m 0 c).arrAt 7 cfg0.N = finK m c := by
  refine (dats m 0 c).arrAt_eq_of_covers 7 _ (by decide +kernel) fun t hf y => ?_
  blk_simp
  obtain ⟨n, d, rfl⟩ : ∃ (n : Fin 4096) (d : Fin 128), y = ix2 n d := ⟨y 0, y 1, eq_ix2 y⟩
  exact ((congrArg (finK m c) (emb_7 t n d)).trans (congrArg₂ (fun (t' : Fin 4) (d' : Fin 128) => outK (F := Ideal) (iblk m c 0 t') (iblk m c 1 t') (iblk m c 2 t') (iblk m c 3 t') (iblk m c 4 t') (iblk m c 5 t') (ix2 n d'))
    (headOf_lane t d) (within_lane t d))).symm

/-- The values' gradient, one head to 128 lanes. -/
def finV : S4096x512.Idx → EReal := fun i =>
  outV (F := Ideal) (iblk m c 0 (headOf (i 1))) (iblk m c 1 (headOf (i 1))) (iblk m c 2 (headOf (i 1))) (iblk m c 3 (headOf (i 1))) (iblk m c 4 (headOf (i 1))) (iblk m c 5 (headOf (i 1)))
    (ix2 (i 0) (within (i 1)))

theorem final_8 : (dats m 0 c).arrAt 8 cfg0.N = finV m c := by
  refine (dats m 0 c).arrAt_eq_of_covers 8 _ (by decide +kernel) fun t hf y => ?_
  blk_simp
  obtain ⟨n, d, rfl⟩ : ∃ (n : Fin 4096) (d : Fin 128), y = ix2 n d := ⟨y 0, y 1, eq_ix2 y⟩
  exact ((congrArg (finV m c) (emb_8 t n d)).trans (congrArg₂ (fun (t' : Fin 4) (d' : Fin 128) => outV (F := Ideal) (iblk m c 0 t') (iblk m c 1 t') (iblk m c 2 t') (iblk m c 3 t') (iblk m c 4 t') (iblk m c 5 t') (ix2 n d'))
    (headOf_lane t d) (within_lane t d))).symm

end Cert.Proof.KernelIdeal

end
-- ==== Proof.Value.Score.lean ====
/-
  Words both programs use.
-/
module

public import Idealize.ShloMosaic.Lib.Pointwise
public import Idealize.ShloMosaic.Lib.IdealHost

@[expose] public section

noncomputable section

namespace Cert.Proof.Score

open Idealize.ShloMosaic

/-- The scores' scale. -/
def scale : EReal := Ideal.ofBits .f32 0x3DD105EC#32

/-- The word of minus infinity. -/
theorem ofBits_bot : Ideal.ofBits .f32 0xFF800000#32 = (⊥ : EReal) := by
  simp [Ideal.ofBits, Ideal.ieee]

/-- The word zero as a number. -/
theorem sitofp_word : (FloatOps.sitofp .f32 0#32 : Ideal .f32) = (0 : EReal) := by
  show ((((0#32 : BitVec 32).toInt : ℤ) : ℝ) : EReal) = 0
  simp

/-- The scale is a number. -/
theorem scale_coe : ∃ r : ℝ, scale = (r : EReal) := by
  have h : ∃ r : ℝ, Ideal.ieee 8 23 0x3DD105EC#32 = (r : EReal) := by
    unfold Ideal.ieee
    dsimp only
    rw [if_neg (by decide), if_neg (by decide)]
    exact ⟨_, rfl⟩
  exact h

end Cert.Proof.Score

end
-- ==== Proof.Value.Math.lean ====
/-
  The gradient of causal softmax attention, at one head, two ways: from the row log-sums and the rows' products, and by the chain rule
  through the quotient. Both are the same numbers where the arguments are numbers.
-/
module

public import proofs.«01_k».proof.Proof.Value.Score

@[expose] public section

noncomputable section

namespace Cert.Proof.Score

open Idealize.ShloMosaic

/-! ### Extended reals that are numbers -/

theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

theorem exp_coe (x : ℝ) : Ideal.exp (x : EReal) = (Real.exp x : EReal) := rfl
theorem exp_bot : Ideal.exp ⊥ = 0 := rfl

theorem log_coe {x : ℝ} (h : 0 < x) : Ideal.log (x : EReal) = (Real.log x : EReal) := by
  show (if x ≤ 0 then ⊥ else (Real.log x : EReal)) = _
  rw [if_neg (not_le.2 h)]

theorem div_coe (x : ℝ) {y : ℝ} (h : y ≠ 0) : Ideal.div (x : EReal) (y : EReal) = ((x / y : ℝ) : EReal) := by
  unfold Ideal.div
  rw [if_neg (by exact_mod_cast h), ← EReal.coe_inv, ← EReal.coe_mul, div_eq_mul_inv]

/-- The largest of numbers and minus infinities of which one is a number is a number. -/
theorem fold_max_coe {ι : Type} (s : Finset ι) (f : ι → EReal) (h : ∀ i ∈ s, f i ≠ ⊤) (i₀ : ι) (hi : i₀ ∈ s) (h₀ : f i₀ ≠ ⊥) :
    ∃ r : ℝ, s.fold max (⊥ : EReal) f = (r : EReal) := by
  have ht : s.fold max (⊥ : EReal) f < ⊤ := by
    rw [Finset.fold_max_lt]
    exact ⟨bot_lt_top, fun i hi => lt_top_iff_ne_top.2 (h i hi)⟩
  have hb : ⊥ < s.fold max (⊥ : EReal) f := by
    rw [Finset.lt_fold_max]
    exact Or.inr ⟨i₀, hi, bot_lt_iff_ne_bot.2 h₀⟩
  exact ⟨_, (EReal.coe_toReal ht.ne hb.ne').symm⟩

section Head
variable (q k : Fin 4096 → Fin 96 → EReal) (v g : Fin 4096 → Fin 64 → EReal)

/-- The masked scores, row `i` and column `j`. -/
def S (i j : Fin 4096) : EReal := if j.val ≤ i.val then (∑ d : Fin 96, q i d * k j d) * scale else ⊥

/-- The rows' largest scores, the exponentials and their sums. -/
def M (i : Fin 4096) : EReal := Finset.univ.fold max (⊥ : EReal) fun j : Fin 4096 => S q k i j
def E (i j : Fin 4096) : EReal := Ideal.exp (S q k i j - M q k i)
def L (i : Fin 4096) : EReal := ∑ j : Fin 4096, E q k i j

/-- The probabilities' gradient. -/
def DP (i j : Fin 4096) : EReal := ∑ d : Fin 64, g i d * v j d

/-- The scores' gradient by the chain rule through the quotient. -/
def DS (i j : Fin 4096) : EReal :=
  (if j.val ≤ i.val then (Ideal.div (DP v g i j) (L q k i) + -(∑ j : Fin 4096, DP v g i j * Ideal.div (1 : EReal) (L q k i * L q k i) * E q k i j)) * E q k i j else (0 : EReal)) * scale

/-- Padded to 128 lanes. -/
def pad {w : ℕ} (x : Fin 4096 → Fin w → EReal) (i : Fin 4096) (d : Fin 128) : EReal := if h : d.val < w then x i ⟨d.val, h⟩ else (0 : EReal)

/-- The values' lanes: a one in lane 64. -/
def vlane (i : Fin 4096) (d : Fin 128) : EReal := if h : d.val < 64 then v i ⟨d.val, h⟩ else if d.val = 64 then (1 : EReal) else 0

/-- The saved output's lanes. -/
def olane (i : Fin 4096) (d : Fin 128) : EReal := if h : d.val < 64 then ∑ j : Fin 4096, v j ⟨d.val, h⟩ * Ideal.div (E q k i j) (L q k i) else (0 : EReal)

/-- The probability of key `a` at query `b`, from the row log-sum. -/
def KP (a b : Fin 4096) : EReal :=
  if a.val ≤ b.val then Ideal.exp ((∑ d : Fin 128, pad k a d * pad (fun i d => q i d * scale) b d) - (M q k b + Ideal.log (L q k b))) else 0

/-- The score's gradient at key `a` and query `b`, from the row's product. -/
def KD (a b : Fin 4096) : EReal :=
  KP q k a b * ((∑ d : Fin 128, vlane v a d * pad g b d) - ∑ d : Fin 128, pad g b d * olane q k v b d)

variable {q k v g}

/-- A sum over 128 lanes that vanishes past the first `w`. -/
theorem sum_lanes {w : ℕ} (hw : w ≤ 128) (f : Fin 128 → EReal) (f' : Fin w → EReal) (h₁ : ∀ d : Fin w, f ⟨d.val, by omega⟩ = f' d)
    (h₂ : ∀ d : Fin 128, w ≤ d.val → f d = 0) : ∑ d : Fin 128, f d = ∑ d : Fin w, f' d := by
  have e : ∑ d : Fin w, f' d = ∑ d : Fin w, f (Fin.castLE hw d) := Finset.sum_congr rfl fun d _ => (h₁ d).symm
  rw [e, ← Finset.sum_image (f := f) (g := Fin.castLE hw) (fun a _ b _ hab => Fin.castLE_injective hw hab)]
  refine (Finset.sum_subset (Finset.subset_univ _) fun d _ hd => h₂ d ?_).symm
  by_contra hlt
  exact hd (Finset.mem_image.2 ⟨⟨d.val, by omega⟩, Finset.mem_univ _, Fin.ext rfl⟩)

theorem pad_lt {w : ℕ} (x : Fin 4096 → Fin w → EReal) (i : Fin 4096) (d : Fin w) (h : d.val < 128) : pad x i ⟨d.val, h⟩ = x i d := dif_pos d.isLt
theorem pad_ge {w : ℕ} (x : Fin 4096 → Fin w → EReal) (i : Fin 4096) (d : Fin 128) (h : w ≤ d.val) : pad x i d = 0 := dif_neg (by omega)

theorem kq_lanes (a b : Fin 4096) : ∑ d : Fin 128, pad k a d * pad (fun i d => q i d * scale) b d = ∑ d : Fin 96, k a d * (q b d * scale) :=
  sum_lanes (by decide) _ _ (fun d => by rw [pad_lt, pad_lt]) (fun d hd => by rw [pad_ge _ _ _ hd, zero_mul])

theorem vg_lanes (a b : Fin 4096) : ∑ d : Fin 128, vlane v a d * pad g b d = ∑ d : Fin 64, v a d * g b d :=
  sum_lanes (by decide) _ _ (fun d => by rw [pad_lt]; exact congrArg (· * g b d) (dif_pos d.isLt)) (fun d hd => by rw [pad_ge _ _ _ hd, mul_zero])

theorem go_lanes (b : Fin 4096) : ∑ d : Fin 128, pad g b d * olane q k v b d = ∑ d : Fin 64, g b d * ∑ j : Fin 4096, v j d * Ideal.div (E q k b j) (L q k b) :=
  sum_lanes (by decide) _ _ (fun d => by rw [pad_lt]; exact congrArg (g b d * ·) (dif_pos d.isLt)) (fun d hd => by rw [pad_ge _ _ _ hd, zero_mul])

end Head

section Real
variable (q k : Fin 4096 → Fin 96 → ℝ) (v g : Fin 4096 → Fin 64 → ℝ)

/-- The arguments as extended reals. -/
def up {w : ℕ} (x : Fin 4096 → Fin w → ℝ) (i : Fin 4096) (d : Fin w) : EReal := (x i d : EReal)

/-- What the two ways have in common: numbers for the scale, the scores' maxima and, from them, the probabilities. -/
structure Row (σ : ℝ) (b : Fin 4096) (μ : ℝ) : Prop where
  hσ : scale = (σ : EReal)
  hμ : M (up q) (up k) b = (μ : EReal)

/-- A score, an exponential, a row's sum, a probability and its gradient. -/
def sr (σ : ℝ) (i j : Fin 4096) : ℝ := (∑ d : Fin 96, q i d * k j d) * σ
def er (σ μ : ℝ) (i j : Fin 4096) : ℝ := if j.val ≤ i.val then Real.exp (sr q k σ i j - μ) else 0
def lr (σ μ : ℝ) (i : Fin 4096) : ℝ := ∑ j : Fin 4096, er q k σ μ i j
def dpr (i j : Fin 4096) : ℝ := ∑ d : Fin 64, g i d * v j d
/-- The score's gradient before the scale. -/
def dsr (σ μ : ℝ) (i j : Fin 4096) : ℝ :=
  er q k σ μ i j / lr q k σ μ i * (dpr v g i j - ∑ j' : Fin 4096, er q k σ μ i j' / lr q k σ μ i * dpr v g i j')

theorem S_coe {σ : ℝ} (hσ : scale = (σ : EReal)) (i j : Fin 4096) : S (up q) (up k) i j = if j.val ≤ i.val then (sr q k σ i j : EReal) else ⊥ := by
  unfold S sr up
  simp only [hσ, EReal.coe_mul, coe_sum]

theorem M_coe {σ : ℝ} (hσ : scale = (σ : EReal)) (b : Fin 4096) : ∃ μ : ℝ, M (up q) (up k) b = (μ : EReal) := by
  unfold M
  refine fold_max_coe _ _ (fun j _ => ?_) b (Finset.mem_univ _) ?_
  · rw [S_coe q k hσ]
    by_cases h : j.val ≤ b.val
    · rw [if_pos h]; exact EReal.coe_ne_top _
    · rw [if_neg h]; exact bot_ne_top
  · rw [S_coe q k hσ, if_pos le_rfl]; exact EReal.coe_ne_bot _

variable {q k v g} {σ μ : ℝ} {b : Fin 4096}

theorem E_coe (h : Row q k σ b μ) (j : Fin 4096) : E (up q) (up k) b j = (er q k σ μ b j : EReal) := by
  unfold E er
  rw [S_coe q k h.hσ, h.hμ]
  by_cases hj : j.val ≤ b.val
  · rw [if_pos hj, if_pos hj, ← EReal.coe_sub, exp_coe]
  · rw [if_neg hj, if_neg hj, EReal.bot_sub, exp_bot, EReal.coe_zero]

theorem L_coe (h : Row q k σ b μ) : L (up q) (up k) b = (lr q k σ μ b : EReal) := by
  unfold L lr
  rw [coe_sum]
  exact Finset.sum_congr rfl fun j _ => E_coe h j

theorem er_nonneg (i j : Fin 4096) : 0 ≤ er q k σ μ i j := by
  unfold er
  split
  · exact (Real.exp_pos _).le
  · exact le_rfl

theorem lr_pos (i : Fin 4096) : 0 < lr q k σ μ i :=
  lt_of_lt_of_le (b := er q k σ μ i i) (by unfold er; rw [if_pos le_rfl]; exact Real.exp_pos _)
    (Finset.single_le_sum (f := fun j => er q k σ μ i j) (fun j _ => er_nonneg i j) (Finset.mem_univ i))

theorem P_coe (h : Row q k σ b μ) (j : Fin 4096) : Ideal.div (E (up q) (up k) b j) (L (up q) (up k) b) = ((er q k σ μ b j / lr q k σ μ b : ℝ) : EReal) := by
  rw [E_coe h, L_coe h, div_coe _ (lr_pos b).ne']

theorem DP_coe (i j : Fin 4096) : DP (up v) (up g) i j = (dpr v g i j : EReal) := by
  unfold DP dpr up
  simp only [EReal.coe_mul, coe_sum]

/-- The probability from the row log-sum. -/
theorem KP_coe (h : Row q k σ b μ) (a : Fin 4096) : KP (up q) (up k) a b = ((er q k σ μ b a / lr q k σ μ b : ℝ) : EReal) := by
  unfold KP
  rw [kq_lanes, h.hμ, L_coe h, log_coe (lr_pos b), h.hσ]
  have hl := lr_pos (q := q) (k := k) (σ := σ) (μ := μ) b
  by_cases ha : a.val ≤ b.val
  · rw [if_pos ha]
    have e : (∑ d : Fin 96, up k a d * (up q b d * (σ : EReal))) = (sr q k σ b a : EReal) := by
      unfold sr up
      rw [Finset.sum_mul]
      simp only [coe_sum, EReal.coe_mul]
      exact Finset.sum_congr rfl fun d _ => by rw [mul_comm, mul_assoc, mul_comm (σ : EReal), ← mul_assoc]
    rw [e, ← EReal.coe_add, ← EReal.coe_sub, exp_coe]
    refine congrArg _ ?_
    unfold er
    rw [if_pos ha, ← sub_sub, Real.exp_sub (sr q k σ b a - μ), Real.exp_log hl]
  · rw [if_neg ha]
    unfold er
    rw [if_neg ha, zero_div, EReal.coe_zero]

/-- The score's gradient from the row's product. -/
theorem KD_coe (h : Row q k σ b μ) (a : Fin 4096) : KD (up q) (up k) (up v) (up g) a b = (dsr q k v g σ μ b a : EReal) := by
  unfold KD
  rw [KP_coe h, vg_lanes, go_lanes]
  have e₁ : (∑ d : Fin 64, up v a d * up g b d) = (dpr v g b a : EReal) := by
    unfold dpr up
    simp only [coe_sum, EReal.coe_mul]
    exact Finset.sum_congr rfl fun d _ => mul_comm _ _
  have e₂ : (∑ d : Fin 64, up g b d * ∑ j : Fin 4096, up v j d * Ideal.div (E (up q) (up k) b j) (L (up q) (up k) b))
      = ((∑ j : Fin 4096, er q k σ μ b j / lr q k σ μ b * dpr v g b j : ℝ) : EReal) := by
    have e₃ : (∑ j : Fin 4096, er q k σ μ b j / lr q k σ μ b * dpr v g b j) = ∑ d : Fin 64, g b d * ∑ j : Fin 4096, v j d * (er q k σ μ b j / lr q k σ μ b) := by
      unfold dpr
      simp only [Finset.mul_sum]
      rw [Finset.sum_comm]
      exact Finset.sum_congr rfl fun d _ => Finset.sum_congr rfl fun j _ => by ring
    rw [e₃]
    simp only [coe_sum, EReal.coe_mul]
    refine Finset.sum_congr rfl fun d _ => congrArg _ (Finset.sum_congr rfl fun j _ => ?_)
    rw [P_coe h]
    rfl
  rw [e₁, e₂, ← EReal.coe_sub, ← EReal.coe_mul]
  rfl

/-- The score's gradient by the chain rule through the quotient. -/
theorem DS_coe (h : Row q k σ b μ) (a : Fin 4096) : DS (up q) (up k) (up v) (up g) b a = ((dsr q k v g σ μ b a * σ : ℝ) : EReal) := by
  unfold DS
  have hl := lr_pos (q := q) (k := k) (σ := σ) (μ := μ) b
  have hl2 : lr q k σ μ b * lr q k σ μ b ≠ 0 := mul_ne_zero hl.ne' hl.ne'
  have e₁ : (∑ j : Fin 4096, DP (up v) (up g) b j * Ideal.div (1 : EReal) (L (up q) (up k) b * L (up q) (up k) b) * E (up q) (up k) b j)
      = ((∑ j : Fin 4096, dpr v g b j * (1 / (lr q k σ μ b * lr q k σ μ b)) * er q k σ μ b j : ℝ) : EReal) := by
    simp only [coe_sum, EReal.coe_mul]
    refine Finset.sum_congr rfl fun j _ => ?_
    rw [DP_coe, L_coe h, E_coe h, ← EReal.coe_mul (lr q k σ μ b), ← EReal.coe_one, div_coe 1 hl2]
  rw [e₁, h.hσ, DP_coe, L_coe h, E_coe h, div_coe _ hl.ne', ← EReal.coe_neg, ← EReal.coe_add, ← EReal.coe_mul, EReal.coe_mul _ σ]
  refine congrArg (· * (σ : EReal)) ?_
  by_cases ha : a.val ≤ b.val
  · rw [if_pos ha]
    refine congrArg _ ?_
    unfold dsr
    have e₂ : (∑ j : Fin 4096, dpr v g b j * (1 / (lr q k σ μ b * lr q k σ μ b)) * er q k σ μ b j) = (∑ j : Fin 4096, er q k σ μ b j / lr q k σ μ b * dpr v g b j) / lr q k σ μ b := by
      rw [Finset.sum_div]
      exact Finset.sum_congr rfl fun j _ => by field_simp
    rw [e₂]
    generalize (∑ j : Fin 4096, er q k σ μ b j / lr q k σ μ b * dpr v g b j) = t
    field_simp
    ring
  · rw [if_neg ha]
    unfold dsr er
    rw [if_neg ha, zero_div, zero_mul, EReal.coe_zero]

end Real

/-! ### The two ways agree -/

section Agree
variable {q k : Fin 4096 → Fin 96 → ℝ} {v g : Fin 4096 → Fin 64 → ℝ}

theorem row_exists (q k : Fin 4096 → Fin 96 → ℝ) : ∃ σ : ℝ, ∃ μ : Fin 4096 → ℝ, ∀ b, Row q k σ b (μ b) := by
  obtain ⟨σ, hσ⟩ := scale_coe
  choose μ hμ using fun b => M_coe q k hσ b
  exact ⟨σ, μ, fun b => ⟨hσ, hμ b⟩⟩

/-- The values' gradient. -/
theorem agree_v (a : Fin 4096) (d : Fin 128) :
    ∑ b : Fin 4096, KP (up q) (up k) a b * pad (up g) b d
      = if hd : d.val < 64 then ∑ i : Fin 4096, up g i ⟨d.val, hd⟩ * Ideal.div (E (up q) (up k) i a) (L (up q) (up k) i) else (0 : EReal) := by
  obtain ⟨σ, μ, h⟩ := row_exists q k
  by_cases hd : d.val < 64
  · rw [dif_pos hd]
    refine Finset.sum_congr rfl fun b _ => ?_
    rw [KP_coe (h b), P_coe (h b), mul_comm]
    exact congrArg (· * _) (dif_pos hd)
  · rw [dif_neg hd]
    exact Finset.sum_eq_zero fun b _ => by rw [pad_ge _ _ _ (by omega), mul_zero]

/-- The keys' gradient. -/
theorem agree_k (a : Fin 4096) (d : Fin 128) :
    ∑ b : Fin 4096, KD (up q) (up k) (up v) (up g) a b * pad (fun i d => up q i d * scale) b d
      = if hd : d.val < 96 then ∑ i : Fin 4096, DS (up q) (up k) (up v) (up g) i a * up q i ⟨d.val, hd⟩ else (0 : EReal) := by
  obtain ⟨σ, μ, h⟩ := row_exists q k
  by_cases hd : d.val < 96
  · rw [dif_pos hd]
    refine Finset.sum_congr rfl fun b _ => ?_
    rw [KD_coe (h b), DS_coe (h b), EReal.coe_mul, mul_assoc]
    refine congrArg _ ((dif_pos hd).trans ?_)
    rw [(h b).hσ, mul_comm]
  · rw [dif_neg hd]
    exact Finset.sum_eq_zero fun b _ => by rw [pad_ge _ _ _ (by omega), mul_zero]

/-- The queries' gradient. -/
theorem agree_q (b : Fin 4096) (d : Fin 128) :
    (∑ a : Fin 4096, KD (up q) (up k) (up v) (up g) a b * pad (up k) a d) * scale
      = if hd : d.val < 96 then ∑ j : Fin 4096, DS (up q) (up k) (up v) (up g) b j * up k j ⟨d.val, hd⟩ else (0 : EReal) := by
  obtain ⟨σ, μ, h⟩ := row_exists q k
  by_cases hd : d.val < 96
  · rw [dif_pos hd]
    have e₁ : ∑ a : Fin 4096, KD (up q) (up k) (up v) (up g) a b * pad (up k) a d = ((∑ a : Fin 4096, dsr q k v g σ (μ b) b a * k a ⟨d.val, hd⟩ : ℝ) : EReal) := by
      rw [coe_sum]
      refine Finset.sum_congr rfl fun a _ => ?_
      rw [KD_coe (h b), EReal.coe_mul]
      exact congrArg _ (dif_pos hd)
    have e₂ : ∑ j : Fin 4096, DS (up q) (up k) (up v) (up g) b j * up k j ⟨d.val, hd⟩ = ((∑ a : Fin 4096, dsr q k v g σ (μ b) b a * σ * k a ⟨d.val, hd⟩ : ℝ) : EReal) := by
      rw [coe_sum]
      refine Finset.sum_congr rfl fun a _ => ?_
      rw [DS_coe (h b), EReal.coe_mul _ (k a _)]
      rfl
    rw [e₁, e₂, (h b).hσ, ← EReal.coe_mul, Finset.sum_mul]
    exact congrArg _ (Finset.sum_congr rfl fun a _ => by ring)
  · rw [dif_neg hd, Finset.sum_eq_zero fun a _ => by rw [pad_ge _ _ _ (by omega), mul_zero], zero_mul]

end Agree

end Cert.Proof.Score

end
-- ==== Proof.Value.KerHead.lean ====
/-
  The launch's blocks at one head: the gradient from the row log-sums and the rows' products.
-/
module

public import proofs.«01_k».proof.Proof.Value.Head
public import proofs.«01_k».proof.Proof.Value.Final
public import proofs.«01_k».proof.Proof.Value.Math

@[expose] public section

set_option maxRecDepth 16384

noncomputable section

namespace Cert.Proof.KernelIdeal

open Cert.KernelIdeal Cert.KernelIdeal.Gen
open Idealize.ShloMosaic

/-- One head of an array. -/
def hd96 (x : FVec Ideal S4096x4x96 .f32) (h : Fin 4) (i : Fin 4096) (d : Fin 96) : EReal := x (ix3 i h d)
def hd64 (x : FVec Ideal S4096x4x64 .f32) (h : Fin 4) (i : Fin 4096) (d : Fin 64) : EReal := x (ix3 i h d)

theorem scale_score : scale = Score.scale := rfl

section Host
variable (q k : FVec Ideal S4096x4x96 .f32) (v : FVec Ideal S4096x4x64 .f32)

theorem S_head (h : Fin 4) (i j : Fin 4096) : hostS q k (ix3 h i j) = Score.S (hd96 q h) (hd96 k h) i j := by
  rw [hostS_at]
  unfold Score.S hd96
  rfl

theorem M_head (h : Fin 4) (i : Fin 4096) (z : Fin 1) : hostM (hostS q k) (ix3 h i z) = Score.M (hd96 q h) (hd96 k h) i := by
  rw [hostM_at]
  unfold Score.M
  exact congrArg (fun f : Fin 4096 → EReal => Finset.univ.fold max (⊥ : EReal) f) (funext fun j => S_head q k h i j)

theorem E_head (h : Fin 4) (i j : Fin 4096) : hostE (hostS q k) (ix3 h i j) = Score.E (hd96 q h) (hd96 k h) i j := by
  rw [hostE_at, M_head, S_head]
  unfold Score.E
  rfl

theorem L_head (h : Fin 4) (i : Fin 4096) (z : Fin 1) : hostL (hostS q k) (ix3 h i z) = Score.L (hd96 q h) (hd96 k h) i := by
  rw [hostL_at]
  unfold Score.L
  exact Finset.sum_congr rfl fun j _ => E_head q k h i j

theorem lse_head (h : Fin 4) (z : Fin 8) (n : Fin 4096) : hostLse (hostS q k) (ix3 h z n)
    = Score.M (hd96 q h) (hd96 k h) n + Ideal.log (Score.L (hd96 q h) (hd96 k h) n) := by
  rw [hostLse_at, M_head, L_head]

theorem o_head (n : Fin 4096) (h : Fin 4) (d : Fin 128) : hostO v (hostS q k) (ix2 (n0 := 4096) (n1 := 512) n (lane h d))
    = Score.olane (hd96 q h) (hd96 k h) (hd64 v h) n d := by
  unfold lane
  rw [hostO_at]
  simp only [E_head, L_head]
  unfold Score.olane
  rfl

end Host

variable (m : (ℓ : Loc nD τ sig) → Buf (Elt Ideal) ℓ) (c : Dev nD)

/-- One head of the arguments. -/
def hQ (h : Fin 4) : Fin 4096 → Fin 96 → EReal := hd96 (argQ m c) h
def hK (h : Fin 4) : Fin 4096 → Fin 96 → EReal := hd96 (argK m c) h
def hV (h : Fin 4) : Fin 4096 → Fin 64 → EReal := hd64 (argV m c) h
def hG (h : Fin 4) : Fin 4096 → Fin 64 → EReal := hd64 (argD m c) h

/-- A row within the array. -/
theorem row_fin {e : EltTy} (x : Vec Ideal S4096x128 e) (n : Fin 4096) (d : Fin 128) : row x n.val d = x (ix2 n d) := by
  unfold row
  exact congrArg (fun n' : Fin 4096 => x (ix2 n' d)) (Fin.ext (Nat.mod_eq_of_lt n.isLt))

theorem row_0 (h : Fin 4) (n : Fin 4096) (d : Fin 128) : (row (e := .bf16) (iblk m c 0 h) n.val d : EReal) = Score.pad (fun i d => hQ m c h i d * Score.scale) n d :=
  (row_fin (e := .bf16) (iblk m c 0 h) n d).trans ((iblk_0 m c h n d).trans (V_q m c n h d))
theorem row_1 (h : Fin 4) (n : Fin 4096) (d : Fin 128) : (row (e := .bf16) (iblk m c 1 h) n.val d : EReal) = Score.pad (hK m c h) n d :=
  (row_fin (e := .bf16) (iblk m c 1 h) n d).trans ((iblk_1 m c h n d).trans (V_k m c n h d))
theorem row_2 (h : Fin 4) (n : Fin 4096) (d : Fin 128) : (row (e := .bf16) (iblk m c 2 h) n.val d : EReal) = Score.vlane (hV m c h) n d :=
  (row_fin (e := .bf16) (iblk m c 2 h) n d).trans ((iblk_2 m c h n d).trans (V_v m c n h d))
theorem row_5 (h : Fin 4) (n : Fin 4096) (d : Fin 128) : (row (e := .bf16) (iblk m c 5 h) n.val d : EReal) = Score.pad (hG m c h) n d :=
  (row_fin (e := .bf16) (iblk m c 5 h) n d).trans ((iblk_5 m c h n d).trans (V_do m c n h d))
theorem row_3 (h : Fin 4) (n : Fin 4096) (d : Fin 128) : (row (e := .f32) (iblk m c 3 h) n.val d : EReal) = Score.olane (hQ m c h) (hK m c h) (hV m c h) n d :=
  (row_fin (e := .f32) (iblk m c 3 h) n d).trans ((iblk_3 m c h n d).trans ((congrFun (V_o m c) _).trans (o_head _ _ _ n h d)))

theorem lse_4 (h : Fin 4) (n : Fin 4096) : (iblk m c 4 h : S1x8x4096.Idx → EReal) (ix3 (n0 := 1) (n1 := 8) (n2 := 4096) 0 0 ⟨n.val % 4096, Nat.mod_lt _ (by decide)⟩)
    = Score.M (hQ m c h) (hK m c h) n + Ideal.log (Score.L (hQ m c h) (hK m c h) n) := by
  have e : (⟨n.val % 4096, Nat.mod_lt _ (by decide)⟩ : Fin 4096) = n := Fin.ext (Nat.mod_eq_of_lt n.isLt)
  rw [e]
  exact (iblk_4 m c h 0 n).trans ((congrFun (V_lse m c) _).trans (lse_head _ _ h 0 n))

theorem ex_head (h : Fin 4) (a b : Fin 4096) : ex (iblk m c 0 h) (iblk m c 1 h) (iblk m c 4 h) a.val b.val = Score.KP (hQ m c h) (hK m c h) a b := by
  unfold ex Score.KP
  rw [lse_4]
  simp only [row_0, row_1]

theorem ds_head (h : Fin 4) (a b : Fin 4096) : ds (iblk m c 0 h) (iblk m c 1 h) (iblk m c 2 h) (iblk m c 5 h) (iblk m c 4 h) (delta (F := Ideal) (iblk m c 3 h) (iblk m c 5 h)) a.val b.val
    = Score.KD (hQ m c h) (hK m c h) (hV m c h) (hG m c h) a b := by
  unfold ds Score.KD
  rw [ex_head, delta_eq]
  simp only [row_2, row_3, row_5]

theorem finV_head (n : Fin 4096) (h : Fin 4) (d : Fin 128) : finV m c (ix2 n (lane h d))
    = ∑ b : Fin 4096, Score.KP (hQ m c h) (hK m c h) n b * Score.pad (hG m c h) b d := by
  have e : finV m c (ix2 n (lane h d)) = outV (F := Ideal) (iblk m c 0 h) (iblk m c 1 h) (iblk m c 2 h) (iblk m c 3 h) (iblk m c 4 h) (iblk m c 5 h) (ix2 n d) :=
    congrArg₂ (fun (t' : Fin 4) (d' : Fin 128) => outV (F := Ideal) (iblk m c 0 t') (iblk m c 1 t') (iblk m c 2 t') (iblk m c 3 t') (iblk m c 4 t') (iblk m c 5 t') (ix2 n d'))
      (headOf_lane h d) (within_lane h d)
  rw [e, outV_eq, Finset.sum_range]
  exact Finset.sum_congr rfl fun b _ => congrArg₂ _ (ex_head m c h n b) (row_5 m c h b d)

theorem finK_head (n : Fin 4096) (h : Fin 4) (d : Fin 128) : finK m c (ix2 n (lane h d))
    = ∑ b : Fin 4096, Score.KD (hQ m c h) (hK m c h) (hV m c h) (hG m c h) n b * Score.pad (fun i d => hQ m c h i d * Score.scale) b d := by
  have e : finK m c (ix2 n (lane h d)) = outK (F := Ideal) (iblk m c 0 h) (iblk m c 1 h) (iblk m c 2 h) (iblk m c 3 h) (iblk m c 4 h) (iblk m c 5 h) (ix2 n d) :=
    congrArg₂ (fun (t' : Fin 4) (d' : Fin 128) => outK (F := Ideal) (iblk m c 0 t') (iblk m c 1 t') (iblk m c 2 t') (iblk m c 3 t') (iblk m c 4 t') (iblk m c 5 t') (ix2 n d'))
      (headOf_lane h d) (within_lane h d)
  rw [e, outK_eq, Finset.sum_range]
  exact Finset.sum_congr rfl fun b _ => congrArg₂ _ (ds_head m c h n b) (row_0 m c h b d)

theorem finQ_head (n : Fin 4096) (h : Fin 4) (d : Fin 128) : finQ m c (ix2 n (lane h d))
    = (∑ a : Fin 4096, Score.KD (hQ m c h) (hK m c h) (hV m c h) (hG m c h) a n * Score.pad (hK m c h) a d) * Score.scale := by
  have e : finQ m c (ix2 n (lane h d)) = outQ (F := Ideal) (iblk m c 0 h) (iblk m c 1 h) (iblk m c 2 h) (iblk m c 3 h) (iblk m c 4 h) (iblk m c 5 h) (ix2 n d) :=
    congrArg₂ (fun (t' : Fin 4) (d' : Fin 128) => outQ (F := Ideal) (iblk m c 0 t') (iblk m c 1 t') (iblk m c 2 t') (iblk m c 3 t') (iblk m c 4 t') (iblk m c 5 t') (ix2 n d'))
      (headOf_lane h d) (within_lane h d)
  rw [e, outQ_eq, Finset.sum_range, scale_score]
  exact congrArg (· * Score.scale) (Finset.sum_congr rfl fun a _ => congrArg₂ _ (ds_head m c h a n) (row_1 m c h a d))

end Cert.Proof.KernelIdeal

end
-- ==== Proof.Value.Ref.lean ====
/-
  The reference's three results as terms over its arguments, piece by piece.
-/
module

public import proofs.«01_k».proof.Proof.Value.Score
public import proofs.«01_k».proof.Proof.Gen.ReferenceIdeal
public import Idealize.ShloMosaic.Lib.Pointwise
public import Idealize.ShloMosaic.Lib.WordCmp
public import Idealize.ShloMosaic.Lib.IdealHost

@[expose] public section

set_option maxRecDepth 16384

noncomputable section

namespace Cert.Proof.ReferenceIdeal

open Cert.ReferenceIdeal Cert.ReferenceIdeal.Gen
open Idealize.ShloMosaic
open Cert.Proof.Score (scale sitofp_word ofBits_bot)

/-- The causal mask. -/
def mask : IVec S4x4096x4096 1 :=
  broadcastInDim S4x4096x4096 ![1, 2] bcast_S4096x4096_S4x4096x4096_1_2 (cmpi .sle (broadcastInDim S4096x4096 ![0, 1] bcast_S1x4096_S4096x4096_0_1 (broadcastInDim S1x4096 ![1] bcast_S4096_S1x4096_1 (iotaInDim S4096 32 0))) (broadcastInDim S4096x4096 ![0, 1] bcast_S4096x1_S4096x4096_0_1 (broadcastInDim S4096x1 ![0] bcast_S4096_S4096x1_0 (iotaInDim S4096 32 0))))

/-- The masked scores. -/
def refS (q k : FVec Ideal S4096x4x96 .f32) : FVec Ideal S4x4096x4096 .f32 :=
  select mask (mulf (Host.dotGeneral dot_S4096x4x96_S4096x4x96_S4x4096x4096_2_2_0_0_1_1 none q k) (broadcastInDim S4x4096x4096 ![] bcast_S_S4x4096x4096 (constant S_ .f32 0x3DD105EC#32)))
    (broadcastInDim S4x4096x4096 ![] bcast_S_S4x4096x4096 (id (constant S_ .f32 0xFF800000#32)))

/-- The rows' largest scores. -/
def refM (s : FVec Ideal S4x4096x4096 .f32) : FVec Ideal S4x4096x1 .f32 :=
  broadcastInDim S4x4096x1 ![0, 1] bcast_S4x4096_S4x4096x1_0_1 (maximumf (broadcastInDim S4x4096 ![] bcast_S_S4x4096 (constant S_ .f32 0xFF800000#32)) (Host.reduce FloatOps.maximumf s (constant S_ .f32 0xFF800000#32) reducesTo_S4x4096x4096_S4x4096_d2 h_S_))

/-- The exponentials. -/
def refE (s : FVec Ideal S4x4096x4096 .f32) : FVec Ideal S4x4096x4096 .f32 :=
  Host.exp (subf s (broadcastInDim S4x4096x4096 ![0, 1, 2] bcast_S4x4096x1_S4x4096x4096_0_1_2 (refM s)))

/-- The rows' sums. -/
def refL (e : FVec Ideal S4x4096x4096 .f32) : FVec Ideal S4x4096x1 .f32 :=
  broadcastInDim S4x4096x1 ![0, 1] bcast_S4x4096_S4x4096x1_0_1 (Host.reduceAdd e (constant S_ .f32 0x00000000#32) reducesTo_S4x4096x4096_S4x4096_d2 h_S_)

/-- The probabilities' gradient. -/
def refDp (v g : FVec Ideal S4096x4x64 .f32) : FVec Ideal S4x4096x4096 .f32 :=
  Host.dotGeneral dot_S4x64x4096_S4096x4x64_S4x4096x4096_1_2_2_0_0_1 none (transpose S4x64x4096 [1, 2, 0] g transposes_S4096x4x64_S4x64x4096_1_2_0) v

/-- The sums' gradient, summed over a row. -/
def refN (e dp : FVec Ideal S4x4096x4096 .f32) (l : FVec Ideal S4x4096x1 .f32) : FVec Ideal S4x4096 .f32 :=
  Host.reduceAdd (mulf (mulf dp (broadcastInDim S4x4096x4096 ![0, 1, 2] bcast_S4x4096x1_S4x4096x4096_0_1_2 (Host.divf (broadcastInDim S4x4096x1 ![] bcast_S_S4x4096x1 (constant S_ .f32 0x3F800000#32)) (mulf l l)))) e) (constant S_ .f32 0x00000000#32) reducesTo_S4x4096x4096_S4x4096_d2 h_S_

/-- The sums' gradient. -/
def refT (n : FVec Ideal S4x4096 .f32) : FVec Ideal S4x4096 .f32 :=
  Host.reduceAdd (Host.negf (shapeCast S4x4096x1 n shapeCasts_S4x4096_S4x4096x1)) (constant S_ .f32 0x00000000#32) reducesTo_S4x4096x1_S4x4096_d2 h_S_

/-- The scores' gradient. -/
def refDs (e dp : FVec Ideal S4x4096x4096 .f32) (l : FVec Ideal S4x4096x1 .f32) (t : FVec Ideal S4x4096 .f32) : FVec Ideal S4x4096x4096 .f32 :=
  mulf (select mask (mulf (addf (Host.divf dp (broadcastInDim S4x4096x4096 ![0, 1, 2] bcast_S4x4096x1_S4x4096x4096_0_1_2 l)) (broadcastInDim S4x4096x4096 ![0, 1] bcast_S4x4096_S4x4096x4096_0_1 t)) e)
    (broadcastInDim S4x4096x4096 ![] bcast_S_S4x4096x4096 (constant S_ .f32 0x00000000#32))) (broadcastInDim S4x4096x4096 ![] bcast_S_S4x4096x4096 (constant S_ .f32 0x3DD105EC#32))

/-- The queries' gradient, padded to lanes. -/
def refQ (ds : FVec Ideal S4x4096x4096 .f32) (k : FVec Ideal S4096x4x96 .f32) : FVec Ideal S4096x512 .f32 :=
  shapeCast S4096x512 (pad S4096x4x128 ![0, 0, 0] ![0, 0, 32] ![0, 0, 0] (transpose S4096x4x96 [1, 0, 2] (Host.dotGeneral dot_S4x4096x4096_S4096x4x96_S4x4096x96_2_0_1_2_0_1 none ds k) transposes_S4x4096x96_S4096x4x96_1_0_2)
    (sitofp .f32 (constantI S_ 32 0#32)) pads_S4096x4x96_S4096x4x128_000_000_0320 h_S_) shapeCasts_S4096x4x128_S4096x512

/-- The keys' gradient, padded to lanes. -/
def refK (ds : FVec Ideal S4x4096x4096 .f32) (q : FVec Ideal S4096x4x96 .f32) : FVec Ideal S4096x512 .f32 :=
  shapeCast S4096x512 (pad S4096x4x128 ![0, 0, 0] ![0, 0, 32] ![0, 0, 0] (transpose S4096x4x96 [1, 0, 2] (Host.dotGeneral dot_S4x4096x4096_S4096x4x96_S4x4096x96_1_0_2_2_0_1 none ds q) transposes_S4x4096x96_S4096x4x96_1_0_2)
    (sitofp .f32 (constantI S_ 32 0#32)) pads_S4096x4x96_S4096x4x128_000_000_0320 h_S_) shapeCasts_S4096x4x128_S4096x512

/-- The values' gradient, padded to lanes. -/
def refV (e : FVec Ideal S4x4096x4096 .f32) (l : FVec Ideal S4x4096x1 .f32) (g : FVec Ideal S4096x4x64 .f32) : FVec Ideal S4096x512 .f32 :=
  shapeCast S4096x512 (pad S4096x4x128 ![0, 0, 0] ![0, 0, 64] ![0, 0, 0] (transpose S4096x4x64 [2, 0, 1] (Host.dotGeneral dot_S4x64x4096_S4x4096x4096_S4x64x4096_2_1_1_2_0_0 none
    (transpose S4x64x4096 [1, 2, 0] g transposes_S4096x4x64_S4x64x4096_1_2_0) (Host.divf e (broadcastInDim S4x4096x4096 ![0, 1, 2] bcast_S4x4096x1_S4x4096x4096_0_1_2 l))) transposes_S4x64x4096_S4096x4x64_2_0_1)
    (sitofp .f32 (constantI S_ 32 0#32)) pads_S4096x4x64_S4096x4x128_000_000_0640 h_S_) shapeCasts_S4096x4x128_S4096x512

end Cert.Proof.ReferenceIdeal

end
-- ==== Proof.Value.RefRead.lean ====
/-
  The pieces of the reference's results, read at an index.
-/
module

public import proofs.«01_k».proof.Proof.Value.Ref

@[expose] public section

set_option maxRecDepth 16384

noncomputable section

namespace Cert.Proof.ReferenceIdeal

open Cert.ReferenceIdeal Cert.ReferenceIdeal.Gen
open Idealize.ShloMosaic
open Cert.Proof.Score (scale sitofp_word ofBits_bot)

/-! ### At an index -/

theorem mask_at (h : Fin 4) (i j : Fin 4096) : mask (ix3 h i j) = BitVec.ofBool (decide (j.val ≤ i.val)) := by
  unfold mask
  pointwise
  rw [WordCmp.cmpi_sle_ofNat (by have := j.isLt; omega) (by have := i.isLt; omega)]

theorem refS_at (q k : FVec Ideal S4096x4x96 .f32) (h : Fin 4) (i j : Fin 4096) : refS q k (ix3 h i j)
    = if j.val ≤ i.val then (∑ d : Fin 96, q (ix3 i h d) * k (ix3 j h d)) * scale else (⊥ : EReal) := by
  unfold refS
  pointwise
  rw [mask_at]
  by_cases hc : j.val ≤ i.val
  · simp [hc, Scalar.select, scale]
  · simp only [hc, decide_false, BitVec.ofBool_false, Scalar.select, if_false]
    exact ofBits_bot

theorem max_bot (x : EReal) : max ⊥ x = x := max_eq_right bot_le

/-- The larger of minus infinity and a number is the number. -/
theorem max_const_at (x : FVec Ideal S4x4096 .f32) (i : S4x4096.Idx) :
    maximumf (broadcastInDim S4x4096 ![] bcast_S_S4x4096 (constant S_ .f32 0xFF800000#32)) x i = x i := by
  have e : maximumf (broadcastInDim S4x4096 ![] bcast_S_S4x4096 (constant S_ .f32 0xFF800000#32)) x i
      = max (Ideal.ofBits .f32 0xFF800000#32) (x i : EReal) := rfl
  rw [e, ofBits_bot]
  exact max_bot _

theorem rowMax_at (s : FVec Ideal S4x4096x4096 .f32) (h : Fin 4) (i : Fin 4096) :
    Host.reduce FloatOps.maximumf s (constant S_ .f32 0xFF800000#32) reducesTo_S4x4096x4096_S4x4096_d2 h_S_ (ix2 h i)
      = Finset.univ.fold max (⊥ : EReal) fun j : Fin 4096 => s (ix3 h i j) := by
  pointwise
  rw [ofBits_bot]

/-- Along the last axis. -/
theorem col_at (x : FVec Ideal S4x4096 .f32) (h : Fin 4) (i : Fin 4096) (z : Fin 1) :
    broadcastInDim S4x4096x1 ![0, 1] bcast_S4x4096_S4x4096x1_0_1 x (ix3 h i z) = x (ix2 h i) := by
  pointwise

theorem refM_at (s : FVec Ideal S4x4096x4096 .f32) (h : Fin 4) (i : Fin 4096) (z : Fin 1) : refM s (ix3 h i z)
    = Finset.univ.fold max (⊥ : EReal) fun j : Fin 4096 => s (ix3 h i j) := by
  unfold refM
  rw [col_at, max_const_at, rowMax_at]

theorem refE_at (s : FVec Ideal S4x4096x4096 .f32) (h : Fin 4) (i j : Fin 4096) : refE s (ix3 h i j)
    = Ideal.exp (s (ix3 h i j) - refM s (ix3 h i 0)) := by
  unfold refE
  pointwise

theorem refL_at (e : FVec Ideal S4x4096x4096 .f32) (h : Fin 4) (i : Fin 4096) (z : Fin 1) : refL e (ix3 h i z)
    = ∑ j : Fin 4096, e (ix3 h i j) := by
  unfold refL
  pointwise

theorem refDp_at (v g : FVec Ideal S4096x4x64 .f32) (h : Fin 4) (i j : Fin 4096) : refDp v g (ix3 h i j)
    = ∑ d : Fin 64, g (ix3 i h d) * v (ix3 j h d) := by
  unfold refDp
  pointwise

theorem refN_at (e dp : FVec Ideal S4x4096x4096 .f32) (l : FVec Ideal S4x4096x1 .f32) (h : Fin 4) (i : Fin 4096) : refN e dp l (ix2 h i)
    = ∑ j : Fin 4096, dp (ix3 h i j) * Ideal.div (1 : EReal) (l (ix3 h i 0) * l (ix3 h i 0)) * e (ix3 h i j) := by
  unfold refN
  pointwise

/-- A row's sums as a column. -/
theorem cast_col (x : FVec Ideal S4x4096 .f32) (h : Fin 4) (n : Fin 4096) (z : Fin 1) :
    shapeCast S4x4096x1 x shapeCasts_S4x4096_S4x4096x1 (ix3 h n z) = x (ix2 h n) :=
  shapeCast_apply x _ _ _ (by rw [Shape.rowMajor_val_two, Shape.rowMajor_val_three]; show h.val * 4096 + n.val = (h.val * 4096 + n.val) * 1 + z.val; have := z.isLt; omega)

theorem neg_at (x : FVec Ideal S4x4096x1 .f32) (i : S4x4096x1.Idx) : Host.negf x i = -(x i : EReal) := rfl

theorem sum_unit (x : FVec Ideal S4x4096x1 .f32) (h : Fin 4) (n : Fin 4096) :
    Host.reduceAdd x (constant S_ .f32 0x00000000#32) reducesTo_S4x4096x1_S4x4096_d2 h_S_ (ix2 h n) = (x (ix3 h n 0) : EReal) := by
  pointwise
  exact Fin.sum_univ_one (fun z : Fin 1 => (x (ix3 h n z) : EReal))

theorem refT_at (n : FVec Ideal S4x4096 .f32) (h : Fin 4) (i : Fin 4096) : refT n (ix2 h i) = -(n (ix2 h i) : EReal) := by
  unfold refT
  rw [sum_unit, neg_at, cast_col]

theorem refDs_at (e dp : FVec Ideal S4x4096x4096 .f32) (l : FVec Ideal S4x4096x1 .f32) (t : FVec Ideal S4x4096 .f32) (h : Fin 4) (i j : Fin 4096) :
    refDs e dp l t (ix3 h i j) = (if j.val ≤ i.val then (Ideal.div (dp (ix3 h i j)) (l (ix3 h i 0)) + t (ix2 h i)) * e (ix3 h i j) else (0 : EReal)) * scale := by
  unfold refDs
  pointwise
  rw [mask_at]
  by_cases hc : j.val ≤ i.val
  · simp [hc, Scalar.select, scale]
  · simp [hc, Scalar.select]

theorem refQ_at (ds : FVec Ideal S4x4096x4096 .f32) (k : FVec Ideal S4096x4x96 .f32) (n : Fin 4096) (h : Fin 4) (d : Fin 128) :
    refQ ds k (ix2 (n0 := 4096) (n1 := 512) n ⟨128 * h.val + d.val, by omega⟩)
    = if hd : d.val < 96 then ∑ j : Fin 4096, ds (ix3 h n j) * k (ix3 j h ⟨d.val, hd⟩) else (0 : EReal) := by
  unfold refQ
  pointwise
  rw [sitofp_word]

theorem refK_at (ds : FVec Ideal S4x4096x4096 .f32) (q : FVec Ideal S4096x4x96 .f32) (n : Fin 4096) (h : Fin 4) (d : Fin 128) :
    refK ds q (ix2 (n0 := 4096) (n1 := 512) n ⟨128 * h.val + d.val, by omega⟩)
    = if hd : d.val < 96 then ∑ i : Fin 4096, ds (ix3 h i n) * q (ix3 i h ⟨d.val, hd⟩) else (0 : EReal) := by
  unfold refK
  pointwise
  rw [sitofp_word]

theorem refV_at (e : FVec Ideal S4x4096x4096 .f32) (l : FVec Ideal S4x4096x1 .f32) (g : FVec Ideal S4096x4x64 .f32) (n : Fin 4096) (h : Fin 4) (d : Fin 128) :
    refV e l g (ix2 (n0 := 4096) (n1 := 512) n ⟨128 * h.val + d.val, by omega⟩)
    = if hd : d.val < 64 then ∑ i : Fin 4096, g (ix3 i h ⟨d.val, hd⟩) * Ideal.div (e (ix3 h i n)) (l (ix3 h i 0)) else (0 : EReal) := by
  unfold refV
  pointwise
  rw [sitofp_word]

end Cert.Proof.ReferenceIdeal

end
-- ==== Proof.Value.RefHead.lean ====
/-
  The reference's results at one head: the gradient by the chain rule through the quotient.
-/
module

public import proofs.«01_k».proof.Proof.Value.RefRead
public import proofs.«01_k».proof.Proof.Value.Math

@[expose] public section

set_option maxRecDepth 16384

noncomputable section

namespace Cert.Proof.ReferenceIdeal

open Cert.ReferenceIdeal Cert.ReferenceIdeal.Gen
open Idealize.ShloMosaic
open Cert.Proof.Score (scale)

/-- One head of an array. -/
def hd96 (x : FVec Ideal S4096x4x96 .f32) (h : Fin 4) (i : Fin 4096) (d : Fin 96) : EReal := x (ix3 i h d)
def hd64 (x : FVec Ideal S4096x4x64 .f32) (h : Fin 4) (i : Fin 4096) (d : Fin 64) : EReal := x (ix3 i h d)

variable (q k : FVec Ideal S4096x4x96 .f32) (v g : FVec Ideal S4096x4x64 .f32)

theorem S_head (h : Fin 4) (i j : Fin 4096) : refS q k (ix3 h i j) = Score.S (hd96 q h) (hd96 k h) i j := by
  rw [refS_at]
  unfold Score.S hd96
  rfl

theorem M_head (h : Fin 4) (i : Fin 4096) (z : Fin 1) : refM (refS q k) (ix3 h i z) = Score.M (hd96 q h) (hd96 k h) i := by
  rw [refM_at]
  unfold Score.M
  exact congrArg (fun f : Fin 4096 → EReal => Finset.univ.fold max (⊥ : EReal) f) (funext fun j => S_head q k h i j)

theorem E_head (h : Fin 4) (i j : Fin 4096) : refE (refS q k) (ix3 h i j) = Score.E (hd96 q h) (hd96 k h) i j := by
  rw [refE_at, M_head, S_head]
  unfold Score.E
  rfl

theorem L_head (h : Fin 4) (i : Fin 4096) (z : Fin 1) : refL (refE (refS q k)) (ix3 h i z) = Score.L (hd96 q h) (hd96 k h) i := by
  rw [refL_at]
  unfold Score.L
  exact Finset.sum_congr rfl fun j _ => E_head q k h i j

theorem DP_head (h : Fin 4) (i j : Fin 4096) : refDp v g (ix3 h i j) = Score.DP (hd64 v h) (hd64 g h) i j := by
  rw [refDp_at]
  unfold Score.DP hd64
  rfl

/-- The scores' gradient of the arguments. -/
def gradS : FVec Ideal S4x4096x4096 .f32 :=
  refDs (refE (refS q k)) (refDp v g) (refL (refE (refS q k))) (refT (refN (refE (refS q k)) (refDp v g) (refL (refE (refS q k)))))

theorem DS_head (h : Fin 4) (i j : Fin 4096) : gradS q k v g (ix3 h i j) = Score.DS (hd96 q h) (hd96 k h) (hd64 v h) (hd64 g h) i j := by
  unfold gradS
  rw [refDs_at, refT_at, refN_at, E_head, L_head, DP_head]
  unfold Score.DS
  simp only [E_head, DP_head]

/-- The three gradients of the arguments. -/
def gradQ : FVec Ideal S4096x512 .f32 := refQ (gradS q k v g) k
def gradK : FVec Ideal S4096x512 .f32 := refK (gradS q k v g) q
def gradV : FVec Ideal S4096x512 .f32 := refV (refE (refS q k)) (refL (refE (refS q k))) g

theorem gradQ_at (n : Fin 4096) (h : Fin 4) (d : Fin 128) : gradQ q k v g (ix2 (n0 := 4096) (n1 := 512) n ⟨128 * h.val + d.val, by omega⟩)
    = if hd : d.val < 96 then ∑ j : Fin 4096, Score.DS (hd96 q h) (hd96 k h) (hd64 v h) (hd64 g h) n j * hd96 k h j ⟨d.val, hd⟩ else (0 : EReal) := by
  unfold gradQ
  rw [refQ_at]
  simp only [DS_head]
  rfl

theorem gradK_at (n : Fin 4096) (h : Fin 4) (d : Fin 128) : gradK q k v g (ix2 (n0 := 4096) (n1 := 512) n ⟨128 * h.val + d.val, by omega⟩)
    = if hd : d.val < 96 then ∑ i : Fin 4096, Score.DS (hd96 q h) (hd96 k h) (hd64 v h) (hd64 g h) i n * hd96 q h i ⟨d.val, hd⟩ else (0 : EReal) := by
  unfold gradK
  rw [refK_at]
  simp only [DS_head]
  rfl

theorem gradV_at (n : Fin 4096) (h : Fin 4) (d : Fin 128) : gradV q k g (ix2 (n0 := 4096) (n1 := 512) n ⟨128 * h.val + d.val, by omega⟩)
    = if hd : d.val < 64 then ∑ i : Fin 4096, hd64 g h i ⟨d.val, hd⟩ * Ideal.div (Score.E (hd96 q h) (hd96 k h) i n) (Score.L (hd96 q h) (hd96 k h) i) else (0 : EReal) := by
  unfold gradV
  rw [refV_at]
  simp only [E_head, L_head]
  rfl

end Cert.Proof.ReferenceIdeal

end
-- ==== Proof.Value.RefRun.lean ====
/-
  The reference's run ends with these terms.
-/
module

public import proofs.«01_k».proof.Proof.Value.Ref
public import proofs.«01_k».proof.Proof.Gen.ReferenceIdeal.Run

@[expose] public section

set_option maxRecDepth 16384

noncomputable section

namespace Cert.Proof.ReferenceIdeal

open Cert.ReferenceIdeal Cert.ReferenceIdeal.Gen Cert.ReferenceIdeal.Value
open Idealize.ShloMosaic
open Cert.Proof.Score (scale sitofp_word ofBits_bot)

section Results
variable (m : (ℓ : Loc nD τ sig) → Buf (Elt Ideal) ℓ) (c : Dev nD)

/-- The exponentials, sums and the scores' gradient of the run's arguments. -/
def argE : FVec Ideal S4x4096x4096 .f32 := refE (refS (m (c.tc.loc main_arg0)) (m (c.tc.loc main_arg1)))
def argL : FVec Ideal S4x4096x1 .f32 := refL (argE m c)
def argDp : FVec Ideal S4x4096x4096 .f32 := refDp (m (c.tc.loc main_arg2)) (m (c.tc.loc main_arg3))
def argDs : FVec Ideal S4x4096x4096 .f32 := refDs (argE m c) (argDp m c) (argL m c) (refT (refN (argE m c) (argDp m c) (argL m c)))

theorem out0_eq : res_out0 m c = refQ (argDs m c) (m (c.tc.loc main_arg1)) := by
  unfold res_out0 res_main_v64 refQ argDs argDp argL argE refDs refT refN refDp refL refE refM refS mask
  first | (with_reducible rfl) | rfl

theorem out1_eq : res_out1 m c = refK (argDs m c) (m (c.tc.loc main_arg0)) := by
  unfold res_out1 res_main_v66 refK argDs argDp argL argE refDs refT refN refDp refL refE refM refS mask
  first | (with_reducible rfl) | rfl

theorem out2_eq : res_out2 m c = refV (argE m c) (argL m c) (m (c.tc.loc main_arg3)) := by
  unfold res_out2 res_main_v68 refV argL argE refL refE refM refS mask
  first | (with_reducible rfl) | rfl

end Results

end Cert.Proof.ReferenceIdeal

end
-- ==== Proof.Value.Finite.lean ====
/-
  The precondition's arguments are numbers.
-/
module

public import proofs.«01_k».proof.Defs
public import proofs.«01_k».proof.Proof.Gen.Pre_finite
public import Idealize.ShloMosaic.Lib.ReduceAll

@[expose] public section

set_option maxRecDepth 16384

noncomputable section

namespace Cert.Proof.Finite

open Cert.Pre_finite Cert.Pre_finite.Gen
open Idealize.ShloMosaic

/-- The word of plus infinity. -/
theorem ofBits_top : Ideal.ofBits .f32 0x7F800000#32 = (⊤ : EReal) := by
  simp [Ideal.ofBits, Ideal.ieee]

/-- An extended real below plus infinity in absolute value is a number. -/
theorem num_of_lt (x : EReal) (h : Ideal.cmp .olt (max x (-x)) (Ideal.ofBits .f32 0x7F800000#32) = 1#1) : x = (x.toReal : EReal) := by
  rw [ofBits_top] at h
  have hlt : max x (-x) < ⊤ := by
    by_contra hn
    simp [Ideal.cmp, hn] at h
  obtain ⟨h1, h2⟩ := max_lt_iff.1 hlt
  refine (EReal.coe_toReal h1.ne ?_).symm
  rintro rfl
  exact absurd h2 (by simp)

/-- Every element of an array is a number. -/
def Num {S : Shape} (x : S.Idx → EReal) : Prop := ∀ i, x i = ((x i).toReal : EReal)

instance : Subsingleton S_.Idx := ⟨fun a b => funext fun i => i.elim0⟩

theorem num96 (x : FVec Ideal S4096x4x96 .f32) (j : S_.Idx)
    (h : Host.reduce IntOp.andi (cmpf .olt (Host.absf x) (broadcastInDim S4096x4x96 ![] bcast_S_S4096x4x96 (constant S_ .f32 0x7F800000#32))) (constantI S_ 1 1#1)
      reducesTo_S4096x4x96_S_d0_1_2 h_S_ j = 1#1) : Num (S := S4096x4x96) x := fun i =>
  num_of_lt (x i) (Host.reduce_andi_all _ _ _ _ j h i)

theorem num64 (x : FVec Ideal S4096x4x64 .f32) (j : S_.Idx)
    (h : Host.reduce IntOp.andi (cmpf .olt (Host.absf x) (broadcastInDim S4096x4x64 ![] bcast_S_S4096x4x64 (constant S_ .f32 0x7F800000#32))) (constantI S_ 1 1#1)
      reducesTo_S4096x4x64_S_d0_1_2 h_S_ j = 1#1) : Num (S := S4096x4x64) x := fun i =>
  num_of_lt (x i) (Host.reduce_andi_all _ _ _ _ j h i)

/-- The conjunction of two words. -/
theorem and_one {a b : IVec S_ 1} (j : S_.Idx) (h : andi a b j = 1#1) : a j = 1#1 ∧ b j = 1#1 :=
  IntOp.andi_eq_one.1 h

theorem numbers (q k : FVec Ideal S4096x4x96 .f32) (v g : FVec Ideal S4096x4x64 .f32) (h : Cert.Pre_finite.fn (F := Ideal) q k v g = fun _ => 1#1) :
    Num (S := S4096x4x96) q ∧ Num (S := S4096x4x96) k ∧ Num (S := S4096x4x64) v ∧ Num (S := S4096x4x64) g := by
  have h0 := congrFun h (fun i => i.elim0)
  unfold Cert.Pre_finite.fn Cert.Pre_finite.fn_part1 at h0
  obtain ⟨h1, hg⟩ := and_one _ h0
  obtain ⟨h2, hv⟩ := and_one _ h1
  obtain ⟨hq, hk⟩ := and_one _ h2
  exact ⟨num96 q _ hq, num96 k _ hk, num64 v _ hv, num64 g _ hg⟩

end Cert.Proof.Finite

end
-- ==== Proof.Value.Equal.lean ====
/-
  The kernel's three arrays are the reference's, where the arguments are numbers; and the two runs together.
-/
module

public import proofs.«01_k».proof.Proof.Value.KerHead
public import proofs.«01_k».proof.Proof.Value.RefHead
public import proofs.«01_k».proof.Proof.Value.RefRun
public import proofs.«01_k».proof.Proof.Value.Finite
public import proofs.«01_k».proof.Defs

@[expose] public section

set_option maxRecDepth 16384

noncomputable section

namespace Cert.Proof.Equal

open Idealize.ShloMosaic Idealize.SL.Sem
open Cert.Proof.KernelIdeal (argQ argK argV argD hQ hK hV hG finQ finK finV lane headOf within lane_headOf)
open Cert.Proof.ReferenceIdeal (gradQ gradK gradV)
open Cert.Proof.Finite (Num)

/-- One head of an array of numbers. -/
def num96 (x : Cert.KernelIdeal.S4096x4x96.Idx → EReal) (h : Fin 4) (i : Fin 4096) (d : Fin 96) : ℝ := (x (ix3 i h d)).toReal
def num64 (x : Cert.KernelIdeal.S4096x4x64.Idx → EReal) (h : Fin 4) (i : Fin 4096) (d : Fin 64) : ℝ := (x (ix3 i h d)).toReal

theorem up96 (x : Cert.KernelIdeal.S4096x4x96.Idx → EReal) (hx : Num x) (h : Fin 4) : KernelIdeal.hd96 x h = Score.up (num96 x h) :=
  funext fun i => funext fun d => hx (ix3 i h d)
theorem up64 (x : Cert.KernelIdeal.S4096x4x64.Idx → EReal) (hx : Num x) (h : Fin 4) : KernelIdeal.hd64 x h = Score.up (num64 x h) :=
  funext fun i => funext fun d => hx (ix3 i h d)

section
variable (m : (ℓ : Loc Cert.KernelIdeal.nD Cert.KernelIdeal.τ Cert.KernelIdeal.sig) → Buf (Elt Ideal) ℓ) (c : Dev Cert.KernelIdeal.nD)
variable (nq : Num (S := Cert.KernelIdeal.S4096x4x96) (argQ m c)) (nk : Num (S := Cert.KernelIdeal.S4096x4x96) (argK m c))
variable (nv : Num (S := Cert.KernelIdeal.S4096x4x64) (argV m c)) (ng : Num (S := Cert.KernelIdeal.S4096x4x64) (argD m c))
include nq nk ng

theorem equal_v : finV m c = gradV (argQ m c) (argK m c) (argD m c) := by
  funext i
  rw [show i = ix2 (i 0) (lane (headOf (i 1)) (within (i 1))) from (eq_ix2 i).trans (congrArg (ix2 (i 0)) (lane_headOf (i 1)).symm)]
  generalize headOf (i 1) = h
  generalize within (i 1) = d
  generalize i 0 = n
  have e := Score.agree_v (q := num96 (argQ m c) h) (k := num96 (argK m c) h) (g := num64 (argD m c) h) n d
  rw [← up96 _ nq, ← up96 _ nk, ← up64 _ ng] at e
  exact (KernelIdeal.finV_head m c n h d).trans (e.trans (ReferenceIdeal.gradV_at (argQ m c) (argK m c) (argD m c) n h d).symm)

include nv

theorem equal_k : finK m c = gradK (argQ m c) (argK m c) (argV m c) (argD m c) := by
  funext i
  rw [show i = ix2 (i 0) (lane (headOf (i 1)) (within (i 1))) from (eq_ix2 i).trans (congrArg (ix2 (i 0)) (lane_headOf (i 1)).symm)]
  generalize headOf (i 1) = h
  generalize within (i 1) = d
  generalize i 0 = n
  have e := Score.agree_k (q := num96 (argQ m c) h) (k := num96 (argK m c) h) (v := num64 (argV m c) h) (g := num64 (argD m c) h) n d
  rw [← up96 _ nq, ← up96 _ nk, ← up64 _ nv, ← up64 _ ng] at e
  exact (KernelIdeal.finK_head m c n h d).trans (e.trans (ReferenceIdeal.gradK_at (argQ m c) (argK m c) (argV m c) (argD m c) n h d).symm)

theorem equal_q : finQ m c = gradQ (argQ m c) (argK m c) (argV m c) (argD m c) := by
  funext i
  rw [show i = ix2 (i 0) (lane (headOf (i 1)) (within (i 1))) from (eq_ix2 i).trans (congrArg (ix2 (i 0)) (lane_headOf (i 1)).symm)]
  generalize headOf (i 1) = h
  generalize within (i 1) = d
  generalize i 0 = n
  have e := Score.agree_q (q := num96 (argQ m c) h) (k := num96 (argK m c) h) (v := num64 (argV m c) h) (g := num64 (argD m c) h) n d
  rw [← up96 _ nq, ← up96 _ nk, ← up64 _ nv, ← up64 _ ng] at e
  exact (KernelIdeal.finQ_head m c n h d).trans (e.trans (ReferenceIdeal.gradQ_at (argQ m c) (argK m c) (argV m c) (argD m c) n h d).symm)

end

/-- The kernel's run: its three arrays, its arguments as they were. -/
theorem kernel_run (m : (ℓ : Loc Cert.KernelIdeal.nD Cert.KernelIdeal.τ Cert.KernelIdeal.sig) → Buf (Elt Ideal) ℓ) (ρ : Dev Cert.KernelIdeal.nD → PrngReg) :
    θ_run (Cert.KernelIdeal.defs (F := Ideal)) (onTc (τ := Cert.KernelIdeal.τ) (Cert.KernelIdeal.main (F := Ideal))) ⟨m, fun _ => 0, ρ⟩ (fun r => (∀ c : Dev Cert.KernelIdeal.nD,
      r.2.mem ((c.tc : Thread Cert.KernelIdeal.nD Cert.KernelIdeal.τ).loc Cert.KernelIdeal.main_v46_0) = finQ m c
      ∧ r.2.mem ((c.tc : Thread Cert.KernelIdeal.nD Cert.KernelIdeal.τ).loc Cert.KernelIdeal.main_v46_1) = finK m c
      ∧ r.2.mem ((c.tc : Thread Cert.KernelIdeal.nD Cert.KernelIdeal.τ).loc Cert.KernelIdeal.main_v46_2) = finV m c) ∧ (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))) :=
  θ_run_and ((θ_run _ _ _).mono (fun r h c => ⟨(Pipeline.FramePost.out_eq h c 6).trans (KernelIdeal.final_6 m c),
      (Pipeline.FramePost.out_eq h c 7).trans (KernelIdeal.final_7 m c), (Pipeline.FramePost.out_eq h c 8).trans (KernelIdeal.final_8 m c)⟩) (KernelIdeal.run_post m ρ))
    ((θ_run _ _ _).mono (fun r h => h.1) (KernelIdeal.frame_quiescent m ρ))

section
variable (m' : (ℓ : Loc Cert.ReferenceIdeal.nD Cert.ReferenceIdeal.τ Cert.ReferenceIdeal.sig) → Buf (Elt Ideal) ℓ) (c : Dev Cert.ReferenceIdeal.nD)

theorem ref_q (q k v g) (h0 : m' (c.tc.loc Cert.ReferenceIdeal.main_arg0) = q) (h1 : m' (c.tc.loc Cert.ReferenceIdeal.main_arg1) = k)
    (h2 : m' (c.tc.loc Cert.ReferenceIdeal.main_arg2) = v) (h3 : m' (c.tc.loc Cert.ReferenceIdeal.main_arg3) = g) :
    Cert.ReferenceIdeal.Value.res_main_v64 m' c = gradQ q k v g := by
  subst h0 h1 h2 h3
  exact ReferenceIdeal.out0_eq m' c

theorem ref_k (q k v g) (h0 : m' (c.tc.loc Cert.ReferenceIdeal.main_arg0) = q) (h1 : m' (c.tc.loc Cert.ReferenceIdeal.main_arg1) = k)
    (h2 : m' (c.tc.loc Cert.ReferenceIdeal.main_arg2) = v) (h3 : m' (c.tc.loc Cert.ReferenceIdeal.main_arg3) = g) :
    Cert.ReferenceIdeal.Value.res_main_v66 m' c = gradK q k v g := by
  subst h0 h1 h2 h3
  exact ReferenceIdeal.out1_eq m' c

theorem ref_v (q k g) (h0 : m' (c.tc.loc Cert.ReferenceIdeal.main_arg0) = q) (h1 : m' (c.tc.loc Cert.ReferenceIdeal.main_arg1) = k)
    (h3 : m' (c.tc.loc Cert.ReferenceIdeal.main_arg3) = g) :
    Cert.ReferenceIdeal.Value.res_main_v68 m' c = gradV q k g := by
  subst h0 h1 h3
  exact ReferenceIdeal.out2_eq m' c

end

/-- The kernel and the reference end at the same three arrays. -/
theorem algebraic : Cert.algebraic_KernelIdeal_ReferenceIdeal_pre_finite := fun m ρ m' ρ' hpre hargs => by
  have hn := fun c => Finite.numbers _ _ _ _ (hpre c)
  refine ⟨fun c => finQ m c, fun c => finK m c, fun c => finV m c, ?_, ?_⟩
  · exact (θ_run _ _ _).mono (fun r h c => ⟨(h.1 c).1, (h.1 c).2.1, (h.1 c).2.2, h.2 c⟩) (kernel_run m ρ)
  · refine (θ_run _ _ _).mono (fun r h c => ?_) (Cert.ReferenceIdeal.Value.run m' ρ')
    obtain ⟨a0, a1, a2, a3⟩ := hargs c
    obtain ⟨nq, nk, nv, ng⟩ := hn c
    exact ⟨((h c).1.trans (ref_q m' c _ _ _ _ a0 a1 a2 a3)).trans (equal_q m c nq nk nv ng).symm,
      ((h c).2.1.trans (ref_k m' c _ _ _ _ a0 a1 a2 a3)).trans (equal_k m c nq nk nv ng).symm,
      ((h c).2.2.1.trans (ref_v m' c _ _ _ a0 a1 a3)).trans (equal_v m c nq nk ng).symm, (h c).2.2.2⟩

end Cert.Proof.Equal

end
-- ==== Proof.Tables.lean ====
/-
  The tables of functions of the calls in which no operation is replaced: where the printed program and the
  idealized one say the same, their tables are equal, and a run of one is a run of the other.
-/
module

public import proofs.«01_k».proof.Proof.Gen.KernelUp
public import proofs.«01_k».proof.Proof.Gen.KernelUpIdeal
public import proofs.«01_k».proof.Proof.Gen.KernelUpWg
public import proofs.«01_k».proof.Proof.Gen.KernelUpWgIdeal
public import proofs.«01_k».proof.Proof.Gen.KernelDownDg
public import proofs.«01_k».proof.Proof.Gen.KernelDownDgIdeal
public import proofs.«01_k».proof.Proof.Gen.KernelDownWg
public import proofs.«01_k».proof.Proof.Gen.KernelDownWgIdeal
public import proofs.«01_k».proof.Proof.Gen.KernelDownFwd
public import proofs.«01_k».proof.Proof.Gen.KernelDownFwdIdeal
public import proofs.«01_k».proof.Proof.Gen.KernelInDg
public import proofs.«01_k».proof.Proof.Gen.KernelInDgIdeal
public import proofs.«01_k».proof.Proof.Gen.KernelInWg
public import proofs.«01_k».proof.Proof.Gen.KernelInWgIdeal
public import proofs.«01_k».proof.Proof.Gen.KernelOutDg
public import proofs.«01_k».proof.Proof.Gen.KernelOutDgIdeal
public import proofs.«01_k».proof.Proof.Gen.KernelOutWg
public import proofs.«01_k».proof.Proof.Gen.KernelOutWgIdeal
public import proofs.«01_k».proof.Proof.Gen.KernelOutFwd
public import proofs.«01_k».proof.Proof.Gen.KernelOutFwdIdeal
public import proofs.«01_k».proof.Proof.Gen.KernelGateDg
public import proofs.«01_k».proof.Proof.Gen.KernelGateDgIdeal
public import proofs.«01_k».proof.Proof.Gen.KernelGateWg
public import proofs.«01_k».proof.Proof.Gen.KernelGateWgIdeal

@[expose] public section

noncomputable section

namespace Cert.Proof.Tables

open Idealize.ShloMosaic Idealize.SL.Sem

variable {F : FTy → Type} [FloatOps F]

/-- The table of the gradients through the FFN's norm: it has one function, and the two texts of it agree. -/
theorem up : Cert.KernelUp.defs (F := F) = Cert.KernelUpIdeal.defs (F := F) :=
  congrArg (Pipeline.defs Cert.KernelUpIdeal.pcfgs) (congrArg Defs.onTc (funext fun | 0 => funext fun _ => rfl))

/-- The table of the gradient of the FFN's up projection: it has one function, and the two texts of it agree. -/
theorem up_wg : Cert.KernelUpWg.defs (F := F) = Cert.KernelUpWgIdeal.defs (F := F) :=
  congrArg (Pipeline.defs Cert.KernelUpWgIdeal.pcfgs) (congrArg Defs.onTc (funext fun | 0 => funext fun _ => rfl))

/-- The table of the gradient of the FFN's activation: it has one function, and the two texts of it agree. -/
theorem down_dg : Cert.KernelDownDg.defs (F := F) = Cert.KernelDownDgIdeal.defs (F := F) :=
  congrArg (Pipeline.defs Cert.KernelDownDgIdeal.pcfgs) (congrArg Defs.onTc (funext fun | 0 => funext fun _ => rfl))

/-- The table of the gradient of the FFN's down projection: it has one function, and the two texts of it agree. -/
theorem down_wg : Cert.KernelDownWg.defs (F := F) = Cert.KernelDownWgIdeal.defs (F := F) :=
  congrArg (Pipeline.defs Cert.KernelDownWgIdeal.pcfgs) (congrArg Defs.onTc (funext fun | 0 => funext fun _ => rfl))

/-- The table of the FFN's down projection: it has one function, and the two texts of it agree. -/
theorem down_fwd : Cert.KernelDownFwd.defs (F := F) = Cert.KernelDownFwdIdeal.defs (F := F) :=
  congrArg (Pipeline.defs Cert.KernelDownFwdIdeal.pcfgs) (congrArg Defs.onTc (funext fun | 0 => funext fun _ => rfl))

/-- The table of the gradients through the input projection's norm: it has one function, and the two texts of it agree. -/
theorem in_dg : Cert.KernelInDg.defs (F := F) = Cert.KernelInDgIdeal.defs (F := F) :=
  congrArg (Pipeline.defs Cert.KernelInDgIdeal.pcfgs) (congrArg Defs.onTc (funext fun | 0 => funext fun _ => rfl))

/-- The table of the gradient of the input projection: it has one function, and the two texts of it agree. -/
theorem in_wg : Cert.KernelInWg.defs (F := F) = Cert.KernelInWgIdeal.defs (F := F) :=
  congrArg (Pipeline.defs Cert.KernelInWgIdeal.pcfgs) (congrArg Defs.onTc (funext fun | 0 => funext fun _ => rfl))

/-- The table of the gradient of the heads' outputs: it has one function, and the two texts of it agree. -/
theorem out_dg : Cert.KernelOutDg.defs (F := F) = Cert.KernelOutDgIdeal.defs (F := F) :=
  congrArg (Pipeline.defs Cert.KernelOutDgIdeal.pcfgs) (congrArg Defs.onTc (funext fun | 0 => funext fun _ => rfl))

/-- The table of the gradient of the output projection: it has one function, and the two texts of it agree. -/
theorem out_wg : Cert.KernelOutWg.defs (F := F) = Cert.KernelOutWgIdeal.defs (F := F) :=
  congrArg (Pipeline.defs Cert.KernelOutWgIdeal.pcfgs) (congrArg Defs.onTc (funext fun | 0 => funext fun _ => rfl))

/-- The table of the output projection: it has one function, and the two texts of it agree. -/
theorem out_fwd : Cert.KernelOutFwd.defs (F := F) = Cert.KernelOutFwdIdeal.defs (F := F) :=
  congrArg (Pipeline.defs Cert.KernelOutFwdIdeal.pcfgs) (congrArg Defs.onTc (funext fun | 0 => funext fun _ => rfl))

/-- The table of the gradients through the gate's norm: it has one function, and the two texts of it agree. -/
theorem gate_dg : Cert.KernelGateDg.defs (F := F) = Cert.KernelGateDgIdeal.defs (F := F) :=
  congrArg (Pipeline.defs Cert.KernelGateDgIdeal.pcfgs) (congrArg Defs.onTc (funext fun | 0 => funext fun _ => rfl))

/-- The table of the gradient of the gate's projection: it has one function, and the two texts of it agree. -/
theorem gate_wg : Cert.KernelGateWg.defs (F := F) = Cert.KernelGateWgIdeal.defs (F := F) :=
  congrArg (Pipeline.defs Cert.KernelGateWgIdeal.pcfgs) (congrArg Defs.onTc (funext fun | 0 => funext fun _ => rfl))

end Cert.Proof.Tables

end
-- ==== Proof.Up.Steps.lean ====
/-
  What a grid point leaves in the sum and in the two outputs' blocks, as payloads.
-/
module

public import proofs.«01_k».proof.Proof.Gen.KernelUpIdeal.Value
public import Idealize.ShloMosaic.Lib.Pipeline.ValueKit
public import Idealize.ShloMosaic.Lib.Pipeline.ReadBack

@[expose] public section

set_option maxRecDepth 16384

noncomputable section

namespace Cert.Proof.Up

open Cert.KernelUpIdeal Cert.KernelUpIdeal.Gen
open Idealize.ShloMosaic Idealize.ShloMosaic.TcCoe

variable (m : (ℓ : Loc nD τ sig) → Buf (Elt Ideal) ℓ) (c : Dev nD)

/-- A row block's first point starts the sum from nothing. -/
theorem acc_first (t : Fin cfg0.N) (h : t.val % 8 = 0) :
    (outsAt0 m c t.val t.isLt).2.2 = k0_pay3 (F := Ideal) (k0_pay1 (F := Ideal)) (iblk m c 0 t) (iblk m c 1 t) := by
  by_cases h1 : t.val % 32 = 0
  · rw [outsAt0_A m c t h h1 (by omega)]
    frame_out
  · rw [outsAt0_D m c t h h1 (by omega)]
    frame_out

/-- Every other point adds to what the one before left. -/
theorem acc_next (t : Fin cfg0.N) (h : ¬t.val % 8 = 0) :
    (outsAt0 m c t.val t.isLt).2.2 = k0_pay3 (F := Ideal) (outsAt0 m c (t.val - 1) (Nat.lt_of_le_of_lt (Nat.sub_le _ _) t.isLt)).2.2 (iblk m c 0 t) (iblk m c 1 t) := by
  by_cases h2 : t.val % 8 = 7
  · rw [outsAt0_C m c t h (by omega) h2]
    frame_out
    rw [Idealize.ShloMosaic.read_unread_whole]
  · rw [outsAt0_B m c t h (by omega) h2]
    frame_out
    rw [Idealize.ShloMosaic.read_unread_whole]

/-- The input's gradient is stored at a row block's last point. -/
theorem dx_last (t : Fin cfg0.N) (h : t.val % 8 = 7) :
    (outsAt0 m c t.val t.isLt).1 = k0_pay5 (F := Ideal) (iblk m c 2 t) (iblk m c 3 t) (outsAt0 m c t.val t.isLt).2.2 (iblk m c 4 t) := by
  rw [acc_next m c t (by omega), outsAt0_C m c t (by omega) (by omega) h]
  frame_out
  rw [Idealize.ShloMosaic.read_unread_whole]

/-- The gain's gradient starts at nothing. -/
theorem dg_zero (t : Fin cfg0.N) (h : t.val % 32 = 0) : (outsAt0 m c t.val t.isLt).2.1 = k0_pay2 (F := Ideal) := by
  rw [outsAt0_A m c t (by omega) h (by omega)]
  frame_out

/-- A row block's last point adds the block's sums. -/
theorem dg_last (t : Fin cfg0.N) (h : t.val % 8 = 7) :
    (outsAt0 m c t.val t.isLt).2.1 = k0_pay6 (F := Ideal) (iblk m c 2 t) (outsAt0 m c t.val t.isLt).2.2 (outsAt0 m c (t.val - 1) (Nat.lt_of_le_of_lt (Nat.sub_le _ _) t.isLt)).2.1 := by
  rw [acc_next m c t (by omega), outsAt0_C m c t (by omega) (by omega) h]
  frame_out
  rw [Idealize.ShloMosaic.read_unread_whole]

/-- The other points leave it. -/
theorem dg_keep (t : Fin cfg0.N) (h : ¬t.val % 32 = 0) (h' : ¬t.val % 8 = 7) :
    (outsAt0 m c t.val t.isLt).2.1 = (outsAt0 m c (t.val - 1) (Nat.lt_of_le_of_lt (Nat.sub_le _ _) t.isLt)).2.1 := by
  by_cases h0 : t.val % 8 = 0
  · rw [outsAt0_D m c t h0 h h']
    rfl
  · rw [outsAt0_B m c t h0 h h']
    rfl

end Cert.Proof.Up

end
-- ==== Proof.Up.Blocks.lean ====
/-
  The blocks the grid's points read, as elements of the arguments.
-/
module

public import proofs.«01_k».proof.Proof.Gen.KernelUpIdeal.Frame
public import Idealize.ShloMosaic.Lib.Pipeline.ValueKit
public import Idealize.ShloMosaic.Lib.StableHlo.ReadAt
public import Idealize.ShloMosaic.Lib.IdealHost

@[expose] public section

set_option maxRecDepth 16384

noncomputable section

namespace Cert.Proof.Up

open Cert.KernelUpIdeal Cert.KernelUpIdeal.Gen
open Idealize.ShloMosaic Idealize.ShloMosaic.TcCoe

variable (m : (ℓ : Loc nD τ sig) → Buf (Elt Ideal) ℓ) (c : Dev nD)

/-- The five arguments as arrays of extended reals. -/
abbrev aU : S4096x5632.Idx → EReal := m (c.tc.loc main_arg0)
abbrev aW : S1024x5632.Idx → EReal := m (c.tc.loc main_arg1)
abbrev aH : S4096x1024.Idx → EReal := m (c.tc.loc main_arg2)
abbrev aG : S1024.Idx → EReal := m (c.tc.loc main_arg3)
abbrev aR : S4096x1024.Idx → EReal := m (c.tc.loc main_arg4)

/-- Row `i` of row block `b`, and column `d` of owner `k`. -/
def row (b : ℕ) (i : Fin 1024) : Fin 4096 := ⟨(1024 * b + i.val) % 4096, Nat.mod_lt _ (by decide)⟩
def col (k : ℕ) (d : Fin 704) : Fin 5632 := ⟨(704 * k + d.val) % 5632, Nat.mod_lt _ (by decide)⟩

theorem col_eq (k : Fin 8) (d : Fin 704) : (⟨k.val * 704 + d.val, by omega⟩ : Fin 5632) = col k.val d := by
  refine Fin.ext ?_
  show k.val * 704 + d.val = (704 * k.val + d.val) % 5632
  omega

/-! ### The arrays of the launch -/

theorem V_2 (k : Fin 8) (n : Fin 4096) (d : Fin 704) : (V m c main_v2 : S8x4096x704.Idx → EReal) (ix3 k n d) = aU m c (ix2 n (col k.val d)) := by
  unfold V
  after_reads_at
  exact congrArg (fun q => (m (c.tc.loc main_arg0) : S4096x5632.Idx → EReal) (ix2 n q)) (col_eq k d)

theorem V_5 (k : Fin 8) (n : Fin 1024) (d : Fin 704) : (V m c main_v5 : S8x1024x704.Idx → EReal) (ix3 k n d) = aW m c (ix2 n (col k.val d)) := by
  unfold V
  after_reads_at
  exact congrArg (fun q => (m (c.tc.loc main_arg1) : S1024x5632.Idx → EReal) (ix2 n q)) (col_eq k d)

theorem V_6 (z : Fin 1) (j : Fin 1024) : (V m c main_v6 : S1x1024.Idx → EReal) (ix2 z j) = aG m c (ix1 j) := by
  unfold V
  after_reads_at

theorem V_h : (V m c main_arg2 : S4096x1024.Idx → EReal) = aH m c := by
  unfold V
  after_reads_simp

theorem V_r : (V m c main_arg4 : S4096x1024.Idx → EReal) = aR m c := by
  unfold V
  after_reads_simp

/-! ### The blocks -/

theorem idx_0 : ∀ t : Fin grid0.N, win0_0.index t = ![t.val % 8, t.val / 8, 0] := by decide +kernel
theorem idx_1 : ∀ t : Fin grid0.N, win0_1.index t = ![t.val % 8, 0, 0] := by decide +kernel
theorem idx_2 : ∀ t : Fin grid0.N, win0_2.index t = ![t.val / 8, 0] := by decide +kernel
theorem idx_3 : ∀ t : Fin grid0.N, win0_3.index t = ![0, 0] := by decide +kernel
theorem idx_4 : ∀ t : Fin grid0.N, win0_4.index t = ![t.val / 8, 0] := by decide +kernel

theorem lt32 (t : Fin cfg0.N) : t.val < 32 := lt_of_lt_of_eq t.isLt N_0

theorem emb_0 (t : Fin cfg0.N) (i : Fin 1024) (d : Fin 704) :
    (win0_0.blk t).view.emb (ix3 0 i d) = ix3 (n0 := 8) ⟨t.val % 8, by omega⟩ (row (t.val / 8) i) d := by
  have ht := lt32 t
  funext a
  refine Fin.ext ?_
  match a with
  | ⟨0, _⟩ => blk_simp [idx_0]; rfl
  | ⟨1, _⟩ => blk_simp [idx_0]; show t.val / 8 * 1024 + i.val = (1024 * (t.val / 8) + i.val) % 4096; have := i.isLt; omega
  | ⟨2, _⟩ => blk_simp [idx_0]

theorem emb_1 (t : Fin cfg0.N) (i : Fin 1024) (d : Fin 704) :
    (win0_1.blk t).view.emb (ix3 0 i d) = ix3 (n0 := 8) ⟨t.val % 8, by omega⟩ i d := by
  funext a
  refine Fin.ext ?_
  match a with
  | ⟨0, _⟩ => blk_simp [idx_1]; rfl
  | ⟨1, _⟩ => blk_simp [idx_1]
  | ⟨2, _⟩ => blk_simp [idx_1]

theorem emb_2 (t : Fin cfg0.N) (i j : Fin 1024) : (win0_2.blk t).view.emb (ix2 i j) = ix2 (row (t.val / 8) i) j := by
  have ht := lt32 t
  funext a
  refine Fin.ext ?_
  match a with
  | ⟨0, _⟩ => blk_simp [idx_2]; show t.val / 8 * 1024 + i.val = (1024 * (t.val / 8) + i.val) % 4096; have := i.isLt; omega
  | ⟨1, _⟩ => blk_simp [idx_2]

theorem emb_3 (t : Fin cfg0.N) (z : Fin 1) (j : Fin 1024) : (win0_3.blk t).view.emb (ix2 z j) = ix2 z j := by
  funext a
  refine Fin.ext ?_
  match a with
  | ⟨0, _⟩ => blk_simp [idx_3]
  | ⟨1, _⟩ => blk_simp [idx_3]

theorem emb_4 (t : Fin cfg0.N) (i j : Fin 1024) : (win0_4.blk t).view.emb (ix2 i j) = ix2 (row (t.val / 8) i) j := by
  have ht := lt32 t
  funext a
  refine Fin.ext ?_
  match a with
  | ⟨0, _⟩ => blk_simp [idx_4]; show t.val / 8 * 1024 + i.val = (1024 * (t.val / 8) + i.val) % 4096; have := i.isLt; omega
  | ⟨1, _⟩ => blk_simp [idx_4]

theorem read_0 (x : S8x4096x704.Idx → EReal) (t : Fin cfg0.N) (i : Fin 1024) (d : Fin 704) :
    ((win0_0.blk t).view.read (Elt Ideal) x : S1x1024x704.Idx → EReal) (ix3 0 i d) = x (ix3 ⟨t.val % 8, by omega⟩ (row (t.val / 8) i) d) := by
  blk_simp
  exact congrArg x (emb_0 t i d)
theorem read_1 (x : S8x1024x704.Idx → EReal) (t : Fin cfg0.N) (i : Fin 1024) (d : Fin 704) :
    ((win0_1.blk t).view.read (Elt Ideal) x : S1x1024x704.Idx → EReal) (ix3 0 i d) = x (ix3 ⟨t.val % 8, by omega⟩ i d) := by
  blk_simp
  exact congrArg x (emb_1 t i d)
theorem read_2 (x : S4096x1024.Idx → EReal) (t : Fin cfg0.N) (i j : Fin 1024) :
    ((win0_2.blk t).view.read (Elt Ideal) x : S1024x1024.Idx → EReal) (ix2 i j) = x (ix2 (row (t.val / 8) i) j) := by
  blk_simp
  exact congrArg x (emb_2 t i j)
theorem read_3 (x : S1x1024.Idx → EReal) (t : Fin cfg0.N) (z : Fin 1) (j : Fin 1024) :
    ((win0_3.blk t).view.read (Elt Ideal) x : S1x1024.Idx → EReal) (ix2 z j) = x (ix2 z j) := by
  blk_simp
  exact congrArg x (emb_3 t z j)
theorem read_4 (x : S4096x1024.Idx → EReal) (t : Fin cfg0.N) (i j : Fin 1024) :
    ((win0_4.blk t).view.read (Elt Ideal) x : S1024x1024.Idx → EReal) (ix2 i j) = x (ix2 (row (t.val / 8) i) j) := by
  blk_simp
  exact congrArg x (emb_4 t i j)

theorem iblk_0 (t : Fin cfg0.N) (i : Fin 1024) (d : Fin 704) :
    (iblk m c 0 t : S1x1024x704.Idx → EReal) (ix3 0 i d) = aU m c (ix2 (row (t.val / 8) i) (col (t.val % 8) d)) :=
  (read_0 (V m c main_v2) t i d).trans (V_2 m c _ _ _)
theorem iblk_1 (t : Fin cfg0.N) (i : Fin 1024) (d : Fin 704) :
    (iblk m c 1 t : S1x1024x704.Idx → EReal) (ix3 0 i d) = aW m c (ix2 i (col (t.val % 8) d)) :=
  (read_1 (V m c main_v5) t i d).trans (V_5 m c _ _ _)
theorem iblk_2 (t : Fin cfg0.N) (i j : Fin 1024) :
    (iblk m c 2 t : S1024x1024.Idx → EReal) (ix2 i j) = aH m c (ix2 (row (t.val / 8) i) j) :=
  (read_2 (V m c main_arg2) t i j).trans (congrFun (V_h m c) _)
theorem iblk_3 (t : Fin cfg0.N) (z : Fin 1) (j : Fin 1024) :
    (iblk m c 3 t : S1x1024.Idx → EReal) (ix2 z j) = aG m c (ix1 j) :=
  (read_3 (V m c main_v6) t z j).trans (V_6 m c _ _)
theorem iblk_4 (t : Fin cfg0.N) (i j : Fin 1024) :
    (iblk m c 4 t : S1024x1024.Idx → EReal) (ix2 i j) = aR m c (ix2 (row (t.val / 8) i) j) :=
  (read_4 (V m c main_arg4) t i j).trans (congrFun (V_r m c) _)

end Cert.Proof.Up

end
-- ==== Proof.Up.Pay.lean ====
/-
  The values the norm's kernel computes at a grid point, read at an index.
-/
module

public import proofs.«01_k».proof.Proof.Gen.KernelUpIdeal.Skeleton
public import Idealize.ShloMosaic.Lib.IdealHost
public import Idealize.ShloMosaic.Lib.Pointwise

@[expose] public section

set_option maxRecDepth 16384

noncomputable section

namespace Cert.Proof.Up

open Cert.KernelUpIdeal Cert.KernelUpIdeal.Gen
open Idealize.ShloMosaic

/-- One over the row's width, and what is added to the mean of squares. -/
abbrev inv : EReal := Ideal.ofBits .f32 0x3A800000#32
abbrev eps : EReal := Ideal.ofBits .f32 0x358637BD#32

theorem pay1_at (i j : Fin 1024) : k0_pay1 (F := Ideal) (ix2 i j) = (0 : EReal) := by
  unfold k0_pay1
  pointwise

theorem pay2_at (z : Fin 1) (j : Fin 1024) : k0_pay2 (F := Ideal) (ix2 z j) = (0 : EReal) := by
  unfold k0_pay2
  pointwise

/-- A block's product is added to the sum. -/
theorem pay3_at (a : Vec Ideal S1024x1024 .f32) (x y : Vec Ideal S1x1024x704 .bf16) (i j : Fin 1024) :
    k0_pay3 (F := Ideal) a x y (ix2 i j) = (a (ix2 i j) : EReal) + ∑ d : Fin 704, (x (ix3 0 i d) : EReal) * y (ix3 0 j d) := by
  unfold k0_pay3
  pointwise

/-- The reciprocal of a row's root mean square. -/
theorem pay4_at (x : Vec Ideal S1024x1024 .f32) (i : Fin 1024) (z : Fin 1) :
    k0_pay4 (F := Ideal) x (ix2 i z) = Ideal.rsqrt ((∑ j : Fin 1024, (x (ix2 i j) : EReal) * x (ix2 i j)) * inv + eps) := by
  unfold k0_pay4
  pointwise

/-- The input's gradient. -/
theorem pay5_at (x : Vec Ideal S1024x1024 .f32) (g : Vec Ideal S1x1024 .f32) (a r : Vec Ideal S1024x1024 .f32) (i j : Fin 1024) :
    k0_pay5 (F := Ideal) x g a r (ix2 i j) = (r (ix2 i j) : EReal) + ((k0_pay4 (F := Ideal) x (ix2 i 0) : EReal) * (a (ix2 i j) * g (ix2 0 j))
      - x (ix2 i j) * ((k0_pay4 (F := Ideal) x (ix2 i 0) * k0_pay4 (F := Ideal) x (ix2 i 0) * k0_pay4 (F := Ideal) x (ix2 i 0)) * inv
        * ∑ l : Fin 1024, (a (ix2 i l) * g (ix2 0 l) : EReal) * x (ix2 i l))) := by
  unfold k0_pay5
  pointwise

/-- The gain's gradient: a row block's column sums are added. -/
theorem pay6_at (x a : Vec Ideal S1024x1024 .f32) (s : Vec Ideal S1x1024 .f32) (z : Fin 1) (j : Fin 1024) :
    k0_pay6 (F := Ideal) x a s (ix2 z j) = (s (ix2 z j) : EReal) + ∑ i : Fin 1024, (a (ix2 i j) * x (ix2 i j) : EReal) * k0_pay4 (F := Ideal) x (ix2 i 0) := by
  unfold k0_pay6
  pointwise

end Cert.Proof.Up

end
-- ==== Proof.Up.Acc.lean ====
/-
  The product over the owners of the columns, the input's gradient and the gain's, at an
  element.
-/
module

public import proofs.«01_k».proof.Proof.Up.Steps
public import proofs.«01_k».proof.Proof.Up.Blocks
public import proofs.«01_k».proof.Proof.Up.Pay

@[expose] public section

set_option maxRecDepth 16384

noncomputable section

namespace Cert.Proof.Up

open Finset
open Cert.KernelUpIdeal Cert.KernelUpIdeal.Gen
open Idealize.ShloMosaic Idealize.ShloMosaic.TcCoe

variable (m : (ℓ : Loc nD τ sig) → Buf (Elt Ideal) ℓ) (c : Dev nD)

/-- The columns' owners, one after the other, are the columns. -/
theorem sum_cols (f : Fin 5632 → EReal) : ∑ k ∈ range 8, ∑ d : Fin 704, f (col k d) = ∑ e, f e := by
  rw [Finset.sum_range, ← Fintype.sum_prod_type']
  refine Fintype.sum_equiv (finProdFinEquiv (m := 8) (n := 704)) _ _ fun q => congrArg f (Fin.ext ?_)
  show (704 * q.1.val + q.2.val) % 5632 = q.2.val + 704 * q.1.val
  have := q.1.isLt; have := q.2.isLt; omega

/-- The row blocks, one after the other, are the rows. -/
theorem sum_rows (f : Fin 4096 → EReal) : ∑ b ∈ range 4, ∑ i : Fin 1024, f (row b i) = ∑ e, f e := by
  rw [Finset.sum_range, ← Fintype.sum_prod_type']
  refine Fintype.sum_equiv (finProdFinEquiv (m := 4) (n := 1024)) _ _ fun q => congrArg f (Fin.ext ?_)
  show (1024 * q.1.val + q.2.val) % 4096 = q.2.val + 1024 * q.1.val
  have := q.1.isLt; have := q.2.isLt; omega

/-- The gradient of the norm's output. -/
def dy (n : Fin 4096) (j : Fin 1024) : EReal := ∑ e : Fin 5632, aU m c (ix2 n e) * aW m c (ix2 j e)

/-- The reciprocal root of a row's mean square, as the kernel has it. -/
def rs (n : Fin 4096) : EReal := Ideal.rsqrt ((∑ l : Fin 1024, aH m c (ix2 n l) * aH m c (ix2 n l)) * inv + eps)

theorem pay3_blk (a : S1024x1024.Idx → EReal) (t : Fin cfg0.N) (i j : Fin 1024) :
    k0_pay3 (F := Ideal) a (iblk m c 0 t) (iblk m c 1 t) (ix2 i j) = a (ix2 i j)
      + ∑ d : Fin 704, aU m c (ix2 (row (t.val / 8) i) (col (t.val % 8) d)) * aW m c (ix2 j (col (t.val % 8) d)) := by
  refine (pay3_at a (iblk m c 0 t) (iblk m c 1 t) i j).trans ?_
  refine congrArg (a (ix2 i j) + ·) (Finset.sum_congr rfl fun d _ => ?_)
  exact congrArg₂ (· * ·) (iblk_0 m c t i d) (iblk_1 m c t j d)

theorem acc_at (t : Fin cfg0.N) (i j : Fin 1024) :
    ((outsAt0 m c t.val t.isLt).2.2 : S1024x1024.Idx → EReal) (ix2 i j) = 0 + ∑ k ∈ range (t.val % 8 + 1),
      ∑ d : Fin 704, aU m c (ix2 (row (t.val / 8) i) (col k d)) * aW m c (ix2 j (col k d)) := by
  refine Pipeline.eq_sum_of_reset_step_apply_divmod (M := EReal) (ι := Fin 1024 × Fin 1024) (N := cfg0.N)
    (fun n h q => ((outsAt0 m c n h).2.2 : S1024x1024.Idx → EReal) (ix2 q.1 q.2)) 8 (fun _ => 0)
    (fun b k q => ∑ d : Fin 704, aU m c (ix2 (row b q.1) (col k d)) * aW m c (ix2 q.2 (col k d))) ?_ ?_ t (i, j)
  · intro t h q
    refine (congrFun (acc_first m c t h) _).trans ((pay3_blk m c _ t q.1 q.2).trans ?_)
    exact congrArg (· + _) (pay1_at q.1 q.2)
  · intro t h q
    exact (congrFun (acc_next m c t h) _).trans (pay3_blk m c _ t q.1 q.2)

/-- A row block's last point has the whole product. -/
theorem acc_last (t : Fin cfg0.N) (h : t.val % 8 = 7) (i j : Fin 1024) :
    ((outsAt0 m c t.val t.isLt).2.2 : S1024x1024.Idx → EReal) (ix2 i j) = dy m c (row (t.val / 8) i) j := by
  rw [acc_at, h, zero_add]
  exact sum_cols fun e => aU m c (ix2 (row (t.val / 8) i) e) * aW m c (ix2 j e)

theorem rs_blk (t : Fin cfg0.N) (i : Fin 1024) (z : Fin 1) :
    k0_pay4 (F := Ideal) (iblk m c 2 t) (ix2 i z) = rs m c (row (t.val / 8) i) := by
  refine (pay4_at (iblk m c 2 t) i z).trans ?_
  refine congrArg (fun s => Ideal.rsqrt (s * inv + eps)) (Finset.sum_congr rfl fun j _ => ?_)
  exact congrArg₂ (· * ·) (iblk_2 m c t i j) (iblk_2 m c t i j)

/-- The input's gradient, as the kernel has it. -/
def dx (n : Fin 4096) (j : Fin 1024) : EReal :=
  aR m c (ix2 n j) + (rs m c n * (dy m c n j * aG m c (ix1 j))
    - aH m c (ix2 n j) * ((rs m c n * rs m c n * rs m c n) * inv * ∑ l, (dy m c n l * aG m c (ix1 l)) * aH m c (ix2 n l)))

theorem dx_at (t : Fin cfg0.N) (h : t.val % 8 = 7) (i j : Fin 1024) :
    ((outsAt0 m c t.val t.isLt).1 : S1024x1024.Idx → EReal) (ix2 i j) = dx m c (row (t.val / 8) i) j := by
  refine (congrFun (dx_last m c t h) _).trans ((pay5_at (iblk m c 2 t) (iblk m c 3 t) _ (iblk m c 4 t) i j).trans ?_)
  rw [rs_blk, iblk_2, iblk_4, iblk_3, acc_last m c t h]
  refine congrArg (fun s => aR m c (ix2 (row (t.val / 8) i) j) + (_ - _ * (_ * s))) (Finset.sum_congr rfl fun l _ => ?_)
  rw [iblk_2, iblk_3, acc_last m c t h]

/-- One row's term of the gain's gradient. -/
def dgTerm (j : Fin 1024) (n : Fin 4096) : EReal := (dy m c n j * aH m c (ix2 n j)) * rs m c n

theorem dg_add (t : Fin cfg0.N) (h : t.val % 8 = 7) (j : Fin 1024) :
    ((outsAt0 m c t.val t.isLt).2.1 : S1x1024.Idx → EReal) (ix2 0 j)
      = ((outsAt0 m c (t.val - 1) (Nat.lt_of_le_of_lt (Nat.sub_le _ _) t.isLt)).2.1 : S1x1024.Idx → EReal) (ix2 0 j)
        + ∑ i : Fin 1024, dgTerm m c j (row (t.val / 8) i) := by
  refine (congrFun (dg_last m c t h) _).trans ((pay6_at (iblk m c 2 t) _ _ 0 j).trans ?_)
  refine congrArg (_ + ·) (Finset.sum_congr rfl fun i _ => ?_)
  rw [rs_blk, iblk_2, acc_last m c t h]
  rfl

/-- After a point the gain's gradient is the sum over the finished row blocks. -/
theorem dg_at (j : Fin 1024) : ∀ (n : ℕ) (h : n < cfg0.N),
    ((outsAt0 m c n h).2.1 : S1x1024.Idx → EReal) (ix2 0 j) = ∑ b ∈ range ((n + 1) / 8), ∑ i : Fin 1024, dgTerm m c j (row b i) := by
  intro n
  induction n with
  | zero =>
    intro h
    exact (congrFun (dg_zero m c ⟨0, h⟩ rfl) _).trans (pay2_at 0 j)
  | succ n ih =>
    intro h
    have h32 : n + 1 < 32 := lt_of_lt_of_eq h N_0
    by_cases h7 : (n + 1) % 8 = 7
    · have e := dg_add m c ⟨n + 1, h⟩ h7 j
      refine e.trans ?_
      have hs : (n + 1 + 1) / 8 = (n + 1) / 8 + 1 := by omega
      rw [hs, Finset.sum_range_succ]
      exact congrArg (· + _) (ih (Nat.lt_of_succ_lt h))
    · have e := congrFun (dg_keep m c ⟨n + 1, h⟩ (by show ¬(n + 1) % 32 = 0; omega) h7) (ix2 0 j)
      refine e.trans ?_
      have hs : (n + 1 + 1) / 8 = (n + 1) / 8 := by omega
      rw [hs]
      exact ih (Nat.lt_of_succ_lt h)

/-- The whole sweep leaves the sum over all rows. -/
theorem dg_end (h : 31 < cfg0.N) (j : Fin 1024) :
    ((outsAt0 m c 31 h).2.1 : S1x1024.Idx → EReal) (ix2 0 j) = ∑ n, dgTerm m c j n :=
  (dg_at m c j 31 h).trans (sum_rows (dgTerm m c j))

end Cert.Proof.Up

end
-- ==== Proof.Up.Ref.lean ====
/-
  The reference of the norm's gradient: its results' terms in stages, read at an index.
-/
module

public import proofs.«01_k».proof.Proof.Gen.ReferenceUpIdeal.Run
public import Idealize.ShloMosaic.Lib.IdealHost
public import Idealize.ShloMosaic.Lib.Pointwise

@[expose] public section

set_option maxRecDepth 16384

noncomputable section

namespace Cert.Proof.UpRef

open Cert.ReferenceUpIdeal Cert.ReferenceUpIdeal.Gen
open Idealize.ShloMosaic Idealize.ShloMosaic.TcCoe

/-- The gradient of the normed input. -/
def refD (du : FVec Ideal S4096x5632 .f32) (w : FVec Ideal S1024x5632 .f32) : FVec Ideal S4096x1024 .f32 :=
  Host.dotGeneral dot_S4096x5632_S1024x5632_S4096x1024_1_1_0_0_n_n none du w

/-- The rows' means of squares, and what is added. -/
def refV (x : FVec Ideal S4096x1024 .f32) : FVec Ideal S4096x1 .f32 :=
  addf (Host.divf (broadcastInDim S4096x1 ![0] bcast_S4096_S4096x1_0 (Host.reduceAdd (mulf x x) (constant S_ .f32 0x00000000#32) reducesTo_S4096x1024_S4096_d1 h_S_))
    (broadcastInDim S4096x1 ![] bcast_S_S4096x1 (constant S_ .f32 0x44800000#32))) (broadcastInDim S4096x1 ![] bcast_S_S4096x1 (constant S_ .f32 0x358637BD#32))

/-- The gradient times the gain. -/
def refU (d : FVec Ideal S4096x1024 .f32) (g : FVec Ideal S1024 .f32) : FVec Ideal S4096x1024 .f32 :=
  mulf d (broadcastInDim S4096x1024 ![0, 1] bcast_S1x1024_S4096x1024_0_1 (broadcastInDim S1x1024 ![1] bcast_S1024_S1x1024_1 g))

/-- The rows' sums of the input times that. -/
def refS (x u : FVec Ideal S4096x1024 .f32) : FVec Ideal S4096 .f32 :=
  Host.reduceAdd (mulf x u) (constant S_ .f32 0x00000000#32) reducesTo_S4096x1024_S4096_d1 h_S_

/-- What the mean of squares sends back to each entry of a row. -/
def refC (s : FVec Ideal S4096 .f32) (v : FVec Ideal S4096x1 .f32) : FVec Ideal S4096x1 .f32 :=
  Host.divf (mulf (shapeCast S4096x1 s shapeCasts_S4096_S4096x1) (mulf (broadcastInDim S4096x1 ![] bcast_S_S4096x1 (constant S_ .f32 0xBF000000#32)) (Host.divf (Host.rsqrt v) v)))
    (broadcastInDim S4096x1 ![] bcast_S_S4096x1 (constant S_ .f32 0x44800000#32))

def refB (c : FVec Ideal S4096x1 .f32) : FVec Ideal S4096x1024 .f32 :=
  broadcastInDim S4096x1024 ![0] bcast_S4096_S4096x1024_0 (Host.reduceAdd c (constant S_ .f32 0x00000000#32) reducesTo_S4096x1_S4096_d1 h_S_)

/-- The input's gradient. -/
def refDh (r x u b : FVec Ideal S4096x1024 .f32) (v : FVec Ideal S4096x1 .f32) : FVec Ideal S4096x1024 .f32 :=
  addf (addf (addf r (mulf u (broadcastInDim S4096x1024 ![0, 1] bcast_S4096x1_S4096x1024_0_1 (Host.rsqrt v)))) (mulf x b)) (mulf b x)

/-- The gain's gradient, as a row. -/
def refDg (x d : FVec Ideal S4096x1024 .f32) (v : FVec Ideal S4096x1 .f32) : FVec Ideal S1x1024 .f32 :=
  shapeCast S1x1024 (Host.reduceAdd (shapeCast S1x1024 (Host.reduceAdd (mulf (mulf x (broadcastInDim S4096x1024 ![0, 1] bcast_S4096x1_S4096x1024_0_1 (Host.rsqrt v))) d)
    (constant S_ .f32 0x00000000#32) reducesTo_S4096x1024_S1024_d0 h_S_) shapeCasts_S1024_S1x1024) (constant S_ .f32 0x00000000#32) reducesTo_S1x1024_S1024_d0 h_S_) shapeCasts_S1024_S1x1024

theorem res_eq (m : (ℓ : Loc nD τ sig) → Buf (Elt Ideal) ℓ) (c : Dev nD) : Value.res_main_v38 m c
    = refDh (m ((c.tc : Thread nD τ).loc main_arg4)) (m ((c.tc : Thread nD τ).loc main_arg2))
        (refU (refD (m ((c.tc : Thread nD τ).loc main_arg0)) (m ((c.tc : Thread nD τ).loc main_arg1))) (m ((c.tc : Thread nD τ).loc main_arg3)))
        (refB (refC (refS (m ((c.tc : Thread nD τ).loc main_arg2)) (refU (refD (m ((c.tc : Thread nD τ).loc main_arg0)) (m ((c.tc : Thread nD τ).loc main_arg1))) (m ((c.tc : Thread nD τ).loc main_arg3))))
          (refV (m ((c.tc : Thread nD τ).loc main_arg2)))))
        (refV (m ((c.tc : Thread nD τ).loc main_arg2))) := rfl

/-! ### At an index -/

theorem refD_at (du : FVec Ideal S4096x5632 .f32) (w : FVec Ideal S1024x5632 .f32) (i : Fin 4096) (j : Fin 1024) :
    refD du w (ix2 i j) = ∑ e : Fin 5632, (du (ix2 i e) : EReal) * w (ix2 j e) := by
  unfold refD
  pointwise

theorem refV_at (x : FVec Ideal S4096x1024 .f32) (i : Fin 4096) (z : Fin 1) :
    refV x (ix2 i z) = Ideal.div (∑ j : Fin 1024, (x (ix2 i j) : EReal) * x (ix2 i j)) (Ideal.ofBits .f32 0x44800000#32) + Ideal.ofBits .f32 0x358637BD#32 := by
  unfold refV
  pointwise

theorem refU_at (d : FVec Ideal S4096x1024 .f32) (g : FVec Ideal S1024 .f32) (i : Fin 4096) (j : Fin 1024) :
    refU d g (ix2 i j) = (d (ix2 i j) : EReal) * g (ix1 j) := by
  unfold refU
  pointwise

theorem refS_at (x u : FVec Ideal S4096x1024 .f32) (i : Fin 4096) :
    refS x u (ix1 i) = ∑ j : Fin 1024, (x (ix2 i j) : EReal) * u (ix2 i j) := by
  unfold refS
  pointwise

theorem cast_col (s : FVec Ideal S4096 .f32) (i : Fin 4096) (z : Fin 1) : shapeCast S4096x1 s shapeCasts_S4096_S4096x1 (ix2 i z) = s (ix1 i) :=
  shapeCast_apply s _ _ _ (by rw [Shape.rowMajor_val_one, Shape.rowMajor_val_two]; show i.val = i.val * 1 + z.val; have := z.isLt; omega)

theorem refC_at (s : FVec Ideal S4096 .f32) (v : FVec Ideal S4096x1 .f32) (i : Fin 4096) (z : Fin 1) :
    refC s v (ix2 i z) = Ideal.div ((s (ix1 i) : EReal) * (Ideal.ofBits .f32 0xBF000000#32 * Ideal.div (Ideal.rsqrt (v (ix2 i z))) (v (ix2 i z)))) (Ideal.ofBits .f32 0x44800000#32) := by
  unfold refC
  pointwise

theorem refB_at (c : FVec Ideal S4096x1 .f32) (i : Fin 4096) (j : Fin 1024) : refB c (ix2 i j) = (c (ix2 i 0) : EReal) := by
  unfold refB
  pointwise
  exact Fin.sum_univ_one (fun z : Fin 1 => (c (ix2 i z) : EReal))

theorem refDh_at (r x u b : FVec Ideal S4096x1024 .f32) (v : FVec Ideal S4096x1 .f32) (i : Fin 4096) (j : Fin 1024) :
    refDh r x u b v (ix2 i j) = (((r (ix2 i j) : EReal) + u (ix2 i j) * Ideal.rsqrt (v (ix2 i 0))) + x (ix2 i j) * b (ix2 i j)) + b (ix2 i j) * x (ix2 i j) := by
  unfold refDh
  pointwise

theorem cast_row (s : FVec Ideal S1024 .f32) (z : Fin 1) (j : Fin 1024) : shapeCast S1x1024 s shapeCasts_S1024_S1x1024 (ix2 z j) = s (ix1 j) :=
  shapeCast_apply s _ _ _ (by rw [Shape.rowMajor_val_one, Shape.rowMajor_val_two]; show j.val = z.val * 1024 + j.val; have := z.isLt; omega)

/-- A row summed over its unit axis is the row. -/
theorem sum_unit (x : FVec Ideal S1x1024 .f32) (j : Fin 1024) :
    Host.reduceAdd x (constant S_ .f32 0x00000000#32) reducesTo_S1x1024_S1024_d0 h_S_ (ix1 j) = (x (ix2 0 j) : EReal) := by
  pointwise
  exact Fin.sum_univ_one (fun z : Fin 1 => (x (ix2 z j) : EReal))

theorem sum_rows (x d : FVec Ideal S4096x1024 .f32) (v : FVec Ideal S4096x1 .f32) (j : Fin 1024) :
    Host.reduceAdd (mulf (mulf x (broadcastInDim S4096x1024 ![0, 1] bcast_S4096x1_S4096x1024_0_1 (Host.rsqrt v))) d) (constant S_ .f32 0x00000000#32) reducesTo_S4096x1024_S1024_d0 h_S_ (ix1 j)
      = ∑ i : Fin 4096, ((x (ix2 i j) : EReal) * Ideal.rsqrt (v (ix2 i 0))) * d (ix2 i j) := by
  pointwise

theorem refDg_at (x d : FVec Ideal S4096x1024 .f32) (v : FVec Ideal S4096x1 .f32) (z : Fin 1) (j : Fin 1024) :
    refDg x d v (ix2 z j) = ∑ i : Fin 4096, ((x (ix2 i j) : EReal) * Ideal.rsqrt (v (ix2 i 0))) * d (ix2 i j) := by
  unfold refDg
  rw [cast_row, sum_unit, cast_row, sum_rows]

end Cert.Proof.UpRef

end
-- ==== Proof.Up.Math.lean ====
/-
  The gradient of a row's root-mean-square norm, two ways: by the row's closed form, and by the chain rule through the mean of squares.
  Over the extended reals the two agree whatever the row holds.
-/
module

public import Idealize.ShloMosaic.Lib.IdealHost
public import Idealize.ShloMosaic.Lib.Pointwise

@[expose] public section

noncomputable section

namespace Cert.Proof.UpMath

open Idealize.ShloMosaic

theorem inv_val : Ideal.ofBits .f32 0x3A800000#32 = ((1 / 1024 : ℝ) : EReal) := by
  simp [Ideal.ofBits, Ideal.ieee]
  rw [← EReal.coe_mul]
  congr 1
  norm_num

theorem width_val : Ideal.ofBits .f32 0x44800000#32 = ((1024 : ℝ) : EReal) := by
  simp [Ideal.ofBits, Ideal.ieee]
  rw [← EReal.coe_mul]
  congr 1
  norm_num

theorem half_val : Ideal.ofBits .f32 0xBF000000#32 = ((-(1 / 2) : ℝ) : EReal) := by
  simp [Ideal.ofBits, Ideal.ieee]
  rw [← EReal.coe_mul]
  congr 1
  norm_num

theorem eps_val : ∃ e : ℝ, 0 < e ∧ Ideal.ofBits .f32 0x358637BD#32 = (e : EReal) := by
  refine ⟨_, ?_, by simp [Ideal.ofBits, Ideal.ieee]; rfl⟩
  norm_num

theorem div_width (x : EReal) : Ideal.div x (Ideal.ofBits .f32 0x44800000#32) = x * ((1 / 1024 : ℝ) : EReal) := by
  rw [width_val]
  exact Ideal.div_coe (by norm_num : (1024 : ℝ) ≠ 0) x

theorem sq_nonneg' (x : EReal) : 0 ≤ x * x := by
  induction x using EReal.rec with
  | bot => simp
  | coe r => exact_mod_cast mul_self_nonneg r
  | top => simp

/-- A number times an extended real, twice. -/
theorem twice (h : ℝ) (a : EReal) : (h : EReal) * a + (h : EReal) * a = ((2 * h : ℝ) : EReal) * a := by
  induction a using EReal.rec with
  | coe r => norm_cast; ring
  | top =>
    rcases lt_trichotomy h 0 with hh | rfl | hh
    · rw [EReal.coe_mul_top_of_neg hh, EReal.coe_mul_top_of_neg (by linarith)]; rfl
    · simp
    · rw [EReal.coe_mul_top_of_pos hh, EReal.coe_mul_top_of_pos (by linarith)]; rfl
  | bot =>
    rcases lt_trichotomy h 0 with hh | rfl | hh
    · rw [EReal.coe_mul_bot_of_neg hh, EReal.coe_mul_bot_of_neg (by linarith)]; rfl
    · simp
    · rw [EReal.coe_mul_bot_of_pos hh, EReal.coe_mul_bot_of_pos (by linarith)]; rfl

/-- The reciprocal root of a positive mean, and its cube as a quotient. -/
theorem root (v : EReal) (h : 0 < v) : ∃ ρ : ℝ, Ideal.rsqrt v = (ρ : EReal) ∧ Ideal.div (Ideal.rsqrt v) v = ((ρ * ρ * ρ : ℝ) : EReal) := by
  induction v using EReal.rec with
  | bot => exact absurd h (by simp)
  | top => exact ⟨0, by simp, by simp [Ideal.div]⟩
  | coe r =>
    have hr : 0 < r := by exact_mod_cast h
    have hs : Real.sqrt r * Real.sqrt r = r := Real.mul_self_sqrt hr.le
    have hn : Real.sqrt r ≠ 0 := (Real.sqrt_pos.2 hr).ne'
    have e : Ideal.rsqrt (r : EReal) = (((Real.sqrt r)⁻¹ : ℝ) : EReal) := by
      rw [Ideal.rsqrt_coe, if_neg (not_lt.2 hr.le), if_neg hr.ne']
    refine ⟨(Real.sqrt r)⁻¹, e, ?_⟩
    rw [e, Ideal.div_coe hr.ne', ← EReal.coe_mul]
    congr 1
    field_simp
    nlinarith [hs]

/-- A row's mean of squares with something positive added is positive. -/
theorem mean_pos (x : Fin 1024 → EReal) : 0 < (∑ j : Fin 1024, x j * x j) * ((1 / 1024 : ℝ) : EReal) + Ideal.ofBits .f32 0x358637BD#32 := by
  obtain ⟨e, he, h⟩ := eps_val
  rw [h]
  have h₁ : (0 : EReal) ≤ (∑ j : Fin 1024, x j * x j) * ((1 / 1024 : ℝ) : EReal) :=
    mul_nonneg (Finset.sum_nonneg fun j _ => sq_nonneg' (x j)) (by exact_mod_cast (by norm_num : (0 : ℝ) ≤ 1 / 1024))
  exact lt_of_lt_of_le (by exact_mod_cast he) (le_add_of_nonneg_left h₁)

/-- The row's gradient both ways. -/
theorem row (x u : Fin 1024 → EReal) (r : EReal) (j : Fin 1024) (R v b : EReal)
    (hR : R = Ideal.rsqrt ((∑ l : Fin 1024, x l * x l) * Ideal.ofBits .f32 0x3A800000#32 + Ideal.ofBits .f32 0x358637BD#32))
    (hv : v = Ideal.div (∑ l : Fin 1024, x l * x l) (Ideal.ofBits .f32 0x44800000#32) + Ideal.ofBits .f32 0x358637BD#32)
    (hb : b = Ideal.div ((∑ l : Fin 1024, x l * u l) * (Ideal.ofBits .f32 0xBF000000#32 * Ideal.div (Ideal.rsqrt v) v)) (Ideal.ofBits .f32 0x44800000#32)) :
    R = Ideal.rsqrt v ∧ r + (R * u j - x j * ((R * R * R) * Ideal.ofBits .f32 0x3A800000#32 * ∑ l : Fin 1024, u l * x l))
      = ((r + u j * Ideal.rsqrt v) + x j * b) + b * x j := by
  rw [inv_val] at hR ⊢
  rw [div_width] at hv hb
  rw [← hv] at hR
  obtain ⟨ρ, h₁, h₂⟩ := root v (by rw [hv]; exact mean_pos x)
  refine ⟨hR, ?_⟩
  rw [half_val, h₂] at hb
  rw [hR, h₁, hb]
  have es : ∑ l : Fin 1024, u l * x l = ∑ l : Fin 1024, x l * u l := Finset.sum_congr rfl fun l _ => mul_comm _ _
  rw [es]
  generalize ∑ l : Fin 1024, x l * u l = T
  have e₁ : x j * (((ρ : EReal) * ρ * ρ) * ((1 / 1024 : ℝ) : EReal) * T) = ((ρ * ρ * ρ * (1 / 1024) : ℝ) : EReal) * (x j * T) := by
    rw [EReal.coe_mul, EReal.coe_mul, EReal.coe_mul]; ac_rfl
  have e₂ : x j * (T * (((-(1 / 2) : ℝ) : EReal) * ((ρ * ρ * ρ : ℝ) : EReal)) * ((1 / 1024 : ℝ) : EReal)) = ((-(1 / 2) * (ρ * ρ * ρ) * (1 / 1024) : ℝ) : EReal) * (x j * T) := by
    rw [EReal.coe_mul (-(1 / 2) * (ρ * ρ * ρ)), EReal.coe_mul (-(1 / 2))]; ac_rfl
  rw [mul_comm (T * _ * _) (x j), e₂, e₁, add_assoc (r + _), twice, sub_eq_add_neg, ← EReal.neg_mul, ← EReal.coe_neg, add_assoc, mul_comm (ρ : EReal) (u j)]
  congr 3
  norm_cast
  ring

end Cert.Proof.UpMath

end
-- ==== Proof.Up.Equal.lean ====
/-
  The second call's two arrays are its reference's; and the two runs together.
-/
module

public import proofs.«01_k».proof.Proof.Up.Acc
public import proofs.«01_k».proof.Proof.Up.Ref
public import proofs.«01_k».proof.Proof.Up.Math
public import proofs.«01_k».proof.Proof.Gen.ReferenceUpIdeal.Run
public import proofs.«01_k».proof.Defs

@[expose] public section

set_option maxRecDepth 16384

noncomputable section

namespace Cert.Proof.Up

open Cert.KernelUpIdeal Cert.KernelUpIdeal.Gen
open Cert.KernelUpIdeal.Value (G5 G6 pt5Of loc5Of outsAt0_sweep fold0_congr G6_last)
open Cert.Proof.UpRef
open Idealize.ShloMosaic Idealize.ShloMosaic.TcCoe Idealize.SL.Sem

section
variable (m : (ℓ : Loc nD τ sig) → Buf (Elt Ideal) ℓ) (c : Dev nD)

/-- The first array, at an element. -/
theorem G5_at (n : Fin 4096) (j : Fin 1024) : (G5 m c : S4096x1024.Idx → EReal) (ix2 n j) = dx m c n j := by
  have hn := n.isLt
  have hj := j.isLt
  have hp : pt5Of (ix2 n j) = 8 * (n.val / 1024) + 7 := by
    show 8 * (1 * (n.val / 1024 - 0) + 1 * (j.val / 1024 - 0)) + 7 = _
    omega
  have hlt : 8 * (n.val / 1024) + 7 < cfg0.N := lt_of_lt_of_eq (by omega) N_0.symm
  have hl : loc5Of (ix2 n j) = ix2 (⟨n.val % 1024, Nat.mod_lt _ (by decide)⟩ : Fin 1024) j := by
    funext a
    refine Fin.ext ?_
    match a with
    | ⟨0, _⟩ => rfl
    | ⟨1, _⟩ => exact Nat.mod_eq_of_lt hj
  unfold G5
  rw [dif_pos (by rw [hp]; exact hlt), hl, fold0_congr m c _ _ _ (by rw [Nat.zero_add]; exact hlt) hp]
  refine (congrFun (congrArg Prod.fst (outsAt0_sweep m c _ hlt).symm) _).trans ?_
  refine (dx_at m c ⟨8 * (n.val / 1024) + 7, hlt⟩ (by show (8 * (n.val / 1024) + 7) % 8 = 7; omega) _ j).trans ?_
  refine congrArg (fun q => dx m c q j) (Fin.ext ?_)
  show (1024 * ((8 * (n.val / 1024) + 7) / 8) + n.val % 1024) % 4096 = n.val
  omega

/-- The second. -/
theorem G6_at (j : Fin 1024) : (G6 m c : S1x1024.Idx → EReal) (ix2 0 j) = ∑ n, dgTerm m c j n := by
  rw [G6_last, ← outsAt0_sweep m c 31 (lt_of_lt_of_eq (by decide) N_0.symm)]
  exact dg_end m c _ j

/-- The reference's gradient of the norm's output is the kernel's. -/
theorem refD_dy (n : Fin 4096) (j : Fin 1024) : refD (aU m c) (aW m c) (ix2 n j) = dy m c n j := refD_at (aU m c) (aW m c) n j

theorem eq_dx : (G5 m c : S4096x1024.Idx → EReal) = refDh (aR m c) (aH m c) (refU (refD (aU m c) (aW m c)) (aG m c))
    (refB (refC (refS (aH m c) (refU (refD (aU m c) (aW m c)) (aG m c))) (refV (aH m c)))) (refV (aH m c)) := by
  refine funext fun i : S4096x1024.Idx => ?_
  obtain ⟨n, j, rfl⟩ : ∃ (n : Fin 4096) (j : Fin 1024), i = ix2 n j := ⟨_, _, eq_ix2 i⟩
  rw [G5_at, refDh_at, refB_at, refC_at, refS_at]
  have hu : ∀ l : Fin 1024, refU (refD (aU m c) (aW m c)) (aG m c) (ix2 n l) = dy m c n l * aG m c (ix1 l) := fun l => by
    rw [refU_at, refD_dy]
  simp only [hu]
  exact (UpMath.row (fun l => aH m c (ix2 n l)) (fun l => dy m c n l * aG m c (ix1 l)) (aR m c (ix2 n j)) j (rs m c n)
    (refV (aH m c) (ix2 n 0)) _ rfl (refV_at (aH m c) n 0) rfl).2

/-- One term of the gain's gradient, as the kernel and as the reference have it. -/
theorem dgTerm_eq (n : Fin 4096) (j : Fin 1024) :
    dgTerm m c j n = (aH m c (ix2 n j) * Ideal.rsqrt (refV (aH m c) (ix2 n 0))) * refD (aU m c) (aW m c) (ix2 n j) := by
  have e := (UpMath.row (fun l => aH m c (ix2 n l)) (fun l => dy m c n l * aG m c (ix1 l)) (aR m c (ix2 n j)) j (rs m c n)
    (refV (aH m c) (ix2 n 0)) _ rfl (refV_at (aH m c) n 0) rfl).1
  rw [refD_dy, ← e]
  show (dy m c n j * aH m c (ix2 n j)) * rs m c n = (aH m c (ix2 n j) * rs m c n) * dy m c n j
  rw [mul_comm (aH m c (ix2 n j) * rs m c n), mul_assoc]

theorem dg_sum (j : Fin 1024) : ∑ n, dgTerm m c j n = refDg (aH m c) (refD (aU m c) (aW m c)) (refV (aH m c)) (ix2 0 j) :=
  (Finset.sum_congr rfl fun n _ => dgTerm_eq m c n j).trans (refDg_at (aH m c) (refD (aU m c) (aW m c)) (refV (aH m c)) 0 j).symm

theorem eq_dg : (G6 m c : S1x1024.Idx → EReal) = refDg (aH m c) (refD (aU m c) (aW m c)) (refV (aH m c)) := by
  refine funext fun i : S1x1024.Idx => ?_
  obtain ⟨z, j, rfl⟩ : ∃ (z : Fin 1) (j : Fin 1024), i = ix2 z j := ⟨_, _, eq_ix2 i⟩
  rw [Subsingleton.elim z 0]
  exact (G6_at m c j).trans (dg_sum m c j)

end

section
variable (m' : (ℓ : Loc Cert.ReferenceUpIdeal.nD Cert.ReferenceUpIdeal.τ Cert.ReferenceUpIdeal.sig) → Buf (Elt Ideal) ℓ) (c : Dev Cert.ReferenceUpIdeal.nD)

theorem ref_dx (du w h g r) (h0 : m' (c.tc.loc Cert.ReferenceUpIdeal.main_arg0) = du) (h1 : m' (c.tc.loc Cert.ReferenceUpIdeal.main_arg1) = w)
    (h2 : m' (c.tc.loc Cert.ReferenceUpIdeal.main_arg2) = h) (h3 : m' (c.tc.loc Cert.ReferenceUpIdeal.main_arg3) = g)
    (h4 : m' (c.tc.loc Cert.ReferenceUpIdeal.main_arg4) = r) :
    Cert.ReferenceUpIdeal.Value.res_main_v38 m' c = refDh r h (refU (refD du w) g) (refB (refC (refS h (refU (refD du w) g)) (refV h))) (refV h) := by
  subst h0 h1 h2 h3 h4
  exact res_eq m' c

/-- The reference's run: its two arrays, its arguments as they were. -/
theorem ref_run (ρ' : Dev Cert.ReferenceUpIdeal.nD → PrngReg) :
    θ_run (Cert.ReferenceUpIdeal.defs (F := Ideal)) (onTc (τ := Cert.ReferenceUpIdeal.τ) (Cert.ReferenceUpIdeal.main (F := Ideal))) ⟨m', fun _ => 0, ρ'⟩ (fun r => ∀ c : Dev Cert.ReferenceUpIdeal.nD,
      r.2.mem ((c.tc : Thread Cert.ReferenceUpIdeal.nD Cert.ReferenceUpIdeal.τ).loc Cert.ReferenceUpIdeal.main_v38) = Cert.ReferenceUpIdeal.Value.res_main_v38 m' c
      ∧ r.2.mem ((c.tc : Thread Cert.ReferenceUpIdeal.nD Cert.ReferenceUpIdeal.τ).loc Cert.ReferenceUpIdeal.main_v39)
        = refDg (m' (c.tc.loc Cert.ReferenceUpIdeal.main_arg2)) (refD (m' (c.tc.loc Cert.ReferenceUpIdeal.main_arg0)) (m' (c.tc.loc Cert.ReferenceUpIdeal.main_arg1))) (refV (m' (c.tc.loc Cert.ReferenceUpIdeal.main_arg2)))
      ∧ r.2.mem ((c.tc : Thread Cert.ReferenceUpIdeal.nD Cert.ReferenceUpIdeal.τ).loc Cert.ReferenceUpIdeal.main_arg0) = m' ((c.tc : Thread Cert.ReferenceUpIdeal.nD Cert.ReferenceUpIdeal.τ).loc Cert.ReferenceUpIdeal.main_arg0)
      ∧ r.2.mem ((c.tc : Thread Cert.ReferenceUpIdeal.nD Cert.ReferenceUpIdeal.τ).loc Cert.ReferenceUpIdeal.main_arg1) = m' ((c.tc : Thread Cert.ReferenceUpIdeal.nD Cert.ReferenceUpIdeal.τ).loc Cert.ReferenceUpIdeal.main_arg1)
      ∧ r.2.mem ((c.tc : Thread Cert.ReferenceUpIdeal.nD Cert.ReferenceUpIdeal.τ).loc Cert.ReferenceUpIdeal.main_arg2) = m' ((c.tc : Thread Cert.ReferenceUpIdeal.nD Cert.ReferenceUpIdeal.τ).loc Cert.ReferenceUpIdeal.main_arg2)
      ∧ r.2.mem ((c.tc : Thread Cert.ReferenceUpIdeal.nD Cert.ReferenceUpIdeal.τ).loc Cert.ReferenceUpIdeal.main_arg3) = m' ((c.tc : Thread Cert.ReferenceUpIdeal.nD Cert.ReferenceUpIdeal.τ).loc Cert.ReferenceUpIdeal.main_arg3)
      ∧ r.2.mem ((c.tc : Thread Cert.ReferenceUpIdeal.nD Cert.ReferenceUpIdeal.τ).loc Cert.ReferenceUpIdeal.main_arg4) = m' ((c.tc : Thread Cert.ReferenceUpIdeal.nD Cert.ReferenceUpIdeal.τ).loc Cert.ReferenceUpIdeal.main_arg4)) :=
  (θ_run _ _ _).mono (fun r h c => ⟨(h c).1, (h c).2.1.trans rfl, (h c).2.2⟩) (Cert.ReferenceUpIdeal.Value.run m' ρ')

end

/-- The kernel and the reference end at the same two arrays, whatever the arguments. -/
theorem algebraic : Cert.algebraic_KernelUpIdeal_ReferenceUpIdeal := fun m ρ m' ρ' _ hargs => by
  refine ⟨fun c => G5 m c, fun c => G6 m c, Cert.KernelUpIdeal.Value.run m ρ, ?_⟩
  refine (θ_run _ _ _).mono (fun r h c => ?_) (ref_run m' ρ')
  obtain ⟨a0, a1, a2, a3, a4⟩ := hargs c
  refine ⟨((h c).1.trans (ref_dx m' c _ _ _ _ _ a0 a1 a2 a3 a4)).trans (eq_dx m c).symm, ?_, (h c).2.2⟩
  have e := (h c).2.1
  rw [a0, a1, a2] at e
  exact e.trans (eq_dg m c).symm

end Cert.Proof.Up

end
-- ==== Proof.Ffn.Sums.lean ====
/-
  Sums over rows and columns, block by block.
-/
module

public import Idealize.ShloMosaic.Lib.IdealHost
public import Idealize.ShloMosaic.Lib.Pointwise

@[expose] public section

noncomputable section

namespace Cert.Proof.Ffn

open Finset

/-- Row `i` of row block `b`. -/
def row (b : ℕ) (i : Fin 1024) : Fin 4096 := ⟨(1024 * b + i.val) % 4096, Nat.mod_lt _ (by decide)⟩

/-- Column `d` of the `k`-th of eight owners, and of the four of one half. -/
def col (k : ℕ) (d : Fin 704) : Fin 5632 := ⟨(704 * k + d.val) % 5632, Nat.mod_lt _ (by decide)⟩
def half (k : ℕ) (d : Fin 704) : Fin 2816 := ⟨(704 * k + d.val) % 2816, Nat.mod_lt _ (by decide)⟩

theorem col_eq (k : Fin 8) (d : Fin 704) : (⟨k.val * 704 + d.val, by omega⟩ : Fin 5632) = col k.val d := by
  refine Fin.ext ?_
  show k.val * 704 + d.val = (704 * k.val + d.val) % 5632
  omega

theorem half_eq (k : Fin 4) (d : Fin 704) : (⟨k.val * 704 + d.val, by omega⟩ : Fin 2816) = half k.val d := by
  refine Fin.ext ?_
  show k.val * 704 + d.val = (704 * k.val + d.val) % 2816
  omega

/-- The row blocks, one after the other, are the rows. -/
theorem sum_rows (f : Fin 4096 → EReal) : ∑ b ∈ range 4, ∑ i : Fin 1024, f (row b i) = ∑ e, f e := by
  rw [Finset.sum_range, ← Fintype.sum_prod_type']
  refine Fintype.sum_equiv (finProdFinEquiv (m := 4) (n := 1024)) _ _ fun q => congrArg f (Fin.ext ?_)
  show (1024 * q.1.val + q.2.val) % 4096 = q.2.val + 1024 * q.1.val
  have := q.1.isLt; have := q.2.isLt; omega

/-- The four owners' columns, one after the other, are the half's. -/
theorem sum_halves (f : Fin 2816 → EReal) : ∑ k ∈ range 4, ∑ d : Fin 704, f (half k d) = ∑ e, f e := by
  rw [Finset.sum_range, ← Fintype.sum_prod_type']
  refine Fintype.sum_equiv (finProdFinEquiv (m := 4) (n := 704)) _ _ fun q => congrArg f (Fin.ext ?_)
  show (704 * q.1.val + q.2.val) % 2816 = q.2.val + 704 * q.1.val
  have := q.1.isLt; have := q.2.isLt; omega

/-- Column `d` of the two halves of the heads' 1536 lanes, and of the three parts of the input projection's 3072 columns. -/
def wide (k : ℕ) (d : Fin 768) : Fin 1536 := ⟨(768 * k + d.val) % 1536, Nat.mod_lt _ (by decide)⟩
def third (k : ℕ) (d : Fin 1024) : Fin 3072 := ⟨(1024 * k + d.val) % 3072, Nat.mod_lt _ (by decide)⟩

theorem sum_wides (f : Fin 1536 → EReal) : ∑ k ∈ range 2, ∑ d : Fin 768, f (wide k d) = ∑ e, f e := by
  rw [Finset.sum_range, ← Fintype.sum_prod_type']
  refine Fintype.sum_equiv (finProdFinEquiv (m := 2) (n := 768)) _ _ fun q => congrArg f (Fin.ext ?_)
  show (768 * q.1.val + q.2.val) % 1536 = q.2.val + 768 * q.1.val
  have := q.1.isLt; have := q.2.isLt; omega

theorem sum_thirds (f : Fin 3072 → EReal) : ∑ k ∈ range 3, ∑ d : Fin 1024, f (third k d) = ∑ e, f e := by
  rw [Finset.sum_range, ← Fintype.sum_prod_type']
  refine Fintype.sum_equiv (finProdFinEquiv (m := 3) (n := 1024)) _ _ fun q => congrArg f (Fin.ext ?_)
  show (1024 * q.1.val + q.2.val) % 3072 = q.2.val + 1024 * q.1.val
  have := q.1.isLt; have := q.2.isLt; omega

end Cert.Proof.Ffn

end
-- ==== Proof.Ffn.UpWg.lean ====
/-
  The gradient of the FFN's up projection: the kernel's array is the reference's.
-/
module

public import proofs.«01_k».proof.Proof.Gen.KernelUpWgIdeal.Value
public import proofs.«01_k».proof.Proof.Gen.ReferenceUpWgIdeal.Run
public import proofs.«01_k».proof.Proof.Ffn.Sums
public import Idealize.ShloMosaic.Lib.Pipeline.ValueKit
public import Idealize.ShloMosaic.Lib.Pipeline.ReadBack
public import Idealize.ShloMosaic.Lib.StableHlo.ReadAt
public import proofs.«01_k».proof.Defs

@[expose] public section

set_option maxRecDepth 16384

noncomputable section

namespace Cert.Proof.Ffn.UpWg

open Finset
open Idealize.ShloMosaic Idealize.ShloMosaic.TcCoe Idealize.SL.Sem

section
open Cert.ReferenceUpWgIdeal Cert.ReferenceUpWgIdeal.Gen

/-! ### The reference -/

/-- The reference's array. -/
def ref (x : FVec Ideal S4096x1024 .f32) (u : FVec Ideal S4096x5632 .f32) : FVec Ideal S8x1024x704 .bf16 :=
  truncf .bf16 (transpose S8x1024x704 [1, 0, 2] (shapeCast S1024x8x704 (transpose S1024x5632 [1, 0] (Host.dotGeneral dot_S4096x5632_S4096x1024_S5632x1024_0_0_1_1_n_n none u x)
    transposes_S5632x1024_S1024x5632_1_0) shapeCasts_S1024x5632_S1024x8x704) transposes_S1024x8x704_S8x1024x704_1_0_2) bitsLt_bf16_f32

theorem ref_at (x : FVec Ideal S4096x1024 .f32) (u : FVec Ideal S4096x5632 .f32) (o : Fin 8) (i : Fin 1024) (j : Fin 704) :
    ref x u (ix3 o i j) = ∑ n : Fin 4096, (u (ix2 n (col o.val j)) : EReal) * x (ix2 n i) := by
  rw [← col_eq]
  unfold ref
  pointwise

end

open Cert.KernelUpWgIdeal Cert.KernelUpWgIdeal.Gen
open Cert.KernelUpWgIdeal.Value (G2 pt2Of loc2Of outsAt0_sweep fold0_congr)

/-! ### The values of a grid point -/

theorem pay1_at (i : Fin 1024) (j : Fin 704) : k0_pay1 (F := Ideal) (ix2 i j) = (0 : EReal) := by
  unfold k0_pay1
  pointwise

theorem pay2_at (a : Vec Ideal S1024x704 .f32) (x : Vec Ideal S1024x1024 .bf16) (y : Vec Ideal S1x1024x704 .bf16) (i : Fin 1024) (j : Fin 704) :
    k0_pay2 (F := Ideal) a x y (ix2 i j) = (a (ix2 i j) : EReal) + ∑ n : Fin 1024, (x (ix2 n i) : EReal) * y (ix3 0 n j) := by
  unfold k0_pay2
  pointwise

theorem pay3_at (a : Vec Ideal S1024x704 .f32) (z : Fin 1) (i : Fin 1024) (j : Fin 704) :
    k0_pay3 (F := Ideal) a (ix3 z i j) = (a (ix2 i j) : EReal) := by
  unfold k0_pay3
  pointwise

section
variable (m : (ℓ : Loc nD τ sig) → Buf (Elt Ideal) ℓ) (c : Dev nD)

/-- The two arguments as arrays of extended reals. -/
abbrev aX : S4096x1024.Idx → EReal := m (c.tc.loc main_arg0)
abbrev aU : S4096x5632.Idx → EReal := m (c.tc.loc main_arg1)

/-! ### The blocks -/

theorem V_0 (n : Fin 4096) (j : Fin 1024) : (V m c main_v0 : S4096x1024.Idx → EReal) (ix2 n j) = aX m c (ix2 n j) := by
  unfold V
  after_reads_at

theorem V_3 (k : Fin 8) (n : Fin 4096) (d : Fin 704) : (V m c main_v3 : S8x4096x704.Idx → EReal) (ix3 k n d) = aU m c (ix2 n (col k.val d)) := by
  unfold V
  after_reads_at
  exact congrArg (fun q => (m (c.tc.loc main_arg1) : S4096x5632.Idx → EReal) (ix2 n q)) (col_eq k d)

theorem idx_0 : ∀ t : Fin grid0.N, win0_0.index t = ![t.val % 4, 0] := by decide +kernel
theorem idx_1 : ∀ t : Fin grid0.N, win0_1.index t = ![t.val / 4, t.val % 4, 0] := by decide +kernel

theorem lt32 (t : Fin cfg0.N) : t.val < 32 := lt_of_lt_of_eq t.isLt N_0

theorem emb_0 (t : Fin cfg0.N) (i j : Fin 1024) : (win0_0.blk t).view.emb (ix2 i j) = ix2 (row (t.val % 4) i) j := by
  funext a
  refine Fin.ext ?_
  match a with
  | ⟨0, _⟩ => blk_simp [idx_0]; show t.val % 4 * 1024 + i.val = (1024 * (t.val % 4) + i.val) % 4096; have := i.isLt; omega
  | ⟨1, _⟩ => blk_simp [idx_0]

theorem emb_1 (t : Fin cfg0.N) (i : Fin 1024) (d : Fin 704) :
    (win0_1.blk t).view.emb (ix3 0 i d) = ix3 (n0 := 8) ⟨t.val / 4, by have := lt32 t; omega⟩ (row (t.val % 4) i) d := by
  funext a
  refine Fin.ext ?_
  match a with
  | ⟨0, _⟩ => blk_simp [idx_1]; rfl
  | ⟨1, _⟩ => blk_simp [idx_1]; show t.val % 4 * 1024 + i.val = (1024 * (t.val % 4) + i.val) % 4096; have := i.isLt; omega
  | ⟨2, _⟩ => blk_simp [idx_1]

theorem read_0 (x : S4096x1024.Idx → EReal) (t : Fin cfg0.N) (i j : Fin 1024) :
    ((win0_0.blk t).view.read (Elt Ideal) x : S1024x1024.Idx → EReal) (ix2 i j) = x (ix2 (row (t.val % 4) i) j) := by
  blk_simp
  exact congrArg x (emb_0 t i j)
theorem read_1 (x : S8x4096x704.Idx → EReal) (t : Fin cfg0.N) (i : Fin 1024) (d : Fin 704) :
    ((win0_1.blk t).view.read (Elt Ideal) x : S1x1024x704.Idx → EReal) (ix3 0 i d) = x (ix3 ⟨t.val / 4, by have := lt32 t; omega⟩ (row (t.val % 4) i) d) := by
  blk_simp
  exact congrArg x (emb_1 t i d)

theorem iblk_0 (t : Fin cfg0.N) (i j : Fin 1024) : (iblk m c 0 t : S1024x1024.Idx → EReal) (ix2 i j) = aX m c (ix2 (row (t.val % 4) i) j) :=
  (read_0 (V m c main_v0) t i j).trans (V_0 m c _ _)
theorem iblk_1 (t : Fin cfg0.N) (i : Fin 1024) (d : Fin 704) :
    (iblk m c 1 t : S1x1024x704.Idx → EReal) (ix3 0 i d) = aU m c (ix2 (row (t.val % 4) i) (col (t.val / 4) d)) :=
  (read_1 (V m c main_v3) t i d).trans (V_3 m c _ _ _)

/-! ### The sum over the row blocks -/

theorem acc_first (t : Fin cfg0.N) (h : t.val % 4 = 0) :
    (outsAt0 m c t.val t.isLt).2 = k0_pay2 (F := Ideal) (k0_pay1 (F := Ideal)) (iblk m c 0 t) (iblk m c 1 t) := by
  rw [outsAt0_A m c t h (by omega)]
  frame_out

theorem acc_next (t : Fin cfg0.N) (h : ¬t.val % 4 = 0) :
    (outsAt0 m c t.val t.isLt).2 = k0_pay2 (F := Ideal) (outsAt0 m c (t.val - 1) (Nat.lt_of_le_of_lt (Nat.sub_le _ _) t.isLt)).2 (iblk m c 0 t) (iblk m c 1 t) := by
  by_cases h2 : t.val % 4 = 3
  · rw [outsAt0_C m c t h h2]
    frame_out
    rw [Idealize.ShloMosaic.read_unread_whole]
  · rw [outsAt0_B m c t h h2]
    frame_out
    rw [Idealize.ShloMosaic.read_unread_whole]

theorem out_last (t : Fin cfg0.N) (h : t.val % 4 = 3) : (outsAt0 m c t.val t.isLt).1 = k0_pay3 (F := Ideal) (outsAt0 m c t.val t.isLt).2 := by
  rw [acc_next m c t (by omega), outsAt0_C m c t (by omega) h]
  frame_out
  rw [Idealize.ShloMosaic.read_unread_whole]

theorem pay2_blk (a : S1024x704.Idx → EReal) (t : Fin cfg0.N) (i : Fin 1024) (j : Fin 704) :
    k0_pay2 (F := Ideal) a (iblk m c 0 t) (iblk m c 1 t) (ix2 i j) = a (ix2 i j)
      + ∑ n : Fin 1024, aX m c (ix2 (row (t.val % 4) n) i) * aU m c (ix2 (row (t.val % 4) n) (col (t.val / 4) j)) := by
  refine (pay2_at a (iblk m c 0 t) (iblk m c 1 t) i j).trans ?_
  refine congrArg (a (ix2 i j) + ·) (Finset.sum_congr rfl fun n _ => ?_)
  exact congrArg₂ (· * ·) (iblk_0 m c t n i) (iblk_1 m c t n j)

theorem acc_at (t : Fin cfg0.N) (i : Fin 1024) (j : Fin 704) :
    ((outsAt0 m c t.val t.isLt).2 : S1024x704.Idx → EReal) (ix2 i j) = 0 + ∑ k ∈ range (t.val % 4 + 1),
      ∑ n : Fin 1024, aX m c (ix2 (row k n) i) * aU m c (ix2 (row k n) (col (t.val / 4) j)) := by
  refine Pipeline.eq_sum_of_reset_step_apply_divmod (M := EReal) (ι := Fin 1024 × Fin 704) (N := cfg0.N)
    (fun n h q => ((outsAt0 m c n h).2 : S1024x704.Idx → EReal) (ix2 q.1 q.2)) 4 (fun _ => 0)
    (fun b k q => ∑ n : Fin 1024, aX m c (ix2 (row k n) q.1) * aU m c (ix2 (row k n) (col b q.2))) ?_ ?_ t (i, j)
  · intro t h q
    refine (congrFun (acc_first m c t h) _).trans ((pay2_blk m c _ t q.1 q.2).trans ?_)
    exact congrArg (· + _) (pay1_at q.1 q.2)
  · intro t h q
    exact (congrFun (acc_next m c t h) _).trans (pay2_blk m c _ t q.1 q.2)

/-- The weight's gradient. -/
def dw (i : Fin 1024) (e : Fin 5632) : EReal := ∑ n : Fin 4096, aX m c (ix2 n i) * aU m c (ix2 n e)

theorem out_at (t : Fin cfg0.N) (h : t.val % 4 = 3) (i : Fin 1024) (j : Fin 704) :
    ((outsAt0 m c t.val t.isLt).1 : S1x1024x704.Idx → EReal) (ix3 0 i j) = dw m c i (col (t.val / 4) j) := by
  refine (congrFun (out_last m c t h) _).trans ((pay3_at _ 0 i j).trans ?_)
  rw [acc_at, h, zero_add]
  exact sum_rows fun n => aX m c (ix2 n i) * aU m c (ix2 n (col (t.val / 4) j))

/-- The array, at an element. -/
theorem G2_at (o : Fin 8) (i : Fin 1024) (j : Fin 704) : (G2 m c : S8x1024x704.Idx → EReal) (ix3 o i j) = dw m c i (col o.val j) := by
  have ho := o.isLt
  have hi := i.isLt
  have hj := j.isLt
  have hp : pt2Of (ix3 o i j) = 4 * o.val + 3 := by
    show 4 * (1 * (o.val / 1 - 0) + 1 * (i.val / 1024 - 0) + 1 * (j.val / 704 - 0)) + 3 = _
    omega
  have hlt : 4 * o.val + 3 < cfg0.N := lt_of_lt_of_eq (by omega) N_0.symm
  have hl : loc2Of (ix3 o i j) = ix3 (0 : Fin 1) i j := by
    funext a
    refine Fin.ext ?_
    match a with
    | ⟨0, _⟩ => exact Nat.mod_one _
    | ⟨1, _⟩ => exact Nat.mod_eq_of_lt hi
    | ⟨2, _⟩ => exact Nat.mod_eq_of_lt hj
  unfold G2
  rw [dif_pos (by rw [hp]; exact hlt), hl, fold0_congr m c _ _ _ (by rw [Nat.zero_add]; exact hlt) hp]
  refine (congrFun (congrArg Prod.fst (outsAt0_sweep m c _ hlt).symm) _).trans ?_
  refine (out_at m c ⟨4 * o.val + 3, hlt⟩ (by show (4 * o.val + 3) % 4 = 3; omega) i j).trans ?_
  refine congrArg (fun q => dw m c i (col q j)) ?_
  show (4 * o.val + 3) / 4 = o.val
  omega

end

section
variable (m : (ℓ : Loc nD τ sig) → Buf (Elt Ideal) ℓ) (c : Dev nD)

theorem dw_ref (o : Fin 8) (i : Fin 1024) (j : Fin 704) : dw m c i (col o.val j) = ref (aX m c) (aU m c) (ix3 o i j) :=
  (Finset.sum_congr rfl fun n _ => mul_comm _ _).trans (ref_at (aX m c) (aU m c) o i j).symm

theorem eq_out : (G2 m c : S8x1024x704.Idx → EReal) = ref (aX m c) (aU m c) := by
  refine funext fun i : S8x1024x704.Idx => ?_
  obtain ⟨o, n, j, rfl⟩ : ∃ (o : Fin 8) (n : Fin 1024) (j : Fin 704), i = ix3 o n j := ⟨_, _, _, eq_ix3 i⟩
  exact (G2_at m c o n j).trans (dw_ref m c o n j)

end

/-- The kernel and the reference end at the same array, whatever the arguments. -/
theorem algebraic : Cert.algebraic_KernelUpWgIdeal_ReferenceUpWgIdeal := fun m ρ m' ρ' _ hargs => by
  refine ⟨fun c => G2 m c, Cert.KernelUpWgIdeal.Value.run m ρ, ?_⟩
  refine (θ_run _ _ _).mono (fun r h c => ?_) (Cert.ReferenceUpWgIdeal.Value.run m' ρ')
  obtain ⟨a0, a1⟩ := hargs c
  have e := (h c).1
  rw [a0, a1] at e
  exact ⟨e.trans (eq_out m c).symm, (h c).2⟩

end Cert.Proof.Ffn.UpWg

end
-- ==== Proof.Ffn.DownDg.lean ====
/-
  The gradient of the FFN's activation through the down projection: the kernel's array is the reference's.
-/
module

public import proofs.«01_k».proof.Proof.Gen.KernelDownDgIdeal.Value
public import proofs.«01_k».proof.Proof.Gen.ReferenceDownDgIdeal.Run
public import proofs.«01_k».proof.Proof.Ffn.Sums
public import Idealize.ShloMosaic.Lib.Pipeline.ValueKit
public import Idealize.ShloMosaic.Lib.Pipeline.ReadBack
public import Idealize.ShloMosaic.Lib.StableHlo.ReadAt
public import proofs.«01_k».proof.Defs

@[expose] public section

set_option maxRecDepth 16384

noncomputable section

namespace Cert.Proof.Ffn.DownDg

open Finset
open Idealize.ShloMosaic Idealize.ShloMosaic.TcCoe Idealize.SL.Sem

section
open Cert.ReferenceDownDgIdeal Cert.ReferenceDownDgIdeal.Gen

/-! ### The reference -/

/-- The reference's array. -/
def ref (g : FVec Ideal S4096x1024 .f32) (w : FVec Ideal S2816x1024 .f32) : FVec Ideal S4x4096x704 .bf16 :=
  truncf .bf16 (transpose S4x4096x704 [1, 0, 2] (shapeCast S4096x4x704 (Host.dotGeneral dot_S4096x1024_S2816x1024_S4096x2816_1_1_0_0_n_n none g w)
    shapeCasts_S4096x2816_S4096x4x704) transposes_S4096x4x704_S4x4096x704_1_0_2) bitsLt_bf16_f32

theorem ref_at (g : FVec Ideal S4096x1024 .f32) (w : FVec Ideal S2816x1024 .f32) (o : Fin 4) (n : Fin 4096) (j : Fin 704) :
    ref g w (ix3 o n j) = ∑ l : Fin 1024, (g (ix2 n l) : EReal) * w (ix2 (half o.val j) l) := by
  rw [← half_eq]
  unfold ref
  pointwise

end

open Cert.KernelDownDgIdeal Cert.KernelDownDgIdeal.Gen
open Cert.KernelDownDgIdeal.Value (flushed2 blocks2)

/-! ### The values of a grid point -/

theorem pay1_at (i : Fin 1024) (j : Fin 704) : k0_pay1 (F := Ideal) (ix2 i j) = (0 : EReal) := by
  unfold k0_pay1
  pointwise

theorem pay2_at (a : Vec Ideal S1024x704 .f32) (x : Vec Ideal S1024x1024 .f32) (y : Vec Ideal S704x1024 .bf16) (i : Fin 1024) (j : Fin 704) :
    k0_pay2 (F := Ideal) a x y (ix2 i j) = (a (ix2 i j) : EReal) + ∑ l : Fin 1024, (x (ix2 i l) : EReal) * y (ix2 j l) := by
  unfold k0_pay2
  pointwise

theorem pay3_at (a : Vec Ideal S1024x704 .f32) (z : Fin 1) (i : Fin 1024) (j : Fin 704) :
    k0_pay3 (F := Ideal) a (ix3 z i j) = (a (ix2 i j) : EReal) := by
  unfold k0_pay3
  pointwise

section
variable (m : (ℓ : Loc nD τ sig) → Buf (Elt Ideal) ℓ) (c : Dev nD)

/-- The two arguments as arrays of extended reals. -/
abbrev aG : S4096x1024.Idx → EReal := m (c.tc.loc main_arg0)
abbrev aW : S2816x1024.Idx → EReal := m (c.tc.loc main_arg1)

/-! ### The blocks -/

theorem V_arg0 (n : Fin 4096) (j : Fin 1024) : (V m c main_arg0 : S4096x1024.Idx → EReal) (ix2 n j) = aG m c (ix2 n j) := by
  unfold V
  after_reads_simp

theorem V_0 (e : Fin 2816) (j : Fin 1024) : (V m c main_v0 : S2816x1024.Idx → EReal) (ix2 e j) = aW m c (ix2 e j) := by
  unfold V
  after_reads_at

theorem idx_0 : ∀ t : Fin grid0.N, win0_0.index t = ![t.val / 4, 0] := by decide +kernel
theorem idx_1 : ∀ t : Fin grid0.N, win0_1.index t = ![t.val % 4, 0] := by decide +kernel
theorem idx_2 : ∀ t : Fin grid0.N, win0_2.index t = ![t.val % 4, t.val / 4, 0] := by decide +kernel

theorem lt16 (t : Fin cfg0.N) : t.val < 16 := lt_of_lt_of_eq t.isLt N_0

theorem emb_0 (t : Fin cfg0.N) (i j : Fin 1024) : (win0_0.blk t).view.emb (ix2 i j) = ix2 (row (t.val / 4) i) j := by
  funext a
  refine Fin.ext ?_
  match a with
  | ⟨0, _⟩ => blk_simp [idx_0]; show t.val / 4 * 1024 + i.val = (1024 * (t.val / 4) + i.val) % 4096; have := i.isLt; have := lt16 t; omega
  | ⟨1, _⟩ => blk_simp [idx_0]

theorem emb_1 (t : Fin cfg0.N) (d : Fin 704) (j : Fin 1024) : (win0_1.blk t).view.emb (ix2 d j) = ix2 (half (t.val % 4) d) j := by
  funext a
  refine Fin.ext ?_
  match a with
  | ⟨0, _⟩ => blk_simp [idx_1]; show t.val % 4 * 704 + d.val = (704 * (t.val % 4) + d.val) % 2816; have := d.isLt; omega
  | ⟨1, _⟩ => blk_simp [idx_1]

theorem emb_2 (t : Fin cfg0.N) (i : Fin 1024) (d : Fin 704) :
    (win0_2.blk t).view.emb (ix3 0 i d) = ix3 (n0 := 4) ⟨t.val % 4, Nat.mod_lt _ (by decide)⟩ (row (t.val / 4) i) d := by
  funext a
  refine Fin.ext ?_
  match a with
  | ⟨0, _⟩ => blk_simp [idx_2]; rfl
  | ⟨1, _⟩ => blk_simp [idx_2]; show t.val / 4 * 1024 + i.val = (1024 * (t.val / 4) + i.val) % 4096; have := i.isLt; have := lt16 t; omega
  | ⟨2, _⟩ => blk_simp [idx_2]

theorem read_0 (x : S4096x1024.Idx → EReal) (t : Fin cfg0.N) (i j : Fin 1024) :
    ((win0_0.blk t).view.read (Elt Ideal) x : S1024x1024.Idx → EReal) (ix2 i j) = x (ix2 (row (t.val / 4) i) j) := by
  blk_simp
  exact congrArg x (emb_0 t i j)
theorem read_1 (x : S2816x1024.Idx → EReal) (t : Fin cfg0.N) (d : Fin 704) (j : Fin 1024) :
    ((win0_1.blk t).view.read (Elt Ideal) x : S704x1024.Idx → EReal) (ix2 d j) = x (ix2 (half (t.val % 4) d) j) := by
  blk_simp
  exact congrArg x (emb_1 t d j)
theorem read_2 (x : S4x4096x704.Idx → EReal) (t : Fin cfg0.N) (i : Fin 1024) (d : Fin 704) :
    ((win0_2.blk t).view.read (Elt Ideal) x : S1x1024x704.Idx → EReal) (ix3 0 i d) = x (ix3 ⟨t.val % 4, Nat.mod_lt _ (by decide)⟩ (row (t.val / 4) i) d) := by
  blk_simp
  exact congrArg x (emb_2 t i d)

theorem iblk_0 (t : Fin cfg0.N) (i j : Fin 1024) : (iblk m c 0 t : S1024x1024.Idx → EReal) (ix2 i j) = aG m c (ix2 (row (t.val / 4) i) j) :=
  (read_0 (V m c main_arg0) t i j).trans (V_arg0 m c _ _)
theorem iblk_1 (t : Fin cfg0.N) (d : Fin 704) (j : Fin 1024) : (iblk m c 1 t : S704x1024.Idx → EReal) (ix2 d j) = aW m c (ix2 (half (t.val % 4) d) j) :=
  (read_1 (V m c main_v0) t d j).trans (V_0 m c _ _)

/-! ### The array, block by block -/

theorem outs (t : Fin cfg0.N) : outsAt0 m c t = k0_pay3 (F := Ideal) (k0_pay2 (F := Ideal) (k0_pay1 (F := Ideal)) (iblk m c 0 t) (iblk m c 1 t)) := by
  unfold outsAt0
  frame_out

/-- The activation's gradient. -/
def da (n : Fin 4096) (e : Fin 2816) : EReal := ∑ l : Fin 1024, aG m c (ix2 n l) * aW m c (ix2 e l)

theorem pay2_blk (t : Fin cfg0.N) (i : Fin 1024) (j : Fin 704) :
    k0_pay2 (F := Ideal) (k0_pay1 (F := Ideal)) (iblk m c 0 t) (iblk m c 1 t) (ix2 i j) = da m c (row (t.val / 4) i) (half (t.val % 4) j) := by
  refine (pay2_at (k0_pay1 (F := Ideal)) (iblk m c 0 t) (iblk m c 1 t) i j).trans ?_
  refine (congrArg (· + _) (pay1_at i j)).trans ((zero_add _).trans (Finset.sum_congr rfl fun l _ => ?_))
  exact congrArg₂ (· * ·) (iblk_0 m c t i l) (iblk_1 m c t j l)

theorem out_at (t : Fin cfg0.N) (i : Fin 1024) (j : Fin 704) :
    (outsAt0 m c t : S1x1024x704.Idx → EReal) (ix3 0 i j) = da m c (row (t.val / 4) i) (half (t.val % 4) j) :=
  (congrFun (outs m c t) _).trans ((pay3_at _ 0 i j).trans (pay2_blk m c t i j))

/-- Every grid point writes its block back. -/
theorem flush_2 : ∀ t : Fin cfg0.N, (cfg0.win 2).flush t = true :=
  (by decide +kernel : ∀ t : Fin grid0.N, win0_2.flush t = true)

/-- The array after the run. -/
abbrev G2 : S4x4096x704.Idx → EReal := (dats m 0 c).arrAt 2 cfg0.N

theorem block_at (t : Fin cfg0.N) (i : Fin 1024) (j : Fin 704) :
    G2 m c (ix3 ⟨t.val % 4, Nat.mod_lt _ (by decide)⟩ (row (t.val / 4) i) j) = da m c (row (t.val / 4) i) (half (t.val % 4) j) := by
  refine (read_2 (G2 m c) t i j).symm.trans ?_
  refine (congrFun (blocks2 m c t (flush_2 t)) (ix3 0 i j)).trans ?_
  refine (congrFun (flushed2 m c t) (ix3 0 i j)).trans ?_
  exact out_at m c t i j

/-- The array, at an element. -/
theorem G2_at (o : Fin 4) (n : Fin 4096) (j : Fin 704) : G2 m c (ix3 o n j) = da m c n (half o.val j) := by
  have ho := o.isLt
  have hn := n.isLt
  have hlt : 4 * (n.val / 1024) + o.val < cfg0.N := lt_of_lt_of_eq (by omega) N_0.symm
  have e0 : (⟨(4 * (n.val / 1024) + o.val) % 4, Nat.mod_lt _ (by decide)⟩ : Fin 4) = o := Fin.ext (by show (4 * (n.val / 1024) + o.val) % 4 = o.val; omega)
  have e1 : row ((4 * (n.val / 1024) + o.val) / 4) ⟨n.val % 1024, Nat.mod_lt _ (by decide)⟩ = n :=
    Fin.ext (by show (1024 * ((4 * (n.val / 1024) + o.val) / 4) + n.val % 1024) % 4096 = n.val; omega)
  have e2 : (4 * (n.val / 1024) + o.val) % 4 = o.val := by omega
  have h := block_at m c ⟨4 * (n.val / 1024) + o.val, hlt⟩ ⟨n.val % 1024, Nat.mod_lt _ (by decide)⟩ j
  dsimp only at h
  rw [e0, e1, e2] at h
  exact h

theorem da_ref (o : Fin 4) (n : Fin 4096) (j : Fin 704) : da m c n (half o.val j) = ref (aG m c) (aW m c) (ix3 o n j) :=
  (ref_at (aG m c) (aW m c) o n j).symm

theorem eq_out : G2 m c = ref (aG m c) (aW m c) := by
  refine funext fun i : S4x4096x704.Idx => ?_
  obtain ⟨o, n, j, rfl⟩ : ∃ (o : Fin 4) (n : Fin 4096) (j : Fin 704), i = ix3 o n j := ⟨_, _, _, eq_ix3 i⟩
  exact (G2_at m c o n j).trans (da_ref m c o n j)

end

/-- The kernel and the reference end at the same array, whatever the arguments. -/
theorem algebraic : Cert.algebraic_KernelDownDgIdeal_ReferenceDownDgIdeal := fun m ρ m' ρ' _ hargs => by
  refine ⟨fun c => G2 m c, Cert.KernelDownDgIdeal.Value.run_blocks m ρ, ?_⟩
  refine (θ_run _ _ _).mono (fun r h c => ?_) (Cert.ReferenceDownDgIdeal.Value.run m' ρ')
  obtain ⟨a0, a1⟩ := hargs c
  have e := (h c).1
  rw [a0, a1] at e
  exact ⟨e.trans (eq_out m c).symm, (h c).2⟩

end Cert.Proof.Ffn.DownDg

end
-- ==== Proof.Ffn.DownWg.lean ====
/-
  The gradient of the FFN's down projection: the kernel's array is the reference's.
-/
module

public import proofs.«01_k».proof.Proof.Gen.KernelDownWgIdeal.Value
public import proofs.«01_k».proof.Proof.Gen.ReferenceDownWgIdeal.Run
public import proofs.«01_k».proof.Proof.Ffn.Sums
public import Idealize.ShloMosaic.Lib.Pipeline.ValueKit
public import Idealize.ShloMosaic.Lib.Pipeline.ReadBack
public import Idealize.ShloMosaic.Lib.StableHlo.ReadAt
public import proofs.«01_k».proof.Defs

@[expose] public section

set_option maxRecDepth 16384

noncomputable section

namespace Cert.Proof.Ffn.DownWg

open Finset
open Idealize.ShloMosaic Idealize.ShloMosaic.TcCoe Idealize.SL.Sem

section
open Cert.ReferenceDownWgIdeal Cert.ReferenceDownWgIdeal.Gen

/-! ### The reference -/

/-- The reference's array. -/
def ref (a : FVec Ideal S4096x2816 .f32) (g : FVec Ideal S4096x1024 .f32) : FVec Ideal S2816x1024 .bf16 :=
  truncf .bf16 (transpose S2816x1024 [1, 0] (Host.dotGeneral dot_S4096x1024_S4096x2816_S1024x2816_0_0_1_1_n_n none g a)
    transposes_S1024x2816_S2816x1024_1_0) bitsLt_bf16_f32

theorem ref_at (a : FVec Ideal S4096x2816 .f32) (g : FVec Ideal S4096x1024 .f32) (e : Fin 2816) (j : Fin 1024) :
    ref a g (ix2 e j) = ∑ n : Fin 4096, (g (ix2 n j) : EReal) * a (ix2 n e) := by
  unfold ref
  pointwise

end

open Cert.KernelDownWgIdeal Cert.KernelDownWgIdeal.Gen
open Cert.KernelDownWgIdeal.Value (G2 pt2Of loc2Of outsAt0_sweep fold0_congr)

/-! ### The values of a grid point -/

theorem pay1_at (i : Fin 704) (j : Fin 1024) : k0_pay1 (F := Ideal) (ix2 i j) = (0 : EReal) := by
  unfold k0_pay1
  pointwise

theorem pay2_at (a : Vec Ideal S704x1024 .f32) (x : Vec Ideal S1x1024x704 .bf16) (y : Vec Ideal S1024x1024 .bf16) (i : Fin 704) (j : Fin 1024) :
    k0_pay2 (F := Ideal) a x y (ix2 i j) = (a (ix2 i j) : EReal) + ∑ n : Fin 1024, (x (ix3 0 n i) : EReal) * y (ix2 n j) := by
  unfold k0_pay2
  pointwise

theorem pay3_at (a : Vec Ideal S704x1024 .f32) (i : Fin 704) (j : Fin 1024) :
    k0_pay3 (F := Ideal) a (ix2 i j) = (a (ix2 i j) : EReal) := by
  unfold k0_pay3
  pointwise

section
variable (m : (ℓ : Loc nD τ sig) → Buf (Elt Ideal) ℓ) (c : Dev nD)

/-- The two arguments as arrays of extended reals. -/
abbrev aA : S4096x2816.Idx → EReal := m (c.tc.loc main_arg0)
abbrev aG : S4096x1024.Idx → EReal := m (c.tc.loc main_arg1)

/-! ### The blocks -/

theorem V_2 (k : Fin 4) (n : Fin 4096) (d : Fin 704) : (V m c main_v2 : S4x4096x704.Idx → EReal) (ix3 k n d) = aA m c (ix2 n (half k.val d)) := by
  unfold V
  after_reads_at
  exact congrArg (fun q => (m (c.tc.loc main_arg0) : S4096x2816.Idx → EReal) (ix2 n q)) (half_eq k d)

theorem V_arg1 (n : Fin 4096) (j : Fin 1024) : (V m c main_arg1 : S4096x1024.Idx → EReal) (ix2 n j) = aG m c (ix2 n j) := by
  unfold V
  after_reads_simp

theorem idx_0 : ∀ t : Fin grid0.N, win0_0.index t = ![t.val / 4, t.val % 4, 0] := by decide +kernel
theorem idx_1 : ∀ t : Fin grid0.N, win0_1.index t = ![t.val % 4, 0] := by decide +kernel

theorem lt16 (t : Fin cfg0.N) : t.val < 16 := lt_of_lt_of_eq t.isLt N_0

theorem emb_0 (t : Fin cfg0.N) (i : Fin 1024) (d : Fin 704) :
    (win0_0.blk t).view.emb (ix3 0 i d) = ix3 (n0 := 4) ⟨t.val / 4, by have := lt16 t; omega⟩ (row (t.val % 4) i) d := by
  funext a
  refine Fin.ext ?_
  match a with
  | ⟨0, _⟩ => blk_simp [idx_0]; rfl
  | ⟨1, _⟩ => blk_simp [idx_0]; show t.val % 4 * 1024 + i.val = (1024 * (t.val % 4) + i.val) % 4096; have := i.isLt; omega
  | ⟨2, _⟩ => blk_simp [idx_0]

theorem emb_1 (t : Fin cfg0.N) (i j : Fin 1024) : (win0_1.blk t).view.emb (ix2 i j) = ix2 (row (t.val % 4) i) j := by
  funext a
  refine Fin.ext ?_
  match a with
  | ⟨0, _⟩ => blk_simp [idx_1]; show t.val % 4 * 1024 + i.val = (1024 * (t.val % 4) + i.val) % 4096; have := i.isLt; omega
  | ⟨1, _⟩ => blk_simp [idx_1]

theorem read_0 (x : S4x4096x704.Idx → EReal) (t : Fin cfg0.N) (i : Fin 1024) (d : Fin 704) :
    ((win0_0.blk t).view.read (Elt Ideal) x : S1x1024x704.Idx → EReal) (ix3 0 i d) = x (ix3 ⟨t.val / 4, by have := lt16 t; omega⟩ (row (t.val % 4) i) d) := by
  blk_simp
  exact congrArg x (emb_0 t i d)
theorem read_1 (x : S4096x1024.Idx → EReal) (t : Fin cfg0.N) (i j : Fin 1024) :
    ((win0_1.blk t).view.read (Elt Ideal) x : S1024x1024.Idx → EReal) (ix2 i j) = x (ix2 (row (t.val % 4) i) j) := by
  blk_simp
  exact congrArg x (emb_1 t i j)

theorem iblk_0 (t : Fin cfg0.N) (i : Fin 1024) (d : Fin 704) :
    (iblk m c 0 t : S1x1024x704.Idx → EReal) (ix3 0 i d) = aA m c (ix2 (row (t.val % 4) i) (half (t.val / 4) d)) :=
  (read_0 (V m c main_v2) t i d).trans (V_2 m c _ _ _)
theorem iblk_1 (t : Fin cfg0.N) (i j : Fin 1024) : (iblk m c 1 t : S1024x1024.Idx → EReal) (ix2 i j) = aG m c (ix2 (row (t.val % 4) i) j) :=
  (read_1 (V m c main_arg1) t i j).trans (V_arg1 m c _ _)

/-! ### The sum over the row blocks -/

theorem acc_first (t : Fin cfg0.N) (h : t.val % 4 = 0) :
    (outsAt0 m c t.val t.isLt).2 = k0_pay2 (F := Ideal) (k0_pay1 (F := Ideal)) (iblk m c 0 t) (iblk m c 1 t) := by
  rw [outsAt0_A m c t h (by omega)]
  frame_out

theorem acc_next (t : Fin cfg0.N) (h : ¬t.val % 4 = 0) :
    (outsAt0 m c t.val t.isLt).2 = k0_pay2 (F := Ideal) (outsAt0 m c (t.val - 1) (Nat.lt_of_le_of_lt (Nat.sub_le _ _) t.isLt)).2 (iblk m c 0 t) (iblk m c 1 t) := by
  by_cases h2 : t.val % 4 = 3
  · rw [outsAt0_C m c t h h2]
    frame_out
    rw [Idealize.ShloMosaic.read_unread_whole]
  · rw [outsAt0_B m c t h h2]
    frame_out
    rw [Idealize.ShloMosaic.read_unread_whole]

theorem out_last (t : Fin cfg0.N) (h : t.val % 4 = 3) : (outsAt0 m c t.val t.isLt).1 = k0_pay3 (F := Ideal) (outsAt0 m c t.val t.isLt).2 := by
  rw [acc_next m c t (by omega), outsAt0_C m c t (by omega) h]
  frame_out
  rw [Idealize.ShloMosaic.read_unread_whole]

theorem pay2_blk (a : S704x1024.Idx → EReal) (t : Fin cfg0.N) (i : Fin 704) (j : Fin 1024) :
    k0_pay2 (F := Ideal) a (iblk m c 0 t) (iblk m c 1 t) (ix2 i j) = a (ix2 i j)
      + ∑ n : Fin 1024, aA m c (ix2 (row (t.val % 4) n) (half (t.val / 4) i)) * aG m c (ix2 (row (t.val % 4) n) j) := by
  refine (pay2_at a (iblk m c 0 t) (iblk m c 1 t) i j).trans ?_
  refine congrArg (a (ix2 i j) + ·) (Finset.sum_congr rfl fun n _ => ?_)
  exact congrArg₂ (· * ·) (iblk_0 m c t n i) (iblk_1 m c t n j)

theorem acc_at (t : Fin cfg0.N) (i : Fin 704) (j : Fin 1024) :
    ((outsAt0 m c t.val t.isLt).2 : S704x1024.Idx → EReal) (ix2 i j) = 0 + ∑ k ∈ range (t.val % 4 + 1),
      ∑ n : Fin 1024, aA m c (ix2 (row k n) (half (t.val / 4) i)) * aG m c (ix2 (row k n) j) := by
  refine Pipeline.eq_sum_of_reset_step_apply_divmod (M := EReal) (ι := Fin 704 × Fin 1024) (N := cfg0.N)
    (fun n h q => ((outsAt0 m c n h).2 : S704x1024.Idx → EReal) (ix2 q.1 q.2)) 4 (fun _ => 0)
    (fun b k q => ∑ n : Fin 1024, aA m c (ix2 (row k n) (half b q.1)) * aG m c (ix2 (row k n) q.2)) ?_ ?_ t (i, j)
  · intro t h q
    refine (congrFun (acc_first m c t h) _).trans ((pay2_blk m c _ t q.1 q.2).trans ?_)
    exact congrArg (· + _) (pay1_at q.1 q.2)
  · intro t h q
    exact (congrFun (acc_next m c t h) _).trans (pay2_blk m c _ t q.1 q.2)

/-- The weight's gradient. -/
def dw (e : Fin 2816) (j : Fin 1024) : EReal := ∑ n : Fin 4096, aA m c (ix2 n e) * aG m c (ix2 n j)

theorem out_at (t : Fin cfg0.N) (h : t.val % 4 = 3) (i : Fin 704) (j : Fin 1024) :
    ((outsAt0 m c t.val t.isLt).1 : S704x1024.Idx → EReal) (ix2 i j) = dw m c (half (t.val / 4) i) j := by
  refine (congrFun (out_last m c t h) _).trans ((pay3_at _ i j).trans ?_)
  rw [acc_at, h, zero_add]
  exact sum_rows fun n => aA m c (ix2 n (half (t.val / 4) i)) * aG m c (ix2 n j)

/-- The array, at an element. -/
theorem G2_at (e : Fin 2816) (j : Fin 1024) : (G2 m c : S2816x1024.Idx → EReal) (ix2 e j) = dw m c e j := by
  have he := e.isLt
  have hj := j.isLt
  have hp : pt2Of (ix2 e j) = 4 * (e.val / 704) + 3 := by
    show 4 * (1 * (e.val / 704 - 0) + 1 * (j.val / 1024 - 0)) + 3 = _
    omega
  have hlt : 4 * (e.val / 704) + 3 < cfg0.N := lt_of_lt_of_eq (by omega) N_0.symm
  have hl : loc2Of (ix2 e j) = ix2 (⟨e.val % 704, Nat.mod_lt _ (by decide)⟩ : Fin 704) j := by
    funext a
    refine Fin.ext ?_
    match a with
    | ⟨0, _⟩ => rfl
    | ⟨1, _⟩ => exact Nat.mod_eq_of_lt hj
  unfold G2
  rw [dif_pos (by rw [hp]; exact hlt), hl, fold0_congr m c _ _ _ (by rw [Nat.zero_add]; exact hlt) hp]
  refine (congrFun (congrArg Prod.fst (outsAt0_sweep m c _ hlt).symm) _).trans ?_
  refine (out_at m c ⟨4 * (e.val / 704) + 3, hlt⟩ (by show (4 * (e.val / 704) + 3) % 4 = 3; omega) _ j).trans ?_
  refine congrArg (fun q => dw m c q j) (Fin.ext ?_)
  show (704 * ((4 * (e.val / 704) + 3) / 4) + e.val % 704) % 2816 = e.val
  omega

theorem dw_ref (e : Fin 2816) (j : Fin 1024) : dw m c e j = ref (aA m c) (aG m c) (ix2 e j) :=
  (Finset.sum_congr rfl fun n _ => mul_comm _ _).trans (ref_at (aA m c) (aG m c) e j).symm

theorem eq_out : (G2 m c : S2816x1024.Idx → EReal) = ref (aA m c) (aG m c) := by
  refine funext fun i : S2816x1024.Idx => ?_
  obtain ⟨n, j, rfl⟩ : ∃ (n : Fin 2816) (j : Fin 1024), i = ix2 n j := ⟨_, _, eq_ix2 i⟩
  exact (G2_at m c n j).trans (dw_ref m c n j)

end

/-- The kernel and the reference end at the same array, whatever the arguments. -/
theorem algebraic : Cert.algebraic_KernelDownWgIdeal_ReferenceDownWgIdeal := fun m ρ m' ρ' _ hargs => by
  refine ⟨fun c => G2 m c, Cert.KernelDownWgIdeal.Value.run m ρ, ?_⟩
  refine (θ_run _ _ _).mono (fun r h c => ?_) (Cert.ReferenceDownWgIdeal.Value.run m' ρ')
  obtain ⟨a0, a1⟩ := hargs c
  have e := (h c).1
  rw [a0, a1] at e
  exact ⟨e.trans (eq_out m c).symm, (h c).2⟩

end Cert.Proof.Ffn.DownWg

end
-- ==== Proof.Ffn.DownFwd.lean ====
/-
  The FFN's down projection added to the residual: the kernel's array is the reference's.
-/
module

public import proofs.«01_k».proof.Proof.Gen.KernelDownFwdIdeal.Value
public import proofs.«01_k».proof.Proof.Gen.ReferenceDownFwdIdeal.Run
public import proofs.«01_k».proof.Proof.Ffn.Sums
public import Idealize.ShloMosaic.Lib.Pipeline.ValueKit
public import Idealize.ShloMosaic.Lib.Pipeline.ReadBack
public import Idealize.ShloMosaic.Lib.StableHlo.ReadAt
public import proofs.«01_k».proof.Defs

@[expose] public section

set_option maxRecDepth 16384

noncomputable section

namespace Cert.Proof.Ffn.DownFwd

open Finset
open Idealize.ShloMosaic Idealize.ShloMosaic.TcCoe Idealize.SL.Sem

section
open Cert.ReferenceDownFwdIdeal Cert.ReferenceDownFwdIdeal.Gen

/-! ### The reference -/

/-- The reference's array. -/
def ref (a : FVec Ideal S4096x2816 .f32) (w : FVec Ideal S2816x1024 .f32) (h : FVec Ideal S4096x1024 .f32) : FVec Ideal S4096x1024 .f32 :=
  addf h (Host.dotGeneral dot_S4096x2816_S2816x1024_S4096x1024_1_0_0_1_n_n none a w)

theorem ref_at (a : FVec Ideal S4096x2816 .f32) (w : FVec Ideal S2816x1024 .f32) (h : FVec Ideal S4096x1024 .f32) (n : Fin 4096) (j : Fin 1024) :
    ref a w h (ix2 n j) = (h (ix2 n j) : EReal) + ∑ e : Fin 2816, (a (ix2 n e) : EReal) * w (ix2 e j) := by
  unfold ref
  pointwise

end

open Cert.KernelDownFwdIdeal Cert.KernelDownFwdIdeal.Gen
open Cert.KernelDownFwdIdeal.Value (G3 pt3Of loc3Of outsAt0_sweep fold0_congr)

/-! ### The values of a grid point -/

theorem pay1_at (i j : Fin 1024) : k0_pay1 (F := Ideal) (ix2 i j) = (0 : EReal) := by
  unfold k0_pay1
  pointwise

theorem pay2_at (a : Vec Ideal S1024x1024 .f32) (x : Vec Ideal S1x1024x704 .bf16) (y : Vec Ideal S704x1024 .bf16) (i j : Fin 1024) :
    k0_pay2 (F := Ideal) a x y (ix2 i j) = (a (ix2 i j) : EReal) + ∑ d : Fin 704, (x (ix3 0 i d) : EReal) * y (ix2 d j) := by
  unfold k0_pay2
  pointwise

theorem pay3_at (a h : Vec Ideal S1024x1024 .f32) (i j : Fin 1024) :
    k0_pay3 (F := Ideal) a h (ix2 i j) = (a (ix2 i j) : EReal) + h (ix2 i j) := by
  unfold k0_pay3
  pointwise

section
variable (m : (ℓ : Loc nD τ sig) → Buf (Elt Ideal) ℓ) (c : Dev nD)

/-- The three arguments as arrays of extended reals. -/
abbrev aA : S4096x2816.Idx → EReal := m (c.tc.loc main_arg0)
abbrev aW : S2816x1024.Idx → EReal := m (c.tc.loc main_arg1)
abbrev aH : S4096x1024.Idx → EReal := m (c.tc.loc main_arg2)

/-! ### The blocks -/

theorem V_2 (k : Fin 4) (n : Fin 4096) (d : Fin 704) : (V m c main_v2 : S4x4096x704.Idx → EReal) (ix3 k n d) = aA m c (ix2 n (half k.val d)) := by
  unfold V
  after_reads_at
  exact congrArg (fun q => (m (c.tc.loc main_arg0) : S4096x2816.Idx → EReal) (ix2 n q)) (half_eq k d)

theorem V_3 (e : Fin 2816) (j : Fin 1024) : (V m c main_v3 : S2816x1024.Idx → EReal) (ix2 e j) = aW m c (ix2 e j) := by
  unfold V
  after_reads_at

theorem V_arg2 (n : Fin 4096) (j : Fin 1024) : (V m c main_arg2 : S4096x1024.Idx → EReal) (ix2 n j) = aH m c (ix2 n j) := by
  unfold V
  after_reads_simp

theorem idx_0 : ∀ t : Fin grid0.N, win0_0.index t = ![t.val % 4, t.val / 4, 0] := by decide +kernel
theorem idx_1 : ∀ t : Fin grid0.N, win0_1.index t = ![t.val % 4, 0] := by decide +kernel
theorem idx_2 : ∀ t : Fin grid0.N, win0_2.index t = ![t.val / 4, 0] := by decide +kernel

theorem lt16 (t : Fin cfg0.N) : t.val < 16 := lt_of_lt_of_eq t.isLt N_0

theorem emb_0 (t : Fin cfg0.N) (i : Fin 1024) (d : Fin 704) :
    (win0_0.blk t).view.emb (ix3 0 i d) = ix3 (n0 := 4) ⟨t.val % 4, Nat.mod_lt _ (by decide)⟩ (row (t.val / 4) i) d := by
  funext a
  refine Fin.ext ?_
  match a with
  | ⟨0, _⟩ => blk_simp [idx_0]; rfl
  | ⟨1, _⟩ => blk_simp [idx_0]; show t.val / 4 * 1024 + i.val = (1024 * (t.val / 4) + i.val) % 4096; have := i.isLt; have := lt16 t; omega
  | ⟨2, _⟩ => blk_simp [idx_0]

theorem emb_1 (t : Fin cfg0.N) (d : Fin 704) (j : Fin 1024) : (win0_1.blk t).view.emb (ix2 d j) = ix2 (half (t.val % 4) d) j := by
  funext a
  refine Fin.ext ?_
  match a with
  | ⟨0, _⟩ => blk_simp [idx_1]; show t.val % 4 * 704 + d.val = (704 * (t.val % 4) + d.val) % 2816; have := d.isLt; omega
  | ⟨1, _⟩ => blk_simp [idx_1]

theorem emb_2 (t : Fin cfg0.N) (i j : Fin 1024) : (win0_2.blk t).view.emb (ix2 i j) = ix2 (row (t.val / 4) i) j := by
  funext a
  refine Fin.ext ?_
  match a with
  | ⟨0, _⟩ => blk_simp [idx_2]; show t.val / 4 * 1024 + i.val = (1024 * (t.val / 4) + i.val) % 4096; have := i.isLt; have := lt16 t; omega
  | ⟨1, _⟩ => blk_simp [idx_2]

theorem read_0 (x : S4x4096x704.Idx → EReal) (t : Fin cfg0.N) (i : Fin 1024) (d : Fin 704) :
    ((win0_0.blk t).view.read (Elt Ideal) x : S1x1024x704.Idx → EReal) (ix3 0 i d) = x (ix3 ⟨t.val % 4, Nat.mod_lt _ (by decide)⟩ (row (t.val / 4) i) d) := by
  blk_simp
  exact congrArg x (emb_0 t i d)
theorem read_1 (x : S2816x1024.Idx → EReal) (t : Fin cfg0.N) (d : Fin 704) (j : Fin 1024) :
    ((win0_1.blk t).view.read (Elt Ideal) x : S704x1024.Idx → EReal) (ix2 d j) = x (ix2 (half (t.val % 4) d) j) := by
  blk_simp
  exact congrArg x (emb_1 t d j)
theorem read_2 (x : S4096x1024.Idx → EReal) (t : Fin cfg0.N) (i j : Fin 1024) :
    ((win0_2.blk t).view.read (Elt Ideal) x : S1024x1024.Idx → EReal) (ix2 i j) = x (ix2 (row (t.val / 4) i) j) := by
  blk_simp
  exact congrArg x (emb_2 t i j)

theorem iblk_0 (t : Fin cfg0.N) (i : Fin 1024) (d : Fin 704) :
    (iblk m c 0 t : S1x1024x704.Idx → EReal) (ix3 0 i d) = aA m c (ix2 (row (t.val / 4) i) (half (t.val % 4) d)) :=
  (read_0 (V m c main_v2) t i d).trans (V_2 m c _ _ _)
theorem iblk_1 (t : Fin cfg0.N) (d : Fin 704) (j : Fin 1024) : (iblk m c 1 t : S704x1024.Idx → EReal) (ix2 d j) = aW m c (ix2 (half (t.val % 4) d) j) :=
  (read_1 (V m c main_v3) t d j).trans (V_3 m c _ _)
theorem iblk_2 (t : Fin cfg0.N) (i j : Fin 1024) : (iblk m c 2 t : S1024x1024.Idx → EReal) (ix2 i j) = aH m c (ix2 (row (t.val / 4) i) j) :=
  (read_2 (V m c main_arg2) t i j).trans (V_arg2 m c _ _)

/-! ### The sum over the owners -/

theorem acc_first (t : Fin cfg0.N) (h : t.val % 4 = 0) :
    (outsAt0 m c t.val t.isLt).2 = k0_pay2 (F := Ideal) (k0_pay1 (F := Ideal)) (iblk m c 0 t) (iblk m c 1 t) := by
  rw [outsAt0_A m c t h (by omega)]
  frame_out

theorem acc_next (t : Fin cfg0.N) (h : ¬t.val % 4 = 0) :
    (outsAt0 m c t.val t.isLt).2 = k0_pay2 (F := Ideal) (outsAt0 m c (t.val - 1) (Nat.lt_of_le_of_lt (Nat.sub_le _ _) t.isLt)).2 (iblk m c 0 t) (iblk m c 1 t) := by
  by_cases h2 : t.val % 4 = 3
  · rw [outsAt0_C m c t h h2]
    frame_out
    rw [Idealize.ShloMosaic.read_unread_whole]
  · rw [outsAt0_B m c t h h2]
    frame_out
    rw [Idealize.ShloMosaic.read_unread_whole]

theorem out_last (t : Fin cfg0.N) (h : t.val % 4 = 3) : (outsAt0 m c t.val t.isLt).1 = k0_pay3 (F := Ideal) (outsAt0 m c t.val t.isLt).2 (iblk m c 2 t) := by
  rw [acc_next m c t (by omega), outsAt0_C m c t (by omega) h]
  frame_out
  rw [Idealize.ShloMosaic.read_unread_whole]

theorem pay2_blk (a : S1024x1024.Idx → EReal) (t : Fin cfg0.N) (i j : Fin 1024) :
    k0_pay2 (F := Ideal) a (iblk m c 0 t) (iblk m c 1 t) (ix2 i j) = a (ix2 i j)
      + ∑ d : Fin 704, aA m c (ix2 (row (t.val / 4) i) (half (t.val % 4) d)) * aW m c (ix2 (half (t.val % 4) d) j) := by
  refine (pay2_at a (iblk m c 0 t) (iblk m c 1 t) i j).trans ?_
  refine congrArg (a (ix2 i j) + ·) (Finset.sum_congr rfl fun d _ => ?_)
  exact congrArg₂ (· * ·) (iblk_0 m c t i d) (iblk_1 m c t d j)

theorem acc_at (t : Fin cfg0.N) (i j : Fin 1024) :
    ((outsAt0 m c t.val t.isLt).2 : S1024x1024.Idx → EReal) (ix2 i j) = 0 + ∑ k ∈ range (t.val % 4 + 1),
      ∑ d : Fin 704, aA m c (ix2 (row (t.val / 4) i) (half k d)) * aW m c (ix2 (half k d) j) := by
  refine Pipeline.eq_sum_of_reset_step_apply_divmod (M := EReal) (ι := Fin 1024 × Fin 1024) (N := cfg0.N)
    (fun n h q => ((outsAt0 m c n h).2 : S1024x1024.Idx → EReal) (ix2 q.1 q.2)) 4 (fun _ => 0)
    (fun b k q => ∑ d : Fin 704, aA m c (ix2 (row b q.1) (half k d)) * aW m c (ix2 (half k d) q.2)) ?_ ?_ t (i, j)
  · intro t h q
    refine (congrFun (acc_first m c t h) _).trans ((pay2_blk m c _ t q.1 q.2).trans ?_)
    exact congrArg (· + _) (pay1_at q.1 q.2)
  · intro t h q
    exact (congrFun (acc_next m c t h) _).trans (pay2_blk m c _ t q.1 q.2)

/-- The projection, added to the residual. -/
def down (n : Fin 4096) (j : Fin 1024) : EReal := (∑ e : Fin 2816, aA m c (ix2 n e) * aW m c (ix2 e j)) + aH m c (ix2 n j)

theorem out_at (t : Fin cfg0.N) (h : t.val % 4 = 3) (i j : Fin 1024) :
    ((outsAt0 m c t.val t.isLt).1 : S1024x1024.Idx → EReal) (ix2 i j) = down m c (row (t.val / 4) i) j := by
  refine (congrFun (out_last m c t h) _).trans ((pay3_at _ (iblk m c 2 t) i j).trans ?_)
  rw [acc_at, h, zero_add]
  exact congrArg₂ (· + ·) (sum_halves fun e => aA m c (ix2 (row (t.val / 4) i) e) * aW m c (ix2 e j)) (iblk_2 m c t i j)

/-- The array, at an element. -/
theorem G3_at (n : Fin 4096) (j : Fin 1024) : (G3 m c : S4096x1024.Idx → EReal) (ix2 n j) = down m c n j := by
  have he := n.isLt
  have hj := j.isLt
  have hp : pt3Of (ix2 n j) = 4 * (n.val / 1024) + 3 := by
    show 4 * (1 * (n.val / 1024 - 0) + 1 * (j.val / 1024 - 0)) + 3 = _
    omega
  have hlt : 4 * (n.val / 1024) + 3 < cfg0.N := lt_of_lt_of_eq (by omega) N_0.symm
  have hl : loc3Of (ix2 n j) = ix2 (⟨n.val % 1024, Nat.mod_lt _ (by decide)⟩ : Fin 1024) j := by
    funext a
    refine Fin.ext ?_
    match a with
    | ⟨0, _⟩ => rfl
    | ⟨1, _⟩ => exact Nat.mod_eq_of_lt hj
  unfold G3
  rw [dif_pos (by rw [hp]; exact hlt), hl, fold0_congr m c _ _ _ (by rw [Nat.zero_add]; exact hlt) hp]
  refine (congrFun (congrArg Prod.fst (outsAt0_sweep m c _ hlt).symm) _).trans ?_
  refine (out_at m c ⟨4 * (n.val / 1024) + 3, hlt⟩ (by show (4 * (n.val / 1024) + 3) % 4 = 3; omega) _ j).trans ?_
  refine congrArg (fun q => down m c q j) (Fin.ext ?_)
  show (1024 * ((4 * (n.val / 1024) + 3) / 4) + n.val % 1024) % 4096 = n.val
  omega

theorem down_ref (n : Fin 4096) (j : Fin 1024) : down m c n j = ref (aA m c) (aW m c) (aH m c) (ix2 n j) :=
  (add_comm _ _).trans (ref_at (aA m c) (aW m c) (aH m c) n j).symm

theorem eq_out : (G3 m c : S4096x1024.Idx → EReal) = ref (aA m c) (aW m c) (aH m c) := by
  refine funext fun i : S4096x1024.Idx => ?_
  obtain ⟨n, j, rfl⟩ : ∃ (n : Fin 4096) (j : Fin 1024), i = ix2 n j := ⟨_, _, eq_ix2 i⟩
  exact (G3_at m c n j).trans (down_ref m c n j)

end

/-- The kernel and the reference end at the same array, whatever the arguments. -/
theorem algebraic : Cert.algebraic_KernelDownFwdIdeal_ReferenceDownFwdIdeal := fun m ρ m' ρ' _ hargs => by
  refine ⟨fun c => G3 m c, Cert.KernelDownFwdIdeal.Value.run m ρ, ?_⟩
  refine (θ_run _ _ _).mono (fun r h c => ?_) (Cert.ReferenceDownFwdIdeal.Value.run m' ρ')
  obtain ⟨a0, a1, a2⟩ := hargs c
  have e := (h c).1
  rw [a0, a1, a2] at e
  exact ⟨e.trans (eq_out m c).symm, (h c).2⟩

end Cert.Proof.Ffn.DownFwd

end
-- ==== Proof.Ffn.InDg.lean ====
/-
  The gradient through the first norm and the input projection: the kernel's two arrays are the reference's.
-/
module

public import proofs.«01_k».proof.Proof.Gen.KernelInDgIdeal.Value
public import proofs.«01_k».proof.Proof.Gen.ReferenceInDgIdeal.Run
public import proofs.«01_k».proof.Proof.Ffn.Sums
public import proofs.«01_k».proof.Proof.Up.Pay
public import proofs.«01_k».proof.Proof.Up.Ref
public import proofs.«01_k».proof.Proof.Up.Math
public import Idealize.ShloMosaic.Lib.Pipeline.ValueKit
public import Idealize.ShloMosaic.Lib.Pipeline.ReadBack
public import Idealize.ShloMosaic.Lib.StableHlo.ReadAt
public import proofs.«01_k».proof.Defs

@[expose] public section

set_option maxRecDepth 16384

noncomputable section

namespace Cert.Proof.Ffn.InDg

open Finset
open Cert.Proof.Up (inv eps)
open Cert.Proof.UpRef (refV refV_at refU refU_at refS refS_at refC refC_at refB refB_at refDh refDh_at refDg refDg_at)
open Idealize.ShloMosaic Idealize.ShloMosaic.TcCoe Idealize.SL.Sem

/-- The gradient of the normed input. -/
def refD (dz : FVec Ideal Cert.ReferenceInDgIdeal.S4096x3072 .f32) (w : FVec Ideal Cert.ReferenceInDgIdeal.S1024x3072 .f32) : FVec Ideal Cert.ReferenceInDgIdeal.S4096x1024 .f32 :=
  Host.dotGeneral Cert.ReferenceInDgIdeal.dot_S4096x3072_S1024x3072_S4096x1024_1_1_0_0_n_n none dz w

theorem refD_at (dz : FVec Ideal Cert.ReferenceInDgIdeal.S4096x3072 .f32) (w : FVec Ideal Cert.ReferenceInDgIdeal.S1024x3072 .f32) (i : Fin 4096) (j : Fin 1024) :
    refD dz w (ix2 i j) = ∑ e : Fin 3072, (dz (ix2 i e) : EReal) * w (ix2 j e) := by
  unfold refD
  pointwise

open Cert.KernelInDgIdeal Cert.KernelInDgIdeal.Gen
open Cert.KernelInDgIdeal.Value (G5 G6 pt5Of loc5Of outsAt0_sweep fold0_congr G6_last)

/-! ### The values of a grid point -/

theorem pay1_at (i j : Fin 1024) : k0_pay1 (F := Ideal) (ix2 i j) = (0 : EReal) := by
  unfold k0_pay1
  pointwise

theorem pay2_at (z : Fin 1) (j : Fin 1024) : k0_pay2 (F := Ideal) (ix2 z j) = (0 : EReal) := by
  unfold k0_pay2
  pointwise

/-- A block's product is added to the sum. -/
theorem pay3_at (a : Vec Ideal S1024x1024 .f32) (x : Vec Ideal S1024x1024 .f32) (y : Vec Ideal S1024x1024 .bf16) (i j : Fin 1024) :
    k0_pay3 (F := Ideal) a x y (ix2 i j) = (a (ix2 i j) : EReal) + ∑ d : Fin 1024, (x (ix2 i d) : EReal) * y (ix2 j d) := by
  unfold k0_pay3
  pointwise

/-- The reciprocal of a row's root mean square. -/
theorem pay4_at (x : Vec Ideal S1024x1024 .f32) (i : Fin 1024) (z : Fin 1) :
    k0_pay4 (F := Ideal) x (ix2 i z) = Ideal.rsqrt ((∑ j : Fin 1024, (x (ix2 i j) : EReal) * x (ix2 i j)) * inv + eps) := by
  unfold k0_pay4
  pointwise

/-- The input's gradient. -/
theorem pay5_at (x : Vec Ideal S1024x1024 .f32) (g : Vec Ideal S1x1024 .f32) (a r : Vec Ideal S1024x1024 .f32) (i j : Fin 1024) :
    k0_pay5 (F := Ideal) x g a r (ix2 i j) = (r (ix2 i j) : EReal) + ((k0_pay4 (F := Ideal) x (ix2 i 0) : EReal) * (a (ix2 i j) * g (ix2 0 j))
      - x (ix2 i j) * ((k0_pay4 (F := Ideal) x (ix2 i 0) * k0_pay4 (F := Ideal) x (ix2 i 0) * k0_pay4 (F := Ideal) x (ix2 i 0)) * inv
        * ∑ l : Fin 1024, (a (ix2 i l) * g (ix2 0 l) : EReal) * x (ix2 i l))) := by
  unfold k0_pay5
  pointwise

/-- The gain's gradient: a row block's column sums are added. -/
theorem pay6_at (x a : Vec Ideal S1024x1024 .f32) (s : Vec Ideal S1x1024 .f32) (z : Fin 1) (j : Fin 1024) :
    k0_pay6 (F := Ideal) x a s (ix2 z j) = (s (ix2 z j) : EReal) + ∑ i : Fin 1024, (a (ix2 i j) * x (ix2 i j) : EReal) * k0_pay4 (F := Ideal) x (ix2 i 0) := by
  unfold k0_pay6
  pointwise

section
variable (m : (ℓ : Loc nD τ sig) → Buf (Elt Ideal) ℓ) (c : Dev nD)

/-- The five arguments as arrays of extended reals. -/
abbrev aZ : S4096x3072.Idx → EReal := m (c.tc.loc main_arg0)
abbrev aW : S1024x3072.Idx → EReal := m (c.tc.loc main_arg1)
abbrev aH : S4096x1024.Idx → EReal := m (c.tc.loc main_arg2)
abbrev aG : S1024.Idx → EReal := m (c.tc.loc main_arg3)
abbrev aR : S4096x1024.Idx → EReal := m (c.tc.loc main_arg4)

/-! ### The arrays of the launch -/

theorem V_z : (V m c main_arg0 : S4096x3072.Idx → EReal) = aZ m c := by
  unfold V
  after_reads_simp

theorem V_w (n : Fin 1024) (e : Fin 3072) : (V m c main_v0 : S1024x3072.Idx → EReal) (ix2 n e) = aW m c (ix2 n e) := by
  unfold V
  after_reads_at

theorem V_6 (z : Fin 1) (j : Fin 1024) : (V m c main_v1 : S1x1024.Idx → EReal) (ix2 z j) = aG m c (ix1 j) := by
  unfold V
  after_reads_at

theorem V_h : (V m c main_arg2 : S4096x1024.Idx → EReal) = aH m c := by
  unfold V
  after_reads_simp

theorem V_r : (V m c main_arg4 : S4096x1024.Idx → EReal) = aR m c := by
  unfold V
  after_reads_simp

/-! ### The blocks -/

theorem idx_0 : ∀ t : Fin grid0.N, win0_0.index t = ![t.val / 3, t.val % 3] := by decide +kernel
theorem idx_1 : ∀ t : Fin grid0.N, win0_1.index t = ![0, t.val % 3] := by decide +kernel
theorem idx_2 : ∀ t : Fin grid0.N, win0_2.index t = ![t.val / 3, 0] := by decide +kernel
theorem idx_3 : ∀ t : Fin grid0.N, win0_3.index t = ![0, 0] := by decide +kernel
theorem idx_4 : ∀ t : Fin grid0.N, win0_4.index t = ![t.val / 3, 0] := by decide +kernel

theorem lt12 (t : Fin cfg0.N) : t.val < 12 := lt_of_lt_of_eq t.isLt N_0

theorem emb_0 (t : Fin cfg0.N) (i d : Fin 1024) : (win0_0.blk t).view.emb (ix2 i d) = ix2 (row (t.val / 3) i) (third (t.val % 3) d) := by
  have ht := lt12 t
  funext a
  refine Fin.ext ?_
  match a with
  | ⟨0, _⟩ => blk_simp [idx_0]; show t.val / 3 * 1024 + i.val = (1024 * (t.val / 3) + i.val) % 4096; have := i.isLt; omega
  | ⟨1, _⟩ => blk_simp [idx_0]; show t.val % 3 * 1024 + d.val = (1024 * (t.val % 3) + d.val) % 3072; have := d.isLt; omega

theorem emb_1 (t : Fin cfg0.N) (i d : Fin 1024) : (win0_1.blk t).view.emb (ix2 i d) = ix2 i (third (t.val % 3) d) := by
  funext a
  refine Fin.ext ?_
  match a with
  | ⟨0, _⟩ => blk_simp [idx_1]
  | ⟨1, _⟩ => blk_simp [idx_1]; show t.val % 3 * 1024 + d.val = (1024 * (t.val % 3) + d.val) % 3072; have := d.isLt; omega

theorem emb_2 (t : Fin cfg0.N) (i j : Fin 1024) : (win0_2.blk t).view.emb (ix2 i j) = ix2 (row (t.val / 3) i) j := by
  have ht := lt12 t
  funext a
  refine Fin.ext ?_
  match a with
  | ⟨0, _⟩ => blk_simp [idx_2]; show t.val / 3 * 1024 + i.val = (1024 * (t.val / 3) + i.val) % 4096; have := i.isLt; omega
  | ⟨1, _⟩ => blk_simp [idx_2]

theorem emb_3 (t : Fin cfg0.N) (z : Fin 1) (j : Fin 1024) : (win0_3.blk t).view.emb (ix2 z j) = ix2 z j := by
  funext a
  refine Fin.ext ?_
  match a with
  | ⟨0, _⟩ => blk_simp [idx_3]
  | ⟨1, _⟩ => blk_simp [idx_3]

theorem emb_4 (t : Fin cfg0.N) (i j : Fin 1024) : (win0_4.blk t).view.emb (ix2 i j) = ix2 (row (t.val / 3) i) j := by
  have ht := lt12 t
  funext a
  refine Fin.ext ?_
  match a with
  | ⟨0, _⟩ => blk_simp [idx_4]; show t.val / 3 * 1024 + i.val = (1024 * (t.val / 3) + i.val) % 4096; have := i.isLt; omega
  | ⟨1, _⟩ => blk_simp [idx_4]

theorem read_0 (x : S4096x3072.Idx → EReal) (t : Fin cfg0.N) (i d : Fin 1024) :
    ((win0_0.blk t).view.read (Elt Ideal) x : S1024x1024.Idx → EReal) (ix2 i d) = x (ix2 (row (t.val / 3) i) (third (t.val % 3) d)) := by
  blk_simp
  exact congrArg x (emb_0 t i d)
theorem read_1 (x : S1024x3072.Idx → EReal) (t : Fin cfg0.N) (i d : Fin 1024) :
    ((win0_1.blk t).view.read (Elt Ideal) x : S1024x1024.Idx → EReal) (ix2 i d) = x (ix2 i (third (t.val % 3) d)) := by
  blk_simp
  exact congrArg x (emb_1 t i d)
theorem read_2 (x : S4096x1024.Idx → EReal) (t : Fin cfg0.N) (i j : Fin 1024) :
    ((win0_2.blk t).view.read (Elt Ideal) x : S1024x1024.Idx → EReal) (ix2 i j) = x (ix2 (row (t.val / 3) i) j) := by
  blk_simp
  exact congrArg x (emb_2 t i j)
theorem read_3 (x : S1x1024.Idx → EReal) (t : Fin cfg0.N) (z : Fin 1) (j : Fin 1024) :
    ((win0_3.blk t).view.read (Elt Ideal) x : S1x1024.Idx → EReal) (ix2 z j) = x (ix2 z j) := by
  blk_simp
  exact congrArg x (emb_3 t z j)
theorem read_4 (x : S4096x1024.Idx → EReal) (t : Fin cfg0.N) (i j : Fin 1024) :
    ((win0_4.blk t).view.read (Elt Ideal) x : S1024x1024.Idx → EReal) (ix2 i j) = x (ix2 (row (t.val / 3) i) j) := by
  blk_simp
  exact congrArg x (emb_4 t i j)

theorem iblk_0 (t : Fin cfg0.N) (i d : Fin 1024) :
    (iblk m c 0 t : S1024x1024.Idx → EReal) (ix2 i d) = aZ m c (ix2 (row (t.val / 3) i) (third (t.val % 3) d)) :=
  (read_0 (V m c main_arg0) t i d).trans (congrFun (V_z m c) _)
theorem iblk_1 (t : Fin cfg0.N) (i d : Fin 1024) :
    (iblk m c 1 t : S1024x1024.Idx → EReal) (ix2 i d) = aW m c (ix2 i (third (t.val % 3) d)) :=
  (read_1 (V m c main_v0) t i d).trans (V_w m c _ _)
theorem iblk_2 (t : Fin cfg0.N) (i j : Fin 1024) :
    (iblk m c 2 t : S1024x1024.Idx → EReal) (ix2 i j) = aH m c (ix2 (row (t.val / 3) i) j) :=
  (read_2 (V m c main_arg2) t i j).trans (congrFun (V_h m c) _)
theorem iblk_3 (t : Fin cfg0.N) (z : Fin 1) (j : Fin 1024) :
    (iblk m c 3 t : S1x1024.Idx → EReal) (ix2 z j) = aG m c (ix1 j) :=
  (read_3 (V m c main_v1) t z j).trans (V_6 m c _ _)
theorem iblk_4 (t : Fin cfg0.N) (i j : Fin 1024) :
    (iblk m c 4 t : S1024x1024.Idx → EReal) (ix2 i j) = aR m c (ix2 (row (t.val / 3) i) j) :=
  (read_4 (V m c main_arg4) t i j).trans (congrFun (V_r m c) _)

/-! ### What a grid point leaves -/

/-- A row block's first point starts the sum from nothing. -/
theorem acc_first (t : Fin cfg0.N) (h : t.val % 3 = 0) :
    (outsAt0 m c t.val t.isLt).2.2 = k0_pay3 (F := Ideal) (k0_pay1 (F := Ideal)) (iblk m c 0 t) (iblk m c 1 t) := by
  by_cases h1 : t.val % 12 = 0
  · rw [outsAt0_A m c t h h1 (by omega)]
    frame_out
  · rw [outsAt0_D m c t h h1 (by omega)]
    frame_out

/-- Every other point adds to what the one before left. -/
theorem acc_next (t : Fin cfg0.N) (h : ¬t.val % 3 = 0) :
    (outsAt0 m c t.val t.isLt).2.2 = k0_pay3 (F := Ideal) (outsAt0 m c (t.val - 1) (Nat.lt_of_le_of_lt (Nat.sub_le _ _) t.isLt)).2.2 (iblk m c 0 t) (iblk m c 1 t) := by
  by_cases h2 : t.val % 3 = 2
  · rw [outsAt0_C m c t h (by omega) h2]
    frame_out
    rw [Idealize.ShloMosaic.read_unread_whole]
  · rw [outsAt0_B m c t h (by omega) h2]
    frame_out
    rw [Idealize.ShloMosaic.read_unread_whole]

/-- The input's gradient is stored at a row block's last point. -/
theorem dx_last (t : Fin cfg0.N) (h : t.val % 3 = 2) :
    (outsAt0 m c t.val t.isLt).1 = k0_pay5 (F := Ideal) (iblk m c 2 t) (iblk m c 3 t) (outsAt0 m c t.val t.isLt).2.2 (iblk m c 4 t) := by
  rw [acc_next m c t (by omega), outsAt0_C m c t (by omega) (by omega) h]
  frame_out
  rw [Idealize.ShloMosaic.read_unread_whole]

/-- The gain's gradient starts at nothing. -/
theorem dg_zero (t : Fin cfg0.N) (h : t.val % 12 = 0) : (outsAt0 m c t.val t.isLt).2.1 = k0_pay2 (F := Ideal) := by
  rw [outsAt0_A m c t (by omega) h (by omega)]
  frame_out

/-- A row block's last point adds the block's sums. -/
theorem dg_last (t : Fin cfg0.N) (h : t.val % 3 = 2) :
    (outsAt0 m c t.val t.isLt).2.1 = k0_pay6 (F := Ideal) (iblk m c 2 t) (outsAt0 m c t.val t.isLt).2.2 (outsAt0 m c (t.val - 1) (Nat.lt_of_le_of_lt (Nat.sub_le _ _) t.isLt)).2.1 := by
  rw [acc_next m c t (by omega), outsAt0_C m c t (by omega) (by omega) h]
  frame_out
  rw [Idealize.ShloMosaic.read_unread_whole]

/-- The other points leave it. -/
theorem dg_keep (t : Fin cfg0.N) (h : ¬t.val % 12 = 0) (h' : ¬t.val % 3 = 2) :
    (outsAt0 m c t.val t.isLt).2.1 = (outsAt0 m c (t.val - 1) (Nat.lt_of_le_of_lt (Nat.sub_le _ _) t.isLt)).2.1 := by
  by_cases h0 : t.val % 3 = 0
  · rw [outsAt0_D m c t h0 h h']
    rfl
  · rw [outsAt0_B m c t h0 h h']
    rfl

/-! ### The sums -/

/-- The gradient of the norm's output. -/
def dy (n : Fin 4096) (j : Fin 1024) : EReal := ∑ e : Fin 3072, aZ m c (ix2 n e) * aW m c (ix2 j e)

/-- The reciprocal root of a row's mean square, as the kernel has it. -/
def rs (n : Fin 4096) : EReal := Ideal.rsqrt ((∑ l : Fin 1024, aH m c (ix2 n l) * aH m c (ix2 n l)) * inv + eps)

theorem pay3_blk (a : S1024x1024.Idx → EReal) (t : Fin cfg0.N) (i j : Fin 1024) :
    k0_pay3 (F := Ideal) a (iblk m c 0 t) (iblk m c 1 t) (ix2 i j) = a (ix2 i j)
      + ∑ d : Fin 1024, aZ m c (ix2 (row (t.val / 3) i) (third (t.val % 3) d)) * aW m c (ix2 j (third (t.val % 3) d)) := by
  refine (pay3_at a (iblk m c 0 t) (iblk m c 1 t) i j).trans ?_
  refine congrArg (a (ix2 i j) + ·) (Finset.sum_congr rfl fun d _ => ?_)
  exact congrArg₂ (· * ·) (iblk_0 m c t i d) (iblk_1 m c t j d)

theorem acc_at (t : Fin cfg0.N) (i j : Fin 1024) :
    ((outsAt0 m c t.val t.isLt).2.2 : S1024x1024.Idx → EReal) (ix2 i j) = 0 + ∑ k ∈ range (t.val % 3 + 1),
      ∑ d : Fin 1024, aZ m c (ix2 (row (t.val / 3) i) (third k d)) * aW m c (ix2 j (third k d)) := by
  refine Pipeline.eq_sum_of_reset_step_apply_divmod (M := EReal) (ι := Fin 1024 × Fin 1024) (N := cfg0.N)
    (fun n h q => ((outsAt0 m c n h).2.2 : S1024x1024.Idx → EReal) (ix2 q.1 q.2)) 3 (fun _ => 0)
    (fun b k q => ∑ d : Fin 1024, aZ m c (ix2 (row b q.1) (third k d)) * aW m c (ix2 q.2 (third k d))) ?_ ?_ t (i, j)
  · intro t h q
    refine (congrFun (acc_first m c t h) _).trans ((pay3_blk m c _ t q.1 q.2).trans ?_)
    exact congrArg (· + _) (pay1_at q.1 q.2)
  · intro t h q
    exact (congrFun (acc_next m c t h) _).trans (pay3_blk m c _ t q.1 q.2)

/-- A row block's last point has the whole product. -/
theorem acc_last (t : Fin cfg0.N) (h : t.val % 3 = 2) (i j : Fin 1024) :
    ((outsAt0 m c t.val t.isLt).2.2 : S1024x1024.Idx → EReal) (ix2 i j) = dy m c (row (t.val / 3) i) j := by
  rw [acc_at, h, zero_add]
  exact sum_thirds fun e => aZ m c (ix2 (row (t.val / 3) i) e) * aW m c (ix2 j e)

theorem rs_blk (t : Fin cfg0.N) (i : Fin 1024) (z : Fin 1) :
    k0_pay4 (F := Ideal) (iblk m c 2 t) (ix2 i z) = rs m c (row (t.val / 3) i) := by
  refine (pay4_at (iblk m c 2 t) i z).trans ?_
  refine congrArg (fun s => Ideal.rsqrt (s * inv + eps)) (Finset.sum_congr rfl fun j _ => ?_)
  exact congrArg₂ (· * ·) (iblk_2 m c t i j) (iblk_2 m c t i j)

/-- The input's gradient, as the kernel has it. -/
def dx (n : Fin 4096) (j : Fin 1024) : EReal :=
  aR m c (ix2 n j) + (rs m c n * (dy m c n j * aG m c (ix1 j))
    - aH m c (ix2 n j) * ((rs m c n * rs m c n * rs m c n) * inv * ∑ l, (dy m c n l * aG m c (ix1 l)) * aH m c (ix2 n l)))

theorem dx_at (t : Fin cfg0.N) (h : t.val % 3 = 2) (i j : Fin 1024) :
    ((outsAt0 m c t.val t.isLt).1 : S1024x1024.Idx → EReal) (ix2 i j) = dx m c (row (t.val / 3) i) j := by
  refine (congrFun (dx_last m c t h) _).trans ((pay5_at (iblk m c 2 t) (iblk m c 3 t) _ (iblk m c 4 t) i j).trans ?_)
  rw [rs_blk, iblk_2, iblk_4, iblk_3, acc_last m c t h]
  refine congrArg (fun s => aR m c (ix2 (row (t.val / 3) i) j) + (_ - _ * (_ * s))) (Finset.sum_congr rfl fun l _ => ?_)
  rw [iblk_2, iblk_3, acc_last m c t h]

/-- One row's term of the gain's gradient. -/
def dgTerm (j : Fin 1024) (n : Fin 4096) : EReal := (dy m c n j * aH m c (ix2 n j)) * rs m c n

theorem dg_add (t : Fin cfg0.N) (h : t.val % 3 = 2) (j : Fin 1024) :
    ((outsAt0 m c t.val t.isLt).2.1 : S1x1024.Idx → EReal) (ix2 0 j)
      = ((outsAt0 m c (t.val - 1) (Nat.lt_of_le_of_lt (Nat.sub_le _ _) t.isLt)).2.1 : S1x1024.Idx → EReal) (ix2 0 j)
        + ∑ i : Fin 1024, dgTerm m c j (row (t.val / 3) i) := by
  refine (congrFun (dg_last m c t h) _).trans ((pay6_at (iblk m c 2 t) _ _ 0 j).trans ?_)
  refine congrArg (_ + ·) (Finset.sum_congr rfl fun i _ => ?_)
  rw [rs_blk, iblk_2, acc_last m c t h]
  rfl

/-- After a point the gain's gradient is the sum over the finished row blocks. -/
theorem dg_at (j : Fin 1024) : ∀ (n : ℕ) (h : n < cfg0.N),
    ((outsAt0 m c n h).2.1 : S1x1024.Idx → EReal) (ix2 0 j) = ∑ b ∈ range ((n + 1) / 3), ∑ i : Fin 1024, dgTerm m c j (row b i) := by
  intro n
  induction n with
  | zero =>
    intro h
    exact (congrFun (dg_zero m c ⟨0, h⟩ rfl) _).trans (pay2_at 0 j)
  | succ n ih =>
    intro h
    have h12 : n + 1 < 12 := lt_of_lt_of_eq h N_0
    by_cases h7 : (n + 1) % 3 = 2
    · have e := dg_add m c ⟨n + 1, h⟩ h7 j
      refine e.trans ?_
      have hs : (n + 1 + 1) / 3 = (n + 1) / 3 + 1 := by omega
      rw [hs, Finset.sum_range_succ]
      exact congrArg (· + _) (ih (Nat.lt_of_succ_lt h))
    · have e := congrFun (dg_keep m c ⟨n + 1, h⟩ (by show ¬(n + 1) % 12 = 0; omega) h7) (ix2 0 j)
      refine e.trans ?_
      have hs : (n + 1 + 1) / 3 = (n + 1) / 3 := by omega
      rw [hs]
      exact ih (Nat.lt_of_succ_lt h)

/-- The whole sweep leaves the sum over all rows. -/
theorem dg_end (h : 11 < cfg0.N) (j : Fin 1024) :
    ((outsAt0 m c 11 h).2.1 : S1x1024.Idx → EReal) (ix2 0 j) = ∑ n, dgTerm m c j n :=
  (dg_at m c j 11 h).trans (sum_rows (dgTerm m c j))

end

section
variable (m : (ℓ : Loc nD τ sig) → Buf (Elt Ideal) ℓ) (c : Dev nD)

/-- The first array, at an element. -/
theorem G5_at (n : Fin 4096) (j : Fin 1024) : (G5 m c : S4096x1024.Idx → EReal) (ix2 n j) = dx m c n j := by
  have hn := n.isLt
  have hj := j.isLt
  have hp : pt5Of (ix2 n j) = 3 * (n.val / 1024) + 2 := by
    show 3 * (1 * (n.val / 1024 - 0) + 1 * (j.val / 1024 - 0)) + 2 = _
    omega
  have hlt : 3 * (n.val / 1024) + 2 < cfg0.N := lt_of_lt_of_eq (by omega) N_0.symm
  have hl : loc5Of (ix2 n j) = ix2 (⟨n.val % 1024, Nat.mod_lt _ (by decide)⟩ : Fin 1024) j := by
    funext a
    refine Fin.ext ?_
    match a with
    | ⟨0, _⟩ => rfl
    | ⟨1, _⟩ => exact Nat.mod_eq_of_lt hj
  unfold G5
  rw [dif_pos (by rw [hp]; exact hlt), hl, fold0_congr m c _ _ _ (by rw [Nat.zero_add]; exact hlt) hp]
  refine (congrFun (congrArg Prod.fst (outsAt0_sweep m c _ hlt).symm) _).trans ?_
  refine (dx_at m c ⟨3 * (n.val / 1024) + 2, hlt⟩ (by show (3 * (n.val / 1024) + 2) % 3 = 2; omega) _ j).trans ?_
  refine congrArg (fun q => dx m c q j) (Fin.ext ?_)
  show (1024 * ((3 * (n.val / 1024) + 2) / 3) + n.val % 1024) % 4096 = n.val
  omega

/-- The second. -/
theorem G6_at (j : Fin 1024) : (G6 m c : S1x1024.Idx → EReal) (ix2 0 j) = ∑ n, dgTerm m c j n := by
  rw [G6_last, ← outsAt0_sweep m c 11 (lt_of_lt_of_eq (by decide) N_0.symm)]
  exact dg_end m c _ j

/-- The reference's gradient of the norm's output is the kernel's. -/
theorem refD_dy (n : Fin 4096) (j : Fin 1024) : refD (aZ m c) (aW m c) (ix2 n j) = dy m c n j := refD_at (aZ m c) (aW m c) n j

theorem eq_dx : (G5 m c : S4096x1024.Idx → EReal) = refDh (aR m c) (aH m c) (refU (refD (aZ m c) (aW m c)) (aG m c))
    (refB (refC (refS (aH m c) (refU (refD (aZ m c) (aW m c)) (aG m c))) (refV (aH m c)))) (refV (aH m c)) := by
  refine funext fun i : S4096x1024.Idx => ?_
  obtain ⟨n, j, rfl⟩ : ∃ (n : Fin 4096) (j : Fin 1024), i = ix2 n j := ⟨_, _, eq_ix2 i⟩
  rw [G5_at, refDh_at, refB_at, refC_at, refS_at]
  have hu : ∀ l : Fin 1024, refU (refD (aZ m c) (aW m c)) (aG m c) (ix2 n l) = dy m c n l * aG m c (ix1 l) := fun l => by
    rw [refU_at, refD_dy]
  simp only [hu]
  exact (UpMath.row (fun l => aH m c (ix2 n l)) (fun l => dy m c n l * aG m c (ix1 l)) (aR m c (ix2 n j)) j (rs m c n)
    (refV (aH m c) (ix2 n 0)) _ rfl (refV_at (aH m c) n 0) rfl).2

/-- One term of the gain's gradient, as the kernel and as the reference have it. -/
theorem dgTerm_eq (n : Fin 4096) (j : Fin 1024) :
    dgTerm m c j n = (aH m c (ix2 n j) * Ideal.rsqrt (refV (aH m c) (ix2 n 0))) * refD (aZ m c) (aW m c) (ix2 n j) := by
  have e := (UpMath.row (fun l => aH m c (ix2 n l)) (fun l => dy m c n l * aG m c (ix1 l)) (aR m c (ix2 n j)) j (rs m c n)
    (refV (aH m c) (ix2 n 0)) _ rfl (refV_at (aH m c) n 0) rfl).1
  rw [refD_dy, ← e]
  show (dy m c n j * aH m c (ix2 n j)) * rs m c n = (aH m c (ix2 n j) * rs m c n) * dy m c n j
  rw [mul_comm (aH m c (ix2 n j) * rs m c n), mul_assoc]

theorem dg_sum (j : Fin 1024) : ∑ n, dgTerm m c j n = refDg (aH m c) (refD (aZ m c) (aW m c)) (refV (aH m c)) (ix2 0 j) :=
  (Finset.sum_congr rfl fun n _ => dgTerm_eq m c n j).trans (refDg_at (aH m c) (refD (aZ m c) (aW m c)) (refV (aH m c)) 0 j).symm

theorem eq_dg : (G6 m c : S1x1024.Idx → EReal) = refDg (aH m c) (refD (aZ m c) (aW m c)) (refV (aH m c)) := by
  refine funext fun i : S1x1024.Idx => ?_
  obtain ⟨z, j, rfl⟩ : ∃ (z : Fin 1) (j : Fin 1024), i = ix2 z j := ⟨_, _, eq_ix2 i⟩
  rw [Subsingleton.elim z 0]
  exact (G6_at m c j).trans (dg_sum m c j)

end

section
variable (m' : (ℓ : Loc Cert.ReferenceInDgIdeal.nD Cert.ReferenceInDgIdeal.τ Cert.ReferenceInDgIdeal.sig) → Buf (Elt Ideal) ℓ) (c : Dev Cert.ReferenceInDgIdeal.nD)

theorem ref_dx (du w h g r) (h0 : m' (c.tc.loc Cert.ReferenceInDgIdeal.main_arg0) = du) (h1 : m' (c.tc.loc Cert.ReferenceInDgIdeal.main_arg1) = w)
    (h2 : m' (c.tc.loc Cert.ReferenceInDgIdeal.main_arg2) = h) (h3 : m' (c.tc.loc Cert.ReferenceInDgIdeal.main_arg3) = g)
    (h4 : m' (c.tc.loc Cert.ReferenceInDgIdeal.main_arg4) = r) :
    Cert.ReferenceInDgIdeal.Value.res_main_v38 m' c = refDh r h (refU (refD du w) g) (refB (refC (refS h (refU (refD du w) g)) (refV h))) (refV h) := by
  subst h0 h1 h2 h3 h4
  rfl

/-- The reference's run: its two arrays, its arguments as they were. -/
theorem ref_run (ρ' : Dev Cert.ReferenceInDgIdeal.nD → PrngReg) :
    θ_run (Cert.ReferenceInDgIdeal.defs (F := Ideal)) (onTc (τ := Cert.ReferenceInDgIdeal.τ) (Cert.ReferenceInDgIdeal.main (F := Ideal))) ⟨m', fun _ => 0, ρ'⟩ (fun r => ∀ c : Dev Cert.ReferenceInDgIdeal.nD,
      r.2.mem ((c.tc : Thread Cert.ReferenceInDgIdeal.nD Cert.ReferenceInDgIdeal.τ).loc Cert.ReferenceInDgIdeal.main_v38) = Cert.ReferenceInDgIdeal.Value.res_main_v38 m' c
      ∧ r.2.mem ((c.tc : Thread Cert.ReferenceInDgIdeal.nD Cert.ReferenceInDgIdeal.τ).loc Cert.ReferenceInDgIdeal.main_v39)
        = refDg (m' (c.tc.loc Cert.ReferenceInDgIdeal.main_arg2)) (refD (m' (c.tc.loc Cert.ReferenceInDgIdeal.main_arg0)) (m' (c.tc.loc Cert.ReferenceInDgIdeal.main_arg1))) (refV (m' (c.tc.loc Cert.ReferenceInDgIdeal.main_arg2)))
      ∧ r.2.mem ((c.tc : Thread Cert.ReferenceInDgIdeal.nD Cert.ReferenceInDgIdeal.τ).loc Cert.ReferenceInDgIdeal.main_arg0) = m' ((c.tc : Thread Cert.ReferenceInDgIdeal.nD Cert.ReferenceInDgIdeal.τ).loc Cert.ReferenceInDgIdeal.main_arg0)
      ∧ r.2.mem ((c.tc : Thread Cert.ReferenceInDgIdeal.nD Cert.ReferenceInDgIdeal.τ).loc Cert.ReferenceInDgIdeal.main_arg1) = m' ((c.tc : Thread Cert.ReferenceInDgIdeal.nD Cert.ReferenceInDgIdeal.τ).loc Cert.ReferenceInDgIdeal.main_arg1)
      ∧ r.2.mem ((c.tc : Thread Cert.ReferenceInDgIdeal.nD Cert.ReferenceInDgIdeal.τ).loc Cert.ReferenceInDgIdeal.main_arg2) = m' ((c.tc : Thread Cert.ReferenceInDgIdeal.nD Cert.ReferenceInDgIdeal.τ).loc Cert.ReferenceInDgIdeal.main_arg2)
      ∧ r.2.mem ((c.tc : Thread Cert.ReferenceInDgIdeal.nD Cert.ReferenceInDgIdeal.τ).loc Cert.ReferenceInDgIdeal.main_arg3) = m' ((c.tc : Thread Cert.ReferenceInDgIdeal.nD Cert.ReferenceInDgIdeal.τ).loc Cert.ReferenceInDgIdeal.main_arg3)
      ∧ r.2.mem ((c.tc : Thread Cert.ReferenceInDgIdeal.nD Cert.ReferenceInDgIdeal.τ).loc Cert.ReferenceInDgIdeal.main_arg4) = m' ((c.tc : Thread Cert.ReferenceInDgIdeal.nD Cert.ReferenceInDgIdeal.τ).loc Cert.ReferenceInDgIdeal.main_arg4)) :=
  (θ_run _ _ _).mono (fun r h c => ⟨(h c).1, (h c).2.1.trans rfl, (h c).2.2⟩) (Cert.ReferenceInDgIdeal.Value.run m' ρ')

end

/-- The kernel and the reference end at the same two arrays, whatever the arguments. -/
theorem algebraic : Cert.algebraic_KernelInDgIdeal_ReferenceInDgIdeal := fun m ρ m' ρ' _ hargs => by
  refine ⟨fun c => G5 m c, fun c => G6 m c, Cert.KernelInDgIdeal.Value.run m ρ, ?_⟩
  refine (θ_run _ _ _).mono (fun r h c => ?_) (ref_run m' ρ')
  obtain ⟨a0, a1, a2, a3, a4⟩ := hargs c
  refine ⟨((h c).1.trans (ref_dx m' c _ _ _ _ _ a0 a1 a2 a3 a4)).trans (eq_dx m c).symm, ?_, (h c).2.2⟩
  have e := (h c).2.1
  rw [a0, a1, a2] at e
  exact e.trans (eq_dg m c).symm

end Cert.Proof.Ffn.InDg

end
-- ==== Proof.Ffn.InWg.lean ====
/-
  The gradient of the input projection: the kernel's array is the reference's.
-/
module

public import proofs.«01_k».proof.Proof.Gen.KernelInWgIdeal.Value
public import proofs.«01_k».proof.Proof.Gen.ReferenceInWgIdeal.Run
public import proofs.«01_k».proof.Proof.Ffn.Sums
public import Idealize.ShloMosaic.Lib.Pipeline.ValueKit
public import Idealize.ShloMosaic.Lib.Pipeline.ReadBack
public import Idealize.ShloMosaic.Lib.StableHlo.ReadAt
public import proofs.«01_k».proof.Defs

@[expose] public section

set_option maxRecDepth 16384

noncomputable section

namespace Cert.Proof.Ffn.InWg

open Finset
open Idealize.ShloMosaic Idealize.ShloMosaic.TcCoe Idealize.SL.Sem

section
open Cert.ReferenceInWgIdeal Cert.ReferenceInWgIdeal.Gen

/-! ### The reference -/

/-- The reference's array. -/
def ref (x : FVec Ideal S4096x1024 .f32) (g : FVec Ideal S4096x3072 .f32) : FVec Ideal S1024x3072 .bf16 :=
  truncf .bf16 (transpose S1024x3072 [1, 0] (Host.dotGeneral dot_S4096x3072_S4096x1024_S3072x1024_0_0_1_1_n_n none g x)
    transposes_S3072x1024_S1024x3072_1_0) bitsLt_bf16_f32

theorem ref_at (x : FVec Ideal S4096x1024 .f32) (g : FVec Ideal S4096x3072 .f32) (i : Fin 1024) (e : Fin 3072) :
    ref x g (ix2 i e) = ∑ n : Fin 4096, (g (ix2 n e) : EReal) * x (ix2 n i) := by
  unfold ref
  pointwise

end

open Cert.KernelInWgIdeal Cert.KernelInWgIdeal.Gen
open Cert.KernelInWgIdeal.Value (G2 pt2Of loc2Of outsAt0_sweep fold0_congr)

/-! ### The values of a grid point -/

theorem pay1_at (i : Fin 1024) (j : Fin 1024) : k0_pay1 (F := Ideal) (ix2 i j) = (0 : EReal) := by
  unfold k0_pay1
  pointwise

theorem pay2_at (a : Vec Ideal S1024x1024 .f32) (x : Vec Ideal S1024x1024 .bf16) (y : Vec Ideal S1024x1024 .bf16) (i : Fin 1024) (j : Fin 1024) :
    k0_pay2 (F := Ideal) a x y (ix2 i j) = (a (ix2 i j) : EReal) + ∑ n : Fin 1024, (x (ix2 n i) : EReal) * y (ix2 n j) := by
  unfold k0_pay2
  pointwise

theorem pay3_at (a : Vec Ideal S1024x1024 .f32) (i : Fin 1024) (j : Fin 1024) :
    k0_pay3 (F := Ideal) a (ix2 i j) = (a (ix2 i j) : EReal) := by
  unfold k0_pay3
  pointwise

section
variable (m : (ℓ : Loc nD τ sig) → Buf (Elt Ideal) ℓ) (c : Dev nD)

/-- The two arguments as arrays of extended reals. -/
abbrev aX : S4096x1024.Idx → EReal := m (c.tc.loc main_arg0)
abbrev aZ : S4096x3072.Idx → EReal := m (c.tc.loc main_arg1)

/-! ### The blocks -/

theorem V_0 (n : Fin 4096) (j : Fin 1024) : (V m c main_v0 : S4096x1024.Idx → EReal) (ix2 n j) = aX m c (ix2 n j) := by
  unfold V
  after_reads_at

theorem V_arg1 (n : Fin 4096) (e : Fin 3072) : (V m c main_arg1 : S4096x3072.Idx → EReal) (ix2 n e) = aZ m c (ix2 n e) := by
  unfold V
  after_reads_simp

theorem idx_0 : ∀ t : Fin grid0.N, win0_0.index t = ![t.val % 4, 0] := by decide +kernel
theorem idx_1 : ∀ t : Fin grid0.N, win0_1.index t = ![t.val % 4, t.val / 4] := by decide +kernel

theorem lt12 (t : Fin cfg0.N) : t.val < 12 := lt_of_lt_of_eq t.isLt N_0

theorem emb_0 (t : Fin cfg0.N) (i j : Fin 1024) : (win0_0.blk t).view.emb (ix2 i j) = ix2 (row (t.val % 4) i) j := by
  funext a
  refine Fin.ext ?_
  match a with
  | ⟨0, _⟩ => blk_simp [idx_0]; show t.val % 4 * 1024 + i.val = (1024 * (t.val % 4) + i.val) % 4096; have := i.isLt; omega
  | ⟨1, _⟩ => blk_simp [idx_0]

theorem emb_1 (t : Fin cfg0.N) (i j : Fin 1024) : (win0_1.blk t).view.emb (ix2 i j) = ix2 (row (t.val % 4) i) (third (t.val / 4) j) := by
  funext a
  refine Fin.ext ?_
  match a with
  | ⟨0, _⟩ => blk_simp [idx_1]; show t.val % 4 * 1024 + i.val = (1024 * (t.val % 4) + i.val) % 4096; have := i.isLt; omega
  | ⟨1, _⟩ => blk_simp [idx_1]; show t.val / 4 * 1024 + j.val = (1024 * (t.val / 4) + j.val) % 3072; have := j.isLt; have := lt12 t; omega

theorem read_0 (x : S4096x1024.Idx → EReal) (t : Fin cfg0.N) (i j : Fin 1024) :
    ((win0_0.blk t).view.read (Elt Ideal) x : S1024x1024.Idx → EReal) (ix2 i j) = x (ix2 (row (t.val % 4) i) j) := by
  blk_simp
  exact congrArg x (emb_0 t i j)
theorem read_1 (x : S4096x3072.Idx → EReal) (t : Fin cfg0.N) (i j : Fin 1024) :
    ((win0_1.blk t).view.read (Elt Ideal) x : S1024x1024.Idx → EReal) (ix2 i j) = x (ix2 (row (t.val % 4) i) (third (t.val / 4) j)) := by
  blk_simp
  exact congrArg x (emb_1 t i j)

theorem iblk_0 (t : Fin cfg0.N) (i j : Fin 1024) : (iblk m c 0 t : S1024x1024.Idx → EReal) (ix2 i j) = aX m c (ix2 (row (t.val % 4) i) j) :=
  (read_0 (V m c main_v0) t i j).trans (V_0 m c _ _)
theorem iblk_1 (t : Fin cfg0.N) (i j : Fin 1024) :
    (iblk m c 1 t : S1024x1024.Idx → EReal) (ix2 i j) = aZ m c (ix2 (row (t.val % 4) i) (third (t.val / 4) j)) :=
  (read_1 (V m c main_arg1) t i j).trans (V_arg1 m c _ _)

/-! ### The sum over the row blocks -/

theorem acc_first (t : Fin cfg0.N) (h : t.val % 4 = 0) :
    (outsAt0 m c t.val t.isLt).2 = k0_pay2 (F := Ideal) (k0_pay1 (F := Ideal)) (iblk m c 0 t) (iblk m c 1 t) := by
  rw [outsAt0_A m c t h (by omega)]
  frame_out

theorem acc_next (t : Fin cfg0.N) (h : ¬t.val % 4 = 0) :
    (outsAt0 m c t.val t.isLt).2 = k0_pay2 (F := Ideal) (outsAt0 m c (t.val - 1) (Nat.lt_of_le_of_lt (Nat.sub_le _ _) t.isLt)).2 (iblk m c 0 t) (iblk m c 1 t) := by
  by_cases h2 : t.val % 4 = 3
  · rw [outsAt0_C m c t h h2]
    frame_out
    rw [Idealize.ShloMosaic.read_unread_whole]
  · rw [outsAt0_B m c t h h2]
    frame_out
    rw [Idealize.ShloMosaic.read_unread_whole]

theorem out_last (t : Fin cfg0.N) (h : t.val % 4 = 3) : (outsAt0 m c t.val t.isLt).1 = k0_pay3 (F := Ideal) (outsAt0 m c t.val t.isLt).2 := by
  rw [acc_next m c t (by omega), outsAt0_C m c t (by omega) h]
  frame_out
  rw [Idealize.ShloMosaic.read_unread_whole]

theorem pay2_blk (a : S1024x1024.Idx → EReal) (t : Fin cfg0.N) (i : Fin 1024) (j : Fin 1024) :
    k0_pay2 (F := Ideal) a (iblk m c 0 t) (iblk m c 1 t) (ix2 i j) = a (ix2 i j)
      + ∑ n : Fin 1024, aX m c (ix2 (row (t.val % 4) n) i) * aZ m c (ix2 (row (t.val % 4) n) (third (t.val / 4) j)) := by
  refine (pay2_at a (iblk m c 0 t) (iblk m c 1 t) i j).trans ?_
  refine congrArg (a (ix2 i j) + ·) (Finset.sum_congr rfl fun n _ => ?_)
  exact congrArg₂ (· * ·) (iblk_0 m c t n i) (iblk_1 m c t n j)

theorem acc_at (t : Fin cfg0.N) (i : Fin 1024) (j : Fin 1024) :
    ((outsAt0 m c t.val t.isLt).2 : S1024x1024.Idx → EReal) (ix2 i j) = 0 + ∑ k ∈ range (t.val % 4 + 1),
      ∑ n : Fin 1024, aX m c (ix2 (row k n) i) * aZ m c (ix2 (row k n) (third (t.val / 4) j)) := by
  refine Pipeline.eq_sum_of_reset_step_apply_divmod (M := EReal) (ι := Fin 1024 × Fin 1024) (N := cfg0.N)
    (fun n h q => ((outsAt0 m c n h).2 : S1024x1024.Idx → EReal) (ix2 q.1 q.2)) 4 (fun _ => 0)
    (fun b k q => ∑ n : Fin 1024, aX m c (ix2 (row k n) q.1) * aZ m c (ix2 (row k n) (third b q.2))) ?_ ?_ t (i, j)
  · intro t h q
    refine (congrFun (acc_first m c t h) _).trans ((pay2_blk m c _ t q.1 q.2).trans ?_)
    exact congrArg (· + _) (pay1_at q.1 q.2)
  · intro t h q
    exact (congrFun (acc_next m c t h) _).trans (pay2_blk m c _ t q.1 q.2)

/-- The weight's gradient. -/
def dw (i : Fin 1024) (e : Fin 3072) : EReal := ∑ n : Fin 4096, aX m c (ix2 n i) * aZ m c (ix2 n e)

theorem out_at (t : Fin cfg0.N) (h : t.val % 4 = 3) (i : Fin 1024) (j : Fin 1024) :
    ((outsAt0 m c t.val t.isLt).1 : S1024x1024.Idx → EReal) (ix2 i j) = dw m c i (third (t.val / 4) j) := by
  refine (congrFun (out_last m c t h) _).trans ((pay3_at _ i j).trans ?_)
  rw [acc_at, h, zero_add]
  exact sum_rows fun n => aX m c (ix2 n i) * aZ m c (ix2 n (third (t.val / 4) j))

/-- The array, at an element. -/
theorem G2_at (i : Fin 1024) (e : Fin 3072) : (G2 m c : S1024x3072.Idx → EReal) (ix2 i e) = dw m c i e := by
  have hi := i.isLt
  have he := e.isLt
  have hp : pt2Of (ix2 i e) = 4 * (e.val / 1024) + 3 := by
    show 4 * (3 * (i.val / 1024 - 0) + 1 * (e.val / 1024 - 0)) + 3 = _
    omega
  have hlt : 4 * (e.val / 1024) + 3 < cfg0.N := lt_of_lt_of_eq (by omega) N_0.symm
  have hl : loc2Of (ix2 i e) = ix2 i (⟨e.val % 1024, Nat.mod_lt _ (by decide)⟩ : Fin 1024) := by
    funext a
    refine Fin.ext ?_
    match a with
    | ⟨0, _⟩ => exact Nat.mod_eq_of_lt hi
    | ⟨1, _⟩ => rfl
  unfold G2
  rw [dif_pos (by rw [hp]; exact hlt), hl, fold0_congr m c _ _ _ (by rw [Nat.zero_add]; exact hlt) hp]
  refine (congrFun (congrArg Prod.fst (outsAt0_sweep m c _ hlt).symm) _).trans ?_
  refine (out_at m c ⟨4 * (e.val / 1024) + 3, hlt⟩ (by show (4 * (e.val / 1024) + 3) % 4 = 3; omega) i _).trans ?_
  refine congrArg (fun q => dw m c i q) (Fin.ext ?_)
  show (1024 * ((4 * (e.val / 1024) + 3) / 4) + e.val % 1024) % 3072 = e.val
  omega

theorem dw_ref (i : Fin 1024) (e : Fin 3072) : dw m c i e = ref (aX m c) (aZ m c) (ix2 i e) :=
  (Finset.sum_congr rfl fun n _ => mul_comm _ _).trans (ref_at (aX m c) (aZ m c) i e).symm

theorem eq_out : (G2 m c : S1024x3072.Idx → EReal) = ref (aX m c) (aZ m c) := by
  refine funext fun i : S1024x3072.Idx => ?_
  obtain ⟨n, j, rfl⟩ : ∃ (n : Fin 1024) (j : Fin 3072), i = ix2 n j := ⟨_, _, eq_ix2 i⟩
  exact (G2_at m c n j).trans (dw_ref m c n j)

end

/-- The kernel and the reference end at the same array, whatever the arguments. -/
theorem algebraic : Cert.algebraic_KernelInWgIdeal_ReferenceInWgIdeal := fun m ρ m' ρ' _ hargs => by
  refine ⟨fun c => G2 m c, Cert.KernelInWgIdeal.Value.run m ρ, ?_⟩
  refine (θ_run _ _ _).mono (fun r h c => ?_) (Cert.ReferenceInWgIdeal.Value.run m' ρ')
  obtain ⟨a0, a1⟩ := hargs c
  have e := (h c).1
  rw [a0, a1] at e
  exact ⟨e.trans (eq_out m c).symm, (h c).2⟩

end Cert.Proof.Ffn.InWg

end
-- ==== Proof.Ffn.OutDg.lean ====
/-
  The gradient of the heads' outputs through the output projection: the kernel's array is the reference's.
-/
module

public import proofs.«01_k».proof.Proof.Gen.KernelOutDgIdeal.Value
public import proofs.«01_k».proof.Proof.Gen.ReferenceOutDgIdeal.Run
public import proofs.«01_k».proof.Proof.Ffn.Sums
public import Idealize.ShloMosaic.Lib.Pipeline.ValueKit
public import Idealize.ShloMosaic.Lib.Pipeline.ReadBack
public import Idealize.ShloMosaic.Lib.StableHlo.ReadAt
public import proofs.«01_k».proof.Defs

@[expose] public section

set_option maxRecDepth 16384

noncomputable section

namespace Cert.Proof.Ffn.OutDg

open Finset
open Idealize.ShloMosaic Idealize.ShloMosaic.TcCoe Idealize.SL.Sem

section
open Cert.ReferenceOutDgIdeal Cert.ReferenceOutDgIdeal.Gen

/-! ### The reference -/

/-- The reference's array. -/
def ref (g : FVec Ideal S4096x1024 .f32) (w : FVec Ideal S1536x1024 .f32) : FVec Ideal S4096x1536 .f32 :=
  Host.dotGeneral dot_S4096x1024_S1536x1024_S4096x1536_1_1_0_0_n_n none g w

theorem ref_at (g : FVec Ideal S4096x1024 .f32) (w : FVec Ideal S1536x1024 .f32) (n : Fin 4096) (e : Fin 1536) :
    ref g w (ix2 n e) = ∑ l : Fin 1024, (g (ix2 n l) : EReal) * w (ix2 e l) := by
  unfold ref
  pointwise

end

open Cert.KernelOutDgIdeal Cert.KernelOutDgIdeal.Gen
open Cert.KernelOutDgIdeal.Value (flushed2 blocks2)

/-! ### The values of a grid point -/

theorem pay1_at (i : Fin 1024) (j : Fin 768) : k0_pay1 (F := Ideal) (ix2 i j) = (0 : EReal) := by
  unfold k0_pay1
  pointwise

theorem pay2_at (a : Vec Ideal S1024x768 .f32) (x : Vec Ideal S1024x1024 .f32) (y : Vec Ideal S768x1024 .bf16) (i : Fin 1024) (j : Fin 768) :
    k0_pay2 (F := Ideal) a x y (ix2 i j) = (a (ix2 i j) : EReal) + ∑ l : Fin 1024, (x (ix2 i l) : EReal) * y (ix2 j l) := by
  unfold k0_pay2
  pointwise

section
variable (m : (ℓ : Loc nD τ sig) → Buf (Elt Ideal) ℓ) (c : Dev nD)

/-- The two arguments as arrays of extended reals. -/
abbrev aG : S4096x1024.Idx → EReal := m (c.tc.loc main_arg0)
abbrev aW : S1536x1024.Idx → EReal := m (c.tc.loc main_arg1)

/-! ### The blocks -/

theorem V_arg0 (n : Fin 4096) (j : Fin 1024) : (V m c main_arg0 : S4096x1024.Idx → EReal) (ix2 n j) = aG m c (ix2 n j) := by
  unfold V
  after_reads_simp

theorem V_0 (e : Fin 1536) (j : Fin 1024) : (V m c main_v0 : S1536x1024.Idx → EReal) (ix2 e j) = aW m c (ix2 e j) := by
  unfold V
  after_reads_at

theorem idx_0 : ∀ t : Fin grid0.N, win0_0.index t = ![t.val / 2, 0] := by decide +kernel
theorem idx_1 : ∀ t : Fin grid0.N, win0_1.index t = ![t.val % 2, 0] := by decide +kernel
theorem idx_2 : ∀ t : Fin grid0.N, win0_2.index t = ![t.val / 2, t.val % 2] := by decide +kernel

theorem lt8 (t : Fin cfg0.N) : t.val < 8 := lt_of_lt_of_eq t.isLt N_0

theorem emb_0 (t : Fin cfg0.N) (i j : Fin 1024) : (win0_0.blk t).view.emb (ix2 i j) = ix2 (row (t.val / 2) i) j := by
  funext a
  refine Fin.ext ?_
  match a with
  | ⟨0, _⟩ => blk_simp [idx_0]; show t.val / 2 * 1024 + i.val = (1024 * (t.val / 2) + i.val) % 4096; have := i.isLt; have := lt8 t; omega
  | ⟨1, _⟩ => blk_simp [idx_0]

theorem emb_1 (t : Fin cfg0.N) (d : Fin 768) (j : Fin 1024) : (win0_1.blk t).view.emb (ix2 d j) = ix2 (wide (t.val % 2) d) j := by
  funext a
  refine Fin.ext ?_
  match a with
  | ⟨0, _⟩ => blk_simp [idx_1]; show t.val % 2 * 768 + d.val = (768 * (t.val % 2) + d.val) % 1536; have := d.isLt; omega
  | ⟨1, _⟩ => blk_simp [idx_1]

theorem emb_2 (t : Fin cfg0.N) (i : Fin 1024) (d : Fin 768) : (win0_2.blk t).view.emb (ix2 i d) = ix2 (row (t.val / 2) i) (wide (t.val % 2) d) := by
  funext a
  refine Fin.ext ?_
  match a with
  | ⟨0, _⟩ => blk_simp [idx_2]; show t.val / 2 * 1024 + i.val = (1024 * (t.val / 2) + i.val) % 4096; have := i.isLt; have := lt8 t; omega
  | ⟨1, _⟩ => blk_simp [idx_2]; show t.val % 2 * 768 + d.val = (768 * (t.val % 2) + d.val) % 1536; have := d.isLt; omega

theorem read_0 (x : S4096x1024.Idx → EReal) (t : Fin cfg0.N) (i j : Fin 1024) :
    ((win0_0.blk t).view.read (Elt Ideal) x : S1024x1024.Idx → EReal) (ix2 i j) = x (ix2 (row (t.val / 2) i) j) := by
  blk_simp
  exact congrArg x (emb_0 t i j)
theorem read_1 (x : S1536x1024.Idx → EReal) (t : Fin cfg0.N) (d : Fin 768) (j : Fin 1024) :
    ((win0_1.blk t).view.read (Elt Ideal) x : S768x1024.Idx → EReal) (ix2 d j) = x (ix2 (wide (t.val % 2) d) j) := by
  blk_simp
  exact congrArg x (emb_1 t d j)
theorem read_2 (x : S4096x1536.Idx → EReal) (t : Fin cfg0.N) (i : Fin 1024) (d : Fin 768) :
    ((win0_2.blk t).view.read (Elt Ideal) x : S1024x768.Idx → EReal) (ix2 i d) = x (ix2 (row (t.val / 2) i) (wide (t.val % 2) d)) := by
  blk_simp
  exact congrArg x (emb_2 t i d)

theorem iblk_0 (t : Fin cfg0.N) (i j : Fin 1024) : (iblk m c 0 t : S1024x1024.Idx → EReal) (ix2 i j) = aG m c (ix2 (row (t.val / 2) i) j) :=
  (read_0 (V m c main_arg0) t i j).trans (V_arg0 m c _ _)
theorem iblk_1 (t : Fin cfg0.N) (d : Fin 768) (j : Fin 1024) : (iblk m c 1 t : S768x1024.Idx → EReal) (ix2 d j) = aW m c (ix2 (wide (t.val % 2) d) j) :=
  (read_1 (V m c main_v0) t d j).trans (V_0 m c _ _)

/-! ### The array, block by block -/

theorem outs (t : Fin cfg0.N) : outsAt0 m c t = k0_pay2 (F := Ideal) (k0_pay1 (F := Ideal)) (iblk m c 0 t) (iblk m c 1 t) := by
  unfold outsAt0
  frame_out

/-- The heads' gradient. -/
def da (n : Fin 4096) (e : Fin 1536) : EReal := ∑ l : Fin 1024, aG m c (ix2 n l) * aW m c (ix2 e l)

theorem pay2_blk (t : Fin cfg0.N) (i : Fin 1024) (j : Fin 768) :
    k0_pay2 (F := Ideal) (k0_pay1 (F := Ideal)) (iblk m c 0 t) (iblk m c 1 t) (ix2 i j) = da m c (row (t.val / 2) i) (wide (t.val % 2) j) := by
  refine (pay2_at (k0_pay1 (F := Ideal)) (iblk m c 0 t) (iblk m c 1 t) i j).trans ?_
  refine (congrArg (· + _) (pay1_at i j)).trans ((zero_add _).trans (Finset.sum_congr rfl fun l _ => ?_))
  exact congrArg₂ (· * ·) (iblk_0 m c t i l) (iblk_1 m c t j l)

theorem out_at (t : Fin cfg0.N) (i : Fin 1024) (j : Fin 768) :
    (outsAt0 m c t : S1024x768.Idx → EReal) (ix2 i j) = da m c (row (t.val / 2) i) (wide (t.val % 2) j) :=
  (congrFun (outs m c t) _).trans (pay2_blk m c t i j)

/-- Every grid point writes its block back. -/
theorem flush_2 : ∀ t : Fin cfg0.N, (cfg0.win 2).flush t = true :=
  (by decide +kernel : ∀ t : Fin grid0.N, win0_2.flush t = true)

/-- The array after the run. -/
abbrev G2 : S4096x1536.Idx → EReal := (dats m 0 c).arrAt 2 cfg0.N

theorem block_at (t : Fin cfg0.N) (i : Fin 1024) (j : Fin 768) :
    G2 m c (ix2 (row (t.val / 2) i) (wide (t.val % 2) j)) = da m c (row (t.val / 2) i) (wide (t.val % 2) j) := by
  refine (read_2 (G2 m c) t i j).symm.trans ?_
  refine (congrFun (blocks2 m c t (flush_2 t)) (ix2 i j)).trans ?_
  refine (congrFun (flushed2 m c t) (ix2 i j)).trans ?_
  exact out_at m c t i j

/-- The array, at an element. -/
theorem G2_at (n : Fin 4096) (e : Fin 1536) : G2 m c (ix2 n e) = da m c n e := by
  have hn := n.isLt
  have he := e.isLt
  have hlt : 2 * (n.val / 1024) + e.val / 768 < cfg0.N := lt_of_lt_of_eq (by omega) N_0.symm
  have e0 : row ((2 * (n.val / 1024) + e.val / 768) / 2) ⟨n.val % 1024, Nat.mod_lt _ (by decide)⟩ = n :=
    Fin.ext (by show (1024 * ((2 * (n.val / 1024) + e.val / 768) / 2) + n.val % 1024) % 4096 = n.val; omega)
  have e1 : wide ((2 * (n.val / 1024) + e.val / 768) % 2) ⟨e.val % 768, Nat.mod_lt _ (by decide)⟩ = e :=
    Fin.ext (by show (768 * ((2 * (n.val / 1024) + e.val / 768) % 2) + e.val % 768) % 1536 = e.val; omega)
  have h := block_at m c ⟨2 * (n.val / 1024) + e.val / 768, hlt⟩ ⟨n.val % 1024, Nat.mod_lt _ (by decide)⟩ ⟨e.val % 768, Nat.mod_lt _ (by decide)⟩
  dsimp only at h
  rw [e0, e1] at h
  exact h

theorem da_ref (n : Fin 4096) (e : Fin 1536) : da m c n e = ref (aG m c) (aW m c) (ix2 n e) :=
  (ref_at (aG m c) (aW m c) n e).symm

theorem eq_out : G2 m c = ref (aG m c) (aW m c) := by
  refine funext fun i : S4096x1536.Idx => ?_
  obtain ⟨n, e, rfl⟩ : ∃ (n : Fin 4096) (e : Fin 1536), i = ix2 n e := ⟨_, _, eq_ix2 i⟩
  exact (G2_at m c n e).trans (da_ref m c n e)

end

/-- The kernel and the reference end at the same array, whatever the arguments. -/
theorem algebraic : Cert.algebraic_KernelOutDgIdeal_ReferenceOutDgIdeal := fun m ρ m' ρ' _ hargs => by
  refine ⟨fun c => G2 m c, Cert.KernelOutDgIdeal.Value.run_blocks m ρ, ?_⟩
  refine (θ_run _ _ _).mono (fun r h c => ?_) (Cert.ReferenceOutDgIdeal.Value.run m' ρ')
  obtain ⟨a0, a1⟩ := hargs c
  have e := (h c).1
  rw [a0, a1] at e
  exact ⟨e.trans (eq_out m c).symm, (h c).2⟩

end Cert.Proof.Ffn.OutDg

end
-- ==== Proof.Ffn.OutWg.lean ====
/-
  The gradient of the output projection: the kernel's array is the reference's.
-/
module

public import proofs.«01_k».proof.Proof.Gen.KernelOutWgIdeal.Value
public import proofs.«01_k».proof.Proof.Gen.ReferenceOutWgIdeal.Run
public import proofs.«01_k».proof.Proof.Ffn.Sums
public import Idealize.ShloMosaic.Lib.Pipeline.ValueKit
public import Idealize.ShloMosaic.Lib.Pipeline.ReadBack
public import Idealize.ShloMosaic.Lib.StableHlo.ReadAt
public import proofs.«01_k».proof.Defs

@[expose] public section

set_option maxRecDepth 16384

noncomputable section

namespace Cert.Proof.Ffn.OutWg

open Finset
open Idealize.ShloMosaic Idealize.ShloMosaic.TcCoe Idealize.SL.Sem

section
open Cert.ReferenceOutWgIdeal Cert.ReferenceOutWgIdeal.Gen

/-! ### The reference -/

/-- The reference's array. -/
def ref (a : FVec Ideal S4096x1536 .f32) (g : FVec Ideal S4096x1024 .f32) : FVec Ideal S1536x1024 .bf16 :=
  truncf .bf16 (transpose S1536x1024 [1, 0] (Host.dotGeneral dot_S4096x1024_S4096x1536_S1024x1536_0_0_1_1_n_n none g a)
    transposes_S1024x1536_S1536x1024_1_0) bitsLt_bf16_f32

theorem ref_at (a : FVec Ideal S4096x1536 .f32) (g : FVec Ideal S4096x1024 .f32) (e : Fin 1536) (j : Fin 1024) :
    ref a g (ix2 e j) = ∑ n : Fin 4096, (g (ix2 n j) : EReal) * a (ix2 n e) := by
  unfold ref
  pointwise

end

open Cert.KernelOutWgIdeal Cert.KernelOutWgIdeal.Gen
open Cert.KernelOutWgIdeal.Value (G2 pt2Of loc2Of outsAt0_sweep fold0_congr)

/-! ### The values of a grid point -/

theorem pay1_at (i : Fin 768) (j : Fin 1024) : k0_pay1 (F := Ideal) (ix2 i j) = (0 : EReal) := by
  unfold k0_pay1
  pointwise

theorem pay2_at (a : Vec Ideal S768x1024 .f32) (x : Vec Ideal S1024x768 .bf16) (y : Vec Ideal S1024x1024 .bf16) (i : Fin 768) (j : Fin 1024) :
    k0_pay2 (F := Ideal) a x y (ix2 i j) = (a (ix2 i j) : EReal) + ∑ n : Fin 1024, (x (ix2 n i) : EReal) * y (ix2 n j) := by
  unfold k0_pay2
  pointwise

theorem pay3_at (a : Vec Ideal S768x1024 .f32) (i : Fin 768) (j : Fin 1024) :
    k0_pay3 (F := Ideal) a (ix2 i j) = (a (ix2 i j) : EReal) := by
  unfold k0_pay3
  pointwise

section
variable (m : (ℓ : Loc nD τ sig) → Buf (Elt Ideal) ℓ) (c : Dev nD)

/-- The two arguments as arrays of extended reals. -/
abbrev aA : S4096x1536.Idx → EReal := m (c.tc.loc main_arg0)
abbrev aG : S4096x1024.Idx → EReal := m (c.tc.loc main_arg1)

/-! ### The blocks -/

theorem V_0 (n : Fin 4096) (e : Fin 1536) : (V m c main_v0 : S4096x1536.Idx → EReal) (ix2 n e) = aA m c (ix2 n e) := by
  unfold V
  after_reads_at

theorem V_arg1 (n : Fin 4096) (j : Fin 1024) : (V m c main_arg1 : S4096x1024.Idx → EReal) (ix2 n j) = aG m c (ix2 n j) := by
  unfold V
  after_reads_simp

theorem idx_0 : ∀ t : Fin grid0.N, win0_0.index t = ![t.val % 4, t.val / 4] := by decide +kernel
theorem idx_1 : ∀ t : Fin grid0.N, win0_1.index t = ![t.val % 4, 0] := by decide +kernel

theorem lt8 (t : Fin cfg0.N) : t.val < 8 := lt_of_lt_of_eq t.isLt N_0

theorem emb_0 (t : Fin cfg0.N) (i : Fin 1024) (d : Fin 768) : (win0_0.blk t).view.emb (ix2 i d) = ix2 (row (t.val % 4) i) (wide (t.val / 4) d) := by
  funext a
  refine Fin.ext ?_
  match a with
  | ⟨0, _⟩ => blk_simp [idx_0]; show t.val % 4 * 1024 + i.val = (1024 * (t.val % 4) + i.val) % 4096; have := i.isLt; omega
  | ⟨1, _⟩ => blk_simp [idx_0]; show t.val / 4 * 768 + d.val = (768 * (t.val / 4) + d.val) % 1536; have := d.isLt; have := lt8 t; omega

theorem emb_1 (t : Fin cfg0.N) (i j : Fin 1024) : (win0_1.blk t).view.emb (ix2 i j) = ix2 (row (t.val % 4) i) j := by
  funext a
  refine Fin.ext ?_
  match a with
  | ⟨0, _⟩ => blk_simp [idx_1]; show t.val % 4 * 1024 + i.val = (1024 * (t.val % 4) + i.val) % 4096; have := i.isLt; omega
  | ⟨1, _⟩ => blk_simp [idx_1]

theorem read_0 (x : S4096x1536.Idx → EReal) (t : Fin cfg0.N) (i : Fin 1024) (d : Fin 768) :
    ((win0_0.blk t).view.read (Elt Ideal) x : S1024x768.Idx → EReal) (ix2 i d) = x (ix2 (row (t.val % 4) i) (wide (t.val / 4) d)) := by
  blk_simp
  exact congrArg x (emb_0 t i d)
theorem read_1 (x : S4096x1024.Idx → EReal) (t : Fin cfg0.N) (i j : Fin 1024) :
    ((win0_1.blk t).view.read (Elt Ideal) x : S1024x1024.Idx → EReal) (ix2 i j) = x (ix2 (row (t.val % 4) i) j) := by
  blk_simp
  exact congrArg x (emb_1 t i j)

theorem iblk_0 (t : Fin cfg0.N) (i : Fin 1024) (d : Fin 768) :
    (iblk m c 0 t : S1024x768.Idx → EReal) (ix2 i d) = aA m c (ix2 (row (t.val % 4) i) (wide (t.val / 4) d)) :=
  (read_0 (V m c main_v0) t i d).trans (V_0 m c _ _)
theorem iblk_1 (t : Fin cfg0.N) (i j : Fin 1024) : (iblk m c 1 t : S1024x1024.Idx → EReal) (ix2 i j) = aG m c (ix2 (row (t.val % 4) i) j) :=
  (read_1 (V m c main_arg1) t i j).trans (V_arg1 m c _ _)

/-! ### The sum over the row blocks -/

theorem acc_first (t : Fin cfg0.N) (h : t.val % 4 = 0) :
    (outsAt0 m c t.val t.isLt).2 = k0_pay2 (F := Ideal) (k0_pay1 (F := Ideal)) (iblk m c 0 t) (iblk m c 1 t) := by
  rw [outsAt0_A m c t h (by omega)]
  frame_out

theorem acc_next (t : Fin cfg0.N) (h : ¬t.val % 4 = 0) :
    (outsAt0 m c t.val t.isLt).2 = k0_pay2 (F := Ideal) (outsAt0 m c (t.val - 1) (Nat.lt_of_le_of_lt (Nat.sub_le _ _) t.isLt)).2 (iblk m c 0 t) (iblk m c 1 t) := by
  by_cases h2 : t.val % 4 = 3
  · rw [outsAt0_C m c t h h2]
    frame_out
    rw [Idealize.ShloMosaic.read_unread_whole]
  · rw [outsAt0_B m c t h h2]
    frame_out
    rw [Idealize.ShloMosaic.read_unread_whole]

theorem out_last (t : Fin cfg0.N) (h : t.val % 4 = 3) : (outsAt0 m c t.val t.isLt).1 = k0_pay3 (F := Ideal) (outsAt0 m c t.val t.isLt).2 := by
  rw [acc_next m c t (by omega), outsAt0_C m c t (by omega) h]
  frame_out
  rw [Idealize.ShloMosaic.read_unread_whole]

theorem pay2_blk (a : S768x1024.Idx → EReal) (t : Fin cfg0.N) (i : Fin 768) (j : Fin 1024) :
    k0_pay2 (F := Ideal) a (iblk m c 0 t) (iblk m c 1 t) (ix2 i j) = a (ix2 i j)
      + ∑ n : Fin 1024, aA m c (ix2 (row (t.val % 4) n) (wide (t.val / 4) i)) * aG m c (ix2 (row (t.val % 4) n) j) := by
  refine (pay2_at a (iblk m c 0 t) (iblk m c 1 t) i j).trans ?_
  refine congrArg (a (ix2 i j) + ·) (Finset.sum_congr rfl fun n _ => ?_)
  exact congrArg₂ (· * ·) (iblk_0 m c t n i) (iblk_1 m c t n j)

theorem acc_at (t : Fin cfg0.N) (i : Fin 768) (j : Fin 1024) :
    ((outsAt0 m c t.val t.isLt).2 : S768x1024.Idx → EReal) (ix2 i j) = 0 + ∑ k ∈ range (t.val % 4 + 1),
      ∑ n : Fin 1024, aA m c (ix2 (row k n) (wide (t.val / 4) i)) * aG m c (ix2 (row k n) j) := by
  refine Pipeline.eq_sum_of_reset_step_apply_divmod (M := EReal) (ι := Fin 768 × Fin 1024) (N := cfg0.N)
    (fun n h q => ((outsAt0 m c n h).2 : S768x1024.Idx → EReal) (ix2 q.1 q.2)) 4 (fun _ => 0)
    (fun b k q => ∑ n : Fin 1024, aA m c (ix2 (row k n) (wide b q.1)) * aG m c (ix2 (row k n) q.2)) ?_ ?_ t (i, j)
  · intro t h q
    refine (congrFun (acc_first m c t h) _).trans ((pay2_blk m c _ t q.1 q.2).trans ?_)
    exact congrArg (· + _) (pay1_at q.1 q.2)
  · intro t h q
    exact (congrFun (acc_next m c t h) _).trans (pay2_blk m c _ t q.1 q.2)

/-- The weight's gradient. -/
def dw (e : Fin 1536) (j : Fin 1024) : EReal := ∑ n : Fin 4096, aA m c (ix2 n e) * aG m c (ix2 n j)

theorem out_at (t : Fin cfg0.N) (h : t.val % 4 = 3) (i : Fin 768) (j : Fin 1024) :
    ((outsAt0 m c t.val t.isLt).1 : S768x1024.Idx → EReal) (ix2 i j) = dw m c (wide (t.val / 4) i) j := by
  refine (congrFun (out_last m c t h) _).trans ((pay3_at _ i j).trans ?_)
  rw [acc_at, h, zero_add]
  exact sum_rows fun n => aA m c (ix2 n (wide (t.val / 4) i)) * aG m c (ix2 n j)

/-- The array, at an element. -/
theorem G2_at (e : Fin 1536) (j : Fin 1024) : (G2 m c : S1536x1024.Idx → EReal) (ix2 e j) = dw m c e j := by
  have he := e.isLt
  have hj := j.isLt
  have hp : pt2Of (ix2 e j) = 4 * (e.val / 768) + 3 := by
    show 4 * (1 * (e.val / 768 - 0) + 1 * (j.val / 1024 - 0)) + 3 = _
    omega
  have hlt : 4 * (e.val / 768) + 3 < cfg0.N := lt_of_lt_of_eq (by omega) N_0.symm
  have hl : loc2Of (ix2 e j) = ix2 (⟨e.val % 768, Nat.mod_lt _ (by decide)⟩ : Fin 768) j := by
    funext a
    refine Fin.ext ?_
    match a with
    | ⟨0, _⟩ => rfl
    | ⟨1, _⟩ => exact Nat.mod_eq_of_lt hj
  unfold G2
  rw [dif_pos (by rw [hp]; exact hlt), hl, fold0_congr m c _ _ _ (by rw [Nat.zero_add]; exact hlt) hp]
  refine (congrFun (congrArg Prod.fst (outsAt0_sweep m c _ hlt).symm) _).trans ?_
  refine (out_at m c ⟨4 * (e.val / 768) + 3, hlt⟩ (by show (4 * (e.val / 768) + 3) % 4 = 3; omega) _ j).trans ?_
  refine congrArg (fun q => dw m c q j) (Fin.ext ?_)
  show (768 * ((4 * (e.val / 768) + 3) / 4) + e.val % 768) % 1536 = e.val
  omega

theorem dw_ref (e : Fin 1536) (j : Fin 1024) : dw m c e j = ref (aA m c) (aG m c) (ix2 e j) :=
  (Finset.sum_congr rfl fun n _ => mul_comm _ _).trans (ref_at (aA m c) (aG m c) e j).symm

theorem eq_out : (G2 m c : S1536x1024.Idx → EReal) = ref (aA m c) (aG m c) := by
  refine funext fun i : S1536x1024.Idx => ?_
  obtain ⟨n, j, rfl⟩ : ∃ (n : Fin 1536) (j : Fin 1024), i = ix2 n j := ⟨_, _, eq_ix2 i⟩
  exact (G2_at m c n j).trans (dw_ref m c n j)

end

/-- The kernel and the reference end at the same array, whatever the arguments. -/
theorem algebraic : Cert.algebraic_KernelOutWgIdeal_ReferenceOutWgIdeal := fun m ρ m' ρ' _ hargs => by
  refine ⟨fun c => G2 m c, Cert.KernelOutWgIdeal.Value.run m ρ, ?_⟩
  refine (θ_run _ _ _).mono (fun r h c => ?_) (Cert.ReferenceOutWgIdeal.Value.run m' ρ')
  obtain ⟨a0, a1⟩ := hargs c
  have e := (h c).1
  rw [a0, a1] at e
  exact ⟨e.trans (eq_out m c).symm, (h c).2⟩

end Cert.Proof.Ffn.OutWg

end
-- ==== Proof.Ffn.OutFwd.lean ====
/-
  The output projection added to the residual: the kernel's array is the reference's.
-/
module

public import proofs.«01_k».proof.Proof.Gen.KernelOutFwdIdeal.Value
public import proofs.«01_k».proof.Proof.Gen.ReferenceOutFwdIdeal.Run
public import proofs.«01_k».proof.Proof.Ffn.Sums
public import Idealize.ShloMosaic.Lib.Pipeline.ValueKit
public import Idealize.ShloMosaic.Lib.Pipeline.ReadBack
public import Idealize.ShloMosaic.Lib.StableHlo.ReadAt
public import proofs.«01_k».proof.Defs

@[expose] public section

set_option maxRecDepth 16384

noncomputable section

namespace Cert.Proof.Ffn.OutFwd

open Finset
open Idealize.ShloMosaic Idealize.ShloMosaic.TcCoe Idealize.SL.Sem

section
open Cert.ReferenceOutFwdIdeal Cert.ReferenceOutFwdIdeal.Gen

/-! ### The reference -/

/-- The reference's array. -/
def ref (a : FVec Ideal S4096x1536 .f32) (w : FVec Ideal S1536x1024 .f32) (h : FVec Ideal S4096x1024 .f32) : FVec Ideal S4096x1024 .f32 :=
  addf h (Host.dotGeneral dot_S4096x1536_S1536x1024_S4096x1024_1_0_0_1_n_n none a w)

theorem ref_at (a : FVec Ideal S4096x1536 .f32) (w : FVec Ideal S1536x1024 .f32) (h : FVec Ideal S4096x1024 .f32) (n : Fin 4096) (j : Fin 1024) :
    ref a w h (ix2 n j) = (h (ix2 n j) : EReal) + ∑ e : Fin 1536, (a (ix2 n e) : EReal) * w (ix2 e j) := by
  unfold ref
  pointwise

end

open Cert.KernelOutFwdIdeal Cert.KernelOutFwdIdeal.Gen
open Cert.KernelOutFwdIdeal.Value (G3 pt3Of loc3Of outsAt0_sweep fold0_congr)

/-! ### The values of a grid point -/

theorem pay1_at (i j : Fin 1024) : k0_pay1 (F := Ideal) (ix2 i j) = (0 : EReal) := by
  unfold k0_pay1
  pointwise

theorem pay2_at (a : Vec Ideal S1024x1024 .f32) (x : Vec Ideal S1024x768 .bf16) (y : Vec Ideal S768x1024 .bf16) (i j : Fin 1024) :
    k0_pay2 (F := Ideal) a x y (ix2 i j) = (a (ix2 i j) : EReal) + ∑ d : Fin 768, (x (ix2 i d) : EReal) * y (ix2 d j) := by
  unfold k0_pay2
  pointwise

theorem pay3_at (a h : Vec Ideal S1024x1024 .f32) (i j : Fin 1024) :
    k0_pay3 (F := Ideal) a h (ix2 i j) = (a (ix2 i j) : EReal) + h (ix2 i j) := by
  unfold k0_pay3
  pointwise

section
variable (m : (ℓ : Loc nD τ sig) → Buf (Elt Ideal) ℓ) (c : Dev nD)

/-- The three arguments as arrays of extended reals. -/
abbrev aA : S4096x1536.Idx → EReal := m (c.tc.loc main_arg0)
abbrev aW : S1536x1024.Idx → EReal := m (c.tc.loc main_arg1)
abbrev aH : S4096x1024.Idx → EReal := m (c.tc.loc main_arg2)

/-! ### The blocks -/

theorem V_0 (n : Fin 4096) (e : Fin 1536) : (V m c main_v0 : S4096x1536.Idx → EReal) (ix2 n e) = aA m c (ix2 n e) := by
  unfold V
  after_reads_at

theorem V_1 (e : Fin 1536) (j : Fin 1024) : (V m c main_v1 : S1536x1024.Idx → EReal) (ix2 e j) = aW m c (ix2 e j) := by
  unfold V
  after_reads_at

theorem V_arg2 (n : Fin 4096) (j : Fin 1024) : (V m c main_arg2 : S4096x1024.Idx → EReal) (ix2 n j) = aH m c (ix2 n j) := by
  unfold V
  after_reads_simp

theorem idx_0 : ∀ t : Fin grid0.N, win0_0.index t = ![t.val / 2, t.val % 2] := by decide +kernel
theorem idx_1 : ∀ t : Fin grid0.N, win0_1.index t = ![t.val % 2, 0] := by decide +kernel
theorem idx_2 : ∀ t : Fin grid0.N, win0_2.index t = ![t.val / 2, 0] := by decide +kernel

theorem lt8 (t : Fin cfg0.N) : t.val < 8 := lt_of_lt_of_eq t.isLt N_0

theorem emb_0 (t : Fin cfg0.N) (i : Fin 1024) (d : Fin 768) : (win0_0.blk t).view.emb (ix2 i d) = ix2 (row (t.val / 2) i) (wide (t.val % 2) d) := by
  funext a
  refine Fin.ext ?_
  match a with
  | ⟨0, _⟩ => blk_simp [idx_0]; show t.val / 2 * 1024 + i.val = (1024 * (t.val / 2) + i.val) % 4096; have := i.isLt; have := lt8 t; omega
  | ⟨1, _⟩ => blk_simp [idx_0]; show t.val % 2 * 768 + d.val = (768 * (t.val % 2) + d.val) % 1536; have := d.isLt; omega

theorem emb_1 (t : Fin cfg0.N) (d : Fin 768) (j : Fin 1024) : (win0_1.blk t).view.emb (ix2 d j) = ix2 (wide (t.val % 2) d) j := by
  funext a
  refine Fin.ext ?_
  match a with
  | ⟨0, _⟩ => blk_simp [idx_1]; show t.val % 2 * 768 + d.val = (768 * (t.val % 2) + d.val) % 1536; have := d.isLt; omega
  | ⟨1, _⟩ => blk_simp [idx_1]

theorem emb_2 (t : Fin cfg0.N) (i j : Fin 1024) : (win0_2.blk t).view.emb (ix2 i j) = ix2 (row (t.val / 2) i) j := by
  funext a
  refine Fin.ext ?_
  match a with
  | ⟨0, _⟩ => blk_simp [idx_2]; show t.val / 2 * 1024 + i.val = (1024 * (t.val / 2) + i.val) % 4096; have := i.isLt; have := lt8 t; omega
  | ⟨1, _⟩ => blk_simp [idx_2]

theorem read_0 (x : S4096x1536.Idx → EReal) (t : Fin cfg0.N) (i : Fin 1024) (d : Fin 768) :
    ((win0_0.blk t).view.read (Elt Ideal) x : S1024x768.Idx → EReal) (ix2 i d) = x (ix2 (row (t.val / 2) i) (wide (t.val % 2) d)) := by
  blk_simp
  exact congrArg x (emb_0 t i d)
theorem read_1 (x : S1536x1024.Idx → EReal) (t : Fin cfg0.N) (d : Fin 768) (j : Fin 1024) :
    ((win0_1.blk t).view.read (Elt Ideal) x : S768x1024.Idx → EReal) (ix2 d j) = x (ix2 (wide (t.val % 2) d) j) := by
  blk_simp
  exact congrArg x (emb_1 t d j)
theorem read_2 (x : S4096x1024.Idx → EReal) (t : Fin cfg0.N) (i j : Fin 1024) :
    ((win0_2.blk t).view.read (Elt Ideal) x : S1024x1024.Idx → EReal) (ix2 i j) = x (ix2 (row (t.val / 2) i) j) := by
  blk_simp
  exact congrArg x (emb_2 t i j)

theorem iblk_0 (t : Fin cfg0.N) (i : Fin 1024) (d : Fin 768) :
    (iblk m c 0 t : S1024x768.Idx → EReal) (ix2 i d) = aA m c (ix2 (row (t.val / 2) i) (wide (t.val % 2) d)) :=
  (read_0 (V m c main_v0) t i d).trans (V_0 m c _ _)
theorem iblk_1 (t : Fin cfg0.N) (d : Fin 768) (j : Fin 1024) : (iblk m c 1 t : S768x1024.Idx → EReal) (ix2 d j) = aW m c (ix2 (wide (t.val % 2) d) j) :=
  (read_1 (V m c main_v1) t d j).trans (V_1 m c _ _)
theorem iblk_2 (t : Fin cfg0.N) (i j : Fin 1024) : (iblk m c 2 t : S1024x1024.Idx → EReal) (ix2 i j) = aH m c (ix2 (row (t.val / 2) i) j) :=
  (read_2 (V m c main_arg2) t i j).trans (V_arg2 m c _ _)

/-! ### The sum over the two halves -/

theorem acc_first (t : Fin cfg0.N) (h : t.val % 2 = 0) :
    (outsAt0 m c t.val t.isLt).2 = k0_pay2 (F := Ideal) (k0_pay1 (F := Ideal)) (iblk m c 0 t) (iblk m c 1 t) := by
  rw [outsAt0_A m c t h (by omega)]
  frame_out

theorem acc_next (t : Fin cfg0.N) (h : ¬t.val % 2 = 0) :
    (outsAt0 m c t.val t.isLt).2 = k0_pay2 (F := Ideal) (outsAt0 m c (t.val - 1) (Nat.lt_of_le_of_lt (Nat.sub_le _ _) t.isLt)).2 (iblk m c 0 t) (iblk m c 1 t) := by
  rw [outsAt0_B m c t h (by omega)]
  frame_out
  rw [Idealize.ShloMosaic.read_unread_whole]

theorem out_last (t : Fin cfg0.N) (h : t.val % 2 = 1) : (outsAt0 m c t.val t.isLt).1 = k0_pay3 (F := Ideal) (outsAt0 m c t.val t.isLt).2 (iblk m c 2 t) := by
  rw [acc_next m c t (by omega), outsAt0_B m c t (by omega) h]
  frame_out
  rw [Idealize.ShloMosaic.read_unread_whole]

theorem pay2_blk (a : S1024x1024.Idx → EReal) (t : Fin cfg0.N) (i j : Fin 1024) :
    k0_pay2 (F := Ideal) a (iblk m c 0 t) (iblk m c 1 t) (ix2 i j) = a (ix2 i j)
      + ∑ d : Fin 768, aA m c (ix2 (row (t.val / 2) i) (wide (t.val % 2) d)) * aW m c (ix2 (wide (t.val % 2) d) j) := by
  refine (pay2_at a (iblk m c 0 t) (iblk m c 1 t) i j).trans ?_
  refine congrArg (a (ix2 i j) + ·) (Finset.sum_congr rfl fun d _ => ?_)
  exact congrArg₂ (· * ·) (iblk_0 m c t i d) (iblk_1 m c t d j)

theorem acc_at (t : Fin cfg0.N) (i j : Fin 1024) :
    ((outsAt0 m c t.val t.isLt).2 : S1024x1024.Idx → EReal) (ix2 i j) = 0 + ∑ k ∈ range (t.val % 2 + 1),
      ∑ d : Fin 768, aA m c (ix2 (row (t.val / 2) i) (wide k d)) * aW m c (ix2 (wide k d) j) := by
  refine Pipeline.eq_sum_of_reset_step_apply_divmod (M := EReal) (ι := Fin 1024 × Fin 1024) (N := cfg0.N)
    (fun n h q => ((outsAt0 m c n h).2 : S1024x1024.Idx → EReal) (ix2 q.1 q.2)) 2 (fun _ => 0)
    (fun b k q => ∑ d : Fin 768, aA m c (ix2 (row b q.1) (wide k d)) * aW m c (ix2 (wide k d) q.2)) ?_ ?_ t (i, j)
  · intro t h q
    refine (congrFun (acc_first m c t h) _).trans ((pay2_blk m c _ t q.1 q.2).trans ?_)
    exact congrArg (· + _) (pay1_at q.1 q.2)
  · intro t h q
    exact (congrFun (acc_next m c t h) _).trans (pay2_blk m c _ t q.1 q.2)

/-- The projection, added to the residual. -/
def down (n : Fin 4096) (j : Fin 1024) : EReal := (∑ e : Fin 1536, aA m c (ix2 n e) * aW m c (ix2 e j)) + aH m c (ix2 n j)

theorem out_at (t : Fin cfg0.N) (h : t.val % 2 = 1) (i j : Fin 1024) :
    ((outsAt0 m c t.val t.isLt).1 : S1024x1024.Idx → EReal) (ix2 i j) = down m c (row (t.val / 2) i) j := by
  refine (congrFun (out_last m c t h) _).trans ((pay3_at _ (iblk m c 2 t) i j).trans ?_)
  rw [acc_at, h, zero_add]
  exact congrArg₂ (· + ·) (sum_wides fun e => aA m c (ix2 (row (t.val / 2) i) e) * aW m c (ix2 e j)) (iblk_2 m c t i j)

/-- The array, at an element. -/
theorem G3_at (n : Fin 4096) (j : Fin 1024) : (G3 m c : S4096x1024.Idx → EReal) (ix2 n j) = down m c n j := by
  have he := n.isLt
  have hj := j.isLt
  have hp : pt3Of (ix2 n j) = 2 * (n.val / 1024) + 1 := by
    show 2 * (1 * (n.val / 1024 - 0) + 1 * (j.val / 1024 - 0)) + 1 = _
    omega
  have hlt : 2 * (n.val / 1024) + 1 < cfg0.N := lt_of_lt_of_eq (by omega) N_0.symm
  have hl : loc3Of (ix2 n j) = ix2 (⟨n.val % 1024, Nat.mod_lt _ (by decide)⟩ : Fin 1024) j := by
    funext a
    refine Fin.ext ?_
    match a with
    | ⟨0, _⟩ => rfl
    | ⟨1, _⟩ => exact Nat.mod_eq_of_lt hj
  unfold G3
  rw [dif_pos (by rw [hp]; exact hlt), hl, fold0_congr m c _ _ _ (by rw [Nat.zero_add]; exact hlt) hp]
  refine (congrFun (congrArg Prod.fst (outsAt0_sweep m c _ hlt).symm) _).trans ?_
  refine (out_at m c ⟨2 * (n.val / 1024) + 1, hlt⟩ (by show (2 * (n.val / 1024) + 1) % 2 = 1; omega) _ j).trans ?_
  refine congrArg (fun q => down m c q j) (Fin.ext ?_)
  show (1024 * ((2 * (n.val / 1024) + 1) / 2) + n.val % 1024) % 4096 = n.val
  omega

theorem down_ref (n : Fin 4096) (j : Fin 1024) : down m c n j = ref (aA m c) (aW m c) (aH m c) (ix2 n j) :=
  (add_comm _ _).trans (ref_at (aA m c) (aW m c) (aH m c) n j).symm

theorem eq_out : (G3 m c : S4096x1024.Idx → EReal) = ref (aA m c) (aW m c) (aH m c) := by
  refine funext fun i : S4096x1024.Idx => ?_
  obtain ⟨n, j, rfl⟩ : ∃ (n : Fin 4096) (j : Fin 1024), i = ix2 n j := ⟨_, _, eq_ix2 i⟩
  exact (G3_at m c n j).trans (down_ref m c n j)

end

/-- The kernel and the reference end at the same array, whatever the arguments. -/
theorem algebraic : Cert.algebraic_KernelOutFwdIdeal_ReferenceOutFwdIdeal := fun m ρ m' ρ' _ hargs => by
  refine ⟨fun c => G3 m c, Cert.KernelOutFwdIdeal.Value.run m ρ, ?_⟩
  refine (θ_run _ _ _).mono (fun r h c => ?_) (Cert.ReferenceOutFwdIdeal.Value.run m' ρ')
  obtain ⟨a0, a1, a2⟩ := hargs c
  have e := (h c).1
  rw [a0, a1, a2] at e
  exact ⟨e.trans (eq_out m c).symm, (h c).2⟩

end Cert.Proof.Ffn.OutFwd

end
-- ==== Proof.Ffn.GateDg.lean ====
/-
  The gradient through the gate's norm and projection: the kernel's two arrays are the reference's.
-/
module

public import proofs.«01_k».proof.Proof.Gen.KernelGateDgIdeal.Value
public import proofs.«01_k».proof.Proof.Gen.ReferenceGateDgIdeal.Run
public import proofs.«01_k».proof.Proof.Ffn.Sums
public import proofs.«01_k».proof.Proof.Up.Pay
public import proofs.«01_k».proof.Proof.Up.Ref
public import proofs.«01_k».proof.Proof.Up.Math
public import Idealize.ShloMosaic.Lib.Pipeline.ValueKit
public import Idealize.ShloMosaic.Lib.Pipeline.ReadBack
public import Idealize.ShloMosaic.Lib.StableHlo.ReadAt
public import proofs.«01_k».proof.Defs

@[expose] public section

set_option maxRecDepth 16384

noncomputable section

namespace Cert.Proof.Ffn.GateDg

open Finset
open Cert.Proof.Up (inv eps)
open Cert.Proof.UpRef (refV refV_at refU refU_at refS refS_at refC refC_at refB refB_at refDh refDh_at refDg refDg_at)
open Idealize.ShloMosaic Idealize.ShloMosaic.TcCoe Idealize.SL.Sem

/-- The gradient of the normed input. -/
def refD (dz : FVec Ideal Cert.ReferenceGateDgIdeal.S4096x1024 .f32) (w : FVec Ideal Cert.ReferenceGateDgIdeal.S1024x1024 .f32) : FVec Ideal Cert.ReferenceGateDgIdeal.S4096x1024 .f32 :=
  Host.dotGeneral Cert.ReferenceGateDgIdeal.dot_S4096x1024_S1024x1024_S4096x1024_1_1_0_0_n_n none dz w

theorem refD_at (dz : FVec Ideal Cert.ReferenceGateDgIdeal.S4096x1024 .f32) (w : FVec Ideal Cert.ReferenceGateDgIdeal.S1024x1024 .f32) (i : Fin 4096) (j : Fin 1024) :
    refD dz w (ix2 i j) = ∑ e : Fin 1024, (dz (ix2 i e) : EReal) * w (ix2 j e) := by
  unfold refD
  pointwise

open Cert.KernelGateDgIdeal Cert.KernelGateDgIdeal.Gen
open Cert.KernelGateDgIdeal.Value (blocks5 flushed5 flushed6 run_blocks)

/-! ### The values of a grid point -/

theorem pay1_at (i j : Fin 1024) : k0_pay1 (F := Ideal) (ix2 i j) = (0 : EReal) := by
  unfold k0_pay1
  pointwise

theorem pay2_at (z : Fin 1) (j : Fin 1024) : k0_pay2 (F := Ideal) (ix2 z j) = (0 : EReal) := by
  unfold k0_pay2
  pointwise

/-- A block's product is added to the sum. -/
theorem pay3_at (a : Vec Ideal S1024x1024 .f32) (x : Vec Ideal S1024x1024 .bf16) (y : Vec Ideal S1024x1024 .bf16) (i j : Fin 1024) :
    k0_pay3 (F := Ideal) a x y (ix2 i j) = (a (ix2 i j) : EReal) + ∑ d : Fin 1024, (x (ix2 i d) : EReal) * y (ix2 j d) := by
  unfold k0_pay3
  pointwise

/-- The reciprocal of a row's root mean square. -/
theorem pay4_at (x : Vec Ideal S1024x1024 .f32) (i : Fin 1024) (z : Fin 1) :
    k0_pay4 (F := Ideal) x (ix2 i z) = Ideal.rsqrt ((∑ j : Fin 1024, (x (ix2 i j) : EReal) * x (ix2 i j)) * inv + eps) := by
  unfold k0_pay4
  pointwise

/-- The input's gradient. -/
theorem pay5_at (x : Vec Ideal S1024x1024 .f32) (g : Vec Ideal S1x1024 .f32) (a r : Vec Ideal S1024x1024 .f32) (i j : Fin 1024) :
    k0_pay5 (F := Ideal) x g a r (ix2 i j) = (r (ix2 i j) : EReal) + ((k0_pay4 (F := Ideal) x (ix2 i 0) : EReal) * (a (ix2 i j) * g (ix2 0 j))
      - x (ix2 i j) * ((k0_pay4 (F := Ideal) x (ix2 i 0) * k0_pay4 (F := Ideal) x (ix2 i 0) * k0_pay4 (F := Ideal) x (ix2 i 0)) * inv
        * ∑ l : Fin 1024, (a (ix2 i l) * g (ix2 0 l) : EReal) * x (ix2 i l))) := by
  unfold k0_pay5
  pointwise

/-- The gain's gradient: a row block's column sums are added. -/
theorem pay6_at (x a : Vec Ideal S1024x1024 .f32) (s : Vec Ideal S1x1024 .f32) (z : Fin 1) (j : Fin 1024) :
    k0_pay6 (F := Ideal) x a s (ix2 z j) = (s (ix2 z j) : EReal) + ∑ i : Fin 1024, (a (ix2 i j) * x (ix2 i j) : EReal) * k0_pay4 (F := Ideal) x (ix2 i 0) := by
  unfold k0_pay6
  pointwise

section
variable (m : (ℓ : Loc nD τ sig) → Buf (Elt Ideal) ℓ) (c : Dev nD)

/-- The five arguments as arrays of extended reals. -/
abbrev aZ : S4096x1024.Idx → EReal := m (c.tc.loc main_arg0)
abbrev aW : S1024x1024.Idx → EReal := m (c.tc.loc main_arg1)
abbrev aH : S4096x1024.Idx → EReal := m (c.tc.loc main_arg2)
abbrev aG : S1024.Idx → EReal := m (c.tc.loc main_arg3)
abbrev aR : S4096x1024.Idx → EReal := m (c.tc.loc main_arg4)

/-! ### The arrays of the launch -/

theorem V_z (n : Fin 4096) (e : Fin 1024) : (V m c main_v0 : S4096x1024.Idx → EReal) (ix2 n e) = aZ m c (ix2 n e) := by
  unfold V
  after_reads_at

theorem V_w (n e : Fin 1024) : (V m c main_v1 : S1024x1024.Idx → EReal) (ix2 n e) = aW m c (ix2 n e) := by
  unfold V
  after_reads_at

theorem V_g (z : Fin 1) (j : Fin 1024) : (V m c main_v2 : S1x1024.Idx → EReal) (ix2 z j) = aG m c (ix1 j) := by
  unfold V
  after_reads_at

theorem V_h : (V m c main_arg2 : S4096x1024.Idx → EReal) = aH m c := by
  unfold V
  after_reads_simp

theorem V_r : (V m c main_arg4 : S4096x1024.Idx → EReal) = aR m c := by
  unfold V
  after_reads_simp

/-! ### The blocks -/

theorem idx_0 : ∀ t : Fin grid0.N, win0_0.index t = ![t.val, 0] := by decide +kernel
theorem idx_1 : ∀ t : Fin grid0.N, win0_1.index t = ![0, 0] := by decide +kernel
theorem idx_2 : ∀ t : Fin grid0.N, win0_2.index t = ![t.val, 0] := by decide +kernel
theorem idx_3 : ∀ t : Fin grid0.N, win0_3.index t = ![0, 0] := by decide +kernel
theorem idx_4 : ∀ t : Fin grid0.N, win0_4.index t = ![t.val, 0] := by decide +kernel
theorem idx_5 : ∀ t : Fin grid0.N, win0_5.index t = ![t.val, 0] := by decide +kernel
theorem idx_6 : ∀ t : Fin grid0.N, win0_6.index t = ![0, 0] := by decide +kernel

theorem lt4 (t : Fin cfg0.N) : t.val < 4 := lt_of_lt_of_eq t.isLt N_0

/-- Row `i` of the block of point `t`, where the block's place is read off the point. -/
theorem at_row (t : Fin cfg0.N) (i : Fin 1024) : t.val * 1024 + i.val = (row t.val i).val := by
  have ht := lt4 t
  show t.val * 1024 + i.val = (1024 * t.val + i.val) % 4096
  have := i.isLt; omega

theorem emb_0 (t : Fin cfg0.N) (i j : Fin 1024) : (win0_0.blk t).view.emb (ix2 i j) = ix2 (row t.val i) j := by
  funext a
  refine Fin.ext ?_
  match a with
  | ⟨0, _⟩ => blk_simp [idx_0]; exact at_row t i
  | ⟨1, _⟩ => blk_simp [idx_0]

theorem emb_1 (t : Fin cfg0.N) (i j : Fin 1024) : (win0_1.blk t).view.emb (ix2 i j) = ix2 i j := by
  funext a
  refine Fin.ext ?_
  match a with
  | ⟨0, _⟩ => blk_simp [idx_1]
  | ⟨1, _⟩ => blk_simp [idx_1]

theorem emb_2 (t : Fin cfg0.N) (i j : Fin 1024) : (win0_2.blk t).view.emb (ix2 i j) = ix2 (row t.val i) j := by
  funext a
  refine Fin.ext ?_
  match a with
  | ⟨0, _⟩ => blk_simp [idx_2]; exact at_row t i
  | ⟨1, _⟩ => blk_simp [idx_2]

theorem emb_3 (t : Fin cfg0.N) (z : Fin 1) (j : Fin 1024) : (win0_3.blk t).view.emb (ix2 z j) = ix2 z j := by
  funext a
  refine Fin.ext ?_
  match a with
  | ⟨0, _⟩ => blk_simp [idx_3]
  | ⟨1, _⟩ => blk_simp [idx_3]

theorem emb_4 (t : Fin cfg0.N) (i j : Fin 1024) : (win0_4.blk t).view.emb (ix2 i j) = ix2 (row t.val i) j := by
  funext a
  refine Fin.ext ?_
  match a with
  | ⟨0, _⟩ => blk_simp [idx_4]; exact at_row t i
  | ⟨1, _⟩ => blk_simp [idx_4]

theorem emb_5 (t : Fin cfg0.N) (i j : Fin 1024) : (win0_5.blk t).view.emb (ix2 i j) = ix2 (row t.val i) j := by
  funext a
  refine Fin.ext ?_
  match a with
  | ⟨0, _⟩ => blk_simp [idx_5]; exact at_row t i
  | ⟨1, _⟩ => blk_simp [idx_5]

theorem emb_6 (t : Fin cfg0.N) (z : Fin 1) (j : Fin 1024) : (win0_6.blk t).view.emb (ix2 z j) = ix2 z j := by
  funext a
  refine Fin.ext ?_
  match a with
  | ⟨0, _⟩ => blk_simp [idx_6]
  | ⟨1, _⟩ => blk_simp [idx_6]

theorem iblk_0 (t : Fin cfg0.N) (i j : Fin 1024) : (iblk m c 0 t : S1024x1024.Idx → EReal) (ix2 i j) = aZ m c (ix2 (row t.val i) j) :=
  (show _ = (V m c main_v0 : S4096x1024.Idx → EReal) (ix2 (row t.val i) j) from by
    rw [← emb_0 t i j]; rfl).trans (V_z m c _ _)
theorem iblk_1 (t : Fin cfg0.N) (i j : Fin 1024) : (iblk m c 1 t : S1024x1024.Idx → EReal) (ix2 i j) = aW m c (ix2 i j) :=
  (congrArg (V m c main_v1 : S1024x1024.Idx → EReal) (emb_1 t i j)).trans (V_w m c _ _)
theorem iblk_2 (t : Fin cfg0.N) (i j : Fin 1024) : (iblk m c 2 t : S1024x1024.Idx → EReal) (ix2 i j) = aH m c (ix2 (row t.val i) j) :=
  (show _ = (V m c main_arg2 : S4096x1024.Idx → EReal) (ix2 (row t.val i) j) from by
    rw [← emb_2 t i j]; rfl).trans (congrFun (V_h m c) _)
theorem iblk_3 (t : Fin cfg0.N) (z : Fin 1) (j : Fin 1024) : (iblk m c 3 t : S1x1024.Idx → EReal) (ix2 z j) = aG m c (ix1 j) :=
  (congrArg (V m c main_v2 : S1x1024.Idx → EReal) (emb_3 t z j)).trans (V_g m c _ _)
theorem iblk_4 (t : Fin cfg0.N) (i j : Fin 1024) : (iblk m c 4 t : S1024x1024.Idx → EReal) (ix2 i j) = aR m c (ix2 (row t.val i) j) :=
  (show _ = (V m c main_arg4 : S4096x1024.Idx → EReal) (ix2 (row t.val i) j) from by
    rw [← emb_4 t i j]; rfl).trans (congrFun (V_r m c) _)

/-! ### What a grid point leaves -/

/-- A point's product: its rows of the incoming gradient by the weight. -/
def prod (t : Fin cfg0.N) : FVec Ideal S1024x1024 .f32 := k0_pay3 (F := Ideal) (k0_pay1 (F := Ideal)) (iblk m c 0 t) (iblk m c 1 t)

/-- Every point stores its rows of the input's gradient. -/
theorem dx_point (t : Fin cfg0.N) : (outsAt0 m c t.val t.isLt).1 = k0_pay5 (F := Ideal) (iblk m c 2 t) (iblk m c 3 t) (prod m c t) (iblk m c 4 t) := by
  unfold prod
  by_cases h : t.val % 4 = 0
  · rw [outsAt0_A m c t h]
    frame_out
  · rw [outsAt0_B m c t h]
    frame_out

/-- The first point starts the gain's gradient from nothing. -/
theorem dg_first (t : Fin cfg0.N) (h : t.val % 4 = 0) : (outsAt0 m c t.val t.isLt).2 = k0_pay6 (F := Ideal) (iblk m c 2 t) (prod m c t) (k0_pay2 (F := Ideal)) := by
  unfold prod
  rw [outsAt0_A m c t h]
  frame_out

/-- Every other point adds to what the one before left. -/
theorem dg_next (t : Fin cfg0.N) (h : ¬t.val % 4 = 0) :
    (outsAt0 m c t.val t.isLt).2 = k0_pay6 (F := Ideal) (iblk m c 2 t) (prod m c t) (outsAt0 m c (t.val - 1) (Nat.lt_of_le_of_lt (Nat.sub_le _ _) t.isLt)).2 := by
  unfold prod
  rw [outsAt0_B m c t h]
  frame_out

/-! ### The sums -/

/-- The gradient of the norm's output. -/
def dy (n : Fin 4096) (j : Fin 1024) : EReal := ∑ e : Fin 1024, aZ m c (ix2 n e) * aW m c (ix2 j e)

/-- The reciprocal root of a row's mean square, as the kernel has it. -/
def rs (n : Fin 4096) : EReal := Ideal.rsqrt ((∑ l : Fin 1024, aH m c (ix2 n l) * aH m c (ix2 n l)) * inv + eps)

theorem prod_at (t : Fin cfg0.N) (i j : Fin 1024) : prod m c t (ix2 i j) = dy m c (row t.val i) j := by
  unfold prod
  refine (pay3_at (k0_pay1 (F := Ideal)) (iblk m c 0 t) (iblk m c 1 t) i j).trans ?_
  refine (congrArg (· + _) (pay1_at i j)).trans ((zero_add _).trans (Finset.sum_congr rfl fun d _ => ?_))
  exact congrArg₂ (· * ·) (iblk_0 m c t i d) (iblk_1 m c t j d)

theorem rs_blk (t : Fin cfg0.N) (i : Fin 1024) (z : Fin 1) :
    k0_pay4 (F := Ideal) (iblk m c 2 t) (ix2 i z) = rs m c (row t.val i) := by
  refine (pay4_at (iblk m c 2 t) i z).trans ?_
  refine congrArg (fun s => Ideal.rsqrt (s * inv + eps)) (Finset.sum_congr rfl fun j _ => ?_)
  exact congrArg₂ (· * ·) (iblk_2 m c t i j) (iblk_2 m c t i j)

/-- The input's gradient, as the kernel has it. -/
def dx (n : Fin 4096) (j : Fin 1024) : EReal :=
  aR m c (ix2 n j) + (rs m c n * (dy m c n j * aG m c (ix1 j))
    - aH m c (ix2 n j) * ((rs m c n * rs m c n * rs m c n) * inv * ∑ l, (dy m c n l * aG m c (ix1 l)) * aH m c (ix2 n l)))

theorem dx_at (t : Fin cfg0.N) (i j : Fin 1024) : ((outsAt0 m c t.val t.isLt).1 : S1024x1024.Idx → EReal) (ix2 i j) = dx m c (row t.val i) j := by
  refine (congrFun (dx_point m c t) _).trans ((pay5_at (iblk m c 2 t) (iblk m c 3 t) _ (iblk m c 4 t) i j).trans ?_)
  rw [rs_blk, iblk_2, iblk_4, iblk_3, prod_at]
  refine congrArg (fun s => aR m c (ix2 (row t.val i) j) + (_ - _ * (_ * s))) (Finset.sum_congr rfl fun l _ => ?_)
  rw [iblk_2, iblk_3, prod_at]

/-- One row's term of the gain's gradient. -/
def dgTerm (j : Fin 1024) (n : Fin 4096) : EReal := (dy m c n j * aH m c (ix2 n j)) * rs m c n

/-- A point adds its rows' terms. -/
theorem pay6_blk (t : Fin cfg0.N) (s : S1x1024.Idx → EReal) (j : Fin 1024) :
    k0_pay6 (F := Ideal) (iblk m c 2 t) (prod m c t) s (ix2 0 j) = s (ix2 0 j) + ∑ i : Fin 1024, dgTerm m c j (row t.val i) := by
  refine (pay6_at (iblk m c 2 t) _ _ 0 j).trans ?_
  refine congrArg (_ + ·) (Finset.sum_congr rfl fun i _ => ?_)
  rw [rs_blk, iblk_2, prod_at]
  rfl

/-- After a point the gain's gradient is the sum over the row blocks so far. -/
theorem dg_at (j : Fin 1024) : ∀ (n : ℕ) (h : n < cfg0.N),
    ((outsAt0 m c n h).2 : S1x1024.Idx → EReal) (ix2 0 j) = ∑ b ∈ range (n + 1), ∑ i : Fin 1024, dgTerm m c j (row b i) := by
  intro n
  induction n with
  | zero =>
    intro h
    refine (congrFun (dg_first m c ⟨0, h⟩ rfl) _).trans ((pay6_blk m c ⟨0, h⟩ _ j).trans ?_)
    rw [pay2_at, zero_add, Finset.sum_range_one]
  | succ n ih =>
    intro h
    have h4 : n + 1 < 4 := lt_of_lt_of_eq h N_0
    refine (congrFun (dg_next m c ⟨n + 1, h⟩ (by show ¬(n + 1) % 4 = 0; omega)) _).trans ((pay6_blk m c ⟨n + 1, h⟩ _ j).trans ?_)
    rw [Finset.sum_range_succ _ (n + 1)]
    exact congrArg (· + _) (ih (Nat.lt_of_succ_lt h))

/-- The whole sweep leaves the sum over all rows. -/
theorem dg_end (h : 3 < cfg0.N) (j : Fin 1024) : ((outsAt0 m c 3 h).2 : S1x1024.Idx → EReal) (ix2 0 j) = ∑ n, dgTerm m c j n :=
  (dg_at m c j 3 h).trans (sum_rows (dgTerm m c j))

end

section
variable (m : (ℓ : Loc nD τ sig) → Buf (Elt Ideal) ℓ) (c : Dev nD)

/-- The two arrays after the run. -/
abbrev G5 : S4096x1024.Idx → EReal := (dats m 0 c).arrAt 5 cfg0.N
abbrev G6 : S1x1024.Idx → EReal := (dats m 0 c).arrAt 6 cfg0.N

/-- Every grid point writes its block of the first array back. -/
theorem flush_5 : ∀ t : Fin cfg0.N, (cfg0.win 5).flush t = true :=
  (by decide +kernel : ∀ t : Fin grid0.N, win0_5.flush t = true)

theorem block_at (t : Fin cfg0.N) (i j : Fin 1024) : G5 m c (ix2 (row t.val i) j) = dx m c (row t.val i) j := by
  refine (show _ = ((win0_5.blk t).view.read (Elt Ideal) (G5 m c) : S1024x1024.Idx → EReal) (ix2 i j) from by
    rw [← emb_5 t i j]; rfl).trans ?_
  refine (congrFun (blocks5 m c t (flush_5 t)) (ix2 i j)).trans ?_
  refine (congrFun (flushed5 m c t) (ix2 i j)).trans ?_
  exact dx_at m c t i j

/-- The first array, at an element. -/
theorem G5_at (n : Fin 4096) (j : Fin 1024) : G5 m c (ix2 n j) = dx m c n j := by
  have hn := n.isLt
  have hlt : n.val / 1024 < cfg0.N := lt_of_lt_of_eq (by omega) N_0.symm
  have e : row (n.val / 1024) ⟨n.val % 1024, Nat.mod_lt _ (by decide)⟩ = n :=
    Fin.ext (by show (1024 * (n.val / 1024) + n.val % 1024) % 4096 = n.val; omega)
  have h := block_at m c ⟨n.val / 1024, hlt⟩ ⟨n.val % 1024, Nat.mod_lt _ (by decide)⟩ j
  dsimp only at h
  rw [e] at h
  exact h

/-- The last grid point. -/
def last : Fin cfg0.N := ⟨3, lt_of_lt_of_eq (by decide) N_0.symm⟩

theorem flush_last : (cfg0.win 6).flush last = true := (flush0_6 last).mpr rfl

/-- The second array is what the last point left: it alone writes its block back, and the block is the array. -/
theorem G6_last : G6 m c = (outsAt0 m c last.val last.isLt).2 := by
  refine (dats m 0 c).arrAt_eq_of_cover 6 _ (fun t hf => ?_) (fun i => ⟨last, flush_last, ?_⟩)
  · have h3 : t.val % 4 = 3 := (flush0_6 t).mp hf
    have ht : t = last := Fin.ext (by have := lt4 t; show t.val = 3; omega)
    subst ht
    refine funext fun y : S1x1024.Idx => ?_
    obtain ⟨z, j, rfl⟩ : ∃ (z : Fin 1) (j : Fin 1024), y = ix2 z j := ⟨_, _, eq_ix2 y⟩
    refine (congrFun (flushed6 m c last) (ix2 z j)).trans ?_
    exact congrArg ((outsAt0 m c last.val last.isLt).2 : S1x1024.Idx → EReal) (emb_6 last z j).symm
  · show i ∈ ((View.whole main_v3_1).slice (win0_6.rect last)).set
    rw [View.set_slice_whole, Rect.mem_set_unit]
    show ∀ a : Fin 2, win0_6.index last a * S1x1024.size a ≤ (i a).val ∧ (i a).val < win0_6.index last a * S1x1024.size a + S1x1024.size a
    rw [idx_6 last]
    intro a
    match a with
    | ⟨0, _⟩ => show 0 * 1 ≤ (i 0).val ∧ (i 0).val < 0 * 1 + 1; have h : (i 0).val < 1 := (i 0).isLt; omega
    | ⟨1, _⟩ => show 0 * 1024 ≤ (i 1).val ∧ (i 1).val < 0 * 1024 + 1024; have h : (i 1).val < 1024 := (i 1).isLt; omega

/-- The second array, at an element. -/
theorem G6_at (j : Fin 1024) : G6 m c (ix2 0 j) = ∑ n, dgTerm m c j n := by
  rw [G6_last]
  exact dg_end m c _ j

/-- The reference's gradient of the norm's output is the kernel's. -/
theorem refD_dy (n : Fin 4096) (j : Fin 1024) : refD (aZ m c) (aW m c) (ix2 n j) = dy m c n j := refD_at (aZ m c) (aW m c) n j

theorem eq_dx : G5 m c = refDh (aR m c) (aH m c) (refU (refD (aZ m c) (aW m c)) (aG m c))
    (refB (refC (refS (aH m c) (refU (refD (aZ m c) (aW m c)) (aG m c))) (refV (aH m c)))) (refV (aH m c)) := by
  refine funext fun i : S4096x1024.Idx => ?_
  obtain ⟨n, j, rfl⟩ : ∃ (n : Fin 4096) (j : Fin 1024), i = ix2 n j := ⟨_, _, eq_ix2 i⟩
  rw [G5_at, refDh_at, refB_at, refC_at, refS_at]
  have hu : ∀ l : Fin 1024, refU (refD (aZ m c) (aW m c)) (aG m c) (ix2 n l) = dy m c n l * aG m c (ix1 l) := fun l => by
    rw [refU_at, refD_dy]
  simp only [hu]
  exact (UpMath.row (fun l => aH m c (ix2 n l)) (fun l => dy m c n l * aG m c (ix1 l)) (aR m c (ix2 n j)) j (rs m c n)
    (refV (aH m c) (ix2 n 0)) _ rfl (refV_at (aH m c) n 0) rfl).2

/-- One term of the gain's gradient, as the kernel and as the reference have it. -/
theorem dgTerm_eq (n : Fin 4096) (j : Fin 1024) :
    dgTerm m c j n = (aH m c (ix2 n j) * Ideal.rsqrt (refV (aH m c) (ix2 n 0))) * refD (aZ m c) (aW m c) (ix2 n j) := by
  have e := (UpMath.row (fun l => aH m c (ix2 n l)) (fun l => dy m c n l * aG m c (ix1 l)) (aR m c (ix2 n j)) j (rs m c n)
    (refV (aH m c) (ix2 n 0)) _ rfl (refV_at (aH m c) n 0) rfl).1
  rw [refD_dy, ← e]
  show (dy m c n j * aH m c (ix2 n j)) * rs m c n = (aH m c (ix2 n j) * rs m c n) * dy m c n j
  rw [mul_comm (aH m c (ix2 n j) * rs m c n), mul_assoc]

theorem dg_sum (j : Fin 1024) : ∑ n, dgTerm m c j n = refDg (aH m c) (refD (aZ m c) (aW m c)) (refV (aH m c)) (ix2 0 j) :=
  (Finset.sum_congr rfl fun n _ => dgTerm_eq m c n j).trans (refDg_at (aH m c) (refD (aZ m c) (aW m c)) (refV (aH m c)) 0 j).symm

theorem eq_dg : G6 m c = refDg (aH m c) (refD (aZ m c) (aW m c)) (refV (aH m c)) := by
  refine funext fun i : S1x1024.Idx => ?_
  obtain ⟨z, j, rfl⟩ : ∃ (z : Fin 1) (j : Fin 1024), i = ix2 z j := ⟨_, _, eq_ix2 i⟩
  rw [Subsingleton.elim z 0]
  exact (G6_at m c j).trans (dg_sum m c j)

end

section
variable (m' : (ℓ : Loc Cert.ReferenceGateDgIdeal.nD Cert.ReferenceGateDgIdeal.τ Cert.ReferenceGateDgIdeal.sig) → Buf (Elt Ideal) ℓ) (c : Dev Cert.ReferenceGateDgIdeal.nD)

theorem ref_dx (du w h g r) (h0 : m' (c.tc.loc Cert.ReferenceGateDgIdeal.main_arg0) = du) (h1 : m' (c.tc.loc Cert.ReferenceGateDgIdeal.main_arg1) = w)
    (h2 : m' (c.tc.loc Cert.ReferenceGateDgIdeal.main_arg2) = h) (h3 : m' (c.tc.loc Cert.ReferenceGateDgIdeal.main_arg3) = g)
    (h4 : m' (c.tc.loc Cert.ReferenceGateDgIdeal.main_arg4) = r) :
    Cert.ReferenceGateDgIdeal.Value.res_main_v38 m' c = refDh r h (refU (refD du w) g) (refB (refC (refS h (refU (refD du w) g)) (refV h))) (refV h) := by
  subst h0 h1 h2 h3 h4
  rfl

/-- The reference's run: its two arrays, its arguments as they were. -/
theorem ref_run (ρ' : Dev Cert.ReferenceGateDgIdeal.nD → PrngReg) :
    θ_run (Cert.ReferenceGateDgIdeal.defs (F := Ideal)) (onTc (τ := Cert.ReferenceGateDgIdeal.τ) (Cert.ReferenceGateDgIdeal.main (F := Ideal))) ⟨m', fun _ => 0, ρ'⟩ (fun r => ∀ c : Dev Cert.ReferenceGateDgIdeal.nD,
      r.2.mem ((c.tc : Thread Cert.ReferenceGateDgIdeal.nD Cert.ReferenceGateDgIdeal.τ).loc Cert.ReferenceGateDgIdeal.main_v38) = Cert.ReferenceGateDgIdeal.Value.res_main_v38 m' c
      ∧ r.2.mem ((c.tc : Thread Cert.ReferenceGateDgIdeal.nD Cert.ReferenceGateDgIdeal.τ).loc Cert.ReferenceGateDgIdeal.main_v39)
        = refDg (m' (c.tc.loc Cert.ReferenceGateDgIdeal.main_arg2)) (refD (m' (c.tc.loc Cert.ReferenceGateDgIdeal.main_arg0)) (m' (c.tc.loc Cert.ReferenceGateDgIdeal.main_arg1))) (refV (m' (c.tc.loc Cert.ReferenceGateDgIdeal.main_arg2)))
      ∧ r.2.mem ((c.tc : Thread Cert.ReferenceGateDgIdeal.nD Cert.ReferenceGateDgIdeal.τ).loc Cert.ReferenceGateDgIdeal.main_arg0) = m' ((c.tc : Thread Cert.ReferenceGateDgIdeal.nD Cert.ReferenceGateDgIdeal.τ).loc Cert.ReferenceGateDgIdeal.main_arg0)
      ∧ r.2.mem ((c.tc : Thread Cert.ReferenceGateDgIdeal.nD Cert.ReferenceGateDgIdeal.τ).loc Cert.ReferenceGateDgIdeal.main_arg1) = m' ((c.tc : Thread Cert.ReferenceGateDgIdeal.nD Cert.ReferenceGateDgIdeal.τ).loc Cert.ReferenceGateDgIdeal.main_arg1)
      ∧ r.2.mem ((c.tc : Thread Cert.ReferenceGateDgIdeal.nD Cert.ReferenceGateDgIdeal.τ).loc Cert.ReferenceGateDgIdeal.main_arg2) = m' ((c.tc : Thread Cert.ReferenceGateDgIdeal.nD Cert.ReferenceGateDgIdeal.τ).loc Cert.ReferenceGateDgIdeal.main_arg2)
      ∧ r.2.mem ((c.tc : Thread Cert.ReferenceGateDgIdeal.nD Cert.ReferenceGateDgIdeal.τ).loc Cert.ReferenceGateDgIdeal.main_arg3) = m' ((c.tc : Thread Cert.ReferenceGateDgIdeal.nD Cert.ReferenceGateDgIdeal.τ).loc Cert.ReferenceGateDgIdeal.main_arg3)
      ∧ r.2.mem ((c.tc : Thread Cert.ReferenceGateDgIdeal.nD Cert.ReferenceGateDgIdeal.τ).loc Cert.ReferenceGateDgIdeal.main_arg4) = m' ((c.tc : Thread Cert.ReferenceGateDgIdeal.nD Cert.ReferenceGateDgIdeal.τ).loc Cert.ReferenceGateDgIdeal.main_arg4)) :=
  (θ_run _ _ _).mono (fun r h c => ⟨(h c).1, (h c).2.1.trans rfl, (h c).2.2⟩) (Cert.ReferenceGateDgIdeal.Value.run m' ρ')

end

/-- The kernel and the reference end at the same two arrays, whatever the arguments. -/
theorem algebraic : Cert.algebraic_KernelGateDgIdeal_ReferenceGateDgIdeal := fun m ρ m' ρ' _ hargs => by
  refine ⟨fun c => G5 m c, fun c => G6 m c, run_blocks m ρ, ?_⟩
  refine (θ_run _ _ _).mono (fun r h c => ?_) (ref_run m' ρ')
  obtain ⟨a0, a1, a2, a3, a4⟩ := hargs c
  refine ⟨((h c).1.trans (ref_dx m' c _ _ _ _ _ a0 a1 a2 a3 a4)).trans (eq_dx m c).symm, ?_, (h c).2.2⟩
  have e := (h c).2.1
  rw [a0, a1, a2] at e
  exact e.trans (eq_dg m c).symm

end Cert.Proof.Ffn.GateDg

end
-- ==== Proof.Ffn.GateWg.lean ====
/-
  The gradient of the per-layer gate's weight: the kernel's array is the reference's.
-/
module

public import proofs.«01_k».proof.Proof.Gen.KernelGateWgIdeal.Value
public import proofs.«01_k».proof.Proof.Gen.ReferenceGateWgIdeal.Run
public import proofs.«01_k».proof.Proof.Ffn.Sums
public import Idealize.ShloMosaic.Lib.Pipeline.ValueKit
public import Idealize.ShloMosaic.Lib.Pipeline.ReadBack
public import Idealize.ShloMosaic.Lib.StableHlo.ReadAt
public import proofs.«01_k».proof.Defs

@[expose] public section

set_option maxRecDepth 16384

noncomputable section

namespace Cert.Proof.Ffn.GateWg

open Finset
open Idealize.ShloMosaic Idealize.ShloMosaic.TcCoe Idealize.SL.Sem

section
open Cert.ReferenceGateWgIdeal Cert.ReferenceGateWgIdeal.Gen

/-! ### The reference -/

/-- The reference's array. -/
def ref (x : FVec Ideal S4096x1024 .f32) (g : FVec Ideal S4096x1024 .f32) : FVec Ideal S1024x1024 .bf16 :=
  truncf .bf16 (transpose S1024x1024 [1, 0] (Host.dotGeneral dot_S4096x1024_S4096x1024_S1024x1024_0_0_1_1_n_n none g x)
    transposes_S1024x1024_S1024x1024_1_0) bitsLt_bf16_f32

theorem ref_at (x : FVec Ideal S4096x1024 .f32) (g : FVec Ideal S4096x1024 .f32) (i : Fin 1024) (e : Fin 1024) :
    ref x g (ix2 i e) = ∑ n : Fin 4096, (g (ix2 n e) : EReal) * x (ix2 n i) := by
  unfold ref
  pointwise

end

open Cert.KernelGateWgIdeal Cert.KernelGateWgIdeal.Gen
open Cert.KernelGateWgIdeal.Value (G2 G2_last outsAt0_sweep)

/-! ### The values of a grid point -/

theorem pay1_at (i : Fin 1024) (j : Fin 1024) : k0_pay1 (F := Ideal) (ix2 i j) = (0 : EReal) := by
  unfold k0_pay1
  pointwise

theorem pay2_at (a : Vec Ideal S1024x1024 .f32) (x : Vec Ideal S1024x1024 .bf16) (y : Vec Ideal S1024x1024 .bf16) (i : Fin 1024) (j : Fin 1024) :
    k0_pay2 (F := Ideal) a x y (ix2 i j) = (a (ix2 i j) : EReal) + ∑ n : Fin 1024, (x (ix2 n i) : EReal) * y (ix2 n j) := by
  unfold k0_pay2
  pointwise

theorem pay3_at (a : Vec Ideal S1024x1024 .f32) (i : Fin 1024) (j : Fin 1024) :
    k0_pay3 (F := Ideal) a (ix2 i j) = (a (ix2 i j) : EReal) := by
  unfold k0_pay3
  pointwise

section
variable (m : (ℓ : Loc nD τ sig) → Buf (Elt Ideal) ℓ) (c : Dev nD)

/-- The two arguments as arrays of extended reals. -/
abbrev aX : S4096x1024.Idx → EReal := m (c.tc.loc main_arg0)
abbrev aZ : S4096x1024.Idx → EReal := m (c.tc.loc main_arg1)

/-! ### The blocks -/

theorem V_0 (n : Fin 4096) (j : Fin 1024) : (V m c main_v0 : S4096x1024.Idx → EReal) (ix2 n j) = aX m c (ix2 n j) := by
  unfold V
  after_reads_at

theorem V_1 (n : Fin 4096) (e : Fin 1024) : (V m c main_v1 : S4096x1024.Idx → EReal) (ix2 n e) = aZ m c (ix2 n e) := by
  unfold V
  after_reads_at

theorem idx_0 : ∀ t : Fin grid0.N, win0_0.index t = ![t.val % 4, 0] := by decide +kernel
theorem idx_1 : ∀ t : Fin grid0.N, win0_1.index t = ![t.val % 4, 0] := by decide +kernel

theorem lt4 (t : Fin cfg0.N) : t.val < 4 := lt_of_lt_of_eq t.isLt N_0

theorem emb_0 (t : Fin cfg0.N) (i j : Fin 1024) : (win0_0.blk t).view.emb (ix2 i j) = ix2 (row (t.val % 4) i) j := by
  funext a
  refine Fin.ext ?_
  match a with
  | ⟨0, _⟩ => blk_simp [idx_0]; show t.val % 4 * 1024 + i.val = (1024 * (t.val % 4) + i.val) % 4096; have := i.isLt; omega
  | ⟨1, _⟩ => blk_simp [idx_0]

theorem emb_1 (t : Fin cfg0.N) (i j : Fin 1024) : (win0_1.blk t).view.emb (ix2 i j) = ix2 (row (t.val % 4) i) j := by
  funext a
  refine Fin.ext ?_
  match a with
  | ⟨0, _⟩ => blk_simp [idx_1]; show t.val % 4 * 1024 + i.val = (1024 * (t.val % 4) + i.val) % 4096; have := i.isLt; omega
  | ⟨1, _⟩ => blk_simp [idx_1]

theorem read_0 (x : S4096x1024.Idx → EReal) (t : Fin cfg0.N) (i j : Fin 1024) :
    ((win0_0.blk t).view.read (Elt Ideal) x : S1024x1024.Idx → EReal) (ix2 i j) = x (ix2 (row (t.val % 4) i) j) := by
  blk_simp
  exact congrArg x (emb_0 t i j)
theorem read_1 (x : S4096x1024.Idx → EReal) (t : Fin cfg0.N) (i j : Fin 1024) :
    ((win0_1.blk t).view.read (Elt Ideal) x : S1024x1024.Idx → EReal) (ix2 i j) = x (ix2 (row (t.val % 4) i) j) := by
  blk_simp
  exact congrArg x (emb_1 t i j)

theorem iblk_0 (t : Fin cfg0.N) (i j : Fin 1024) : (iblk m c 0 t : S1024x1024.Idx → EReal) (ix2 i j) = aX m c (ix2 (row (t.val % 4) i) j) :=
  (read_0 (V m c main_v0) t i j).trans (V_0 m c _ _)
theorem iblk_1 (t : Fin cfg0.N) (i j : Fin 1024) :
    (iblk m c 1 t : S1024x1024.Idx → EReal) (ix2 i j) = aZ m c (ix2 (row (t.val % 4) i) j) :=
  (read_1 (V m c main_v1) t i j).trans (V_1 m c _ _)

/-! ### The sum over the row blocks -/

theorem acc_first (t : Fin cfg0.N) (h : t.val % 4 = 0) :
    (outsAt0 m c t.val t.isLt).2 = k0_pay2 (F := Ideal) (k0_pay1 (F := Ideal)) (iblk m c 0 t) (iblk m c 1 t) := by
  rw [outsAt0_A m c t h (by omega)]
  frame_out

theorem acc_next (t : Fin cfg0.N) (h : ¬t.val % 4 = 0) :
    (outsAt0 m c t.val t.isLt).2 = k0_pay2 (F := Ideal) (outsAt0 m c (t.val - 1) (Nat.lt_of_le_of_lt (Nat.sub_le _ _) t.isLt)).2 (iblk m c 0 t) (iblk m c 1 t) := by
  by_cases h2 : t.val % 4 = 3
  · rw [outsAt0_C m c t h h2]
    frame_out
    rw [Idealize.ShloMosaic.read_unread_whole]
  · rw [outsAt0_B m c t h h2]
    frame_out
    rw [Idealize.ShloMosaic.read_unread_whole]

theorem out_last (t : Fin cfg0.N) (h : t.val % 4 = 3) : (outsAt0 m c t.val t.isLt).1 = k0_pay3 (F := Ideal) (outsAt0 m c t.val t.isLt).2 := by
  rw [acc_next m c t (by omega), outsAt0_C m c t (by omega) h]
  frame_out
  rw [Idealize.ShloMosaic.read_unread_whole]

theorem pay2_blk (a : S1024x1024.Idx → EReal) (t : Fin cfg0.N) (i : Fin 1024) (j : Fin 1024) :
    k0_pay2 (F := Ideal) a (iblk m c 0 t) (iblk m c 1 t) (ix2 i j) = a (ix2 i j)
      + ∑ n : Fin 1024, aX m c (ix2 (row (t.val % 4) n) i) * aZ m c (ix2 (row (t.val % 4) n) j) := by
  refine (pay2_at a (iblk m c 0 t) (iblk m c 1 t) i j).trans ?_
  refine congrArg (a (ix2 i j) + ·) (Finset.sum_congr rfl fun n _ => ?_)
  exact congrArg₂ (· * ·) (iblk_0 m c t n i) (iblk_1 m c t n j)

theorem acc_at (t : Fin cfg0.N) (i : Fin 1024) (j : Fin 1024) :
    ((outsAt0 m c t.val t.isLt).2 : S1024x1024.Idx → EReal) (ix2 i j) = 0 + ∑ k ∈ range (t.val % 4 + 1),
      ∑ n : Fin 1024, aX m c (ix2 (row k n) i) * aZ m c (ix2 (row k n) j) := by
  refine Pipeline.eq_sum_of_reset_step_apply_divmod (M := EReal) (ι := Fin 1024 × Fin 1024) (N := cfg0.N)
    (fun n h q => ((outsAt0 m c n h).2 : S1024x1024.Idx → EReal) (ix2 q.1 q.2)) 4 (fun _ => 0)
    (fun b k q => ∑ n : Fin 1024, aX m c (ix2 (row k n) q.1) * aZ m c (ix2 (row k n) q.2)) ?_ ?_ t (i, j)
  · intro t h q
    refine (congrFun (acc_first m c t h) _).trans ((pay2_blk m c _ t q.1 q.2).trans ?_)
    exact congrArg (· + _) (pay1_at q.1 q.2)
  · intro t h q
    exact (congrFun (acc_next m c t h) _).trans (pay2_blk m c _ t q.1 q.2)

/-- The weight's gradient. -/
def dw (i : Fin 1024) (e : Fin 1024) : EReal := ∑ n : Fin 4096, aX m c (ix2 n i) * aZ m c (ix2 n e)

theorem out_at (t : Fin cfg0.N) (h : t.val % 4 = 3) (i : Fin 1024) (j : Fin 1024) :
    ((outsAt0 m c t.val t.isLt).1 : S1024x1024.Idx → EReal) (ix2 i j) = dw m c i j := by
  refine (congrFun (out_last m c t h) _).trans ((pay3_at _ i j).trans ?_)
  rw [acc_at, h, zero_add]
  exact sum_rows fun n => aX m c (ix2 n i) * aZ m c (ix2 n j)

/-- The array, at an element. -/
theorem G2_at (i e : Fin 1024) : (G2 m c : S1024x1024.Idx → EReal) (ix2 i e) = dw m c i e := by
  have hlt : 3 < cfg0.N := lt_of_lt_of_eq (by omega) N_0.symm
  rw [G2_last, ← outsAt0_sweep m c 3 hlt]
  exact out_at m c ⟨3, hlt⟩ rfl i e

theorem dw_ref (i : Fin 1024) (e : Fin 1024) : dw m c i e = ref (aX m c) (aZ m c) (ix2 i e) :=
  (Finset.sum_congr rfl fun n _ => mul_comm _ _).trans (ref_at (aX m c) (aZ m c) i e).symm

theorem eq_out : (G2 m c : S1024x1024.Idx → EReal) = ref (aX m c) (aZ m c) := by
  refine funext fun i : S1024x1024.Idx => ?_
  obtain ⟨n, j, rfl⟩ : ∃ (n : Fin 1024) (j : Fin 1024), i = ix2 n j := ⟨_, _, eq_ix2 i⟩
  exact (G2_at m c n j).trans (dw_ref m c n j)

end

/-- The kernel and the reference end at the same array, whatever the arguments. -/
theorem algebraic : Cert.algebraic_KernelGateWgIdeal_ReferenceGateWgIdeal := fun m ρ m' ρ' _ hargs => by
  refine ⟨fun c => G2 m c, Cert.KernelGateWgIdeal.Value.run m ρ, ?_⟩
  refine (θ_run _ _ _).mono (fun r h c => ?_) (Cert.ReferenceGateWgIdeal.Value.run m' ρ')
  obtain ⟨a0, a1⟩ := hargs c
  have e := (h c).1
  rw [a0, a1] at e
  exact ⟨e.trans (eq_out m c).symm, (h c).2⟩

end Cert.Proof.Ffn.GateWg

end
-- ==== Proof.lean ====
/-
  The proof of `Cert.Claim`.
-/
module

public import proofs.«01_k».proof.Defs
public import proofs.«01_k».proof.Proof.Gen.Kernel
public import proofs.«01_k».proof.Proof.Gen.KernelIdeal
public import proofs.«01_k».proof.Proof.Attn.Launch
public import proofs.«01_k».proof.Proof.AttnK.Launch
public import proofs.«01_k».proof.Proof.Gen.ReferenceIdeal
public import proofs.«01_k».proof.Proof.Gen.ReferenceIdeal.Run
public import proofs.«01_k».proof.Proof.Gen.Pre_finite
public import proofs.«01_k».proof.Proof.Value.Equal
public import proofs.«01_k».proof.Proof.Tables
public import proofs.«01_k».proof.Proof.Gen.KernelUp
public import proofs.«01_k».proof.Proof.Gen.KernelUpIdeal
public import proofs.«01_k».proof.Proof.Gen.KernelUpIdeal.Value
public import proofs.«01_k».proof.Proof.Gen.ReferenceUpIdeal
public import proofs.«01_k».proof.Proof.Gen.ReferenceUpIdeal.Run
public import proofs.«01_k».proof.Proof.Up.Equal
public import proofs.«01_k».proof.Proof.Gen.KernelUpWg
public import proofs.«01_k».proof.Proof.Gen.KernelUpWgIdeal
public import proofs.«01_k».proof.Proof.Gen.KernelUpWgIdeal.Value
public import proofs.«01_k».proof.Proof.Gen.ReferenceUpWgIdeal
public import proofs.«01_k».proof.Proof.Gen.ReferenceUpWgIdeal.Run
public import proofs.«01_k».proof.Proof.Gen.KernelDownDg
public import proofs.«01_k».proof.Proof.Gen.KernelDownDgIdeal
public import proofs.«01_k».proof.Proof.Gen.KernelDownDgIdeal.Value
public import proofs.«01_k».proof.Proof.Gen.ReferenceDownDgIdeal
public import proofs.«01_k».proof.Proof.Gen.ReferenceDownDgIdeal.Run
public import proofs.«01_k».proof.Proof.Gen.KernelDownWg
public import proofs.«01_k».proof.Proof.Gen.KernelDownWgIdeal
public import proofs.«01_k».proof.Proof.Gen.KernelDownWgIdeal.Value
public import proofs.«01_k».proof.Proof.Gen.ReferenceDownWgIdeal
public import proofs.«01_k».proof.Proof.Gen.ReferenceDownWgIdeal.Run
public import proofs.«01_k».proof.Proof.Gen.KernelDownFwd
public import proofs.«01_k».proof.Proof.Gen.KernelDownFwdIdeal
public import proofs.«01_k».proof.Proof.Gen.KernelDownFwdIdeal.Value
public import proofs.«01_k».proof.Proof.Gen.ReferenceDownFwdIdeal
public import proofs.«01_k».proof.Proof.Gen.ReferenceDownFwdIdeal.Run
public import proofs.«01_k».proof.Proof.Gen.KernelInDg
public import proofs.«01_k».proof.Proof.Gen.KernelInDgIdeal
public import proofs.«01_k».proof.Proof.Gen.KernelInDgIdeal.Value
public import proofs.«01_k».proof.Proof.Gen.ReferenceInDgIdeal
public import proofs.«01_k».proof.Proof.Gen.ReferenceInDgIdeal.Run
public import proofs.«01_k».proof.Proof.Gen.KernelInWg
public import proofs.«01_k».proof.Proof.Gen.KernelInWgIdeal
public import proofs.«01_k».proof.Proof.Gen.KernelInWgIdeal.Value
public import proofs.«01_k».proof.Proof.Gen.ReferenceInWgIdeal
public import proofs.«01_k».proof.Proof.Gen.ReferenceInWgIdeal.Run
public import proofs.«01_k».proof.Proof.Gen.KernelOutDg
public import proofs.«01_k».proof.Proof.Gen.KernelOutDgIdeal
public import proofs.«01_k».proof.Proof.Gen.KernelOutDgIdeal.Value
public import proofs.«01_k».proof.Proof.Gen.ReferenceOutDgIdeal
public import proofs.«01_k».proof.Proof.Gen.ReferenceOutDgIdeal.Run
public import proofs.«01_k».proof.Proof.Gen.KernelOutWg
public import proofs.«01_k».proof.Proof.Gen.KernelOutWgIdeal
public import proofs.«01_k».proof.Proof.Gen.KernelOutWgIdeal.Value
public import proofs.«01_k».proof.Proof.Gen.ReferenceOutWgIdeal
public import proofs.«01_k».proof.Proof.Gen.ReferenceOutWgIdeal.Run
public import proofs.«01_k».proof.Proof.Gen.KernelOutFwd
public import proofs.«01_k».proof.Proof.Gen.KernelOutFwdIdeal
public import proofs.«01_k».proof.Proof.Gen.KernelOutFwdIdeal.Value
public import proofs.«01_k».proof.Proof.Gen.ReferenceOutFwdIdeal
public import proofs.«01_k».proof.Proof.Gen.ReferenceOutFwdIdeal.Run
public import proofs.«01_k».proof.Proof.Gen.KernelGateDg
public import proofs.«01_k».proof.Proof.Gen.KernelGateDgIdeal
public import proofs.«01_k».proof.Proof.Gen.KernelGateDgIdeal.Value
public import proofs.«01_k».proof.Proof.Gen.ReferenceGateDgIdeal
public import proofs.«01_k».proof.Proof.Gen.ReferenceGateDgIdeal.Run
public import proofs.«01_k».proof.Proof.Gen.KernelGateWg
public import proofs.«01_k».proof.Proof.Gen.KernelGateWgIdeal
public import proofs.«01_k».proof.Proof.Gen.KernelGateWgIdeal.Value
public import proofs.«01_k».proof.Proof.Gen.ReferenceGateWgIdeal
public import proofs.«01_k».proof.Proof.Gen.ReferenceGateWgIdeal.Run
public import proofs.«01_k».proof.Proof.Ffn.UpWg
public import proofs.«01_k».proof.Proof.Ffn.DownDg
public import proofs.«01_k».proof.Proof.Ffn.DownWg
public import proofs.«01_k».proof.Proof.Ffn.DownFwd
public import proofs.«01_k».proof.Proof.Ffn.InDg
public import proofs.«01_k».proof.Proof.Ffn.InWg
public import proofs.«01_k».proof.Proof.Ffn.OutDg
public import proofs.«01_k».proof.Proof.Ffn.OutWg
public import proofs.«01_k».proof.Proof.Ffn.OutFwd
public import proofs.«01_k».proof.Proof.Ffn.GateDg
public import proofs.«01_k».proof.Proof.Ffn.GateWg

@[expose] public section

noncomputable section

namespace Cert.Proof

open Idealize.ShloMosaic Idealize.SL.Sem

/-- The kernel as printed runs, leaves its arguments and every counter as they were. -/
theorem quiescent_kernel : Cert.quiescent_Kernel := fun m ρ _ => Kernel.frame_quiescent m ρ

/-- The idealized kernel runs, leaves its arguments and every counter as they were. -/
theorem quiescent_ideal : Cert.quiescent_KernelIdeal := fun m ρ _ => KernelIdeal.frame_quiescent m ρ

/-- The reference runs and leaves its arguments as they were. -/
theorem quiescent_reference : Cert.quiescent_ReferenceIdeal := fun m ρ _ =>
  (θ_run _ _ _).mono (fun r h => ⟨fun c => (h c).2.2.2, sem_eq_zero_of_no_sems (by decide) r.2⟩)
    (Cert.ReferenceIdeal.Value.run m ρ)

/-- The idealized kernel's frame, under the precondition. -/
theorem quiescent_ideal_finite : Cert.quiescent_KernelIdeal_pre_finite := fun m ρ _ => KernelIdeal.frame_quiescent m ρ

/-- The reference's frame, under the precondition. -/
theorem quiescent_reference_finite : Cert.quiescent_ReferenceIdeal_pre_finite := fun m ρ _ =>
  (θ_run _ _ _).mono (fun r h => ⟨fun c => (h c).2.2.2, sem_eq_zero_of_no_sems (by decide) r.2⟩)
    (Cert.ReferenceIdeal.Value.run m ρ)

/-- The mask's name stands for −∞ and its word is the kernel's literal. -/
theorem preserves : Cert.preserves_Kernel_KernelIdeal :=
  IdealRules.named_const.statement Cert.KernelIdeal.κ "mask" .f32 0xF149F2CA#32 ⊥ rfl

/-- The second call as printed runs, leaves its arguments and every counter as they were. -/
theorem quiescent_up : Cert.quiescent_KernelUp := fun m ρ _ => by
  rw [Tables.up]
  exact Cert.KernelUpIdeal.Gen.frame (F := Bits) m ρ

/-- And idealized. -/
theorem quiescent_up_ideal : Cert.quiescent_KernelUpIdeal := fun m ρ _ => Cert.KernelUpIdeal.Gen.frame (F := Ideal) m ρ

/-- The second reference runs and leaves its arguments as they were. -/
theorem quiescent_up_reference : Cert.quiescent_ReferenceUpIdeal := fun m ρ _ =>
  (θ_run _ _ _).mono (fun r h => ⟨fun c => (h c).2.2, sem_eq_zero_of_no_sems (by decide) r.2⟩)
    (Cert.ReferenceUpIdeal.Value.run m ρ)

/-- The gradient of the FFN's up projection, as printed, idealized and as the reference: each runs, leaves its arguments and every counter as they were. -/
theorem quiescent_up_wg : Cert.quiescent_KernelUpWg := fun m ρ _ => by
  rw [Tables.up_wg]
  exact Cert.KernelUpWgIdeal.Gen.frame (F := Bits) m ρ
theorem quiescent_up_wg_ideal : Cert.quiescent_KernelUpWgIdeal := fun m ρ _ => Cert.KernelUpWgIdeal.Gen.frame (F := Ideal) m ρ
theorem quiescent_up_wg_reference : Cert.quiescent_ReferenceUpWgIdeal := fun m ρ _ =>
  (θ_run _ _ _).mono (fun r h => ⟨fun c => (h c).2, sem_eq_zero_of_no_sems (by decide) r.2⟩)
    (Cert.ReferenceUpWgIdeal.Value.run m ρ)

/-- The gradient of the FFN's activation, as printed, idealized and as the reference: each runs, leaves its arguments and every counter as they were. -/
theorem quiescent_down_dg : Cert.quiescent_KernelDownDg := fun m ρ _ => by
  rw [Tables.down_dg]
  exact Cert.KernelDownDgIdeal.Gen.frame (F := Bits) m ρ
theorem quiescent_down_dg_ideal : Cert.quiescent_KernelDownDgIdeal := fun m ρ _ => Cert.KernelDownDgIdeal.Gen.frame (F := Ideal) m ρ
theorem quiescent_down_dg_reference : Cert.quiescent_ReferenceDownDgIdeal := fun m ρ _ =>
  (θ_run _ _ _).mono (fun r h => ⟨fun c => (h c).2, sem_eq_zero_of_no_sems (by decide) r.2⟩)
    (Cert.ReferenceDownDgIdeal.Value.run m ρ)

/-- The gradient of the FFN's down projection, as printed, idealized and as the reference: each runs, leaves its arguments and every counter as they were. -/
theorem quiescent_down_wg : Cert.quiescent_KernelDownWg := fun m ρ _ => by
  rw [Tables.down_wg]
  exact Cert.KernelDownWgIdeal.Gen.frame (F := Bits) m ρ
theorem quiescent_down_wg_ideal : Cert.quiescent_KernelDownWgIdeal := fun m ρ _ => Cert.KernelDownWgIdeal.Gen.frame (F := Ideal) m ρ
theorem quiescent_down_wg_reference : Cert.quiescent_ReferenceDownWgIdeal := fun m ρ _ =>
  (θ_run _ _ _).mono (fun r h => ⟨fun c => (h c).2, sem_eq_zero_of_no_sems (by decide) r.2⟩)
    (Cert.ReferenceDownWgIdeal.Value.run m ρ)

/-- The FFN's down projection, as printed, idealized and as the reference: each runs, leaves its arguments and every counter as they were. -/
theorem quiescent_down_fwd : Cert.quiescent_KernelDownFwd := fun m ρ _ => by
  rw [Tables.down_fwd]
  exact Cert.KernelDownFwdIdeal.Gen.frame (F := Bits) m ρ
theorem quiescent_down_fwd_ideal : Cert.quiescent_KernelDownFwdIdeal := fun m ρ _ => Cert.KernelDownFwdIdeal.Gen.frame (F := Ideal) m ρ
theorem quiescent_down_fwd_reference : Cert.quiescent_ReferenceDownFwdIdeal := fun m ρ _ =>
  (θ_run _ _ _).mono (fun r h => ⟨fun c => (h c).2, sem_eq_zero_of_no_sems (by decide) r.2⟩)
    (Cert.ReferenceDownFwdIdeal.Value.run m ρ)

/-- The gradients through the input projection and its norm, as printed, idealized and as the reference: each runs, leaves its arguments and every counter as they were. -/
theorem quiescent_in_dg : Cert.quiescent_KernelInDg := fun m ρ _ => by
  rw [Tables.in_dg]
  exact Cert.KernelInDgIdeal.Gen.frame (F := Bits) m ρ
theorem quiescent_in_dg_ideal : Cert.quiescent_KernelInDgIdeal := fun m ρ _ => Cert.KernelInDgIdeal.Gen.frame (F := Ideal) m ρ
theorem quiescent_in_dg_reference : Cert.quiescent_ReferenceInDgIdeal := fun m ρ _ =>
  (θ_run _ _ _).mono (fun r h => ⟨fun c => (h c).2.2, sem_eq_zero_of_no_sems (by decide) r.2⟩)
    (Cert.ReferenceInDgIdeal.Value.run m ρ)

/-- The gradient of the input projection's weight, as printed, idealized and as the reference: each runs, leaves its arguments and every counter as they were. -/
theorem quiescent_in_wg : Cert.quiescent_KernelInWg := fun m ρ _ => by
  rw [Tables.in_wg]
  exact Cert.KernelInWgIdeal.Gen.frame (F := Bits) m ρ
theorem quiescent_in_wg_ideal : Cert.quiescent_KernelInWgIdeal := fun m ρ _ => Cert.KernelInWgIdeal.Gen.frame (F := Ideal) m ρ
theorem quiescent_in_wg_reference : Cert.quiescent_ReferenceInWgIdeal := fun m ρ _ =>
  (θ_run _ _ _).mono (fun r h => ⟨fun c => (h c).2, sem_eq_zero_of_no_sems (by decide) r.2⟩)
    (Cert.ReferenceInWgIdeal.Value.run m ρ)

/-- The gradient of the heads' outputs, as printed, idealized and as the reference: each runs, leaves its arguments and every counter as they were. -/
theorem quiescent_out_dg : Cert.quiescent_KernelOutDg := fun m ρ _ => by
  rw [Tables.out_dg]
  exact Cert.KernelOutDgIdeal.Gen.frame (F := Bits) m ρ
theorem quiescent_out_dg_ideal : Cert.quiescent_KernelOutDgIdeal := fun m ρ _ => Cert.KernelOutDgIdeal.Gen.frame (F := Ideal) m ρ
theorem quiescent_out_dg_reference : Cert.quiescent_ReferenceOutDgIdeal := fun m ρ _ =>
  (θ_run _ _ _).mono (fun r h => ⟨fun c => (h c).2, sem_eq_zero_of_no_sems (by decide) r.2⟩)
    (Cert.ReferenceOutDgIdeal.Value.run m ρ)

/-- The gradient of the output projection's weight, as printed, idealized and as the reference: each runs, leaves its arguments and every counter as they were. -/
theorem quiescent_out_wg : Cert.quiescent_KernelOutWg := fun m ρ _ => by
  rw [Tables.out_wg]
  exact Cert.KernelOutWgIdeal.Gen.frame (F := Bits) m ρ
theorem quiescent_out_wg_ideal : Cert.quiescent_KernelOutWgIdeal := fun m ρ _ => Cert.KernelOutWgIdeal.Gen.frame (F := Ideal) m ρ
theorem quiescent_out_wg_reference : Cert.quiescent_ReferenceOutWgIdeal := fun m ρ _ =>
  (θ_run _ _ _).mono (fun r h => ⟨fun c => (h c).2, sem_eq_zero_of_no_sems (by decide) r.2⟩)
    (Cert.ReferenceOutWgIdeal.Value.run m ρ)

/-- The output projection, as printed, idealized and as the reference: each runs, leaves its arguments and every counter as they were. -/
theorem quiescent_out_fwd : Cert.quiescent_KernelOutFwd := fun m ρ _ => by
  rw [Tables.out_fwd]
  exact Cert.KernelOutFwdIdeal.Gen.frame (F := Bits) m ρ
theorem quiescent_out_fwd_ideal : Cert.quiescent_KernelOutFwdIdeal := fun m ρ _ => Cert.KernelOutFwdIdeal.Gen.frame (F := Ideal) m ρ
theorem quiescent_out_fwd_reference : Cert.quiescent_ReferenceOutFwdIdeal := fun m ρ _ =>
  (θ_run _ _ _).mono (fun r h => ⟨fun c => (h c).2, sem_eq_zero_of_no_sems (by decide) r.2⟩)
    (Cert.ReferenceOutFwdIdeal.Value.run m ρ)

/-- The gradients through the gate's projection and norm, as printed, idealized and as the reference: each runs, leaves its arguments and every counter as they were. -/
theorem quiescent_gate_dg : Cert.quiescent_KernelGateDg := fun m ρ _ => by
  rw [Tables.gate_dg]
  exact Cert.KernelGateDgIdeal.Gen.frame (F := Bits) m ρ
theorem quiescent_gate_dg_ideal : Cert.quiescent_KernelGateDgIdeal := fun m ρ _ => Cert.KernelGateDgIdeal.Gen.frame (F := Ideal) m ρ
theorem quiescent_gate_dg_reference : Cert.quiescent_ReferenceGateDgIdeal := fun m ρ _ =>
  (θ_run _ _ _).mono (fun r h => ⟨fun c => (h c).2.2, sem_eq_zero_of_no_sems (by decide) r.2⟩)
    (Cert.ReferenceGateDgIdeal.Value.run m ρ)

/-- The gradient of the gate's weight, as printed, idealized and as the reference: each runs, leaves its arguments and every counter as they were. -/
theorem quiescent_gate_wg : Cert.quiescent_KernelGateWg := fun m ρ _ => by
  rw [Tables.gate_wg]
  exact Cert.KernelGateWgIdeal.Gen.frame (F := Bits) m ρ
theorem quiescent_gate_wg_ideal : Cert.quiescent_KernelGateWgIdeal := fun m ρ _ => Cert.KernelGateWgIdeal.Gen.frame (F := Ideal) m ρ
theorem quiescent_gate_wg_reference : Cert.quiescent_ReferenceGateWgIdeal := fun m ρ _ =>
  (θ_run _ _ _).mono (fun r h => ⟨fun c => (h c).2, sem_eq_zero_of_no_sems (by decide) r.2⟩)
    (Cert.ReferenceGateWgIdeal.Value.run m ρ)

/-- Every claim. -/
theorem claim : Cert.Claim :=
  ⟨Cert.Kernel.Gen.facts, Cert.KernelIdeal.Gen.facts, Cert.ReferenceIdeal.Gen.facts,
    Cert.KernelUp.Gen.facts, Cert.KernelUpIdeal.Gen.facts, Cert.ReferenceUpIdeal.Gen.facts,
    Cert.KernelUpWg.Gen.facts, Cert.KernelUpWgIdeal.Gen.facts, Cert.ReferenceUpWgIdeal.Gen.facts,
    Cert.KernelDownDg.Gen.facts, Cert.KernelDownDgIdeal.Gen.facts, Cert.ReferenceDownDgIdeal.Gen.facts,
    Cert.KernelDownWg.Gen.facts, Cert.KernelDownWgIdeal.Gen.facts, Cert.ReferenceDownWgIdeal.Gen.facts,
    Cert.KernelDownFwd.Gen.facts, Cert.KernelDownFwdIdeal.Gen.facts, Cert.ReferenceDownFwdIdeal.Gen.facts,
    Cert.KernelInDg.Gen.facts, Cert.KernelInDgIdeal.Gen.facts, Cert.ReferenceInDgIdeal.Gen.facts,
    Cert.KernelInWg.Gen.facts, Cert.KernelInWgIdeal.Gen.facts, Cert.ReferenceInWgIdeal.Gen.facts,
    Cert.KernelOutDg.Gen.facts, Cert.KernelOutDgIdeal.Gen.facts, Cert.ReferenceOutDgIdeal.Gen.facts,
    Cert.KernelOutWg.Gen.facts, Cert.KernelOutWgIdeal.Gen.facts, Cert.ReferenceOutWgIdeal.Gen.facts,
    Cert.KernelOutFwd.Gen.facts, Cert.KernelOutFwdIdeal.Gen.facts, Cert.ReferenceOutFwdIdeal.Gen.facts,
    Cert.KernelGateDg.Gen.facts, Cert.KernelGateDgIdeal.Gen.facts, Cert.ReferenceGateDgIdeal.Gen.facts,
    Cert.KernelGateWg.Gen.facts, Cert.KernelGateWgIdeal.Gen.facts, Cert.ReferenceGateWgIdeal.Gen.facts,
    Cert.Pre_finite.Gen.facts,
    quiescent_kernel, quiescent_ideal, quiescent_ideal_finite, quiescent_reference, quiescent_reference_finite,
    quiescent_up, quiescent_up_ideal, quiescent_up_reference,
    quiescent_up_wg, quiescent_up_wg_ideal, quiescent_up_wg_reference,
    quiescent_down_dg, quiescent_down_dg_ideal, quiescent_down_dg_reference,
    quiescent_down_wg, quiescent_down_wg_ideal, quiescent_down_wg_reference,
    quiescent_down_fwd, quiescent_down_fwd_ideal, quiescent_down_fwd_reference,
    quiescent_in_dg, quiescent_in_dg_ideal, quiescent_in_dg_reference,
    quiescent_in_wg, quiescent_in_wg_ideal, quiescent_in_wg_reference,
    quiescent_out_dg, quiescent_out_dg_ideal, quiescent_out_dg_reference,
    quiescent_out_wg, quiescent_out_wg_ideal, quiescent_out_wg_reference,
    quiescent_out_fwd, quiescent_out_fwd_ideal, quiescent_out_fwd_reference,
    quiescent_gate_dg, quiescent_gate_dg_ideal, quiescent_gate_dg_reference,
    quiescent_gate_wg, quiescent_gate_wg_ideal, quiescent_gate_wg_reference,
    preserves, Equal.algebraic, trivial, Up.algebraic, trivial, Ffn.UpWg.algebraic, trivial, Ffn.DownDg.algebraic, trivial, Ffn.DownWg.algebraic, trivial, Ffn.DownFwd.algebraic,
    trivial, Ffn.InDg.algebraic, trivial, Ffn.InWg.algebraic, trivial, Ffn.OutDg.algebraic, trivial, Ffn.OutWg.algebraic, trivial, Ffn.OutFwd.algebraic, trivial, Ffn.GateDg.algebraic, trivial, Ffn.GateWg.algebraic⟩

end Cert.Proof

end
